-- ==== Defs.lean ====
def Pre_Kernel [hPre_counted : Cert.Pre_counted.Facts] (m : (ℓ : Loc Cert.Kernel.nD Cert.Kernel.τ Cert.Kernel.sig) → Buf (Elt Bits) ℓ) : Prop :=
  ∀ c : Dev Cert.Kernel.nD,
    (Cert.Pre_counted.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_Reference [hPre_counted : Cert.Pre_counted.Facts] (m : (ℓ : Loc Cert.Reference.nD Cert.Reference.τ Cert.Reference.sig) → Buf (Elt Bits) ℓ) : Prop :=
  ∀ c : Dev Cert.Reference.nD,
    (Cert.Pre_counted.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishRefIdeal (m : (ℓ : Loc Cert.FinishRefIdeal.nD Cert.FinishRefIdeal.τ Cert.FinishRefIdeal.sig) → Buf (Elt Ideal) ℓ) : Prop :=
  True

def Pre_SampleConv (m : (ℓ : Loc Cert.SampleConv.nD Cert.SampleConv.τ Cert.SampleConv.sig) → Buf (Elt Bits) ℓ) : Prop :=
  True

def Pre_SampleConvIdeal (m : (ℓ : Loc Cert.SampleConvIdeal.nD Cert.SampleConvIdeal.τ Cert.SampleConvIdeal.sig) → Buf (Elt Ideal) ℓ) : Prop :=
  True

def Pre_SampleConvRefIdeal (m : (ℓ : Loc Cert.SampleConvRefIdeal.nD Cert.SampleConvRefIdeal.τ Cert.SampleConvRefIdeal.sig) → Buf (Elt Ideal) ℓ) : Prop :=
  True

def Pre_SampleAttn (m : (ℓ : Loc Cert.SampleAttn.nD Cert.SampleAttn.τ Cert.SampleAttn.sig) → Buf (Elt Bits) ℓ) : Prop :=
  True

def Pre_SampleAttnIdeal (m : (ℓ : Loc Cert.SampleAttnIdeal.nD Cert.SampleAttnIdeal.τ Cert.SampleAttnIdeal.sig) → Buf (Elt Ideal) ℓ) : Prop :=
  True

def Pre_SampleAttnRefIdeal (m : (ℓ : Loc Cert.SampleAttnRefIdeal.nD Cert.SampleAttnRefIdeal.τ Cert.SampleAttnRefIdeal.sig) → Buf (Elt Ideal) ℓ) : Prop :=
  True

def Pre_Combine (m : (ℓ : Loc Cert.Combine.nD Cert.Combine.τ Cert.Combine.sig) → Buf (Elt Bits) ℓ) : Prop :=
  True

def Pre_CombineRef (m : (ℓ : Loc Cert.CombineRef.nD Cert.CombineRef.τ Cert.CombineRef.sig) → Buf (Elt Bits) ℓ) : Prop :=
  True

def Pre_CombineSample (m : (ℓ : Loc Cert.CombineSample.nD Cert.CombineSample.τ Cert.CombineSample.sig) → Buf (Elt Bits) ℓ) : Prop :=
  True

def Pre_CombineSampleRef (m : (ℓ : Loc Cert.CombineSampleRef.nD Cert.CombineSampleRef.τ Cert.CombineSampleRef.sig) → Buf (Elt Bits) ℓ) : Prop :=
  True

def quiescent_Kernel [hKernel : Cert.Kernel.Facts] [hPre_counted : Cert.Pre_counted.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Reference [hReference : Cert.Reference.Facts] [hPre_counted : Cert.Pre_counted.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9)
      ∧ r.2.mem ((c.tc : Thread Cert.Prompt.nD Cert.Prompt.τ).loc Cert.Prompt.main_arg10) = m ((c.tc : Thread Cert.Prompt.nD Cert.Prompt.τ).loc Cert.Prompt.main_arg10))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6)
      ∧ r.2.mem ((c.tc : Thread Cert.PromptRefIdeal.nD Cert.PromptRefIdeal.τ).loc Cert.PromptRefIdeal.main_arg7) = m ((c.tc : Thread Cert.PromptRefIdeal.nD Cert.PromptRefIdeal.τ).loc Cert.PromptRefIdeal.main_arg7)
      ∧ r.2.mem ((c.tc : Thread Cert.PromptRefIdeal.nD Cert.PromptRefIdeal.τ).loc Cert.PromptRefIdeal.main_arg8) = m ((c.tc : Thread Cert.PromptRefIdeal.nD Cert.PromptRefIdeal.τ).loc Cert.PromptRefIdeal.main_arg8)
      ∧ r.2.mem ((c.tc : Thread Cert.PromptRefIdeal.nD Cert.PromptRefIdeal.τ).loc Cert.PromptRefIdeal.main_arg9) = m ((c.tc : Thread Cert.PromptRefIdeal.nD Cert.PromptRefIdeal.τ).loc Cert.PromptRefIdeal.main_arg9)
      ∧ r.2.mem ((c.tc : Thread Cert.PromptRefIdeal.nD Cert.PromptRefIdeal.τ).loc Cert.PromptRefIdeal.main_arg10) = m ((c.tc : Thread Cert.PromptRefIdeal.nD Cert.PromptRefIdeal.τ).loc Cert.PromptRefIdeal.main_arg10))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7)
      ∧ r.2.mem ((c.tc : Thread Cert.Finish.nD Cert.Finish.τ).loc Cert.Finish.main_arg8) = m ((c.tc : Thread Cert.Finish.nD Cert.Finish.τ).loc Cert.Finish.main_arg8)
      ∧ r.2.mem ((c.tc : Thread Cert.Finish.nD Cert.Finish.τ).loc Cert.Finish.main_arg9) = m ((c.tc : Thread Cert.Finish.nD Cert.Finish.τ).loc Cert.Finish.main_arg9))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4)
      ∧ r.2.mem ((c.tc : Thread Cert.FinishRefIdeal.nD Cert.FinishRefIdeal.τ).loc Cert.FinishRefIdeal.main_arg5) = m ((c.tc : Thread Cert.FinishRefIdeal.nD Cert.FinishRefIdeal.τ).loc Cert.FinishRefIdeal.main_arg5)
      ∧ r.2.mem ((c.tc : Thread Cert.FinishRefIdeal.nD Cert.FinishRefIdeal.τ).loc Cert.FinishRefIdeal.main_arg6) = m ((c.tc : Thread Cert.FinishRefIdeal.nD Cert.FinishRefIdeal.τ).loc Cert.FinishRefIdeal.main_arg6)
      ∧ r.2.mem ((c.tc : Thread Cert.FinishRefIdeal.nD Cert.FinishRefIdeal.τ).loc Cert.FinishRefIdeal.main_arg7) = m ((c.tc : Thread Cert.FinishRefIdeal.nD Cert.FinishRefIdeal.τ).loc Cert.FinishRefIdeal.main_arg7)
      ∧ r.2.mem ((c.tc : Thread Cert.FinishRefIdeal.nD Cert.FinishRefIdeal.τ).loc Cert.FinishRefIdeal.main_arg8) = m ((c.tc : Thread Cert.FinishRefIdeal.nD Cert.FinishRefIdeal.τ).loc Cert.FinishRefIdeal.main_arg8)
      ∧ r.2.mem ((c.tc : Thread Cert.FinishRefIdeal.nD Cert.FinishRefIdeal.τ).loc Cert.FinishRefIdeal.main_arg9) = m ((c.tc : Thread Cert.FinishRefIdeal.nD Cert.FinishRefIdeal.τ).loc Cert.FinishRefIdeal.main_arg9))
      ∧ r.2.sem = fun _ => 0)

def quiescent_SampleConv [hSampleConv : Cert.SampleConv.Facts] : Prop :=
  ∀ (m : (ℓ : Loc Cert.SampleConv.nD Cert.SampleConv.τ Cert.SampleConv.sig) → Buf (Elt Bits) ℓ) (g : Dev Cert.SampleConv.nD → PrngReg), Pre_SampleConv m →
    θ_run (Cert.SampleConv.defs (F := Bits)) (onTc (τ := Cert.SampleConv.τ) (Cert.SampleConv.main (F := Bits))) ⟨m, fun _ => 0, g⟩ (fun r => (∀ c : Dev Cert.SampleConv.nD,
      r.2.mem ((c.tc : Thread Cert.SampleConv.nD Cert.SampleConv.τ).loc Cert.SampleConv.main_arg0) = m ((c.tc : Thread Cert.SampleConv.nD Cert.SampleConv.τ).loc Cert.SampleConv.main_arg0)
      ∧ r.2.mem ((c.tc : Thread Cert.SampleConv.nD Cert.SampleConv.τ).loc Cert.SampleConv.main_arg1) = m ((c.tc : Thread Cert.SampleConv.nD Cert.SampleConv.τ).loc Cert.SampleConv.main_arg1)
      ∧ r.2.mem ((c.tc : Thread Cert.SampleConv.nD Cert.SampleConv.τ).loc Cert.SampleConv.main_arg2) = m ((c.tc : Thread Cert.SampleConv.nD Cert.SampleConv.τ).loc Cert.SampleConv.main_arg2)
      ∧ r.2.mem ((c.tc : Thread Cert.SampleConv.nD Cert.SampleConv.τ).loc Cert.SampleConv.main_arg3) = m ((c.tc : Thread Cert.SampleConv.nD Cert.SampleConv.τ).loc Cert.SampleConv.main_arg3)
      ∧ r.2.mem ((c.tc : Thread Cert.SampleConv.nD Cert.SampleConv.τ).loc Cert.SampleConv.main_arg4) = m ((c.tc : Thread Cert.SampleConv.nD Cert.SampleConv.τ).loc Cert.SampleConv.main_arg4)
      ∧ r.2.mem ((c.tc : Thread Cert.SampleConv.nD Cert.SampleConv.τ).loc Cert.SampleConv.main_arg5) = m ((c.tc : Thread Cert.SampleConv.nD Cert.SampleConv.τ).loc Cert.SampleConv.main_arg5)
      ∧ r.2.mem ((c.tc : Thread Cert.SampleConv.nD Cert.SampleConv.τ).loc Cert.SampleConv.main_arg6) = m ((c.tc : Thread Cert.SampleConv.nD Cert.SampleConv.τ).loc Cert.SampleConv.main_arg6)
      ∧ r.2.mem ((c.tc : Thread Cert.SampleConv.nD Cert.SampleConv.τ).loc Cert.SampleConv.main_arg7) = m ((c.tc : Thread Cert.SampleConv.nD Cert.SampleConv.τ).loc Cert.SampleConv.main_arg7))
      ∧ r.2.sem = fun _ => 0)

def quiescent_SampleConvIdeal [hSampleConvIdeal : Cert.SampleConvIdeal.Facts] : Prop :=
  ∀ (m : (ℓ : Loc Cert.SampleConvIdeal.nD Cert.SampleConvIdeal.τ Cert.SampleConvIdeal.sig) → Buf (Elt Ideal) ℓ) (g : Dev Cert.SampleConvIdeal.nD → PrngReg), Pre_SampleConvIdeal m →
    θ_run (Cert.SampleConvIdeal.defs (F := Ideal)) (onTc (τ := Cert.SampleConvIdeal.τ) (Cert.SampleConvIdeal.main (F := Ideal))) ⟨m, fun _ => 0, g⟩ (fun r => (∀ c : Dev Cert.SampleConvIdeal.nD,
      r.2.mem ((c.tc : Thread Cert.SampleConvIdeal.nD Cert.SampleConvIdeal.τ).loc Cert.SampleConvIdeal.main_arg0) = m ((c.tc : Thread Cert.SampleConvIdeal.nD Cert.SampleConvIdeal.τ).loc Cert.SampleConvIdeal.main_arg0)
      ∧ r.2.mem ((c.tc : Thread Cert.SampleConvIdeal.nD Cert.SampleConvIdeal.τ).loc Cert.SampleConvIdeal.main_arg1) = m ((c.tc : Thread Cert.SampleConvIdeal.nD Cert.SampleConvIdeal.τ).loc Cert.SampleConvIdeal.main_arg1)
      ∧ r.2.mem ((c.tc : Thread Cert.SampleConvIdeal.nD Cert.SampleConvIdeal.τ).loc Cert.SampleConvIdeal.main_arg2) = m ((c.tc : Thread Cert.SampleConvIdeal.nD Cert.SampleConvIdeal.τ).loc Cert.SampleConvIdeal.main_arg2)
      ∧ r.2.mem ((c.tc : Thread Cert.SampleConvIdeal.nD Cert.SampleConvIdeal.τ).loc Cert.SampleConvIdeal.main_arg3) = m ((c.tc : Thread Cert.SampleConvIdeal.nD Cert.SampleConvIdeal.τ).loc Cert.SampleConvIdeal.main_arg3)
      ∧ r.2.mem ((c.tc : Thread Cert.SampleConvIdeal.nD Cert.SampleConvIdeal.τ).loc Cert.SampleConvIdeal.main_arg4) = m ((c.tc : Thread Cert.SampleConvIdeal.nD Cert.SampleConvIdeal.τ).loc Cert.SampleConvIdeal.main_arg4)
      ∧ r.2.mem ((c.tc : Thread Cert.SampleConvIdeal.nD Cert.SampleConvIdeal.τ).loc Cert.SampleConvIdeal.main_arg5) = m ((c.tc : Thread Cert.SampleConvIdeal.nD Cert.SampleConvIdeal.τ).loc Cert.SampleConvIdeal.main_arg5)
      ∧ r.2.mem ((c.tc : Thread Cert.SampleConvIdeal.nD Cert.SampleConvIdeal.τ).loc Cert.SampleConvIdeal.main_arg6) = m ((c.tc : Thread Cert.SampleConvIdeal.nD Cert.SampleConvIdeal.τ).loc Cert.SampleConvIdeal.main_arg6)
      ∧ r.2.mem ((c.tc : Thread Cert.SampleConvIdeal.nD Cert.SampleConvIdeal.τ).loc Cert.SampleConvIdeal.main_arg7) = m ((c.tc : Thread Cert.SampleConvIdeal.nD Cert.SampleConvIdeal.τ).loc Cert.SampleConvIdeal.main_arg7))
      ∧ r.2.sem = fun _ => 0)

def quiescent_SampleConvRefIdeal [hSampleConvRefIdeal : Cert.SampleConvRefIdeal.Facts] : Prop :=
  ∀ (m : (ℓ : Loc Cert.SampleConvRefIdeal.nD Cert.SampleConvRefIdeal.τ Cert.SampleConvRefIdeal.sig) → Buf (Elt Ideal) ℓ) (g : Dev Cert.SampleConvRefIdeal.nD → PrngReg), Pre_SampleConvRefIdeal m →
    θ_run (Cert.SampleConvRefIdeal.defs (F := Ideal)) (onTc (τ := Cert.SampleConvRefIdeal.τ) (Cert.SampleConvRefIdeal.main (F := Ideal))) ⟨m, fun _ => 0, g⟩ (fun r => (∀ c : Dev Cert.SampleConvRefIdeal.nD,
      r.2.mem ((c.tc : Thread Cert.SampleConvRefIdeal.nD Cert.SampleConvRefIdeal.τ).loc Cert.SampleConvRefIdeal.main_arg0) = m ((c.tc : Thread Cert.SampleConvRefIdeal.nD Cert.SampleConvRefIdeal.τ).loc Cert.SampleConvRefIdeal.main_arg0)
      ∧ r.2.mem ((c.tc : Thread Cert.SampleConvRefIdeal.nD Cert.SampleConvRefIdeal.τ).loc Cert.SampleConvRefIdeal.main_arg1) = m ((c.tc : Thread Cert.SampleConvRefIdeal.nD Cert.SampleConvRefIdeal.τ).loc Cert.SampleConvRefIdeal.main_arg1)
      ∧ r.2.mem ((c.tc : Thread Cert.SampleConvRefIdeal.nD Cert.SampleConvRefIdeal.τ).loc Cert.SampleConvRefIdeal.main_arg2) = m ((c.tc : Thread Cert.SampleConvRefIdeal.nD Cert.SampleConvRefIdeal.τ).loc Cert.SampleConvRefIdeal.main_arg2)
      ∧ r.2.mem ((c.tc : Thread Cert.SampleConvRefIdeal.nD Cert.SampleConvRefIdeal.τ).loc Cert.SampleConvRefIdeal.main_arg3) = m ((c.tc : Thread Cert.SampleConvRefIdeal.nD Cert.SampleConvRefIdeal.τ).loc Cert.SampleConvRefIdeal.main_arg3)
      ∧ r.2.mem ((c.tc : Thread Cert.SampleConvRefIdeal.nD Cert.SampleConvRefIdeal.τ).loc Cert.SampleConvRefIdeal.main_arg4) = m ((c.tc : Thread Cert.SampleConvRefIdeal.nD Cert.SampleConvRefIdeal.τ).loc Cert.SampleConvRefIdeal.main_arg4)
      ∧ r.2.mem ((c.tc : Thread Cert.SampleConvRefIdeal.nD Cert.SampleConvRefIdeal.τ).loc Cert.SampleConvRefIdeal.main_arg5) = m ((c.tc : Thread Cert.SampleConvRefIdeal.nD Cert.SampleConvRefIdeal.τ).loc Cert.SampleConvRefIdeal.main_arg5)
      ∧ r.2.mem ((c.tc : Thread Cert.SampleConvRefIdeal.nD Cert.SampleConvRefIdeal.τ).loc Cert.SampleConvRefIdeal.main_arg6) = m ((c.tc : Thread Cert.SampleConvRefIdeal.nD Cert.SampleConvRefIdeal.τ).loc Cert.SampleConvRefIdeal.main_arg6)
      ∧ r.2.mem ((c.tc : Thread Cert.SampleConvRefIdeal.nD Cert.SampleConvRefIdeal.τ).loc Cert.SampleConvRefIdeal.main_arg7) = m ((c.tc : Thread Cert.SampleConvRefIdeal.nD Cert.SampleConvRefIdeal.τ).loc Cert.SampleConvRefIdeal.main_arg7))
      ∧ r.2.sem = fun _ => 0)

def quiescent_SampleAttn [hSampleAttn : Cert.SampleAttn.Facts] : Prop :=
  ∀ (m : (ℓ : Loc Cert.SampleAttn.nD Cert.SampleAttn.τ Cert.SampleAttn.sig) → Buf (Elt Bits) ℓ) (g : Dev Cert.SampleAttn.nD → PrngReg), Pre_SampleAttn m →
    θ_run (Cert.SampleAttn.defs (F := Bits)) (onTc (τ := Cert.SampleAttn.τ) (Cert.SampleAttn.main (F := Bits))) ⟨m, fun _ => 0, g⟩ (fun r => (∀ c : Dev Cert.SampleAttn.nD,
      r.2.mem ((c.tc : Thread Cert.SampleAttn.nD Cert.SampleAttn.τ).loc Cert.SampleAttn.main_arg0) = m ((c.tc : Thread Cert.SampleAttn.nD Cert.SampleAttn.τ).loc Cert.SampleAttn.main_arg0)
      ∧ r.2.mem ((c.tc : Thread Cert.SampleAttn.nD Cert.SampleAttn.τ).loc Cert.SampleAttn.main_arg1) = m ((c.tc : Thread Cert.SampleAttn.nD Cert.SampleAttn.τ).loc Cert.SampleAttn.main_arg1)
      ∧ r.2.mem ((c.tc : Thread Cert.SampleAttn.nD Cert.SampleAttn.τ).loc Cert.SampleAttn.main_arg2) = m ((c.tc : Thread Cert.SampleAttn.nD Cert.SampleAttn.τ).loc Cert.SampleAttn.main_arg2)
      ∧ r.2.mem ((c.tc : Thread Cert.SampleAttn.nD Cert.SampleAttn.τ).loc Cert.SampleAttn.main_arg3) = m ((c.tc : Thread Cert.SampleAttn.nD Cert.SampleAttn.τ).loc Cert.SampleAttn.main_arg3)
      ∧ r.2.mem ((c.tc : Thread Cert.SampleAttn.nD Cert.SampleAttn.τ).loc Cert.SampleAttn.main_arg4) = m ((c.tc : Thread Cert.SampleAttn.nD Cert.SampleAttn.τ).loc Cert.SampleAttn.main_arg4)
      ∧ r.2.mem ((c.tc : Thread Cert.SampleAttn.nD Cert.SampleAttn.τ).loc Cert.SampleAttn.main_arg5) = m ((c.tc : Thread Cert.SampleAttn.nD Cert.SampleAttn.τ).loc Cert.SampleAttn.main_arg5)
      ∧ r.2.mem ((c.tc : Thread Cert.SampleAttn.nD Cert.SampleAttn.τ).loc Cert.SampleAttn.main_arg6) = m ((c.tc : Thread Cert.SampleAttn.nD Cert.SampleAttn.τ).loc Cert.SampleAttn.main_arg6))
      ∧ r.2.sem = fun _ => 0)

def quiescent_SampleAttnIdeal [hSampleAttnIdeal : Cert.SampleAttnIdeal.Facts] : Prop :=
  ∀ (m : (ℓ : Loc Cert.SampleAttnIdeal.nD Cert.SampleAttnIdeal.τ Cert.SampleAttnIdeal.sig) → Buf (Elt Ideal) ℓ) (g : Dev Cert.SampleAttnIdeal.nD → PrngReg), Pre_SampleAttnIdeal m →
    θ_run (Cert.SampleAttnIdeal.defs (F := Ideal)) (onTc (τ := Cert.SampleAttnIdeal.τ) (Cert.SampleAttnIdeal.main (F := Ideal))) ⟨m, fun _ => 0, g⟩ (fun r => (∀ c : Dev Cert.SampleAttnIdeal.nD,
      r.2.mem ((c.tc : Thread Cert.SampleAttnIdeal.nD Cert.SampleAttnIdeal.τ).loc Cert.SampleAttnIdeal.main_arg0) = m ((c.tc : Thread Cert.SampleAttnIdeal.nD Cert.SampleAttnIdeal.τ).loc Cert.SampleAttnIdeal.main_arg0)
      ∧ r.2.mem ((c.tc : Thread Cert.SampleAttnIdeal.nD Cert.SampleAttnIdeal.τ).loc Cert.SampleAttnIdeal.main_arg1) = m ((c.tc : Thread Cert.SampleAttnIdeal.nD Cert.SampleAttnIdeal.τ).loc Cert.SampleAttnIdeal.main_arg1)
      ∧ r.2.mem ((c.tc : Thread Cert.SampleAttnIdeal.nD Cert.SampleAttnIdeal.τ).loc Cert.SampleAttnIdeal.main_arg2) = m ((c.tc : Thread Cert.SampleAttnIdeal.nD Cert.SampleAttnIdeal.τ).loc Cert.SampleAttnIdeal.main_arg2)
      ∧ r.2.mem ((c.tc : Thread Cert.SampleAttnIdeal.nD Cert.SampleAttnIdeal.τ).loc Cert.SampleAttnIdeal.main_arg3) = m ((c.tc : Thread Cert.SampleAttnIdeal.nD Cert.SampleAttnIdeal.τ).loc Cert.SampleAttnIdeal.main_arg3)
      ∧ r.2.mem ((c.tc : Thread Cert.SampleAttnIdeal.nD Cert.SampleAttnIdeal.τ).loc Cert.SampleAttnIdeal.main_arg4) = m ((c.tc : Thread Cert.SampleAttnIdeal.nD Cert.SampleAttnIdeal.τ).loc Cert.SampleAttnIdeal.main_arg4)
      ∧ r.2.mem ((c.tc : Thread Cert.SampleAttnIdeal.nD Cert.SampleAttnIdeal.τ).loc Cert.SampleAttnIdeal.main_arg5) = m ((c.tc : Thread Cert.SampleAttnIdeal.nD Cert.SampleAttnIdeal.τ).loc Cert.SampleAttnIdeal.main_arg5)
      ∧ r.2.mem ((c.tc : Thread Cert.SampleAttnIdeal.nD Cert.SampleAttnIdeal.τ).loc Cert.SampleAttnIdeal.main_arg6) = m ((c.tc : Thread Cert.SampleAttnIdeal.nD Cert.SampleAttnIdeal.τ).loc Cert.SampleAttnIdeal.main_arg6))
      ∧ r.2.sem = fun _ => 0)

def quiescent_SampleAttnRefIdeal [hSampleAttnRefIdeal : Cert.SampleAttnRefIdeal.Facts] : Prop :=
  ∀ (m : (ℓ : Loc Cert.SampleAttnRefIdeal.nD Cert.SampleAttnRefIdeal.τ Cert.SampleAttnRefIdeal.sig) → Buf (Elt Ideal) ℓ) (g : Dev Cert.SampleAttnRefIdeal.nD → PrngReg), Pre_SampleAttnRefIdeal m →
    θ_run (Cert.SampleAttnRefIdeal.defs (F := Ideal)) (onTc (τ := Cert.SampleAttnRefIdeal.τ) (Cert.SampleAttnRefIdeal.main (F := Ideal))) ⟨m, fun _ => 0, g⟩ (fun r => (∀ c : Dev Cert.SampleAttnRefIdeal.nD,
      r.2.mem ((c.tc : Thread Cert.SampleAttnRefIdeal.nD Cert.SampleAttnRefIdeal.τ).loc Cert.SampleAttnRefIdeal.main_arg0) = m ((c.tc : Thread Cert.SampleAttnRefIdeal.nD Cert.SampleAttnRefIdeal.τ).loc Cert.SampleAttnRefIdeal.main_arg0)
      ∧ r.2.mem ((c.tc : Thread Cert.SampleAttnRefIdeal.nD Cert.SampleAttnRefIdeal.τ).loc Cert.SampleAttnRefIdeal.main_arg1) = m ((c.tc : Thread Cert.SampleAttnRefIdeal.nD Cert.SampleAttnRefIdeal.τ).loc Cert.SampleAttnRefIdeal.main_arg1)
      ∧ r.2.mem ((c.tc : Thread Cert.SampleAttnRefIdeal.nD Cert.SampleAttnRefIdeal.τ).loc Cert.SampleAttnRefIdeal.main_arg2) = m ((c.tc : Thread Cert.SampleAttnRefIdeal.nD Cert.SampleAttnRefIdeal.τ).loc Cert.SampleAttnRefIdeal.main_arg2)
      ∧ r.2.mem ((c.tc : Thread Cert.SampleAttnRefIdeal.nD Cert.SampleAttnRefIdeal.τ).loc Cert.SampleAttnRefIdeal.main_arg3) = m ((c.tc : Thread Cert.SampleAttnRefIdeal.nD Cert.SampleAttnRefIdeal.τ).loc Cert.SampleAttnRefIdeal.main_arg3)
      ∧ r.2.mem ((c.tc : Thread Cert.SampleAttnRefIdeal.nD Cert.SampleAttnRefIdeal.τ).loc Cert.SampleAttnRefIdeal.main_arg4) = m ((c.tc : Thread Cert.SampleAttnRefIdeal.nD Cert.SampleAttnRefIdeal.τ).loc Cert.SampleAttnRefIdeal.main_arg4)
      ∧ r.2.mem ((c.tc : Thread Cert.SampleAttnRefIdeal.nD Cert.SampleAttnRefIdeal.τ).loc Cert.SampleAttnRefIdeal.main_arg5) = m ((c.tc : Thread Cert.SampleAttnRefIdeal.nD Cert.SampleAttnRefIdeal.τ).loc Cert.SampleAttnRefIdeal.main_arg5)
      ∧ r.2.mem ((c.tc : Thread Cert.SampleAttnRefIdeal.nD Cert.SampleAttnRefIdeal.τ).loc Cert.SampleAttnRefIdeal.main_arg6) = m ((c.tc : Thread Cert.SampleAttnRefIdeal.nD Cert.SampleAttnRefIdeal.τ).loc Cert.SampleAttnRefIdeal.main_arg6))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineRef [hCombineRef : Cert.CombineRef.Facts] : Prop :=
  ∀ (m : (ℓ : Loc Cert.CombineRef.nD Cert.CombineRef.τ Cert.CombineRef.sig) → Buf (Elt Bits) ℓ) (g : Dev Cert.CombineRef.nD → PrngReg), Pre_CombineRef m →
    θ_run (Cert.CombineRef.defs (F := Bits)) (onTc (τ := Cert.CombineRef.τ) (Cert.CombineRef.main (F := Bits))) ⟨m, fun _ => 0, g⟩ (fun r => (∀ c : Dev Cert.CombineRef.nD,
      r.2.mem ((c.tc : Thread Cert.CombineRef.nD Cert.CombineRef.τ).loc Cert.CombineRef.main_arg0) = m ((c.tc : Thread Cert.CombineRef.nD Cert.CombineRef.τ).loc Cert.CombineRef.main_arg0)
      ∧ r.2.mem ((c.tc : Thread Cert.CombineRef.nD Cert.CombineRef.τ).loc Cert.CombineRef.main_arg1) = m ((c.tc : Thread Cert.CombineRef.nD Cert.CombineRef.τ).loc Cert.CombineRef.main_arg1)
      ∧ r.2.mem ((c.tc : Thread Cert.CombineRef.nD Cert.CombineRef.τ).loc Cert.CombineRef.main_arg2) = m ((c.tc : Thread Cert.CombineRef.nD Cert.CombineRef.τ).loc Cert.CombineRef.main_arg2))
      ∧ r.2.sem = fun _ => 0)

def quiescent_CombineSample [hCombineSample : Cert.CombineSample.Facts] : Prop :=
  ∀ (m : (ℓ : Loc Cert.CombineSample.nD Cert.CombineSample.τ Cert.CombineSample.sig) → Buf (Elt Bits) ℓ) (g : Dev Cert.CombineSample.nD → PrngReg), Pre_CombineSample m →
    θ_run (Cert.CombineSample.defs (F := Bits)) (onTc (τ := Cert.CombineSample.τ) (Cert.CombineSample.main (F := Bits))) ⟨m, fun _ => 0, g⟩ (fun r => (∀ c : Dev Cert.CombineSample.nD,
      r.2.mem ((c.tc : Thread Cert.CombineSample.nD Cert.CombineSample.τ).loc Cert.CombineSample.main_arg0) = m ((c.tc : Thread Cert.CombineSample.nD Cert.CombineSample.τ).loc Cert.CombineSample.main_arg0)
      ∧ r.2.mem ((c.tc : Thread Cert.CombineSample.nD Cert.CombineSample.τ).loc Cert.CombineSample.main_arg1) = m ((c.tc : Thread Cert.CombineSample.nD Cert.CombineSample.τ).loc Cert.CombineSample.main_arg1)
      ∧ r.2.mem ((c.tc : Thread Cert.CombineSample.nD Cert.CombineSample.τ).loc Cert.CombineSample.main_arg2) = m ((c.tc : Thread Cert.CombineSample.nD Cert.CombineSample.τ).loc Cert.CombineSample.main_arg2))
      ∧ r.2.sem = fun _ => 0)

def quiescent_CombineSampleRef [hCombineSampleRef : Cert.CombineSampleRef.Facts] : Prop :=
  ∀ (m : (ℓ : Loc Cert.CombineSampleRef.nD Cert.CombineSampleRef.τ Cert.CombineSampleRef.sig) → Buf (Elt Bits) ℓ) (g : Dev Cert.CombineSampleRef.nD → PrngReg), Pre_CombineSampleRef m →
    θ_run (Cert.CombineSampleRef.defs (F := Bits)) (onTc (τ := Cert.CombineSampleRef.τ) (Cert.CombineSampleRef.main (F := Bits))) ⟨m, fun _ => 0, g⟩ (fun r => (∀ c : Dev Cert.CombineSampleRef.nD,
      r.2.mem ((c.tc : Thread Cert.CombineSampleRef.nD Cert.CombineSampleRef.τ).loc Cert.CombineSampleRef.main_arg0) = m ((c.tc : Thread Cert.CombineSampleRef.nD Cert.CombineSampleRef.τ).loc Cert.CombineSampleRef.main_arg0)
      ∧ r.2.mem ((c.tc : Thread Cert.CombineSampleRef.nD Cert.CombineSampleRef.τ).loc Cert.CombineSampleRef.main_arg1) = m ((c.tc : Thread Cert.CombineSampleRef.nD Cert.CombineSampleRef.τ).loc Cert.CombineSampleRef.main_arg1)
      ∧ r.2.mem ((c.tc : Thread Cert.CombineSampleRef.nD Cert.CombineSampleRef.τ).loc Cert.CombineSampleRef.main_arg2) = m ((c.tc : Thread Cert.CombineSampleRef.nD Cert.CombineSampleRef.τ).loc Cert.CombineSampleRef.main_arg2))
      ∧ r.2.sem = fun _ => 0)

def bitexact_Kernel_Reference [hKernel : Cert.Kernel.Facts] [hReference : Cert.Reference.Facts] [hPre_counted : Cert.Pre_counted.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v29)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v29) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v11) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def preserves_Prompt_PromptIdeal : Prop :=
  IdealRules.bf16_pair.BufferStatement Cert.PromptIdeal.S2304x2x128 Cert.PromptIdeal.S2304x1x128
  ∧ IdealRules.bf16_pair.Statement Cert.PromptIdeal.S256x2x128 Cert.PromptIdeal.S256x1x128
  ∧ IdealRules.bf16_pair.SelectZeroStatement Cert.PromptIdeal.S256x128
  ∧ IdealRules.bf16_pair.HalfStatement Cert.PromptIdeal.S256x256
  ∧ IdealRules.bf16_pair.Statement Cert.PromptIdeal.S128x2x128 Cert.PromptIdeal.S128x1x128
  ∧ IdealRules.bf16_pair.Statement Cert.PromptIdeal.S256x128 Cert.PromptIdeal.S128x128

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)
      ∧ m' ((c.tc : Thread Cert.PromptRefIdeal.nD Cert.PromptRefIdeal.τ).loc Cert.PromptRefIdeal.main_arg6) = m ((c.tc : Thread Cert.PromptIdeal.nD Cert.PromptIdeal.τ).loc Cert.PromptIdeal.main_arg6)
      ∧ m' ((c.tc : Thread Cert.PromptRefIdeal.nD Cert.PromptRefIdeal.τ).loc Cert.PromptRefIdeal.main_arg7) = m ((c.tc : Thread Cert.PromptIdeal.nD Cert.PromptIdeal.τ).loc Cert.PromptIdeal.main_arg7)
      ∧ m' ((c.tc : Thread Cert.PromptRefIdeal.nD Cert.PromptRefIdeal.τ).loc Cert.PromptRefIdeal.main_arg8) = m ((c.tc : Thread Cert.PromptIdeal.nD Cert.PromptIdeal.τ).loc Cert.PromptIdeal.main_arg8)
      ∧ m' ((c.tc : Thread Cert.PromptRefIdeal.nD Cert.PromptRefIdeal.τ).loc Cert.PromptRefIdeal.main_arg9) = m ((c.tc : Thread Cert.PromptIdeal.nD Cert.PromptIdeal.τ).loc Cert.PromptIdeal.main_arg9)
      ∧ m' ((c.tc : Thread Cert.PromptRefIdeal.nD Cert.PromptRefIdeal.τ).loc Cert.PromptRefIdeal.main_arg10) = m ((c.tc : Thread Cert.PromptIdeal.nD Cert.PromptIdeal.τ).loc Cert.PromptIdeal.main_arg10)) →
    ∃ (v0 : (c : Dev Cert.PromptIdeal.nD) → Buf (Elt Ideal) ((c.tc : Thread Cert.PromptIdeal.nD Cert.PromptIdeal.τ).loc Cert.PromptIdeal.main_v7_0)) (v1 : (c : Dev Cert.PromptIdeal.nD) → Buf (Elt Ideal) ((c.tc : Thread Cert.PromptIdeal.nD Cert.PromptIdeal.τ).loc Cert.PromptIdeal.main_v7_1)) (v2 : (c : Dev Cert.PromptIdeal.nD) → Buf (Elt Ideal) ((c.tc : Thread Cert.PromptIdeal.nD Cert.PromptIdeal.τ).loc Cert.PromptIdeal.main_v7_2)) (v3 : (c : Dev Cert.PromptIdeal.nD) → Buf (Elt Ideal) ((c.tc : Thread Cert.PromptIdeal.nD Cert.PromptIdeal.τ).loc Cert.PromptIdeal.main_v7_3)) (v4 : (c : Dev Cert.PromptIdeal.nD) → Buf (Elt Ideal) ((c.tc : Thread Cert.PromptIdeal.nD Cert.PromptIdeal.τ).loc Cert.PromptIdeal.main_v7_4)) (v5 : (c : Dev Cert.PromptIdeal.nD) → Buf (Elt Ideal) ((c.tc : Thread Cert.PromptIdeal.nD Cert.PromptIdeal.τ).loc Cert.PromptIdeal.main_v7_6)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v7_0) = v0 c
          ∧ r.2.mem ((c.tc : Thread Cert.PromptIdeal.nD Cert.PromptIdeal.τ).loc Cert.PromptIdeal.main_v7_1) = v1 c
          ∧ r.2.mem ((c.tc : Thread Cert.PromptIdeal.nD Cert.PromptIdeal.τ).loc Cert.PromptIdeal.main_v7_2) = v2 c
          ∧ r.2.mem ((c.tc : Thread Cert.PromptIdeal.nD Cert.PromptIdeal.τ).loc Cert.PromptIdeal.main_v7_3) = v3 c
          ∧ r.2.mem ((c.tc : Thread Cert.PromptIdeal.nD Cert.PromptIdeal.τ).loc Cert.PromptIdeal.main_v7_4) = v4 c
          ∧ r.2.mem ((c.tc : Thread Cert.PromptIdeal.nD Cert.PromptIdeal.τ).loc Cert.PromptIdeal.main_v7_6) = v5 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
          ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v59) = v0 c
          ∧ r.2.mem ((c.tc : Thread Cert.PromptRefIdeal.nD Cert.PromptRefIdeal.τ).loc Cert.PromptRefIdeal.main_v51) = v1 c
          ∧ r.2.mem ((c.tc : Thread Cert.PromptRefIdeal.nD Cert.PromptRefIdeal.τ).loc Cert.PromptRefIdeal.main_v19) = v2 c
          ∧ r.2.mem ((c.tc : Thread Cert.PromptRefIdeal.nD Cert.PromptRefIdeal.τ).loc Cert.PromptRefIdeal.main_v66) = v3 c
          ∧ r.2.mem ((c.tc : Thread Cert.PromptRefIdeal.nD Cert.PromptRefIdeal.τ).loc Cert.PromptRefIdeal.main_v73) = v4 c
          ∧ r.2.mem ((c.tc : Thread Cert.PromptRefIdeal.nD Cert.PromptRefIdeal.τ).loc Cert.PromptRefIdeal.main_v74) = v5 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5)
          ∧ r.2.mem ((c.tc : Thread Cert.PromptRefIdeal.nD Cert.PromptRefIdeal.τ).loc Cert.PromptRefIdeal.main_arg6) = m' ((c.tc : Thread Cert.PromptRefIdeal.nD Cert.PromptRefIdeal.τ).loc Cert.PromptRefIdeal.main_arg6)
          ∧ r.2.mem ((c.tc : Thread Cert.PromptRefIdeal.nD Cert.PromptRefIdeal.τ).loc Cert.PromptRefIdeal.main_arg7) = m' ((c.tc : Thread Cert.PromptRefIdeal.nD Cert.PromptRefIdeal.τ).loc Cert.PromptRefIdeal.main_arg7)
          ∧ r.2.mem ((c.tc : Thread Cert.PromptRefIdeal.nD Cert.PromptRefIdeal.τ).loc Cert.PromptRefIdeal.main_arg8) = m' ((c.tc : Thread Cert.PromptRefIdeal.nD Cert.PromptRefIdeal.τ).loc Cert.PromptRefIdeal.main_arg8)
          ∧ r.2.mem ((c.tc : Thread Cert.PromptRefIdeal.nD Cert.PromptRefIdeal.τ).loc Cert.PromptRefIdeal.main_arg9) = m' ((c.tc : Thread Cert.PromptRefIdeal.nD Cert.PromptRefIdeal.τ).loc Cert.PromptRefIdeal.main_arg9)
          ∧ r.2.mem ((c.tc : Thread Cert.PromptRefIdeal.nD Cert.PromptRefIdeal.τ).loc Cert.PromptRefIdeal.main_arg10) = m' ((c.tc : Thread Cert.PromptRefIdeal.nD Cert.PromptRefIdeal.τ).loc Cert.PromptRefIdeal.main_arg10))

def preserves_Finish_FinishIdeal : Prop :=
  IdealRules.bf16_pair.BufferStatement Cert.FinishIdeal.S16384x2x512 Cert.FinishIdeal.S16384x1x512
  ∧ IdealRules.bf16_pair.BufferStatement Cert.FinishIdeal.S512x2x512 Cert.FinishIdeal.S512x1x512
  ∧ IdealRules.bf16_pair.HalfStatement Cert.FinishIdeal.S512x512
  ∧ IdealRules.bf16_pair.Statement Cert.FinishIdeal.S512x2x512 Cert.FinishIdeal.S512x1x512

def algebraic_FinishIdeal_FinishRefIdeal [hFinishIdeal : Cert.FinishIdeal.Facts] [hFinishRefIdeal : Cert.FinishRefIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)
      ∧ m' ((c.tc : Thread Cert.FinishRefIdeal.nD Cert.FinishRefIdeal.τ).loc Cert.FinishRefIdeal.main_arg4) = m ((c.tc : Thread Cert.FinishIdeal.nD Cert.FinishIdeal.τ).loc Cert.FinishIdeal.main_arg4)
      ∧ m' ((c.tc : Thread Cert.FinishRefIdeal.nD Cert.FinishRefIdeal.τ).loc Cert.FinishRefIdeal.main_arg5) = m ((c.tc : Thread Cert.FinishIdeal.nD Cert.FinishIdeal.τ).loc Cert.FinishIdeal.main_arg5)
      ∧ m' ((c.tc : Thread Cert.FinishRefIdeal.nD Cert.FinishRefIdeal.τ).loc Cert.FinishRefIdeal.main_arg6) = m ((c.tc : Thread Cert.FinishIdeal.nD Cert.FinishIdeal.τ).loc Cert.FinishIdeal.main_arg6)
      ∧ m' ((c.tc : Thread Cert.FinishRefIdeal.nD Cert.FinishRefIdeal.τ).loc Cert.FinishRefIdeal.main_arg7) = m ((c.tc : Thread Cert.FinishIdeal.nD Cert.FinishIdeal.τ).loc Cert.FinishIdeal.main_arg7)
      ∧ m' ((c.tc : Thread Cert.FinishRefIdeal.nD Cert.FinishRefIdeal.τ).loc Cert.FinishRefIdeal.main_arg8) = m ((c.tc : Thread Cert.FinishIdeal.nD Cert.FinishIdeal.τ).loc Cert.FinishIdeal.main_arg8)
      ∧ m' ((c.tc : Thread Cert.FinishRefIdeal.nD Cert.FinishRefIdeal.τ).loc Cert.FinishRefIdeal.main_arg9) = m ((c.tc : Thread Cert.FinishIdeal.nD Cert.FinishIdeal.τ).loc Cert.FinishIdeal.main_arg9)) →
    ∃ (v0 : (c : Dev Cert.FinishIdeal.nD) → Buf (Elt Ideal) ((c.tc : Thread Cert.FinishIdeal.nD Cert.FinishIdeal.τ).loc Cert.FinishIdeal.main_v5_0)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v5_0) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
          ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
          ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v11) = v0 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2)
          ∧ r.2.mem ((c.tc : Thread Cert.FinishRefIdeal.nD Cert.FinishRefIdeal.τ).loc Cert.FinishRefIdeal.main_arg3) = m' ((c.tc : Thread Cert.FinishRefIdeal.nD Cert.FinishRefIdeal.τ).loc Cert.FinishRefIdeal.main_arg3)
          ∧ r.2.mem ((c.tc : Thread Cert.FinishRefIdeal.nD Cert.FinishRefIdeal.τ).loc Cert.FinishRefIdeal.main_arg4) = m' ((c.tc : Thread Cert.FinishRefIdeal.nD Cert.FinishRefIdeal.τ).loc Cert.FinishRefIdeal.main_arg4)
          ∧ r.2.mem ((c.tc : Thread Cert.FinishRefIdeal.nD Cert.FinishRefIdeal.τ).loc Cert.FinishRefIdeal.main_arg5) = m' ((c.tc : Thread Cert.FinishRefIdeal.nD Cert.FinishRefIdeal.τ).loc Cert.FinishRefIdeal.main_arg5)
          ∧ r.2.mem ((c.tc : Thread Cert.FinishRefIdeal.nD Cert.FinishRefIdeal.τ).loc Cert.FinishRefIdeal.main_arg6) = m' ((c.tc : Thread Cert.FinishRefIdeal.nD Cert.FinishRefIdeal.τ).loc Cert.FinishRefIdeal.main_arg6)
          ∧ r.2.mem ((c.tc : Thread Cert.FinishRefIdeal.nD Cert.FinishRefIdeal.τ).loc Cert.FinishRefIdeal.main_arg7) = m' ((c.tc : Thread Cert.FinishRefIdeal.nD Cert.FinishRefIdeal.τ).loc Cert.FinishRefIdeal.main_arg7)
          ∧ r.2.mem ((c.tc : Thread Cert.FinishRefIdeal.nD Cert.FinishRefIdeal.τ).loc Cert.FinishRefIdeal.main_arg8) = m' ((c.tc : Thread Cert.FinishRefIdeal.nD Cert.FinishRefIdeal.τ).loc Cert.FinishRefIdeal.main_arg8)
          ∧ r.2.mem ((c.tc : Thread Cert.FinishRefIdeal.nD Cert.FinishRefIdeal.τ).loc Cert.FinishRefIdeal.main_arg9) = m' ((c.tc : Thread Cert.FinishRefIdeal.nD Cert.FinishRefIdeal.τ).loc Cert.FinishRefIdeal.main_arg9))

def preserves_SampleConv_SampleConvIdeal : Prop :=
  True

def algebraic_SampleConvIdeal_SampleConvRefIdeal [hSampleConvIdeal : Cert.SampleConvIdeal.Facts] [hSampleConvRefIdeal : Cert.SampleConvRefIdeal.Facts] : Prop :=
  ∀ (m : (ℓ : Loc Cert.SampleConvIdeal.nD Cert.SampleConvIdeal.τ Cert.SampleConvIdeal.sig) → Buf (Elt Ideal) ℓ) (g : Dev Cert.SampleConvIdeal.nD → PrngReg)
    (m' : (ℓ : Loc Cert.SampleConvRefIdeal.nD Cert.SampleConvRefIdeal.τ Cert.SampleConvRefIdeal.sig) → Buf (Elt Ideal) ℓ) (g' : Dev Cert.SampleConvRefIdeal.nD → PrngReg), Pre_SampleConvIdeal m →
    (∀ c : Dev Cert.SampleConvIdeal.nD,
      m' ((c.tc : Thread Cert.SampleConvRefIdeal.nD Cert.SampleConvRefIdeal.τ).loc Cert.SampleConvRefIdeal.main_arg0) = m ((c.tc : Thread Cert.SampleConvIdeal.nD Cert.SampleConvIdeal.τ).loc Cert.SampleConvIdeal.main_arg0)
      ∧ m' ((c.tc : Thread Cert.SampleConvRefIdeal.nD Cert.SampleConvRefIdeal.τ).loc Cert.SampleConvRefIdeal.main_arg1) = m ((c.tc : Thread Cert.SampleConvIdeal.nD Cert.SampleConvIdeal.τ).loc Cert.SampleConvIdeal.main_arg1)
      ∧ m' ((c.tc : Thread Cert.SampleConvRefIdeal.nD Cert.SampleConvRefIdeal.τ).loc Cert.SampleConvRefIdeal.main_arg2) = m ((c.tc : Thread Cert.SampleConvIdeal.nD Cert.SampleConvIdeal.τ).loc Cert.SampleConvIdeal.main_arg2)
      ∧ m' ((c.tc : Thread Cert.SampleConvRefIdeal.nD Cert.SampleConvRefIdeal.τ).loc Cert.SampleConvRefIdeal.main_arg3) = m ((c.tc : Thread Cert.SampleConvIdeal.nD Cert.SampleConvIdeal.τ).loc Cert.SampleConvIdeal.main_arg3)
      ∧ m' ((c.tc : Thread Cert.SampleConvRefIdeal.nD Cert.SampleConvRefIdeal.τ).loc Cert.SampleConvRefIdeal.main_arg4) = m ((c.tc : Thread Cert.SampleConvIdeal.nD Cert.SampleConvIdeal.τ).loc Cert.SampleConvIdeal.main_arg4)
      ∧ m' ((c.tc : Thread Cert.SampleConvRefIdeal.nD Cert.SampleConvRefIdeal.τ).loc Cert.SampleConvRefIdeal.main_arg5) = m ((c.tc : Thread Cert.SampleConvIdeal.nD Cert.SampleConvIdeal.τ).loc Cert.SampleConvIdeal.main_arg5)
      ∧ m' ((c.tc : Thread Cert.SampleConvRefIdeal.nD Cert.SampleConvRefIdeal.τ).loc Cert.SampleConvRefIdeal.main_arg6) = m ((c.tc : Thread Cert.SampleConvIdeal.nD Cert.SampleConvIdeal.τ).loc Cert.SampleConvIdeal.main_arg6)
      ∧ m' ((c.tc : Thread Cert.SampleConvRefIdeal.nD Cert.SampleConvRefIdeal.τ).loc Cert.SampleConvRefIdeal.main_arg7) = m ((c.tc : Thread Cert.SampleConvIdeal.nD Cert.SampleConvIdeal.τ).loc Cert.SampleConvIdeal.main_arg7)) →
    ∃ (v0 : (c : Dev Cert.SampleConvIdeal.nD) → Buf (Elt Ideal) ((c.tc : Thread Cert.SampleConvIdeal.nD Cert.SampleConvIdeal.τ).loc Cert.SampleConvIdeal.main_v3_1)),
      θ_run (Cert.SampleConvIdeal.defs (F := Ideal)) (onTc (τ := Cert.SampleConvIdeal.τ) (Cert.SampleConvIdeal.main (F := Ideal))) ⟨m, fun _ => 0, g⟩ (fun r => ∀ c : Dev Cert.SampleConvIdeal.nD,
          r.2.mem ((c.tc : Thread Cert.SampleConvIdeal.nD Cert.SampleConvIdeal.τ).loc Cert.SampleConvIdeal.main_v3_1) = v0 c
          ∧ r.2.mem ((c.tc : Thread Cert.SampleConvIdeal.nD Cert.SampleConvIdeal.τ).loc Cert.SampleConvIdeal.main_arg0) = m ((c.tc : Thread Cert.SampleConvIdeal.nD Cert.SampleConvIdeal.τ).loc Cert.SampleConvIdeal.main_arg0)
          ∧ r.2.mem ((c.tc : Thread Cert.SampleConvIdeal.nD Cert.SampleConvIdeal.τ).loc Cert.SampleConvIdeal.main_arg1) = m ((c.tc : Thread Cert.SampleConvIdeal.nD Cert.SampleConvIdeal.τ).loc Cert.SampleConvIdeal.main_arg1)
          ∧ r.2.mem ((c.tc : Thread Cert.SampleConvIdeal.nD Cert.SampleConvIdeal.τ).loc Cert.SampleConvIdeal.main_arg2) = m ((c.tc : Thread Cert.SampleConvIdeal.nD Cert.SampleConvIdeal.τ).loc Cert.SampleConvIdeal.main_arg2)
          ∧ r.2.mem ((c.tc : Thread Cert.SampleConvIdeal.nD Cert.SampleConvIdeal.τ).loc Cert.SampleConvIdeal.main_arg3) = m ((c.tc : Thread Cert.SampleConvIdeal.nD Cert.SampleConvIdeal.τ).loc Cert.SampleConvIdeal.main_arg3)
          ∧ r.2.mem ((c.tc : Thread Cert.SampleConvIdeal.nD Cert.SampleConvIdeal.τ).loc Cert.SampleConvIdeal.main_arg4) = m ((c.tc : Thread Cert.SampleConvIdeal.nD Cert.SampleConvIdeal.τ).loc Cert.SampleConvIdeal.main_arg4)
          ∧ r.2.mem ((c.tc : Thread Cert.SampleConvIdeal.nD Cert.SampleConvIdeal.τ).loc Cert.SampleConvIdeal.main_arg5) = m ((c.tc : Thread Cert.SampleConvIdeal.nD Cert.SampleConvIdeal.τ).loc Cert.SampleConvIdeal.main_arg5)
          ∧ r.2.mem ((c.tc : Thread Cert.SampleConvIdeal.nD Cert.SampleConvIdeal.τ).loc Cert.SampleConvIdeal.main_arg6) = m ((c.tc : Thread Cert.SampleConvIdeal.nD Cert.SampleConvIdeal.τ).loc Cert.SampleConvIdeal.main_arg6)
          ∧ r.2.mem ((c.tc : Thread Cert.SampleConvIdeal.nD Cert.SampleConvIdeal.τ).loc Cert.SampleConvIdeal.main_arg7) = m ((c.tc : Thread Cert.SampleConvIdeal.nD Cert.SampleConvIdeal.τ).loc Cert.SampleConvIdeal.main_arg7))
      ∧ θ_run (Cert.SampleConvRefIdeal.defs (F := Ideal)) (onTc (τ := Cert.SampleConvRefIdeal.τ) (Cert.SampleConvRefIdeal.main (F := Ideal))) ⟨m', fun _ => 0, g'⟩ (fun r => ∀ c : Dev Cert.SampleConvRefIdeal.nD,
          r.2.mem ((c.tc : Thread Cert.SampleConvRefIdeal.nD Cert.SampleConvRefIdeal.τ).loc Cert.SampleConvRefIdeal.main_v3) = v0 c
          ∧ r.2.mem ((c.tc : Thread Cert.SampleConvRefIdeal.nD Cert.SampleConvRefIdeal.τ).loc Cert.SampleConvRefIdeal.main_arg0) = m' ((c.tc : Thread Cert.SampleConvRefIdeal.nD Cert.SampleConvRefIdeal.τ).loc Cert.SampleConvRefIdeal.main_arg0)
          ∧ r.2.mem ((c.tc : Thread Cert.SampleConvRefIdeal.nD Cert.SampleConvRefIdeal.τ).loc Cert.SampleConvRefIdeal.main_arg1) = m' ((c.tc : Thread Cert.SampleConvRefIdeal.nD Cert.SampleConvRefIdeal.τ).loc Cert.SampleConvRefIdeal.main_arg1)
          ∧ r.2.mem ((c.tc : Thread Cert.SampleConvRefIdeal.nD Cert.SampleConvRefIdeal.τ).loc Cert.SampleConvRefIdeal.main_arg2) = m' ((c.tc : Thread Cert.SampleConvRefIdeal.nD Cert.SampleConvRefIdeal.τ).loc Cert.SampleConvRefIdeal.main_arg2)
          ∧ r.2.mem ((c.tc : Thread Cert.SampleConvRefIdeal.nD Cert.SampleConvRefIdeal.τ).loc Cert.SampleConvRefIdeal.main_arg3) = m' ((c.tc : Thread Cert.SampleConvRefIdeal.nD Cert.SampleConvRefIdeal.τ).loc Cert.SampleConvRefIdeal.main_arg3)
          ∧ r.2.mem ((c.tc : Thread Cert.SampleConvRefIdeal.nD Cert.SampleConvRefIdeal.τ).loc Cert.SampleConvRefIdeal.main_arg4) = m' ((c.tc : Thread Cert.SampleConvRefIdeal.nD Cert.SampleConvRefIdeal.τ).loc Cert.SampleConvRefIdeal.main_arg4)
          ∧ r.2.mem ((c.tc : Thread Cert.SampleConvRefIdeal.nD Cert.SampleConvRefIdeal.τ).loc Cert.SampleConvRefIdeal.main_arg5) = m' ((c.tc : Thread Cert.SampleConvRefIdeal.nD Cert.SampleConvRefIdeal.τ).loc Cert.SampleConvRefIdeal.main_arg5)
          ∧ r.2.mem ((c.tc : Thread Cert.SampleConvRefIdeal.nD Cert.SampleConvRefIdeal.τ).loc Cert.SampleConvRefIdeal.main_arg6) = m' ((c.tc : Thread Cert.SampleConvRefIdeal.nD Cert.SampleConvRefIdeal.τ).loc Cert.SampleConvRefIdeal.main_arg6)
          ∧ r.2.mem ((c.tc : Thread Cert.SampleConvRefIdeal.nD Cert.SampleConvRefIdeal.τ).loc Cert.SampleConvRefIdeal.main_arg7) = m' ((c.tc : Thread Cert.SampleConvRefIdeal.nD Cert.SampleConvRefIdeal.τ).loc Cert.SampleConvRefIdeal.main_arg7))

def preserves_SampleAttn_SampleAttnIdeal : Prop :=
  True

def algebraic_SampleAttnIdeal_SampleAttnRefIdeal [hSampleAttnIdeal : Cert.SampleAttnIdeal.Facts] [hSampleAttnRefIdeal : Cert.SampleAttnRefIdeal.Facts] : Prop :=
  ∀ (m : (ℓ : Loc Cert.SampleAttnIdeal.nD Cert.SampleAttnIdeal.τ Cert.SampleAttnIdeal.sig) → Buf (Elt Ideal) ℓ) (g : Dev Cert.SampleAttnIdeal.nD → PrngReg)
    (m' : (ℓ : Loc Cert.SampleAttnRefIdeal.nD Cert.SampleAttnRefIdeal.τ Cert.SampleAttnRefIdeal.sig) → Buf (Elt Ideal) ℓ) (g' : Dev Cert.SampleAttnRefIdeal.nD → PrngReg), Pre_SampleAttnIdeal m →
    (∀ c : Dev Cert.SampleAttnIdeal.nD,
      m' ((c.tc : Thread Cert.SampleAttnRefIdeal.nD Cert.SampleAttnRefIdeal.τ).loc Cert.SampleAttnRefIdeal.main_arg0) = m ((c.tc : Thread Cert.SampleAttnIdeal.nD Cert.SampleAttnIdeal.τ).loc Cert.SampleAttnIdeal.main_arg0)
      ∧ m' ((c.tc : Thread Cert.SampleAttnRefIdeal.nD Cert.SampleAttnRefIdeal.τ).loc Cert.SampleAttnRefIdeal.main_arg1) = m ((c.tc : Thread Cert.SampleAttnIdeal.nD Cert.SampleAttnIdeal.τ).loc Cert.SampleAttnIdeal.main_arg1)
      ∧ m' ((c.tc : Thread Cert.SampleAttnRefIdeal.nD Cert.SampleAttnRefIdeal.τ).loc Cert.SampleAttnRefIdeal.main_arg2) = m ((c.tc : Thread Cert.SampleAttnIdeal.nD Cert.SampleAttnIdeal.τ).loc Cert.SampleAttnIdeal.main_arg2)
      ∧ m' ((c.tc : Thread Cert.SampleAttnRefIdeal.nD Cert.SampleAttnRefIdeal.τ).loc Cert.SampleAttnRefIdeal.main_arg3) = m ((c.tc : Thread Cert.SampleAttnIdeal.nD Cert.SampleAttnIdeal.τ).loc Cert.SampleAttnIdeal.main_arg3)
      ∧ m' ((c.tc : Thread Cert.SampleAttnRefIdeal.nD Cert.SampleAttnRefIdeal.τ).loc Cert.SampleAttnRefIdeal.main_arg4) = m ((c.tc : Thread Cert.SampleAttnIdeal.nD Cert.SampleAttnIdeal.τ).loc Cert.SampleAttnIdeal.main_arg4)
      ∧ m' ((c.tc : Thread Cert.SampleAttnRefIdeal.nD Cert.SampleAttnRefIdeal.τ).loc Cert.SampleAttnRefIdeal.main_arg5) = m ((c.tc : Thread Cert.SampleAttnIdeal.nD Cert.SampleAttnIdeal.τ).loc Cert.SampleAttnIdeal.main_arg5)
      ∧ m' ((c.tc : Thread Cert.SampleAttnRefIdeal.nD Cert.SampleAttnRefIdeal.τ).loc Cert.SampleAttnRefIdeal.main_arg6) = m ((c.tc : Thread Cert.SampleAttnIdeal.nD Cert.SampleAttnIdeal.τ).loc Cert.SampleAttnIdeal.main_arg6)) →
    ∃ (v0 : (c : Dev Cert.SampleAttnIdeal.nD) → Buf (Elt Ideal) ((c.tc : Thread Cert.SampleAttnIdeal.nD Cert.SampleAttnIdeal.τ).loc Cert.SampleAttnIdeal.main_v5_1)) (v1 : (c : Dev Cert.SampleAttnIdeal.nD) → Buf (Elt Ideal) ((c.tc : Thread Cert.SampleAttnIdeal.nD Cert.SampleAttnIdeal.τ).loc Cert.SampleAttnIdeal.main_v5_2)),
      θ_run (Cert.SampleAttnIdeal.defs (F := Ideal)) (onTc (τ := Cert.SampleAttnIdeal.τ) (Cert.SampleAttnIdeal.main (F := Ideal))) ⟨m, fun _ => 0, g⟩ (fun r => ∀ c : Dev Cert.SampleAttnIdeal.nD,
          r.2.mem ((c.tc : Thread Cert.SampleAttnIdeal.nD Cert.SampleAttnIdeal.τ).loc Cert.SampleAttnIdeal.main_v5_1) = v0 c
          ∧ r.2.mem ((c.tc : Thread Cert.SampleAttnIdeal.nD Cert.SampleAttnIdeal.τ).loc Cert.SampleAttnIdeal.main_v5_2) = v1 c
          ∧ r.2.mem ((c.tc : Thread Cert.SampleAttnIdeal.nD Cert.SampleAttnIdeal.τ).loc Cert.SampleAttnIdeal.main_arg0) = m ((c.tc : Thread Cert.SampleAttnIdeal.nD Cert.SampleAttnIdeal.τ).loc Cert.SampleAttnIdeal.main_arg0)
          ∧ r.2.mem ((c.tc : Thread Cert.SampleAttnIdeal.nD Cert.SampleAttnIdeal.τ).loc Cert.SampleAttnIdeal.main_arg1) = m ((c.tc : Thread Cert.SampleAttnIdeal.nD Cert.SampleAttnIdeal.τ).loc Cert.SampleAttnIdeal.main_arg1)
          ∧ r.2.mem ((c.tc : Thread Cert.SampleAttnIdeal.nD Cert.SampleAttnIdeal.τ).loc Cert.SampleAttnIdeal.main_arg2) = m ((c.tc : Thread Cert.SampleAttnIdeal.nD Cert.SampleAttnIdeal.τ).loc Cert.SampleAttnIdeal.main_arg2)
          ∧ r.2.mem ((c.tc : Thread Cert.SampleAttnIdeal.nD Cert.SampleAttnIdeal.τ).loc Cert.SampleAttnIdeal.main_arg3) = m ((c.tc : Thread Cert.SampleAttnIdeal.nD Cert.SampleAttnIdeal.τ).loc Cert.SampleAttnIdeal.main_arg3)
          ∧ r.2.mem ((c.tc : Thread Cert.SampleAttnIdeal.nD Cert.SampleAttnIdeal.τ).loc Cert.SampleAttnIdeal.main_arg4) = m ((c.tc : Thread Cert.SampleAttnIdeal.nD Cert.SampleAttnIdeal.τ).loc Cert.SampleAttnIdeal.main_arg4)
          ∧ r.2.mem ((c.tc : Thread Cert.SampleAttnIdeal.nD Cert.SampleAttnIdeal.τ).loc Cert.SampleAttnIdeal.main_arg5) = m ((c.tc : Thread Cert.SampleAttnIdeal.nD Cert.SampleAttnIdeal.τ).loc Cert.SampleAttnIdeal.main_arg5)
          ∧ r.2.mem ((c.tc : Thread Cert.SampleAttnIdeal.nD Cert.SampleAttnIdeal.τ).loc Cert.SampleAttnIdeal.main_arg6) = m ((c.tc : Thread Cert.SampleAttnIdeal.nD Cert.SampleAttnIdeal.τ).loc Cert.SampleAttnIdeal.main_arg6))
      ∧ θ_run (Cert.SampleAttnRefIdeal.defs (F := Ideal)) (onTc (τ := Cert.SampleAttnRefIdeal.τ) (Cert.SampleAttnRefIdeal.main (F := Ideal))) ⟨m', fun _ => 0, g'⟩ (fun r => ∀ c : Dev Cert.SampleAttnRefIdeal.nD,
          r.2.mem ((c.tc : Thread Cert.SampleAttnRefIdeal.nD Cert.SampleAttnRefIdeal.τ).loc Cert.SampleAttnRefIdeal.main_v3) = v0 c
          ∧ r.2.mem ((c.tc : Thread Cert.SampleAttnRefIdeal.nD Cert.SampleAttnRefIdeal.τ).loc Cert.SampleAttnRefIdeal.main_v7) = v1 c
          ∧ r.2.mem ((c.tc : Thread Cert.SampleAttnRefIdeal.nD Cert.SampleAttnRefIdeal.τ).loc Cert.SampleAttnRefIdeal.main_arg0) = m' ((c.tc : Thread Cert.SampleAttnRefIdeal.nD Cert.SampleAttnRefIdeal.τ).loc Cert.SampleAttnRefIdeal.main_arg0)
          ∧ r.2.mem ((c.tc : Thread Cert.SampleAttnRefIdeal.nD Cert.SampleAttnRefIdeal.τ).loc Cert.SampleAttnRefIdeal.main_arg1) = m' ((c.tc : Thread Cert.SampleAttnRefIdeal.nD Cert.SampleAttnRefIdeal.τ).loc Cert.SampleAttnRefIdeal.main_arg1)
          ∧ r.2.mem ((c.tc : Thread Cert.SampleAttnRefIdeal.nD Cert.SampleAttnRefIdeal.τ).loc Cert.SampleAttnRefIdeal.main_arg2) = m' ((c.tc : Thread Cert.SampleAttnRefIdeal.nD Cert.SampleAttnRefIdeal.τ).loc Cert.SampleAttnRefIdeal.main_arg2)
          ∧ r.2.mem ((c.tc : Thread Cert.SampleAttnRefIdeal.nD Cert.SampleAttnRefIdeal.τ).loc Cert.SampleAttnRefIdeal.main_arg3) = m' ((c.tc : Thread Cert.SampleAttnRefIdeal.nD Cert.SampleAttnRefIdeal.τ).loc Cert.SampleAttnRefIdeal.main_arg3)
          ∧ r.2.mem ((c.tc : Thread Cert.SampleAttnRefIdeal.nD Cert.SampleAttnRefIdeal.τ).loc Cert.SampleAttnRefIdeal.main_arg4) = m' ((c.tc : Thread Cert.SampleAttnRefIdeal.nD Cert.SampleAttnRefIdeal.τ).loc Cert.SampleAttnRefIdeal.main_arg4)
          ∧ r.2.mem ((c.tc : Thread Cert.SampleAttnRefIdeal.nD Cert.SampleAttnRefIdeal.τ).loc Cert.SampleAttnRefIdeal.main_arg5) = m' ((c.tc : Thread Cert.SampleAttnRefIdeal.nD Cert.SampleAttnRefIdeal.τ).loc Cert.SampleAttnRefIdeal.main_arg5)
          ∧ r.2.mem ((c.tc : Thread Cert.SampleAttnRefIdeal.nD Cert.SampleAttnRefIdeal.τ).loc Cert.SampleAttnRefIdeal.main_arg6) = m' ((c.tc : Thread Cert.SampleAttnRefIdeal.nD Cert.SampleAttnRefIdeal.τ).loc Cert.SampleAttnRefIdeal.main_arg6))

def bitexact_Combine_CombineRef [hCombine : Cert.Combine.Facts] [hCombineRef : Cert.CombineRef.Facts] : Prop :=
  ∀ (m : (ℓ : Loc Cert.Combine.nD Cert.Combine.τ Cert.Combine.sig) → Buf (Elt Bits) ℓ) (g : Dev Cert.Combine.nD → PrngReg)
    (m' : (ℓ : Loc Cert.CombineRef.nD Cert.CombineRef.τ Cert.CombineRef.sig) → Buf (Elt Bits) ℓ) (g' : Dev Cert.CombineRef.nD → PrngReg), Pre_Combine m →
    (∀ c : Dev Cert.Combine.nD,
      m' ((c.tc : Thread Cert.CombineRef.nD Cert.CombineRef.τ).loc Cert.CombineRef.main_arg0) = m ((c.tc : Thread Cert.Combine.nD Cert.Combine.τ).loc Cert.Combine.main_arg0)
      ∧ m' ((c.tc : Thread Cert.CombineRef.nD Cert.CombineRef.τ).loc Cert.CombineRef.main_arg1) = m ((c.tc : Thread Cert.Combine.nD Cert.Combine.τ).loc Cert.Combine.main_arg1)
      ∧ m' ((c.tc : Thread Cert.CombineRef.nD Cert.CombineRef.τ).loc Cert.CombineRef.main_arg2) = m ((c.tc : Thread Cert.Combine.nD Cert.Combine.τ).loc Cert.Combine.main_arg2)) →
    ∃ (v0 : (c : Dev Cert.Combine.nD) → Buf (Elt Bits) ((c.tc : Thread Cert.Combine.nD Cert.Combine.τ).loc Cert.Combine.main_v0)),
      θ_run (Cert.Combine.defs (F := Bits)) (onTc (τ := Cert.Combine.τ) (Cert.Combine.main (F := Bits))) ⟨m, fun _ => 0, g⟩ (fun r => ∀ c : Dev Cert.Combine.nD,
          r.2.mem ((c.tc : Thread Cert.Combine.nD Cert.Combine.τ).loc Cert.Combine.main_v0) = v0 c
          ∧ r.2.mem ((c.tc : Thread Cert.Combine.nD Cert.Combine.τ).loc Cert.Combine.main_arg0) = m ((c.tc : Thread Cert.Combine.nD Cert.Combine.τ).loc Cert.Combine.main_arg0)
          ∧ r.2.mem ((c.tc : Thread Cert.Combine.nD Cert.Combine.τ).loc Cert.Combine.main_arg1) = m ((c.tc : Thread Cert.Combine.nD Cert.Combine.τ).loc Cert.Combine.main_arg1)
          ∧ r.2.mem ((c.tc : Thread Cert.Combine.nD Cert.Combine.τ).loc Cert.Combine.main_arg2) = m ((c.tc : Thread Cert.Combine.nD Cert.Combine.τ).loc Cert.Combine.main_arg2))
      ∧ θ_run (Cert.CombineRef.defs (F := Bits)) (onTc (τ := Cert.CombineRef.τ) (Cert.CombineRef.main (F := Bits))) ⟨m', fun _ => 0, g'⟩ (fun r => ∀ c : Dev Cert.CombineRef.nD,
          r.2.mem ((c.tc : Thread Cert.CombineRef.nD Cert.CombineRef.τ).loc Cert.CombineRef.main_v23) = v0 c
          ∧ r.2.mem ((c.tc : Thread Cert.CombineRef.nD Cert.CombineRef.τ).loc Cert.CombineRef.main_arg0) = m' ((c.tc : Thread Cert.CombineRef.nD Cert.CombineRef.τ).loc Cert.CombineRef.main_arg0)
          ∧ r.2.mem ((c.tc : Thread Cert.CombineRef.nD Cert.CombineRef.τ).loc Cert.CombineRef.main_arg1) = m' ((c.tc : Thread Cert.CombineRef.nD Cert.CombineRef.τ).loc Cert.CombineRef.main_arg1)
          ∧ r.2.mem ((c.tc : Thread Cert.CombineRef.nD Cert.CombineRef.τ).loc Cert.CombineRef.main_arg2) = m' ((c.tc : Thread Cert.CombineRef.nD Cert.CombineRef.τ).loc Cert.CombineRef.main_arg2))

def bitexact_CombineSample_CombineSampleRef [hCombineSample : Cert.CombineSample.Facts] [hCombineSampleRef : Cert.CombineSampleRef.Facts] : Prop :=
  ∀ (m : (ℓ : Loc Cert.CombineSample.nD Cert.CombineSample.τ Cert.CombineSample.sig) → Buf (Elt Bits) ℓ) (g : Dev Cert.CombineSample.nD → PrngReg)
    (m' : (ℓ : Loc Cert.CombineSampleRef.nD Cert.CombineSampleRef.τ Cert.CombineSampleRef.sig) → Buf (Elt Bits) ℓ) (g' : Dev Cert.CombineSampleRef.nD → PrngReg), Pre_CombineSample m →
    (∀ c : Dev Cert.CombineSample.nD,
      m' ((c.tc : Thread Cert.CombineSampleRef.nD Cert.CombineSampleRef.τ).loc Cert.CombineSampleRef.main_arg0) = m ((c.tc : Thread Cert.CombineSample.nD Cert.CombineSample.τ).loc Cert.CombineSample.main_arg0)
      ∧ m' ((c.tc : Thread Cert.CombineSampleRef.nD Cert.CombineSampleRef.τ).loc Cert.CombineSampleRef.main_arg1) = m ((c.tc : Thread Cert.CombineSample.nD Cert.CombineSample.τ).loc Cert.CombineSample.main_arg1)
      ∧ m' ((c.tc : Thread Cert.CombineSampleRef.nD Cert.CombineSampleRef.τ).loc Cert.CombineSampleRef.main_arg2) = m ((c.tc : Thread Cert.CombineSample.nD Cert.CombineSample.τ).loc Cert.CombineSample.main_arg2)) →
    ∃ (v0 : (c : Dev Cert.CombineSample.nD) → Buf (Elt Bits) ((c.tc : Thread Cert.CombineSample.nD Cert.CombineSample.τ).loc Cert.CombineSample.main_v0)),
      θ_run (Cert.CombineSample.defs (F := Bits)) (onTc (τ := Cert.CombineSample.τ) (Cert.CombineSample.main (F := Bits))) ⟨m, fun _ => 0, g⟩ (fun r => ∀ c : Dev Cert.CombineSample.nD,
          r.2.mem ((c.tc : Thread Cert.CombineSample.nD Cert.CombineSample.τ).loc Cert.CombineSample.main_v0) = v0 c
          ∧ r.2.mem ((c.tc : Thread Cert.CombineSample.nD Cert.CombineSample.τ).loc Cert.CombineSample.main_arg0) = m ((c.tc : Thread Cert.CombineSample.nD Cert.CombineSample.τ).loc Cert.CombineSample.main_arg0)
          ∧ r.2.mem ((c.tc : Thread Cert.CombineSample.nD Cert.CombineSample.τ).loc Cert.CombineSample.main_arg1) = m ((c.tc : Thread Cert.CombineSample.nD Cert.CombineSample.τ).loc Cert.CombineSample.main_arg1)
          ∧ r.2.mem ((c.tc : Thread Cert.CombineSample.nD Cert.CombineSample.τ).loc Cert.CombineSample.main_arg2) = m ((c.tc : Thread Cert.CombineSample.nD Cert.CombineSample.τ).loc Cert.CombineSample.main_arg2))
      ∧ θ_run (Cert.CombineSampleRef.defs (F := Bits)) (onTc (τ := Cert.CombineSampleRef.τ) (Cert.CombineSampleRef.main (F := Bits))) ⟨m', fun _ => 0, g'⟩ (fun r => ∀ c : Dev Cert.CombineSampleRef.nD,
          r.2.mem ((c.tc : Thread Cert.CombineSampleRef.nD Cert.CombineSampleRef.τ).loc Cert.CombineSampleRef.main_v23) = v0 c
          ∧ r.2.mem ((c.tc : Thread Cert.CombineSampleRef.nD Cert.CombineSampleRef.τ).loc Cert.CombineSampleRef.main_arg0) = m' ((c.tc : Thread Cert.CombineSampleRef.nD Cert.CombineSampleRef.τ).loc Cert.CombineSampleRef.main_arg0)
          ∧ r.2.mem ((c.tc : Thread Cert.CombineSampleRef.nD Cert.CombineSampleRef.τ).loc Cert.CombineSampleRef.main_arg1) = m' ((c.tc : Thread Cert.CombineSampleRef.nD Cert.CombineSampleRef.τ).loc Cert.CombineSampleRef.main_arg1)
          ∧ r.2.mem ((c.tc : Thread Cert.CombineSampleRef.nD Cert.CombineSampleRef.τ).loc Cert.CombineSampleRef.main_arg2) = m' ((c.tc : Thread Cert.CombineSampleRef.nD Cert.CombineSampleRef.τ).loc Cert.CombineSampleRef.main_arg2))

def Claim : Prop :=
  ∃ (hKernel : Cert.Kernel.Facts) (hReference : Cert.Reference.Facts) (hPrompt : Cert.Prompt.Facts) (hPromptIdeal : Cert.PromptIdeal.Facts) (hPromptRefIdeal : Cert.PromptRefIdeal.Facts) (hFinish : Cert.Finish.Facts) (hFinishIdeal : Cert.FinishIdeal.Facts) (hFinishRefIdeal : Cert.FinishRefIdeal.Facts) (hSampleConv : Cert.SampleConv.Facts) (hSampleConvIdeal : Cert.SampleConvIdeal.Facts) (hSampleConvRefIdeal : Cert.SampleConvRefIdeal.Facts) (hSampleAttn : Cert.SampleAttn.Facts) (hSampleAttnIdeal : Cert.SampleAttnIdeal.Facts) (hSampleAttnRefIdeal : Cert.SampleAttnRefIdeal.Facts) (hCombine : Cert.Combine.Facts) (hCombineRef : Cert.CombineRef.Facts) (hCombineSample : Cert.CombineSample.Facts) (hCombineSampleRef : Cert.CombineSampleRef.Facts) (hPre_counted : Cert.Pre_counted.Facts),
    quiescent_Kernel (hKernel := hKernel) (hPre_counted := hPre_counted)
    ∧ quiescent_Reference (hReference := hReference) (hPre_counted := hPre_counted)
    ∧ quiescent_Prompt (hPrompt := hPrompt)
    ∧ quiescent_PromptIdeal (hPromptIdeal := hPromptIdeal)
    ∧ quiescent_PromptRefIdeal (hPromptRefIdeal := hPromptRefIdeal)
    ∧ quiescent_Finish (hFinish := hFinish)
    ∧ quiescent_FinishIdeal (hFinishIdeal := hFinishIdeal)
    ∧ quiescent_FinishRefIdeal (hFinishRefIdeal := hFinishRefIdeal)
    ∧ quiescent_SampleConv (hSampleConv := hSampleConv)
    ∧ quiescent_SampleConvIdeal (hSampleConvIdeal := hSampleConvIdeal)
    ∧ quiescent_SampleConvRefIdeal (hSampleConvRefIdeal := hSampleConvRefIdeal)
    ∧ quiescent_SampleAttn (hSampleAttn := hSampleAttn)
    ∧ quiescent_SampleAttnIdeal (hSampleAttnIdeal := hSampleAttnIdeal)
    ∧ quiescent_SampleAttnRefIdeal (hSampleAttnRefIdeal := hSampleAttnRefIdeal)
    ∧ quiescent_Combine (hCombine := hCombine)
    ∧ quiescent_CombineRef (hCombineRef := hCombineRef)
    ∧ quiescent_CombineSample (hCombineSample := hCombineSample)
    ∧ quiescent_CombineSampleRef (hCombineSampleRef := hCombineSampleRef)
    ∧ bitexact_Kernel_Reference (hKernel := hKernel) (hReference := hReference) (hPre_counted := hPre_counted)
    ∧ preserves_Prompt_PromptIdeal
    ∧ algebraic_PromptIdeal_PromptRefIdeal (hPromptIdeal := hPromptIdeal) (hPromptRefIdeal := hPromptRefIdeal)
    ∧ preserves_Finish_FinishIdeal
    ∧ algebraic_FinishIdeal_FinishRefIdeal (hFinishIdeal := hFinishIdeal) (hFinishRefIdeal := hFinishRefIdeal)
    ∧ preserves_SampleConv_SampleConvIdeal
    ∧ algebraic_SampleConvIdeal_SampleConvRefIdeal (hSampleConvIdeal := hSampleConvIdeal) (hSampleConvRefIdeal := hSampleConvRefIdeal)
    ∧ preserves_SampleAttn_SampleAttnIdeal
    ∧ algebraic_SampleAttnIdeal_SampleAttnRefIdeal (hSampleAttnIdeal := hSampleAttnIdeal) (hSampleAttnRefIdeal := hSampleAttnRefIdeal)
    ∧ bitexact_Combine_CombineRef (hCombine := hCombine) (hCombineRef := hCombineRef)
    ∧ bitexact_CombineSample_CombineSampleRef (hCombineSample := hCombineSample) (hCombineSampleRef := hCombineSampleRef)
-- ==== Pre_counted.lean ====
abbrev S32 : Shape := ⟨1, ![32]⟩
abbrev S32768x512 : Shape := ⟨2, ![32768, 512]⟩
abbrev S32x1024x256 : Shape := ⟨3, ![32, 1024, 256]⟩
abbrev S32x256x1024 : Shape := ⟨3, ![32, 256, 1024]⟩
abbrev S_ : Shape := ⟨0, ![]⟩

class Facts : Prop where
  bcast_S_S32 : S_.BroadcastsInDim S32 (![] : Fin 0 → Fin S32.rank)

variable [Facts]

def fn {F : FTy → Type} [FloatOps F] (main_arg0 : IVec S32 32) (main_arg1 : IVec S32768x512 32) (main_arg2 : FVec F S32x1024x256 .f32) (main_arg3 : FVec F S32x1024x256 .f32) (main_arg4 : FVec F S32x256x1024 .f32) : IVec S32 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 32768#32
  let main_v2 : IVec S32 32 := broadcastInDim S32 ![] bcast_S_S32 main_c_0
  let main_v3 : IVec S32 1 := cmpi .sle main_arg0 main_v2
  let main_v4 : IVec S32 1 := andi main_v1 main_v3
  main_v4
-- ==== Kernel.lean ====
abbrev S32 : Shape := ⟨1, ![32]⟩
abbrev S32768x512 : Shape := ⟨2, ![32768, 512]⟩
abbrev S32x1024x256 : Shape := ⟨3, ![32, 1024, 256]⟩
abbrev S32x256x1024 : Shape := ⟨3, ![32, 256, 1024]⟩
abbrev S_ : Shape := ⟨0, ![]⟩
abbrev S64 : Shape := ⟨1, ![64]⟩
abbrev S96 : Shape := ⟨1, ![96]⟩
abbrev S95 : Shape := ⟨1, ![95]⟩
abbrev S1 : Shape := ⟨1, ![1]⟩
abbrev S1x32 : Shape := ⟨2, ![1, 32]⟩
abbrev S96x1 : Shape := ⟨2, ![96, 1]⟩
abbrev S96x32 : Shape := ⟨2, ![96, 32]⟩
abbrev S512x512 : Shape := ⟨2, ![512, 512]⟩
abbrev S1x1024x256 : Shape := ⟨3, ![1, 1024, 256]⟩
abbrev S1x256x1024 : Shape := ⟨3, ![1, 256, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 64
  | .vmem => 10
  | .smem => 4
  | _ => 0

abbrev bufTy : (tb : Table) → Fin (tcTables nBuf tb) → BufTy
  | .hbm, ⟨0, _⟩ => ⟨S32, .i32⟩
  | .hbm, ⟨1, _⟩ => ⟨S32768x512, .i32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S_, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S96, .i32⟩
  | .hbm, ⟨14, _⟩ => ⟨S96, .i32⟩
  | .hbm, ⟨15, _⟩ => ⟨S95, .i32⟩
  | .hbm, ⟨16, _⟩ => ⟨S_, .i32⟩
  | .hbm, ⟨17, _⟩ => ⟨S1, .i32⟩
  | .hbm, ⟨18, _⟩ => ⟨S96, .i32⟩
  | .hbm, ⟨19, _⟩ => ⟨S_, .i32⟩
  | .hbm, ⟨20, _⟩ => ⟨S_, .i32⟩
  | .hbm, ⟨21, _⟩ => ⟨S96, .i32⟩
  | .hbm, ⟨22, _⟩ => ⟨S96, .i32⟩
  | .hbm, ⟨23, _⟩ => ⟨S96, .i32⟩
  | .hbm, ⟨24, _⟩ => ⟨S_, .i32⟩
  | .hbm, ⟨25, _⟩ => ⟨S96, .i32⟩
  | .hbm, ⟨26, _⟩ => ⟨S96, .i1⟩
  | .hbm, ⟨27, _⟩ => ⟨S96, .i32⟩
  | .hbm, ⟨28, _⟩ => ⟨S96, .i32⟩
  | .hbm, ⟨29, _⟩ => ⟨S_, .i32⟩
  | .hbm, ⟨30, _⟩ => ⟨S96, .i32⟩
  | .hbm, ⟨31, _⟩ => ⟨S96, .i1⟩
  | .hbm, ⟨32, _⟩ => ⟨S96, .i1⟩
  | .hbm, ⟨33, _⟩ => ⟨S_, .i32⟩
  | .hbm, ⟨34, _⟩ => ⟨S96, .i32⟩
  | .hbm, ⟨35, _⟩ => ⟨S96, .i32⟩
  | .hbm, ⟨36, _⟩ => ⟨S96, .i32⟩
  | .hbm, ⟨37, _⟩ => ⟨S_, .i32⟩
  | .hbm, ⟨38, _⟩ => ⟨S96, .i32⟩
  | .hbm, ⟨39, _⟩ => ⟨S1x32, .i32⟩
  | .hbm, ⟨40, _⟩ => ⟨S96x1, .i32⟩
  | .hbm, ⟨41, _⟩ => ⟨S96x32, .i32⟩
  | .hbm, ⟨42, _⟩ => ⟨S96x32, .i32⟩
  | .hbm, ⟨43, _⟩ => ⟨S96x32, .i1⟩
  | .hbm, ⟨44, _⟩ => ⟨S96x32, .i32⟩
  | .hbm, ⟨45, _⟩ => ⟨S_, .i32⟩
  | .hbm, ⟨46, _⟩ => ⟨S96, .i32⟩
  | .hbm, ⟨47, _⟩ => ⟨S_, .i32⟩
  | .hbm, ⟨48, _⟩ => ⟨S96, .i32⟩
  | .hbm, ⟨49, _⟩ => ⟨S96, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S96, .i32⟩
  | .hbm, ⟨54, _⟩ => ⟨S96, .i32⟩
  | .hbm, ⟨55, _⟩ => ⟨S_, .i32⟩
  | .hbm, ⟨56, _⟩ => ⟨S96, .i32⟩
  | .hbm, ⟨57, _⟩ => ⟨S_, .i32⟩
  | .hbm, ⟨58, _⟩ => ⟨S96, .i32⟩
  | .hbm, ⟨59, _⟩ => ⟨S96, .i32⟩
  | .hbm, ⟨60, _⟩ => ⟨S_, .i32⟩
  | .hbm, ⟨61, _⟩ => ⟨S96, .i32⟩
  | .hbm, ⟨62, _⟩ => ⟨S96, .i32⟩
  | .hbm, ⟨63, _⟩ => ⟨S32768x512, .i32⟩
  | .local _ .vmem, ⟨0, _⟩ => ⟨S512x512, .i32⟩
  | .local _ .vmem, ⟨1, _⟩ => ⟨S512x512, .i32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S512x512, .i32⟩
  | .local _ .vmem, ⟨9, _⟩ => ⟨S512x512, .i32⟩
  | .local _ .smem, ⟨0, _⟩ => ⟨S96, .i32⟩
  | .local _ .smem, ⟨1, _⟩ => ⟨S96, .i32⟩
  | .local _ .smem, ⟨2, _⟩ => ⟨S96, .i32⟩
  | .local _ .smem, ⟨3, _⟩ => ⟨S96, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_c : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_0 : Ref sig .tc := ⟨.hbm, 33, rfl⟩
abbrev main_call2_v12 : Ref sig .tc := ⟨.hbm, 34, rfl⟩
abbrev main_call2_v13 : Ref sig .tc := ⟨.hbm, 35, rfl⟩
abbrev main_v10 : Ref sig .tc := ⟨.hbm, 36, rfl⟩
abbrev main_c_2 : Ref sig .tc := ⟨.hbm, 37, rfl⟩
abbrev main_v11 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_3 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_c_5 : Ref sig .tc := ⟨.hbm, 50, rfl⟩
abbrev main_c_6 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_c_7 : Ref sig .tc := ⟨.hbm, 57, rfl⟩
abbrev main_v23 : Ref sig .tc := ⟨.hbm, 58, rfl⟩
abbrev main_v24 : Ref sig .tc := ⟨.hbm, 59, rfl⟩
abbrev main_c_8 : Ref sig .tc := ⟨.hbm, 60, rfl⟩
abbrev main_v26 : Ref sig .tc := ⟨.hbm, 61, rfl⟩
abbrev main_v27 : Ref sig .tc := ⟨.hbm, 62, rfl⟩
abbrev main_v29 : Ref sig .tc := ⟨.hbm, 63, rfl⟩
abbrev main_v12 : Ref sig .tc := ⟨.smem, 0, rfl⟩
abbrev main_v22 : Ref sig .tc := ⟨.smem, 1, rfl⟩
abbrev main_v25 : Ref sig .tc := ⟨.smem, 2, rfl⟩
abbrev main_v28 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![96], ![false]⟩

abbrev pre0 : Pipeline.Prefetch sig := ⟨4, ![main_v12.idx, main_v22.idx, main_v25.idx, main_v28.idx], fun | 0 => main_v12.names | 1 => main_v22.names | 2 => main_v25.names | 3 => main_v28.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) (v3 : BitVec 32) : BitVec 1 :=
  let v4 : BitVec 1 := Scalar.cmpi .sgt v3 v1
  let v5 : BitVec 32 := Scalar.extui v4
  let c0_i32 : BitVec 32 := 0#32
  let v6 : BitVec 1 := Scalar.cmpi .ne v5 c0_i32
  v6

def cc0_transform_0 (k0_off1_inb : ∀ i : grid0.Coords, ∀ a, (k0_off1 i) a + S1.size a ≤ S96.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S96.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference.lean ====
abbrev S32 : Shape := ⟨1, ![32]⟩
abbrev S32768x512 : Shape := ⟨2, ![32768, 512]⟩
abbrev S32x1024x256 : Shape := ⟨3, ![32, 1024, 256]⟩
abbrev S32x256x1024 : Shape := ⟨3, ![32, 256, 1024]⟩
abbrev S_ : Shape := ⟨0, ![]⟩
abbrev S32768x32 : Shape := ⟨2, ![32768, 32]⟩
abbrev S1x32 : Shape := ⟨2, ![1, 32]⟩
abbrev S32768 : Shape := ⟨1, ![32768]⟩
abbrev S32768x1 : Shape := ⟨2, ![32768, 1]⟩
abbrev S512x512 : Shape := ⟨2, ![512, 512]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S512x1 : Shape := ⟨2, ![512, 1]⟩

abbrev nBuf : Space → Nat
  | .hbm => 21
  | .vmem => 6
  | .smem => 0
  | _ => 0

abbrev bufTy : (tb : Table) → Fin (tcTables nBuf tb) → BufTy
  | .hbm, ⟨0, _⟩ => ⟨S32, .i32⟩
  | .hbm, ⟨1, _⟩ => ⟨S32768x512, .i32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S_, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32768x32, .i32⟩
  | .hbm, ⟨10, _⟩ => ⟨S1x32, .i32⟩
  | .hbm, ⟨11, _⟩ => ⟨S32768x32, .i32⟩
  | .hbm, ⟨12, _⟩ => ⟨S32768x32, .i1⟩
  | .hbm, ⟨13, _⟩ => ⟨S32768x32, .i32⟩
  | .hbm, ⟨14, _⟩ => ⟨S_, .i32⟩
  | .hbm, ⟨15, _⟩ => ⟨S32768, .i32⟩
  | .hbm, ⟨16, _⟩ => ⟨S32768x1, .i32⟩
  | .hbm, ⟨17, _⟩ => ⟨S_, .i32⟩
  | .hbm, ⟨18, _⟩ => ⟨S32768x1, .i32⟩
  | .hbm, ⟨19, _⟩ => ⟨S32768x1, .i32⟩
  | .hbm, ⟨20, _⟩ => ⟨S32768x512, .i32⟩
  | .local _ .vmem, ⟨0, _⟩ => ⟨S32768x1, .i32⟩
  | .local _ .vmem, ⟨1, _⟩ => ⟨S32768x512, .i32⟩
  | .local _ .vmem, ⟨2, _⟩ => ⟨S32x1024x256, .f32⟩
  | .local _ .vmem, ⟨3, _⟩ => ⟨S32x1024x256, .f32⟩
  | .local _ .vmem, ⟨4, _⟩ => ⟨S32x256x1024, .f32⟩
  | .local _ .vmem, ⟨5, _⟩ => ⟨S32768x512, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  v1
@[reducible] def k0_t2_loop : Scf.Loop 32 :=
  let c0_i32_1 : BitVec 32 := 0#32
  let c32_i32 : BitVec 32 := 32#32
  let v3 : BitVec 32 := Scalar.addi c0_i32_1 c32_i32
  let c1_i32_2 : BitVec 32 := 1#32
  ⟨c0_i32_1, v3, c1_i32_2⟩
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v4 : Index := Scalar.indexCast v2
  let c0 : Index := 0#32
  ![v4.toNat, 0]
def k0_off2 (k0_t2 : Fin k0_t2_loop.trips) : Fin 3 → Nat :=
  let c0_i32_1 : BitVec 32 := 0#32
  let c1_i32_2 : BitVec 32 := 1#32
  let arg7 : BitVec 32 := Scf.iv c0_i32_1 c1_i32_2 k0_t2
  let v13 : Index := Scalar.indexCast arg7
  let c0_4 : Index := 0#32
  let c0_5 : Index := 0#32
  ![v13.toNat, 0, 0]
def k0_off3 (k0_t2 : Fin k0_t2_loop.trips) : Fin 3 → Nat :=
  let c0_i32_1 : BitVec 32 := 0#32
  let c1_i32_2 : BitVec 32 := 1#32
  let arg7 : BitVec 32 := Scf.iv c0_i32_1 c1_i32_2 k0_t2
  let v24 : Index := Scalar.indexCast arg7
  let c0_9 : Index := 0#32
  let c0_10 : Index := 0#32
  ![v24.toNat, 0, 0]
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v31 : Index := Scalar.indexCast v2
  let c0_12 : Index := 0#32
  ![v31.toNat, 0]
abbrev stage0_0 : Fin 1 → Memref sig .tc .vmem S32768x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x512 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Prompt.lean ====
abbrev S2x8192x1024 : Shape := ⟨3, ![2, 8192, 1024]⟩
abbrev S1x1024 : Shape := ⟨2, ![1, 1024]⟩
abbrev S1024x5632 : Shape := ⟨2, ![1024, 5632]⟩
abbrev S1x256 : Shape := ⟨2, ![1, 256]⟩
abbrev S31x1024 : Shape := ⟨2, ![31, 1024]⟩
abbrev S1024x1024 : Shape := ⟨2, ![1024, 1024]⟩
abbrev S31x8x128 : Shape := ⟨3, ![31, 8, 128]⟩
abbrev S31x8x2x128 : Shape := ⟨4, ![31, 8, 2, 128]⟩
abbrev S31x16x128 : Shape := ⟨3, ![31, 16, 128]⟩
abbrev S8x128 : Shape := ⟨2, ![8, 128]⟩
abbrev S8x2x128 : Shape := ⟨3, ![8, 2, 128]⟩
abbrev S16x128 : Shape := ⟨2, ![16, 128]⟩
abbrev S2x8192x256 : Shape := ⟨3, ![2, 8192, 256]⟩
abbrev S2x32x1024 : Shape := ⟨3, ![2, 32, 1024]⟩
abbrev S2x256x1024 : Shape := ⟨3, ![2, 256, 1024]⟩
abbrev S2x256x256 : Shape := ⟨3, ![2, 256, 256]⟩
abbrev S2304x128 : Shape := ⟨2, ![2304, 128]⟩
abbrev S4096x128 : Shape := ⟨2, ![4096, 128]⟩
abbrev S256x128 : Shape := ⟨2, ![256, 128]⟩
abbrev S1x256x1024 : Shape := ⟨3, ![1, 256, 1024]⟩
abbrev S256x1024 : Shape := ⟨2, ![256, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S32x256 : Shape := ⟨2, ![32, 256]⟩
abbrev S1x32x256 : Shape := ⟨3, ![1, 32, 256]⟩
abbrev S256x256 : Shape := ⟨2, ![256, 256]⟩
abbrev S512x128 : Shape := ⟨2, ![512, 128]⟩
abbrev S1x256x256 : Shape := ⟨3, ![1, 256, 256]⟩
abbrev S16x16x128 : Shape := ⟨3, ![16, 16, 128]⟩
abbrev S128x128 : Shape := ⟨2, ![128, 128]⟩
abbrev S1x16x128 : Shape := ⟨3, ![1, 16, 128]⟩

abbrev nBuf : Space → Nat
  | .hbm => 25
  | .vmem => 27
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1024x5632, .bf16⟩
  | .hbm, ⟨3, _⟩ => ⟨S1x1024, .f32⟩
  | .hbm, ⟨4, _⟩ => ⟨S1x256, .f32⟩
  | .hbm, ⟨5, _⟩ => ⟨S31x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S1x1024, .f32⟩
  | .hbm, ⟨11, _⟩ => ⟨S31x8x128, .f32⟩
  | .hbm, ⟨12, _⟩ => ⟨S31x8x2x128, .f32⟩
  | .hbm, ⟨13, _⟩ => ⟨S31x16x128, .f32⟩
  | .hbm, ⟨14, _⟩ => ⟨S31x16x128, .bf16⟩
  | .hbm, ⟨15, _⟩ => ⟨S8x128, .f32⟩
  | .hbm, ⟨16, _⟩ => ⟨S8x2x128, .f32⟩
  | .hbm, ⟨17, _⟩ => ⟨S16x128, .f32⟩
  | .hbm, ⟨18, _⟩ => ⟨S2x8192x1024, .bf16⟩
  | .hbm, ⟨19, _⟩ => ⟨S2x8192x256, .f32⟩
  | .hbm, ⟨20, _⟩ => ⟨S2x8192x256, .f32⟩
  | .hbm, ⟨21, _⟩ => ⟨S2x8192x1024, .bf16⟩
  | .hbm, ⟨22, _⟩ => ⟨S2x8192x1024, .bf16⟩
  | .hbm, ⟨23, _⟩ => ⟨S2x8192x1024, .bf16⟩
  | .hbm, ⟨24, _⟩ => ⟨S2x32x1024, .f32⟩
  | .local _ .vmem, ⟨0, _⟩ => ⟨S2x256x1024, .f32⟩
  | .local _ .vmem, ⟨1, _⟩ => ⟨S2x256x1024, .f32⟩
  | .local _ .vmem, ⟨2, _⟩ => ⟨S1x1024, .f32⟩
  | .local _ .vmem, ⟨3, _⟩ => ⟨S1024x5632, .bf16⟩
  | .local _ .vmem, ⟨4, _⟩ => ⟨S1x1024, .f32⟩
  | .local _ .vmem, ⟨5, _⟩ => ⟨S1x256, .f32⟩
  | .local _ .vmem, ⟨6, _⟩ => ⟨S31x16x128, .bf16⟩
  | .local _ .vmem, ⟨7, _⟩ => ⟨S16x128, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S2x256x1024, .bf16⟩
  | .local _ .vmem, ⟨13, _⟩ => ⟨S2x256x1024, .bf16⟩
  | .local _ .vmem, ⟨14, _⟩ => ⟨S2x256x256, .f32⟩
  | .local _ .vmem, ⟨15, _⟩ => ⟨S2x256x256, .f32⟩
  | .local _ .vmem, ⟨16, _⟩ => ⟨S2x256x256, .f32⟩
  | .local _ .vmem, ⟨17, _⟩ => ⟨S2x256x256, .f32⟩
  | .local _ .vmem, ⟨18, _⟩ => ⟨S2x256x1024, .bf16⟩
  | .local _ .vmem, ⟨19, _⟩ => ⟨S2x256x1024, .bf16⟩
  | .local _ .vmem, ⟨20, _⟩ => ⟨S2x256x1024, .bf16⟩
  | .local _ .vmem, ⟨21, _⟩ => ⟨S2x256x1024, .bf16⟩
  | .local _ .vmem, ⟨22, _⟩ => ⟨S2x256x1024, .bf16⟩
  | .local _ .vmem, ⟨23, _⟩ => ⟨S2x256x1024, .bf16⟩
  | .local _ .vmem, ⟨24, _⟩ => ⟨S2x32x1024, .f32⟩
  | .local _ .vmem, ⟨25, _⟩ => ⟨S2304x128, .i32⟩
  | .local _ .vmem, ⟨26, _⟩ => ⟨S4096x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v7_5 : Ref sig .tc := ⟨.hbm, 23, rfl⟩
abbrev main_v7_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24

abbrev nD : Nat := 1
abbrev τ : Topo := Topo.v7x

variable {F : FTy → Type} [BitOps F]

abbrev grid0 : Pipeline.Grid := ⟨2, ![1, 32], ![false, false]⟩

@[reducible] def k0_t1_loop : Scf.Loop 32 :=
  let c0_i32_250 : BitVec 32 := 0#32
  let c16_i32_251 : BitVec 32 := 16#32
  let v569 : BitVec 32 := Scalar.addi c0_i32_250 c16_i32_251
  let c1_i32 : BitVec 32 := 1#32
  ⟨c0_i32_250, v569, c1_i32⟩
def k0_mult1 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32 : BitVec 32 := 2#32
  let v630 : BitVec 32 := Scalar.addi v628 c2_i32
  let c0_i32_293 : BitVec 32 := 0#32
  let v631 : BitVec 32 := Scalar.addi v630 c0_i32_293
  let c8_i32 : BitVec 32 := 8#32
  let v632 : BitVec 32 := Scalar.muli v631 c8_i32
  v632
def k0_off1 (k0_t1 : Fin k0_t1_loop.trips) (c0_i32_293 : BitVec 32) : Fin 2 → Nat :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32 : BitVec 32 := 2#32
  let v630 : BitVec 32 := Scalar.addi v628 c2_i32
  let v631 : BitVec 32 := Scalar.addi v630 c0_i32_293
  let c8_i32 : BitVec 32 := 8#32
  let v632 : BitVec 32 := Scalar.muli v631 c8_i32
  let v633 : BitVec 32 := v632
  let v634 : Index := Scalar.indexCast v633
  let c0_294 : Index := 0#32
  ![v634.toNat, 0]
def k0_mult2 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_298 : BitVec 32 := 2#32
  let v646 : BitVec 32 := Scalar.addi v628 c2_i32_298
  let c1_i32_299 : BitVec 32 := 1#32
  let v647 : BitVec 32 := Scalar.addi v646 c1_i32_299
  let c8_i32_300 : BitVec 32 := 8#32
  let v648 : BitVec 32 := Scalar.muli v647 c8_i32_300
  v648
def k0_mult3 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_305 : BitVec 32 := 2#32
  let v662 : BitVec 32 := Scalar.addi v628 c2_i32_305
  let c2_i32_306 : BitVec 32 := 2#32
  let v663 : BitVec 32 := Scalar.addi v662 c2_i32_306
  let c8_i32_307 : BitVec 32 := 8#32
  let v664 : BitVec 32 := Scalar.muli v663 c8_i32_307
  v664
def k0_mult4 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_312 : BitVec 32 := 2#32
  let v678 : BitVec 32 := Scalar.addi v628 c2_i32_312
  let c3_i32 : BitVec 32 := 3#32
  let v679 : BitVec 32 := Scalar.addi v678 c3_i32
  let c8_i32_313 : BitVec 32 := 8#32
  let v680 : BitVec 32 := Scalar.muli v679 c8_i32_313
  v680
def k0_mult5 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_318 : BitVec 32 := 2#32
  let v694 : BitVec 32 := Scalar.addi v628 c2_i32_318
  let c4_i32 : BitVec 32 := 4#32
  let v695 : BitVec 32 := Scalar.addi v694 c4_i32
  let c8_i32_319 : BitVec 32 := 8#32
  let v696 : BitVec 32 := Scalar.muli v695 c8_i32_319
  v696
def k0_mult6 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_324 : BitVec 32 := 2#32
  let v710 : BitVec 32 := Scalar.addi v628 c2_i32_324
  let c5_i32 : BitVec 32 := 5#32
  let v711 : BitVec 32 := Scalar.addi v710 c5_i32
  let c8_i32_325 : BitVec 32 := 8#32
  let v712 : BitVec 32 := Scalar.muli v711 c8_i32_325
  v712
def k0_mult7 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_330 : BitVec 32 := 2#32
  let v726 : BitVec 32 := Scalar.addi v628 c2_i32_330
  let c6_i32 : BitVec 32 := 6#32
  let v727 : BitVec 32 := Scalar.addi v726 c6_i32
  let c8_i32_331 : BitVec 32 := 8#32
  let v728 : BitVec 32 := Scalar.muli v727 c8_i32_331
  v728
def k0_mult8 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_336 : BitVec 32 := 2#32
  let v742 : BitVec 32 := Scalar.addi v628 c2_i32_336
  let c7_i32 : BitVec 32 := 7#32
  let v743 : BitVec 32 := Scalar.addi v742 c7_i32
  let c8_i32_337 : BitVec 32 := 8#32
  let v744 : BitVec 32 := Scalar.muli v743 c8_i32_337
  v744
def k0_mult9 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_342 : BitVec 32 := 2#32
  let v758 : BitVec 32 := Scalar.addi v628 c2_i32_342
  let c8_i32_343 : BitVec 32 := 8#32
  let v759 : BitVec 32 := Scalar.addi v758 c8_i32_343
  let c8_i32_344 : BitVec 32 := 8#32
  let v760 : BitVec 32 := Scalar.muli v759 c8_i32_344
  v760
def k0_mult10 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_349 : BitVec 32 := 2#32
  let v774 : BitVec 32 := Scalar.addi v628 c2_i32_349
  let c9_i32 : BitVec 32 := 9#32
  let v775 : BitVec 32 := Scalar.addi v774 c9_i32
  let c8_i32_350 : BitVec 32 := 8#32
  let v776 : BitVec 32 := Scalar.muli v775 c8_i32_350
  v776
def k0_mult11 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_355 : BitVec 32 := 2#32
  let v790 : BitVec 32 := Scalar.addi v628 c2_i32_355
  let c10_i32 : BitVec 32 := 10#32
  let v791 : BitVec 32 := Scalar.addi v790 c10_i32
  let c8_i32_356 : BitVec 32 := 8#32
  let v792 : BitVec 32 := Scalar.muli v791 c8_i32_356
  v792
def k0_mult12 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_361 : BitVec 32 := 2#32
  let v806 : BitVec 32 := Scalar.addi v628 c2_i32_361
  let c11_i32 : BitVec 32 := 11#32
  let v807 : BitVec 32 := Scalar.addi v806 c11_i32
  let c8_i32_362 : BitVec 32 := 8#32
  let v808 : BitVec 32 := Scalar.muli v807 c8_i32_362
  v808
def k0_mult13 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_367 : BitVec 32 := 2#32
  let v822 : BitVec 32 := Scalar.addi v628 c2_i32_367
  let c12_i32 : BitVec 32 := 12#32
  let v823 : BitVec 32 := Scalar.addi v822 c12_i32
  let c8_i32_368 : BitVec 32 := 8#32
  let v824 : BitVec 32 := Scalar.muli v823 c8_i32_368
  v824
def k0_mult14 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_373 : BitVec 32 := 2#32
  let v838 : BitVec 32 := Scalar.addi v628 c2_i32_373
  let c13_i32 : BitVec 32 := 13#32
  let v839 : BitVec 32 := Scalar.addi v838 c13_i32
  let c8_i32_374 : BitVec 32 := 8#32
  let v840 : BitVec 32 := Scalar.muli v839 c8_i32_374
  v840
def k0_mult15 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_379 : BitVec 32 := 2#32
  let v854 : BitVec 32 := Scalar.addi v628 c2_i32_379
  let c14_i32 : BitVec 32 := 14#32
  let v855 : BitVec 32 := Scalar.addi v854 c14_i32
  let c8_i32_380 : BitVec 32 := 8#32
  let v856 : BitVec 32 := Scalar.muli v855 c8_i32_380
  v856
def k0_mult16 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_385 : BitVec 32 := 2#32
  let v870 : BitVec 32 := Scalar.addi v628 c2_i32_385
  let c15_i32 : BitVec 32 := 15#32
  let v871 : BitVec 32 := Scalar.addi v870 c15_i32
  let c8_i32_386 : BitVec 32 := 8#32
  let v872 : BitVec 32 := Scalar.muli v871 c8_i32_386
  v872
def k0_mult17 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_391 : BitVec 32 := 2#32
  let v886 : BitVec 32 := Scalar.addi v628 c2_i32_391
  let c16_i32_392 : BitVec 32 := 16#32
  let v887 : BitVec 32 := Scalar.addi v886 c16_i32_392
  let c8_i32_393 : BitVec 32 := 8#32
  let v888 : BitVec 32 := Scalar.muli v887 c8_i32_393
  v888
def k0_mult18 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_397 : BitVec 32 := 2#32
  let v902 : BitVec 32 := Scalar.addi v628 c2_i32_397
  let c17_i32 : BitVec 32 := 17#32
  let v903 : BitVec 32 := Scalar.addi v902 c17_i32
  let c8_i32_398 : BitVec 32 := 8#32
  let v904 : BitVec 32 := Scalar.muli v903 c8_i32_398
  v904
def k0_mult19 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_402 : BitVec 32 := 2#32
  let v918 : BitVec 32 := Scalar.addi v628 c2_i32_402
  let c18_i32 : BitVec 32 := 18#32
  let v919 : BitVec 32 := Scalar.addi v918 c18_i32
  let c8_i32_403 : BitVec 32 := 8#32
  let v920 : BitVec 32 := Scalar.muli v919 c8_i32_403
  v920
def k0_mult20 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_407 : BitVec 32 := 2#32
  let v934 : BitVec 32 := Scalar.addi v628 c2_i32_407
  let c19_i32 : BitVec 32 := 19#32
  let v935 : BitVec 32 := Scalar.addi v934 c19_i32
  let c8_i32_408 : BitVec 32 := 8#32
  let v936 : BitVec 32 := Scalar.muli v935 c8_i32_408
  v936
def k0_mult21 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_412 : BitVec 32 := 2#32
  let v950 : BitVec 32 := Scalar.addi v628 c2_i32_412
  let c20_i32 : BitVec 32 := 20#32
  let v951 : BitVec 32 := Scalar.addi v950 c20_i32
  let c8_i32_413 : BitVec 32 := 8#32
  let v952 : BitVec 32 := Scalar.muli v951 c8_i32_413
  v952
def k0_mult22 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_417 : BitVec 32 := 2#32
  let v966 : BitVec 32 := Scalar.addi v628 c2_i32_417
  let c21_i32 : BitVec 32 := 21#32
  let v967 : BitVec 32 := Scalar.addi v966 c21_i32
  let c8_i32_418 : BitVec 32 := 8#32
  let v968 : BitVec 32 := Scalar.muli v967 c8_i32_418
  v968
def k0_mult23 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_422 : BitVec 32 := 2#32
  let v982 : BitVec 32 := Scalar.addi v628 c2_i32_422
  let c22_i32 : BitVec 32 := 22#32
  let v983 : BitVec 32 := Scalar.addi v982 c22_i32
  let c8_i32_423 : BitVec 32 := 8#32
  let v984 : BitVec 32 := Scalar.muli v983 c8_i32_423
  v984
def k0_mult24 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_427 : BitVec 32 := 2#32
  let v998 : BitVec 32 := Scalar.addi v628 c2_i32_427
  let c23_i32 : BitVec 32 := 23#32
  let v999 : BitVec 32 := Scalar.addi v998 c23_i32
  let c8_i32_428 : BitVec 32 := 8#32
  let v1000 : BitVec 32 := Scalar.muli v999 c8_i32_428
  v1000
def k0_mult25 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_432 : BitVec 32 := 2#32
  let v1014 : BitVec 32 := Scalar.addi v628 c2_i32_432
  let c24_i32 : BitVec 32 := 24#32
  let v1015 : BitVec 32 := Scalar.addi v1014 c24_i32
  let c8_i32_433 : BitVec 32 := 8#32
  let v1016 : BitVec 32 := Scalar.muli v1015 c8_i32_433
  v1016
def k0_mult26 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_437 : BitVec 32 := 2#32
  let v1030 : BitVec 32 := Scalar.addi v628 c2_i32_437
  let c25_i32 : BitVec 32 := 25#32
  let v1031 : BitVec 32 := Scalar.addi v1030 c25_i32
  let c8_i32_438 : BitVec 32 := 8#32
  let v1032 : BitVec 32 := Scalar.muli v1031 c8_i32_438
  v1032
def k0_mult27 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_442 : BitVec 32 := 2#32
  let v1046 : BitVec 32 := Scalar.addi v628 c2_i32_442
  let c26_i32 : BitVec 32 := 26#32
  let v1047 : BitVec 32 := Scalar.addi v1046 c26_i32
  let c8_i32_443 : BitVec 32 := 8#32
  let v1048 : BitVec 32 := Scalar.muli v1047 c8_i32_443
  v1048
def k0_mult28 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_447 : BitVec 32 := 2#32
  let v1062 : BitVec 32 := Scalar.addi v628 c2_i32_447
  let c27_i32 : BitVec 32 := 27#32
  let v1063 : BitVec 32 := Scalar.addi v1062 c27_i32
  let c8_i32_448 : BitVec 32 := 8#32
  let v1064 : BitVec 32 := Scalar.muli v1063 c8_i32_448
  v1064
def k0_mult29 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_452 : BitVec 32 := 2#32
  let v1078 : BitVec 32 := Scalar.addi v628 c2_i32_452
  let c28_i32 : BitVec 32 := 28#32
  let v1079 : BitVec 32 := Scalar.addi v1078 c28_i32
  let c8_i32_453 : BitVec 32 := 8#32
  let v1080 : BitVec 32 := Scalar.muli v1079 c8_i32_453
  v1080
def k0_mult30 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_457 : BitVec 32 := 2#32
  let v1094 : BitVec 32 := Scalar.addi v628 c2_i32_457
  let c29_i32 : BitVec 32 := 29#32
  let v1095 : BitVec 32 := Scalar.addi v1094 c29_i32
  let c8_i32_458 : BitVec 32 := 8#32
  let v1096 : BitVec 32 := Scalar.muli v1095 c8_i32_458
  v1096
def k0_mult31 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_462 : BitVec 32 := 2#32
  let v1110 : BitVec 32 := Scalar.addi v628 c2_i32_462
  let c30_i32 : BitVec 32 := 30#32
  let v1111 : BitVec 32 := Scalar.addi v1110 c30_i32
  let c8_i32_463 : BitVec 32 := 8#32
  let v1112 : BitVec 32 := Scalar.muli v1111 c8_i32_463
  v1112
def k0_mult32 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c16_i32_469 : BitVec 32 := 16#32
  let v1132 : BitVec 32 := Scalar.muli v628 c16_i32_469
  v1132
def k0_off2 (k0_t1 : Fin k0_t1_loop.trips) : Fin 2 → Nat :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c16_i32_469 : BitVec 32 := 16#32
  let v1132 : BitVec 32 := Scalar.muli v628 c16_i32_469
  let v1133 : BitVec 32 := v1132
  let v1134 : Index := Scalar.indexCast v1133
  let c0_470 : Index := 0#32
  ![v1134.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S31x16x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S2x32x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]
-- ==== PromptIdeal.lean ====
abbrev S2x8192x1024 : Shape := ⟨3, ![2, 8192, 1024]⟩
abbrev S1x1024 : Shape := ⟨2, ![1, 1024]⟩
abbrev S1024x5632 : Shape := ⟨2, ![1024, 5632]⟩
abbrev S1x256 : Shape := ⟨2, ![1, 256]⟩
abbrev S31x1024 : Shape := ⟨2, ![31, 1024]⟩
abbrev S1024x1024 : Shape := ⟨2, ![1024, 1024]⟩
abbrev S31x8x128 : Shape := ⟨3, ![31, 8, 128]⟩
abbrev S31x8x2x128 : Shape := ⟨4, ![31, 8, 2, 128]⟩
abbrev S31x16x128 : Shape := ⟨3, ![31, 16, 128]⟩
abbrev S8x128 : Shape := ⟨2, ![8, 128]⟩
abbrev S8x2x128 : Shape := ⟨3, ![8, 2, 128]⟩
abbrev S16x128 : Shape := ⟨2, ![16, 128]⟩
abbrev S2x8192x256 : Shape := ⟨3, ![2, 8192, 256]⟩
abbrev S2x32x1024 : Shape := ⟨3, ![2, 32, 1024]⟩
abbrev S2x256x1024 : Shape := ⟨3, ![2, 256, 1024]⟩
abbrev S2x256x256 : Shape := ⟨3, ![2, 256, 256]⟩
abbrev S2304x128 : Shape := ⟨2, ![2304, 128]⟩
abbrev S2304x2x128 : Shape := ⟨3, ![2304, 2, 128]⟩
abbrev S2304x1x128 : Shape := ⟨3, ![2304, 1, 128]⟩
abbrev S4096x128 : Shape := ⟨2, ![4096, 128]⟩
abbrev S256x128 : Shape := ⟨2, ![256, 128]⟩
abbrev S256x2x128 : Shape := ⟨3, ![256, 2, 128]⟩
abbrev S256x1x128 : Shape := ⟨3, ![256, 1, 128]⟩
abbrev S1x256x1024 : Shape := ⟨3, ![1, 256, 1024]⟩
abbrev S256x1024 : Shape := ⟨2, ![256, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S32x256 : Shape := ⟨2, ![32, 256]⟩
abbrev S1x32x256 : Shape := ⟨3, ![1, 32, 256]⟩
abbrev S256x256 : Shape := ⟨2, ![256, 256]⟩
abbrev S512x128 : Shape := ⟨2, ![512, 128]⟩
abbrev S1x256x256 : Shape := ⟨3, ![1, 256, 256]⟩
abbrev S16x16x128 : Shape := ⟨3, ![16, 16, 128]⟩
abbrev S128x128 : Shape := ⟨2, ![128, 128]⟩
abbrev S128x2x128 : Shape := ⟨3, ![128, 2, 128]⟩
abbrev S128x1x128 : Shape := ⟨3, ![128, 1, 128]⟩
abbrev S1x16x128 : Shape := ⟨3, ![1, 16, 128]⟩

abbrev nBuf : Space → Nat
  | .hbm => 25
  | .vmem => 27
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1024x5632, .bf16⟩
  | .hbm, ⟨3, _⟩ => ⟨S1x1024, .f32⟩
  | .hbm, ⟨4, _⟩ => ⟨S1x256, .f32⟩
  | .hbm, ⟨5, _⟩ => ⟨S31x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S1x1024, .f32⟩
  | .hbm, ⟨11, _⟩ => ⟨S31x8x128, .f32⟩
  | .hbm, ⟨12, _⟩ => ⟨S31x8x2x128, .f32⟩
  | .hbm, ⟨13, _⟩ => ⟨S31x16x128, .f32⟩
  | .hbm, ⟨14, _⟩ => ⟨S31x16x128, .bf16⟩
  | .hbm, ⟨15, _⟩ => ⟨S8x128, .f32⟩
  | .hbm, ⟨16, _⟩ => ⟨S8x2x128, .f32⟩
  | .hbm, ⟨17, _⟩ => ⟨S16x128, .f32⟩
  | .hbm, ⟨18, _⟩ => ⟨S2x8192x1024, .bf16⟩
  | .hbm, ⟨19, _⟩ => ⟨S2x8192x256, .f32⟩
  | .hbm, ⟨20, _⟩ => ⟨S2x8192x256, .f32⟩
  | .hbm, ⟨21, _⟩ => ⟨S2x8192x1024, .bf16⟩
  | .hbm, ⟨22, _⟩ => ⟨S2x8192x1024, .bf16⟩
  | .hbm, ⟨23, _⟩ => ⟨S2x8192x1024, .bf16⟩
  | .hbm, ⟨24, _⟩ => ⟨S2x32x1024, .f32⟩
  | .local _ .vmem, ⟨0, _⟩ => ⟨S2x256x1024, .f32⟩
  | .local _ .vmem, ⟨1, _⟩ => ⟨S2x256x1024, .f32⟩
  | .local _ .vmem, ⟨2, _⟩ => ⟨S1x1024, .f32⟩
  | .local _ .vmem, ⟨3, _⟩ => ⟨S1024x5632, .bf16⟩
  | .local _ .vmem, ⟨4, _⟩ => ⟨S1x1024, .f32⟩
  | .local _ .vmem, ⟨5, _⟩ => ⟨S1x256, .f32⟩
  | .local _ .vmem, ⟨6, _⟩ => ⟨S31x16x128, .bf16⟩
  | .local _ .vmem, ⟨7, _⟩ => ⟨S16x128, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S2x256x1024, .bf16⟩
  | .local _ .vmem, ⟨13, _⟩ => ⟨S2x256x1024, .bf16⟩
  | .local _ .vmem, ⟨14, _⟩ => ⟨S2x256x256, .f32⟩
  | .local _ .vmem, ⟨15, _⟩ => ⟨S2x256x256, .f32⟩
  | .local _ .vmem, ⟨16, _⟩ => ⟨S2x256x256, .f32⟩
  | .local _ .vmem, ⟨17, _⟩ => ⟨S2x256x256, .f32⟩
  | .local _ .vmem, ⟨18, _⟩ => ⟨S2x256x1024, .bf16⟩
  | .local _ .vmem, ⟨19, _⟩ => ⟨S2x256x1024, .bf16⟩
  | .local _ .vmem, ⟨20, _⟩ => ⟨S2x256x1024, .bf16⟩
  | .local _ .vmem, ⟨21, _⟩ => ⟨S2x256x1024, .bf16⟩
  | .local _ .vmem, ⟨22, _⟩ => ⟨S2x256x1024, .bf16⟩
  | .local _ .vmem, ⟨23, _⟩ => ⟨S2x256x1024, .bf16⟩
  | .local _ .vmem, ⟨24, _⟩ => ⟨S2x32x1024, .f32⟩
  | .local _ .vmem, ⟨25, _⟩ => ⟨S2304x2x128, .bf16⟩
  | .local _ .vmem, ⟨26, _⟩ => ⟨S4096x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v7_5 : Ref sig .tc := ⟨.hbm, 23, rfl⟩
abbrev main_v7_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32_250 : BitVec 32 := 0#32
  let c16_i32_251 : BitVec 32 := 16#32
  let v569 : BitVec 32 := Scalar.addi c0_i32_250 c16_i32_251
  let c1_i32 : BitVec 32 := 1#32
  ⟨c0_i32_250, v569, c1_i32⟩
def k0_mult1 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32 : BitVec 32 := 2#32
  let v630 : BitVec 32 := Scalar.addi v628 c2_i32
  let c0_i32_293 : BitVec 32 := 0#32
  let v631 : BitVec 32 := Scalar.addi v630 c0_i32_293
  let c8_i32 : BitVec 32 := 8#32
  let v632 : BitVec 32 := Scalar.muli v631 c8_i32
  v632
def k0_off1 (k0_t1 : Fin k0_t1_loop.trips) (c0_i32_293 : BitVec 32) : Fin 3 → Nat :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32 : BitVec 32 := 2#32
  let v630 : BitVec 32 := Scalar.addi v628 c2_i32
  let v631 : BitVec 32 := Scalar.addi v630 c0_i32_293
  let c8_i32 : BitVec 32 := 8#32
  let v632 : BitVec 32 := Scalar.muli v631 c8_i32
  let v633 : BitVec 32 := v632
  let v634 : Index := Scalar.indexCast v633
  let c0_294 : Index := 0#32
  ![v634.toNat, 0, 0]
def k0_mult2 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_298 : BitVec 32 := 2#32
  let v646 : BitVec 32 := Scalar.addi v628 c2_i32_298
  let c1_i32_299 : BitVec 32 := 1#32
  let v647 : BitVec 32 := Scalar.addi v646 c1_i32_299
  let c8_i32_300 : BitVec 32 := 8#32
  let v648 : BitVec 32 := Scalar.muli v647 c8_i32_300
  v648
def k0_mult3 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_305 : BitVec 32 := 2#32
  let v662 : BitVec 32 := Scalar.addi v628 c2_i32_305
  let c2_i32_306 : BitVec 32 := 2#32
  let v663 : BitVec 32 := Scalar.addi v662 c2_i32_306
  let c8_i32_307 : BitVec 32 := 8#32
  let v664 : BitVec 32 := Scalar.muli v663 c8_i32_307
  v664
def k0_mult4 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_312 : BitVec 32 := 2#32
  let v678 : BitVec 32 := Scalar.addi v628 c2_i32_312
  let c3_i32 : BitVec 32 := 3#32
  let v679 : BitVec 32 := Scalar.addi v678 c3_i32
  let c8_i32_313 : BitVec 32 := 8#32
  let v680 : BitVec 32 := Scalar.muli v679 c8_i32_313
  v680
def k0_mult5 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_318 : BitVec 32 := 2#32
  let v694 : BitVec 32 := Scalar.addi v628 c2_i32_318
  let c4_i32 : BitVec 32 := 4#32
  let v695 : BitVec 32 := Scalar.addi v694 c4_i32
  let c8_i32_319 : BitVec 32 := 8#32
  let v696 : BitVec 32 := Scalar.muli v695 c8_i32_319
  v696
def k0_mult6 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_324 : BitVec 32 := 2#32
  let v710 : BitVec 32 := Scalar.addi v628 c2_i32_324
  let c5_i32 : BitVec 32 := 5#32
  let v711 : BitVec 32 := Scalar.addi v710 c5_i32
  let c8_i32_325 : BitVec 32 := 8#32
  let v712 : BitVec 32 := Scalar.muli v711 c8_i32_325
  v712
def k0_mult7 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_330 : BitVec 32 := 2#32
  let v726 : BitVec 32 := Scalar.addi v628 c2_i32_330
  let c6_i32 : BitVec 32 := 6#32
  let v727 : BitVec 32 := Scalar.addi v726 c6_i32
  let c8_i32_331 : BitVec 32 := 8#32
  let v728 : BitVec 32 := Scalar.muli v727 c8_i32_331
  v728
def k0_mult8 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_336 : BitVec 32 := 2#32
  let v742 : BitVec 32 := Scalar.addi v628 c2_i32_336
  let c7_i32 : BitVec 32 := 7#32
  let v743 : BitVec 32 := Scalar.addi v742 c7_i32
  let c8_i32_337 : BitVec 32 := 8#32
  let v744 : BitVec 32 := Scalar.muli v743 c8_i32_337
  v744
def k0_mult9 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_342 : BitVec 32 := 2#32
  let v758 : BitVec 32 := Scalar.addi v628 c2_i32_342
  let c8_i32_343 : BitVec 32 := 8#32
  let v759 : BitVec 32 := Scalar.addi v758 c8_i32_343
  let c8_i32_344 : BitVec 32 := 8#32
  let v760 : BitVec 32 := Scalar.muli v759 c8_i32_344
  v760
def k0_mult10 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_349 : BitVec 32 := 2#32
  let v774 : BitVec 32 := Scalar.addi v628 c2_i32_349
  let c9_i32 : BitVec 32 := 9#32
  let v775 : BitVec 32 := Scalar.addi v774 c9_i32
  let c8_i32_350 : BitVec 32 := 8#32
  let v776 : BitVec 32 := Scalar.muli v775 c8_i32_350
  v776
def k0_mult11 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_355 : BitVec 32 := 2#32
  let v790 : BitVec 32 := Scalar.addi v628 c2_i32_355
  let c10_i32 : BitVec 32 := 10#32
  let v791 : BitVec 32 := Scalar.addi v790 c10_i32
  let c8_i32_356 : BitVec 32 := 8#32
  let v792 : BitVec 32 := Scalar.muli v791 c8_i32_356
  v792
def k0_mult12 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_361 : BitVec 32 := 2#32
  let v806 : BitVec 32 := Scalar.addi v628 c2_i32_361
  let c11_i32 : BitVec 32 := 11#32
  let v807 : BitVec 32 := Scalar.addi v806 c11_i32
  let c8_i32_362 : BitVec 32 := 8#32
  let v808 : BitVec 32 := Scalar.muli v807 c8_i32_362
  v808
def k0_mult13 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_367 : BitVec 32 := 2#32
  let v822 : BitVec 32 := Scalar.addi v628 c2_i32_367
  let c12_i32 : BitVec 32 := 12#32
  let v823 : BitVec 32 := Scalar.addi v822 c12_i32
  let c8_i32_368 : BitVec 32 := 8#32
  let v824 : BitVec 32 := Scalar.muli v823 c8_i32_368
  v824
def k0_mult14 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_373 : BitVec 32 := 2#32
  let v838 : BitVec 32 := Scalar.addi v628 c2_i32_373
  let c13_i32 : BitVec 32 := 13#32
  let v839 : BitVec 32 := Scalar.addi v838 c13_i32
  let c8_i32_374 : BitVec 32 := 8#32
  let v840 : BitVec 32 := Scalar.muli v839 c8_i32_374
  v840
def k0_mult15 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_379 : BitVec 32 := 2#32
  let v854 : BitVec 32 := Scalar.addi v628 c2_i32_379
  let c14_i32 : BitVec 32 := 14#32
  let v855 : BitVec 32 := Scalar.addi v854 c14_i32
  let c8_i32_380 : BitVec 32 := 8#32
  let v856 : BitVec 32 := Scalar.muli v855 c8_i32_380
  v856
def k0_mult16 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_385 : BitVec 32 := 2#32
  let v870 : BitVec 32 := Scalar.addi v628 c2_i32_385
  let c15_i32 : BitVec 32 := 15#32
  let v871 : BitVec 32 := Scalar.addi v870 c15_i32
  let c8_i32_386 : BitVec 32 := 8#32
  let v872 : BitVec 32 := Scalar.muli v871 c8_i32_386
  v872
def k0_mult17 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_391 : BitVec 32 := 2#32
  let v886 : BitVec 32 := Scalar.addi v628 c2_i32_391
  let c16_i32_392 : BitVec 32 := 16#32
  let v887 : BitVec 32 := Scalar.addi v886 c16_i32_392
  let c8_i32_393 : BitVec 32 := 8#32
  let v888 : BitVec 32 := Scalar.muli v887 c8_i32_393
  v888
def k0_mult18 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_397 : BitVec 32 := 2#32
  let v902 : BitVec 32 := Scalar.addi v628 c2_i32_397
  let c17_i32 : BitVec 32 := 17#32
  let v903 : BitVec 32 := Scalar.addi v902 c17_i32
  let c8_i32_398 : BitVec 32 := 8#32
  let v904 : BitVec 32 := Scalar.muli v903 c8_i32_398
  v904
def k0_mult19 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_402 : BitVec 32 := 2#32
  let v918 : BitVec 32 := Scalar.addi v628 c2_i32_402
  let c18_i32 : BitVec 32 := 18#32
  let v919 : BitVec 32 := Scalar.addi v918 c18_i32
  let c8_i32_403 : BitVec 32 := 8#32
  let v920 : BitVec 32 := Scalar.muli v919 c8_i32_403
  v920
def k0_mult20 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_407 : BitVec 32 := 2#32
  let v934 : BitVec 32 := Scalar.addi v628 c2_i32_407
  let c19_i32 : BitVec 32 := 19#32
  let v935 : BitVec 32 := Scalar.addi v934 c19_i32
  let c8_i32_408 : BitVec 32 := 8#32
  let v936 : BitVec 32 := Scalar.muli v935 c8_i32_408
  v936
def k0_mult21 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_412 : BitVec 32 := 2#32
  let v950 : BitVec 32 := Scalar.addi v628 c2_i32_412
  let c20_i32 : BitVec 32 := 20#32
  let v951 : BitVec 32 := Scalar.addi v950 c20_i32
  let c8_i32_413 : BitVec 32 := 8#32
  let v952 : BitVec 32 := Scalar.muli v951 c8_i32_413
  v952
def k0_mult22 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_417 : BitVec 32 := 2#32
  let v966 : BitVec 32 := Scalar.addi v628 c2_i32_417
  let c21_i32 : BitVec 32 := 21#32
  let v967 : BitVec 32 := Scalar.addi v966 c21_i32
  let c8_i32_418 : BitVec 32 := 8#32
  let v968 : BitVec 32 := Scalar.muli v967 c8_i32_418
  v968
def k0_mult23 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_422 : BitVec 32 := 2#32
  let v982 : BitVec 32 := Scalar.addi v628 c2_i32_422
  let c22_i32 : BitVec 32 := 22#32
  let v983 : BitVec 32 := Scalar.addi v982 c22_i32
  let c8_i32_423 : BitVec 32 := 8#32
  let v984 : BitVec 32 := Scalar.muli v983 c8_i32_423
  v984
def k0_mult24 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_427 : BitVec 32 := 2#32
  let v998 : BitVec 32 := Scalar.addi v628 c2_i32_427
  let c23_i32 : BitVec 32 := 23#32
  let v999 : BitVec 32 := Scalar.addi v998 c23_i32
  let c8_i32_428 : BitVec 32 := 8#32
  let v1000 : BitVec 32 := Scalar.muli v999 c8_i32_428
  v1000
def k0_mult25 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_432 : BitVec 32 := 2#32
  let v1014 : BitVec 32 := Scalar.addi v628 c2_i32_432
  let c24_i32 : BitVec 32 := 24#32
  let v1015 : BitVec 32 := Scalar.addi v1014 c24_i32
  let c8_i32_433 : BitVec 32 := 8#32
  let v1016 : BitVec 32 := Scalar.muli v1015 c8_i32_433
  v1016
def k0_mult26 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_437 : BitVec 32 := 2#32
  let v1030 : BitVec 32 := Scalar.addi v628 c2_i32_437
  let c25_i32 : BitVec 32 := 25#32
  let v1031 : BitVec 32 := Scalar.addi v1030 c25_i32
  let c8_i32_438 : BitVec 32 := 8#32
  let v1032 : BitVec 32 := Scalar.muli v1031 c8_i32_438
  v1032
def k0_mult27 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_442 : BitVec 32 := 2#32
  let v1046 : BitVec 32 := Scalar.addi v628 c2_i32_442
  let c26_i32 : BitVec 32 := 26#32
  let v1047 : BitVec 32 := Scalar.addi v1046 c26_i32
  let c8_i32_443 : BitVec 32 := 8#32
  let v1048 : BitVec 32 := Scalar.muli v1047 c8_i32_443
  v1048
def k0_mult28 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_447 : BitVec 32 := 2#32
  let v1062 : BitVec 32 := Scalar.addi v628 c2_i32_447
  let c27_i32 : BitVec 32 := 27#32
  let v1063 : BitVec 32 := Scalar.addi v1062 c27_i32
  let c8_i32_448 : BitVec 32 := 8#32
  let v1064 : BitVec 32 := Scalar.muli v1063 c8_i32_448
  v1064
def k0_mult29 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_452 : BitVec 32 := 2#32
  let v1078 : BitVec 32 := Scalar.addi v628 c2_i32_452
  let c28_i32 : BitVec 32 := 28#32
  let v1079 : BitVec 32 := Scalar.addi v1078 c28_i32
  let c8_i32_453 : BitVec 32 := 8#32
  let v1080 : BitVec 32 := Scalar.muli v1079 c8_i32_453
  v1080
def k0_mult30 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_457 : BitVec 32 := 2#32
  let v1094 : BitVec 32 := Scalar.addi v628 c2_i32_457
  let c29_i32 : BitVec 32 := 29#32
  let v1095 : BitVec 32 := Scalar.addi v1094 c29_i32
  let c8_i32_458 : BitVec 32 := 8#32
  let v1096 : BitVec 32 := Scalar.muli v1095 c8_i32_458
  v1096
def k0_mult31 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c2_i32_462 : BitVec 32 := 2#32
  let v1110 : BitVec 32 := Scalar.addi v628 c2_i32_462
  let c30_i32 : BitVec 32 := 30#32
  let v1111 : BitVec 32 := Scalar.addi v1110 c30_i32
  let c8_i32_463 : BitVec 32 := 8#32
  let v1112 : BitVec 32 := Scalar.muli v1111 c8_i32_463
  v1112
def k0_mult32 (k0_t1 : Fin k0_t1_loop.trips) : BitVec 32 :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c16_i32_469 : BitVec 32 := 16#32
  let v1132 : BitVec 32 := Scalar.muli v628 c16_i32_469
  v1132
def k0_off2 (k0_t1 : Fin k0_t1_loop.trips) : Fin 2 → Nat :=
  let c0_i32_250 : BitVec 32 := 0#32
  let c1_i32 : BitVec 32 := 1#32
  let arg22 : BitVec 32 := Scf.iv c0_i32_250 c1_i32 k0_t1
  let c16_i32_291 : BitVec 32 := 16#32
  let v628 : BitVec 32 := Scalar.muli arg22 c16_i32_291
  let c16_i32_469 : BitVec 32 := 16#32
  let v1132 : BitVec 32 := Scalar.muli v628 c16_i32_469
  let v1133 : BitVec 32 := v1132
  let v1134 : Index := Scalar.indexCast v1133
  let c0_470 : Index := 0#32
  ![v1134.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S31x16x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S2x32x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]
-- ==== PromptRefIdeal.lean ====
abbrev S2x8192x1024 : Shape := ⟨3, ![2, 8192, 1024]⟩
abbrev S1x1024 : Shape := ⟨2, ![1, 1024]⟩
abbrev S1024x5632 : Shape := ⟨2, ![1024, 5632]⟩
abbrev S1x256 : Shape := ⟨2, ![1, 256]⟩
abbrev S31x1024 : Shape := ⟨2, ![31, 1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x256 : Shape := ⟨3, ![2, 8192, 256]⟩
abbrev S2x8192x16x64 : Shape := ⟨4, ![2, 8192, 16, 64]⟩
abbrev S2x8192x16 : Shape := ⟨3, ![2, 8192, 16]⟩
abbrev S2x8192x16x1 : Shape := ⟨4, ![2, 8192, 16, 1]⟩
abbrev S2x8192x4x64 : Shape := ⟨4, ![2, 8192, 4, 64]⟩
abbrev S2x8192x4 : Shape := ⟨3, ![2, 8192, 4]⟩
abbrev S2x8192x4x1 : Shape := ⟨4, ![2, 8192, 4, 1]⟩
abbrev S1x1x256 : Shape := ⟨3, ![1, 1, 256]⟩
abbrev S2x32x1024 : Shape := ⟨3, ![2, 32, 1024]⟩

abbrev nBuf : Space → Nat
  | .hbm => 101
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1024x5632, .bf16⟩
  | .hbm, ⟨3, _⟩ => ⟨S1x1024, .f32⟩
  | .hbm, ⟨4, _⟩ => ⟨S1x256, .f32⟩
  | .hbm, ⟨5, _⟩ => ⟨S31x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S1x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S1024x5632, .f32⟩
  | .hbm, ⟨28, _⟩ => ⟨S2x8192x5632, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x256, .f32⟩
  | .hbm, ⟨33, _⟩ => ⟨S2x8192x256, .f32⟩
  | .hbm, ⟨34, _⟩ => ⟨S2x8192x1024, .f32⟩
  | .hbm, ⟨35, _⟩ => ⟨S2x8192x1024, .f32⟩
  | .hbm, ⟨36, _⟩ => ⟨S2x8192x16x64, .f32⟩
  | .hbm, ⟨37, _⟩ => ⟨S2x8192x16x64, .f32⟩
  | .hbm, ⟨38, _⟩ => ⟨S_, .f32⟩
  | .hbm, ⟨39, _⟩ => ⟨S2x8192x16, .f32⟩
  | .hbm, ⟨40, _⟩ => ⟨S2x8192x16x1, .f32⟩
  | .hbm, ⟨41, _⟩ => ⟨S_, .f32⟩
  | .hbm, ⟨42, _⟩ => ⟨S2x8192x16x1, .f32⟩
  | .hbm, ⟨43, _⟩ => ⟨S2x8192x16x1, .f32⟩
  | .hbm, ⟨44, _⟩ => ⟨S_, .f32⟩
  | .hbm, ⟨45, _⟩ => ⟨S2x8192x16x1, .f32⟩
  | .hbm, ⟨46, _⟩ => ⟨S2x8192x16x1, .f32⟩
  | .hbm, ⟨47, _⟩ => ⟨S2x8192x16x1, .f32⟩
  | .hbm, ⟨48, _⟩ => ⟨S2x8192x16x64, .f32⟩
  | .hbm, ⟨49, _⟩ => ⟨S2x8192x16x64, .f32⟩
  | .hbm, ⟨50, _⟩ => ⟨S2x8192x1024, .f32⟩
  | .hbm, ⟨51, _⟩ => ⟨S1x1x1024, .f32⟩
  | .hbm, ⟨52, _⟩ => ⟨S2x8192x1024, .f32⟩
  | .hbm, ⟨53, _⟩ => ⟨S2x8192x1024, .f32⟩
  | .hbm, ⟨54, _⟩ => ⟨S2x8192x4x64, .f32⟩
  | .hbm, ⟨55, _⟩ => ⟨S2x8192x4x64, .f32⟩
  | .hbm, ⟨56, _⟩ => ⟨S_, .f32⟩
  | .hbm, ⟨57, _⟩ => ⟨S2x8192x4, .f32⟩
  | .hbm, ⟨58, _⟩ => ⟨S2x8192x4x1, .f32⟩
  | .hbm, ⟨59, _⟩ => ⟨S_, .f32⟩
  | .hbm, ⟨60, _⟩ => ⟨S2x8192x4x1, .f32⟩
  | .hbm, ⟨61, _⟩ => ⟨S2x8192x4x1, .f32⟩
  | .hbm, ⟨62, _⟩ => ⟨S_, .f32⟩
  | .hbm, ⟨63, _⟩ => ⟨S2x8192x4x1, .f32⟩
  | .hbm, ⟨64, _⟩ => ⟨S2x8192x4x1, .f32⟩
  | .hbm, ⟨65, _⟩ => ⟨S2x8192x4x1, .f32⟩
  | .hbm, ⟨66, _⟩ => ⟨S2x8192x4x64, .f32⟩
  | .hbm, ⟨67, _⟩ => ⟨S2x8192x4x64, .f32⟩
  | .hbm, ⟨68, _⟩ => ⟨S2x8192x256, .f32⟩
  | .hbm, ⟨69, _⟩ => ⟨S1x1x256, .f32⟩
  | .hbm, ⟨70, _⟩ => ⟨S2x8192x256, .f32⟩
  | .hbm, ⟨71, _⟩ => ⟨S2x8192x256, .f32⟩
  | .hbm, ⟨72, _⟩ => ⟨S2x8192x1024, .f32⟩
  | .hbm, ⟨73, _⟩ => ⟨S2x8192x1024, .f32⟩
  | .hbm, ⟨74, _⟩ => ⟨S_, .f32⟩
  | .hbm, ⟨75, _⟩ => ⟨S2x8192x1024, .f32⟩
  | .hbm, ⟨76, _⟩ => ⟨S2x8192x1024, .f32⟩
  | .hbm, ⟨77, _⟩ => ⟨S_, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S2x8192x1024, .bf16⟩
  | .hbm, ⟨82, _⟩ => ⟨S2x8192x1024, .f32⟩
  | .hbm, ⟨83, _⟩ => ⟨S2x8192x1024, .f32⟩
  | .hbm, ⟨84, _⟩ => ⟨S_, .f32⟩
  | .hbm, ⟨85, _⟩ => ⟨S2x8192x1024, .f32⟩
  | .hbm, ⟨86, _⟩ => ⟨S2x8192x1024, .f32⟩
  | .hbm, ⟨87, _⟩ => ⟨S_, .f32⟩
  | .hbm, ⟨88, _⟩ => ⟨S2x8192x1024, .f32⟩
  | .hbm, ⟨89, _⟩ => ⟨S2x8192x1024, .f32⟩
  | .hbm, ⟨90, _⟩ => ⟨S2x8192x1024, .bf16⟩
  | .hbm, ⟨91, _⟩ => ⟨S2x8192x1024, .f32⟩
  | .hbm, ⟨92, _⟩ => ⟨S2x8192x1024, .f32⟩
  | .hbm, ⟨93, _⟩ => ⟨S_, .f32⟩
  | .hbm, ⟨94, _⟩ => ⟨S2x8192x1024, .f32⟩
  | .hbm, ⟨95, _⟩ => ⟨S2x8192x1024, .f32⟩
  | .hbm, ⟨96, _⟩ => ⟨S_, .f32⟩
  | .hbm, ⟨97, _⟩ => ⟨S2x8192x1024, .f32⟩
  | .hbm, ⟨98, _⟩ => ⟨S2x8192x1024, .f32⟩
  | .hbm, ⟨99, _⟩ => ⟨S2x8192x1024, .bf16⟩
  | .hbm, ⟨100, _⟩ => ⟨S2x32x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Finish.lean ====
abbrev S16384x1024 : Shape := ⟨2, ![16384, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S512x512 : Shape := ⟨2, ![512, 512]⟩
abbrev S_ : Shape := ⟨0, ![]⟩
abbrev S16384x512 : Shape := ⟨2, ![16384, 512]⟩
abbrev S16384x128 : Shape := ⟨2, ![16384, 128]⟩
abbrev S8x128 : Shape := ⟨2, ![8, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 23
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1024x128, .bf16⟩
  | .hbm, ⟨9, _⟩ => ⟨S1x128, .f32⟩
  | .hbm, ⟨10, _⟩ => ⟨S512x512, .i32⟩
  | .hbm, ⟨11, _⟩ => ⟨S512x512, .i32⟩
  | .hbm, ⟨12, _⟩ => ⟨S512x512, .i1⟩
  | .hbm, ⟨13, _⟩ => ⟨S_, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .bf16⟩
  | .hbm, ⟨19, _⟩ => ⟨S16384x1024, .f32⟩
  | .hbm, ⟨20, _⟩ => ⟨S16384x512, .i32⟩
  | .hbm, ⟨21, _⟩ => ⟨S16384x128, .f32⟩
  | .hbm, ⟨22, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x128, .bf16⟩
  | .local _ .vmem, ⟨14, _⟩ => ⟨S1x128, .f32⟩
  | .local _ .vmem, ⟨15, _⟩ => ⟨S512x512, .bf16⟩
  | .local _ .vmem, ⟨16, _⟩ => ⟨S512x1024, .f32⟩
  | .local _ .vmem, ⟨17, _⟩ => ⟨S512x1024, .f32⟩
  | .local _ .vmem, ⟨18, _⟩ => ⟨S512x512, .i32⟩
  | .local _ .vmem, ⟨19, _⟩ => ⟨S512x512, .i32⟩
  | .local _ .vmem, ⟨20, _⟩ => ⟨S512x128, .f32⟩
  | .local _ .vmem, ⟨21, _⟩ => ⟨S512x128, .f32⟩
  | .local _ .vmem, ⟨22, _⟩ => ⟨S8x128, .f32⟩
  | .local _ .vmem, ⟨23, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FinishIdeal.lean ====
abbrev S16384x1024 : Shape := ⟨2, ![16384, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S512x512 : Shape := ⟨2, ![512, 512]⟩
abbrev S_ : Shape := ⟨0, ![]⟩
abbrev S16384x2x512 : Shape := ⟨3, ![16384, 2, 512]⟩
abbrev S16384x128 : Shape := ⟨2, ![16384, 128]⟩
abbrev S8x128 : Shape := ⟨2, ![8, 128]⟩
abbrev S16384x1x512 : Shape := ⟨3, ![16384, 1, 512]⟩
abbrev S16384x512 : Shape := ⟨2, ![16384, 512]⟩
abbrev S512x1024 : Shape := ⟨2, ![512, 1024]⟩
abbrev S512x2x512 : Shape := ⟨3, ![512, 2, 512]⟩
abbrev S512x1x512 : Shape := ⟨3, ![512, 1, 512]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 23
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1024x128, .bf16⟩
  | .hbm, ⟨9, _⟩ => ⟨S1x128, .f32⟩
  | .hbm, ⟨10, _⟩ => ⟨S512x512, .i32⟩
  | .hbm, ⟨11, _⟩ => ⟨S512x512, .i32⟩
  | .hbm, ⟨12, _⟩ => ⟨S512x512, .i1⟩
  | .hbm, ⟨13, _⟩ => ⟨S_, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .bf16⟩
  | .hbm, ⟨19, _⟩ => ⟨S16384x1024, .f32⟩
  | .hbm, ⟨20, _⟩ => ⟨S16384x2x512, .bf16⟩
  | .hbm, ⟨21, _⟩ => ⟨S16384x128, .f32⟩
  | .hbm, ⟨22, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x128, .bf16⟩
  | .local _ .vmem, ⟨14, _⟩ => ⟨S1x128, .f32⟩
  | .local _ .vmem, ⟨15, _⟩ => ⟨S512x512, .bf16⟩
  | .local _ .vmem, ⟨16, _⟩ => ⟨S512x1024, .f32⟩
  | .local _ .vmem, ⟨17, _⟩ => ⟨S512x1024, .f32⟩
  | .local _ .vmem, ⟨18, _⟩ => ⟨S512x2x512, .bf16⟩
  | .local _ .vmem, ⟨19, _⟩ => ⟨S512x2x512, .bf16⟩
  | .local _ .vmem, ⟨20, _⟩ => ⟨S512x128, .f32⟩
  | .local _ .vmem, ⟨21, _⟩ => ⟨S512x128, .f32⟩
  | .local _ .vmem, ⟨22, _⟩ => ⟨S8x128, .f32⟩
  | .local _ .vmem, ⟨23, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FinishRefIdeal.lean ====
abbrev S16384x1024 : Shape := ⟨2, ![16384, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1024x128, .bf16⟩
  | .hbm, ⟨9, _⟩ => ⟨S1x128, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S1024x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S1024x1024, .f32⟩
  | .hbm, ⟨20, _⟩ => ⟨S16384x1024, .f32⟩
  | .hbm, ⟨21, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== SampleConv.lean ====
abbrev S128x30x1024 : Shape := ⟨3, ![128, 30, 1024]⟩
abbrev S1024x1024 : Shape := ⟨2, ![1024, 1024]⟩
abbrev S31x1024 : Shape := ⟨2, ![31, 1024]⟩
abbrev S1x1024 : Shape := ⟨2, ![1, 1024]⟩
abbrev S128x8x1024 : Shape := ⟨3, ![128, 8, 1024]⟩
abbrev S8x128x1024 : Shape := ⟨3, ![8, 128, 1024]⟩
abbrev S30x128x1024 : Shape := ⟨3, ![30, 128, 1024]⟩
abbrev S30x64x1024 : Shape := ⟨3, ![30, 64, 1024]⟩
abbrev S8x64x1024 : Shape := ⟨3, ![8, 64, 1024]⟩
abbrev S1x64x1024 : Shape := ⟨3, ![1, 64, 1024]⟩
abbrev S64x1024 : Shape := ⟨2, ![64, 1024]⟩
abbrev S64 : Shape := ⟨1, ![64]⟩
abbrev S64x1 : Shape := ⟨2, ![64, 1]⟩
abbrev S22x64x1024 : Shape := ⟨3, ![22, 64, 1024]⟩

abbrev nBuf : Space → Nat
  | .hbm => 13
  | .vmem => 14
  | .smem => 0
  | _ => 0

abbrev bufTy : (tb : Table) → Fin (tcTables nBuf tb) → BufTy
  | .hbm, ⟨0, _⟩ => ⟨S128x30x1024, .f32⟩
  | .hbm, ⟨1, _⟩ => ⟨S1024x1024, .f32⟩
  | .hbm, ⟨2, _⟩ => ⟨S31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S1x1024, .f32⟩
  | .hbm, ⟨8, _⟩ => ⟨S128x8x1024, .f32⟩
  | .hbm, ⟨9, _⟩ => ⟨S8x128x1024, .f32⟩
  | .hbm, ⟨10, _⟩ => ⟨S30x128x1024, .f32⟩
  | .hbm, ⟨11, _⟩ => ⟨S8x128x1024, .bf16⟩
  | .hbm, ⟨12, _⟩ => ⟨S30x128x1024, .f32⟩
  | .local _ .vmem, ⟨0, _⟩ => ⟨S30x64x1024, .f32⟩
  | .local _ .vmem, ⟨1, _⟩ => ⟨S30x64x1024, .f32⟩
  | .local _ .vmem, ⟨2, _⟩ => ⟨S8x64x1024, .f32⟩
  | .local _ .vmem, ⟨3, _⟩ => ⟨S8x64x1024, .f32⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S8x64x1024, .bf16⟩
  | .local _ .vmem, ⟨11, _⟩ => ⟨S8x64x1024, .bf16⟩
  | .local _ .vmem, ⟨12, _⟩ => ⟨S30x64x1024, .f32⟩
  | .local _ .vmem, ⟨13, _⟩ => ⟨S30x64x1024, .f32⟩
  | _, _ => ⟨S128x30x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S30x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S30x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SampleConvRefIdeal.lean ====
abbrev S128x30x1024 : Shape := ⟨3, ![128, 30, 1024]⟩
abbrev S1024x1024 : Shape := ⟨2, ![1024, 1024]⟩
abbrev S31x1024 : Shape := ⟨2, ![31, 1024]⟩
abbrev S1x1024 : Shape := ⟨2, ![1, 1024]⟩
abbrev S128x8x1024 : Shape := ⟨3, ![128, 8, 1024]⟩
abbrev S128x38x1024 : Shape := ⟨3, ![128, 38, 1024]⟩
abbrev S30x128x1024 : Shape := ⟨3, ![30, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S128x30x1024, .f32⟩
  | .hbm, ⟨1, _⟩ => ⟨S1024x1024, .f32⟩
  | .hbm, ⟨2, _⟩ => ⟨S31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S1x1024, .f32⟩
  | .hbm, ⟨8, _⟩ => ⟨S128x8x1024, .f32⟩
  | .hbm, ⟨9, _⟩ => ⟨S128x38x1024, .f32⟩
  | .hbm, ⟨10, _⟩ => ⟨S128x30x1024, .f32⟩
  | .hbm, ⟨11, _⟩ => ⟨S30x128x1024, .f32⟩
  | _, _ => ⟨S128x30x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩

abbrev nD : Nat := 1
abbrev τ : Topo := Topo.v7x

variable {F : FTy → Type} [FloatOps F]
-- ==== SampleAttn.lean ====
abbrev S1024x1024 : Shape := ⟨2, ![1024, 1024]⟩
abbrev S1024x256 : Shape := ⟨2, ![1024, 256]⟩
abbrev S128x128x4x64 : Shape := ⟨4, ![128, 128, 4, 64]⟩
abbrev S8x128x256 : Shape := ⟨3, ![8, 128, 256]⟩
abbrev S16 : Shape := ⟨1, ![16]⟩
abbrev S128x8x1024 : Shape := ⟨3, ![128, 8, 1024]⟩
abbrev S128x8x256 : Shape := ⟨3, ![128, 8, 256]⟩
abbrev S128x4x64x128 : Shape := ⟨4, ![128, 4, 64, 128]⟩
abbrev S8x8x1024 : Shape := ⟨3, ![8, 8, 1024]⟩
abbrev S8x8x256 : Shape := ⟨3, ![8, 8, 256]⟩
abbrev S8x4x64x128 : Shape := ⟨4, ![8, 4, 64, 128]⟩
abbrev S120x128 : Shape := ⟨2, ![120, 128]⟩
abbrev S64x128 : Shape := ⟨2, ![64, 128]⟩
abbrev S1x8x256 : Shape := ⟨3, ![1, 8, 256]⟩
abbrev S8x256 : Shape := ⟨2, ![8, 256]⟩
abbrev S8x128 : Shape := ⟨2, ![8, 128]⟩
abbrev S128x128 : Shape := ⟨2, ![128, 128]⟩
abbrev S1x1x64x128 : Shape := ⟨4, ![1, 1, 64, 128]⟩
abbrev S64x256 : Shape := ⟨2, ![64, 256]⟩
abbrev S128x256 : Shape := ⟨2, ![128, 256]⟩
abbrev S1x8x1024 : Shape := ⟨3, ![1, 8, 1024]⟩
abbrev S8x1024 : Shape := ⟨2, ![8, 1024]⟩
abbrev S16x256 : Shape := ⟨2, ![16, 256]⟩
abbrev S16x1 : Shape := ⟨2, ![16, 1]⟩
abbrev S16x128 : Shape := ⟨2, ![16, 128]⟩
abbrev S1 : Shape := ⟨1, ![1]⟩
abbrev S1x8x128 : Shape := ⟨3, ![1, 8, 128]⟩

abbrev nBuf : Space → Nat
  | .hbm => 15
  | .vmem => 17
  | .smem => 1
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S1024x256, .f32⟩
  | .hbm, ⟨3, _⟩ => ⟨S128x128x4x64, .f32⟩
  | .hbm, ⟨4, _⟩ => ⟨S128x128x4x64, .f32⟩
  | .hbm, ⟨5, _⟩ => ⟨S8x128x256, .f32⟩
  | .hbm, ⟨6, _⟩ => ⟨S16, .f32⟩
  | .hbm, ⟨7, _⟩ => ⟨S128x8x1024, .f32⟩
  | .hbm, ⟨8, _⟩ => ⟨S128x8x256, .f32⟩
  | .hbm, ⟨9, _⟩ => ⟨S128x8x256, .f32⟩
  | .hbm, ⟨10, _⟩ => ⟨S128x4x64x128, .f32⟩
  | .hbm, ⟨11, _⟩ => ⟨S128x4x64x128, .f32⟩
  | .hbm, ⟨12, _⟩ => ⟨S128x8x1024, .f32⟩
  | .hbm, ⟨13, _⟩ => ⟨S128x4x64x128, .f32⟩
  | .hbm, ⟨14, _⟩ => ⟨S128x4x64x128, .f32⟩
  | .local _ .vmem, ⟨0, _⟩ => ⟨S8x8x1024, .f32⟩
  | .local _ .vmem, ⟨1, _⟩ => ⟨S8x8x1024, .f32⟩
  | .local _ .vmem, ⟨2, _⟩ => ⟨S8x8x256, .f32⟩
  | .local _ .vmem, ⟨3, _⟩ => ⟨S8x8x256, .f32⟩
  | .local _ .vmem, ⟨4, _⟩ => ⟨S8x8x256, .f32⟩
  | .local _ .vmem, ⟨5, _⟩ => ⟨S8x8x256, .f32⟩
  | .local _ .vmem, ⟨6, _⟩ => ⟨S8x4x64x128, .f32⟩
  | .local _ .vmem, ⟨7, _⟩ => ⟨S8x4x64x128, .f32⟩
  | .local _ .vmem, ⟨8, _⟩ => ⟨S8x4x64x128, .f32⟩
  | .local _ .vmem, ⟨9, _⟩ => ⟨S8x4x64x128, .f32⟩
  | .local _ .vmem, ⟨10, _⟩ => ⟨S8x128x256, .f32⟩
  | .local _ .vmem, ⟨11, _⟩ => ⟨S8x8x1024, .f32⟩
  | .local _ .vmem, ⟨12, _⟩ => ⟨S8x8x1024, .f32⟩
  | .local _ .vmem, ⟨13, _⟩ => ⟨S8x4x64x128, .f32⟩
  | .local _ .vmem, ⟨14, _⟩ => ⟨S8x4x64x128, .f32⟩
  | .local _ .vmem, ⟨15, _⟩ => ⟨S8x4x64x128, .f32⟩
  | .local _ .vmem, ⟨16, _⟩ => ⟨S8x4x64x128, .f32⟩
  | .local _ .smem, ⟨0, _⟩ => ⟨S16, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x4x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SampleAttnRefIdeal.lean ====
abbrev S1024x1024 : Shape := ⟨2, ![1024, 1024]⟩
abbrev S1024x256 : Shape := ⟨2, ![1024, 256]⟩
abbrev S128x128x4x64 : Shape := ⟨4, ![128, 128, 4, 64]⟩
abbrev S8x128x256 : Shape := ⟨3, ![8, 128, 256]⟩
abbrev S16 : Shape := ⟨1, ![16]⟩
abbrev S128x8x4x64 : Shape := ⟨4, ![128, 8, 4, 64]⟩
abbrev S128x136x4x64 : Shape := ⟨4, ![128, 136, 4, 64]⟩
abbrev S128x4x64x128 : Shape := ⟨4, ![128, 4, 64, 128]⟩

abbrev nBuf : Space → Nat
  | .hbm => 15
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S1024x256, .f32⟩
  | .hbm, ⟨3, _⟩ => ⟨S128x128x4x64, .f32⟩
  | .hbm, ⟨4, _⟩ => ⟨S128x128x4x64, .f32⟩
  | .hbm, ⟨5, _⟩ => ⟨S8x128x256, .f32⟩
  | .hbm, ⟨6, _⟩ => ⟨S16, .f32⟩
  | .hbm, ⟨7, _⟩ => ⟨S128x8x4x64, .f32⟩
  | .hbm, ⟨8, _⟩ => ⟨S128x136x4x64, .f32⟩
  | .hbm, ⟨9, _⟩ => ⟨S128x128x4x64, .f32⟩
  | .hbm, ⟨10, _⟩ => ⟨S128x4x64x128, .f32⟩
  | .hbm, ⟨11, _⟩ => ⟨S128x8x4x64, .f32⟩
  | .hbm, ⟨12, _⟩ => ⟨S128x136x4x64, .f32⟩
  | .hbm, ⟨13, _⟩ => ⟨S128x128x4x64, .f32⟩
  | .hbm, ⟨14, _⟩ => ⟨S128x4x64x128, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Combine.lean ====
abbrev S16384x1024 : Shape := ⟨2, ![16384, 1024]⟩
abbrev S16384x128 : Shape := ⟨2, ![16384, 128]⟩
abbrev S32768x512 : Shape := ⟨2, ![32768, 512]⟩
abbrev S1024x1024 : Shape := ⟨2, ![1024, 1024]⟩
abbrev S1024x128 : Shape := ⟨2, ![1024, 128]⟩
abbrev S1024x512 : Shape := ⟨2, ![1024, 512]⟩
abbrev S1024x1 : Shape := ⟨2, ![1024, 1]⟩

abbrev nBuf : Space → Nat
  | .hbm => 4
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S32768x512, .i32⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x512, .i32⟩
  | .local _ .vmem, ⟨5, _⟩ => ⟨S1024x512, .i32⟩
  | .local _ .vmem, ⟨6, _⟩ => ⟨S1024x512, .i32⟩
  | .local _ .vmem, ⟨7, _⟩ => ⟨S1024x512, .i32⟩
  | .local _ .vmem, ⟨8, _⟩ => ⟨S1024x1024, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombineRef.lean ====
abbrev S16384x1024 : Shape := ⟨2, ![16384, 1024]⟩
abbrev S16384x128 : Shape := ⟨2, ![16384, 128]⟩
abbrev S32768x512 : Shape := ⟨2, ![32768, 512]⟩
abbrev S16384x1 : Shape := ⟨2, ![16384, 1]⟩
abbrev S16384x512 : Shape := ⟨2, ![16384, 512]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S32768x512, .i32⟩
  | .hbm, ⟨3, _⟩ => ⟨S16384x1, .f32⟩
  | .hbm, ⟨4, _⟩ => ⟨S16384x512, .i32⟩
  | .hbm, ⟨5, _⟩ => ⟨S_, .i32⟩
  | .hbm, ⟨6, _⟩ => ⟨S16384x512, .i32⟩
  | .hbm, ⟨7, _⟩ => ⟨S16384x512, .i32⟩
  | .hbm, ⟨8, _⟩ => ⟨S16384x512, .f32⟩
  | .hbm, ⟨9, _⟩ => ⟨S_, .i32⟩
  | .hbm, ⟨10, _⟩ => ⟨S16384x512, .i32⟩
  | .hbm, ⟨11, _⟩ => ⟨S16384x512, .i32⟩
  | .hbm, ⟨12, _⟩ => ⟨S16384x512, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1, .f32⟩
  | .hbm, ⟨18, _⟩ => ⟨S16384x512, .i32⟩
  | .hbm, ⟨19, _⟩ => ⟨S_, .i32⟩
  | .hbm, ⟨20, _⟩ => ⟨S16384x512, .i32⟩
  | .hbm, ⟨21, _⟩ => ⟨S16384x512, .i32⟩
  | .hbm, ⟨22, _⟩ => ⟨S16384x512, .f32⟩
  | .hbm, ⟨23, _⟩ => ⟨S_, .i32⟩
  | .hbm, ⟨24, _⟩ => ⟨S16384x512, .i32⟩
  | .hbm, ⟨25, _⟩ => ⟨S16384x512, .i32⟩
  | .hbm, ⟨26, _⟩ => ⟨S16384x512, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== CombineSample.lean ====
abbrev S1024x1024 : Shape := ⟨2, ![1024, 1024]⟩
abbrev S1024x128 : Shape := ⟨2, ![1024, 128]⟩
abbrev S2048x512 : Shape := ⟨2, ![2048, 512]⟩
abbrev S1024x512 : Shape := ⟨2, ![1024, 512]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x128, .f32⟩
  | .hbm, ⟨2, _⟩ => ⟨S2048x512, .i32⟩
  | .hbm, ⟨3, _⟩ => ⟨S1024x1024, .f32⟩
  | .local _ .vmem, ⟨0, _⟩ => ⟨S1024x1024, .f32⟩
  | .local _ .vmem, ⟨1, _⟩ => ⟨S1024x128, .f32⟩
  | .local _ .vmem, ⟨2, _⟩ => ⟨S1024x512, .i32⟩
  | .local _ .vmem, ⟨3, _⟩ => ⟨S1024x512, .i32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== CombineSampleRef.lean ====
abbrev S1024x1024 : Shape := ⟨2, ![1024, 1024]⟩
abbrev S1024x128 : Shape := ⟨2, ![1024, 128]⟩
abbrev S2048x512 : Shape := ⟨2, ![2048, 512]⟩
abbrev S1024x1 : Shape := ⟨2, ![1024, 1]⟩
abbrev S1024x512 : Shape := ⟨2, ![1024, 512]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x128, .f32⟩
  | .hbm, ⟨2, _⟩ => ⟨S2048x512, .i32⟩
  | .hbm, ⟨3, _⟩ => ⟨S1024x1, .f32⟩
  | .hbm, ⟨4, _⟩ => ⟨S1024x512, .i32⟩
  | .hbm, ⟨5, _⟩ => ⟨S_, .i32⟩
  | .hbm, ⟨6, _⟩ => ⟨S1024x512, .i32⟩
  | .hbm, ⟨7, _⟩ => ⟨S1024x512, .i32⟩
  | .hbm, ⟨8, _⟩ => ⟨S1024x512, .f32⟩
  | .hbm, ⟨9, _⟩ => ⟨S_, .i32⟩
  | .hbm, ⟨10, _⟩ => ⟨S1024x512, .i32⟩
  | .hbm, ⟨11, _⟩ => ⟨S1024x512, .i32⟩
  | .hbm, ⟨12, _⟩ => ⟨S1024x512, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1, .f32⟩
  | .hbm, ⟨18, _⟩ => ⟨S1024x512, .i32⟩
  | .hbm, ⟨19, _⟩ => ⟨S_, .i32⟩
  | .hbm, ⟨20, _⟩ => ⟨S1024x512, .i32⟩
  | .hbm, ⟨21, _⟩ => ⟨S1024x512, .i32⟩
  | .hbm, ⟨22, _⟩ => ⟨S1024x512, .f32⟩
  | .hbm, ⟨23, _⟩ => ⟨S_, .i32⟩
  | .hbm, ⟨24, _⟩ => ⟨S1024x512, .i32⟩
  | .hbm, ⟨25, _⟩ => ⟨S1024x512, .i32⟩
  | .hbm, ⟨26, _⟩ => ⟨S1024x512, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Proof.ExpertsBody.lean ====
/-
  The body of the experts' call, run once at a symbolic grid point: it reads the item's row range out of two tables, and where the range
  is not empty it computes the block's rows under the item's expert and stores the rows of the range, masked, into the output's block.
-/
module

public import proofs.«01_k».proof.Proof.Gen.Kernel.Skeleton
public import proofs.«01_k».proof.Proof.Gen.Kernel.Launch
public import Idealize.ShloMosaic.Lib.Pipeline.Frame
public import Idealize.ShloMosaic.Lib.Tactic
public import Idealize.ShloMosaic.Lib.VecWindow

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

/-- The word of a table of 96 words at the grid point `i`. -/
def wordAt (v : S96.Idx → BitVec 32) (i : grid0.Coords) : BitVec 32 :=
  v ((Rect.unit (s := S96) (k0_off1 i) S1.size (k0_off1_inb i)).emb (Shape.Idx.first (numel1_S1 ▸ Nat.one_pos)))

/-- Half of a table, held on core `c` at contents `f`. -/
abbrev tabPt (c : Dev nD) {S : Shape} {e : EltTy} (M : Memref sig .tc .smem S e) (f : Buf (Elt F) (M.view.loc (c : Thread nD τ))) : sProp 𝕄 :=
  M.view.loc (c : Thread nD τ) ↦{fullShare.right} f

/-- What an item leaves in the output's block: the rows `lo ≤ row < hi` at the expert's result, the other rows as found. -/
def stepOut (lo hi : BitVec 32) (x : Vec F S512x512 .i32) (wg wu : Vec F S1x1024x256 .f32) (wd : Vec F S1x256x1024 .f32)
    (y : Vec F S512x512 .i32) : Vec F S512x512 .i32 :=
  fun p => if k0_cond1 lo hi = 1#1 ∧ k0_pay2 (F := F) lo hi p = 1#1 then k0_pay1 (F := F) x wg wu wd p else y p

/-- A load of a whole buffer reads its contents. -/
theorem readAt_whole {sp : Space} {s : Shape} {e : EltTy} (M : Memref sig .tc sp s e) {off : Fin s.rank → ℕ}
    (inb : ∀ a, off a + s.size a ≤ s.size a) (f : M.view.ty.Contents (Elt F)) :
    M.view.readAt (Elt F) (Rect.unit off s.size inb).toLoadRect f = M.view.read (Elt F) f :=
  funext fun z => congrArg (M.view.read (Elt F) f) (Rect.emb_unit_full inb z)

/-- A masked store over a whole buffer: the payload where the mask is set, the old contents elsewhere. -/
theorem read_store_whole {sp : Space} {s : Shape} {e : EltTy} (M : Memref sig .tc sp s e) {off : Fin s.rank → ℕ}
    (inb : ∀ a, off a + s.size a ≤ s.size a) (f : M.view.ty.Contents (Elt F)) (w : s.Idx → Elt F e) (k : IVec s 1) (p : s.Idx) :
    M.view.read (Elt F) ((M.access (Rect.unit off s.size inb)).write (Elt F) f w (IVec.on k)) p
      = if k p = 1#1 then w p else M.view.read (Elt F) f p := by
  have hp : (Rect.unit off s.size inb).emb p = p := Rect.emb_unit_full inb p
  by_cases h : k p = 1#1
  · rw [if_pos h]
    have := View.read_slice_write_emb (Val := Elt F) (v := M.view) (Rect.unit off s.size inb) f w (M := IVec.on k) (x := p) (by simpa [IVec.on] using h)
    rw [hp] at this; exact this
  · rw [if_neg h]
    refine View.read_slice_write_of_not_mem (Val := Elt F) (v := M.view) (Rect.unit off s.size inb) f w (IVec.on k) ?_
    intro hm
    obtain ⟨z, hz, hzp⟩ := Finset.mem_map.mp hm
    rw [Rect.emb_unit_full inb z] at hzp
    subst hzp
    exact h (by simpa [IVec.on] using hz)

theorem bodyRun (c : Dev nD) (i : grid0.Coords)
    (arg5 : Memref sig .tc .vmem S512x512 .i32) (harg5 : arg5.IsWhole)
    (arg6 : Memref sig .tc .vmem S1x1024x256 .f32) (harg6 : arg6.IsWhole)
    (arg7 : Memref sig .tc .vmem S1x1024x256 .f32) (harg7 : arg7.IsWhole)
    (arg8 : Memref sig .tc .vmem S1x256x1024 .f32) (harg8 : arg8.IsWhole)
    (arg9 : Memref sig .tc .vmem S512x512 .i32) (harg9 : arg9.IsWhole)
    (lo hi : S96.Idx → BitVec 32)
    (x : Vec F S512x512 .i32) (wg wu : Vec F S1x1024x256 .f32) (wd : Vec F S1x256x1024 .f32)
    (y : Vec F S512x512 .i32) (K : PUnit → sProp 𝕄) :
    iprop(tabPt c (Memref.whole main_v25) lo ∗ tabPt c (Memref.whole main_v28) hi
        ∗ owns (c : Thread nD τ) arg5 fullShare x ∗ owns (c : Thread nD τ) arg6 fullShare wg
        ∗ owns (c : Thread nD τ) arg7 fullShare wu ∗ owns (c : Thread nD τ) arg8 fullShare wd
        ∗ owns (c : Thread nD τ) arg9 fullShare y
        ∗ (iprop(tabPt c (Memref.whole main_v25) lo ∗ tabPt c (Memref.whole main_v28) hi
            ∗ owns (c : Thread nD τ) arg5 fullShare x ∗ owns (c : Thread nD τ) arg6 fullShare wg
            ∗ owns (c : Thread nD τ) arg7 fullShare wu ∗ owns (c : Thread nD τ) arg8 fullShare wd
            ∗ owns (c : Thread nD τ) arg9 fullShare (stepOut (wordAt lo i) (wordAt hi i) x wg wu wd y)) -∗ K ⟨⟩))
      ⊢ wp frame (wpE (defs₀ (F := F)) Variants.none c none) Set.univ
          (cc0_experts (F := F) i (Memref.whole main_v12) (Memref.isWhole_whole _) (Memref.whole main_v22) (Memref.isWhole_whole _)
            (Memref.whole main_v25) (Memref.isWhole_whole _) (Memref.whole main_v28) (Memref.isWhole_whole _)
            arg5 harg5 arg6 harg6 arg7 harg7 arg8 harg8 arg9 harg9) K := by
  simp only [cc0_experts_eq_skeleton]; unfold cc0_experts_skel
  rw [k0_part1_eq_skeleton]; unfold k0_part1_skel
  unfold owns
  iintro ⟨HL, HH, ⟨%f5, %h5, H5⟩, ⟨%f6, %h6, H6⟩, ⟨%f7, %h7, H7⟩, ⟨%f8, %h8, H8⟩, ⟨%f9, %h9, H9⟩, Hk⟩
  sl_exec
  sl_step
  iapply Hk
  isplitl [HL]; · iexact HL
  isplitl [HH]; · iexact HH
  isplitl [H5]; · iexists _; isplitr; swap; · iexact H5
                  ipureintro; exact h5
  isplitl [H6]; · iexists _; isplitr; swap; · iexact H6
                  ipureintro; exact h6
  isplitl [H7]; · iexists _; isplitr; swap; · iexact H7
                  ipureintro; exact h7
  isplitl [H8]; · iexists _; isplitr; swap; · iexact H8
                  ipureintro; exact h8
  iexists _; isplitr; swap; · iexact H9
  ipureintro
  unfold bodyRun.sl.H9_w1
  rw [readAt_whole arg5 _ f5, readAt_whole arg6 _ f6, readAt_whole arg7 _ f7, readAt_whole arg8 _ f8, h5, h6, h7, h8]
  have e1 : bodyRun.sl.r (F := F) i lo = wordAt lo i := rfl
  have e2 : bodyRun.sl.r_1 (F := F) i hi = wordAt hi i := rfl
  rw [e1, e2]
  funext p
  unfold stepOut
  by_cases hc : k0_cond1 (wordAt lo i) (wordAt hi i) = 1#1
  · rw [dif_pos hc]
    refine (read_store_whole arg9 _ f9 _ _ p).trans ?_
    rw [h9]
    simp only [hc, true_and]
  · rw [dif_neg hc, h9, if_neg (fun h => hc h.1)]

end Cert.Kernel.Hand

end
-- ==== Proof.Sched.lean ====
/-
  The schedule of the experts' call as natural numbers: the 32768 rows cut at every multiple of 512 and at every expert's first row, 96
  cuts in order. Item `i` is the rows from cut `i` to the next. Every row belongs to exactly one item, which lies in the row's block
  of 512 and belongs to the row's expert.
-/
module

public import Mathlib.Order.Monotone.Basic
public import Mathlib.Data.Nat.Count
public import Mathlib.Data.Fintype.Basic
public import Mathlib.Order.Fin.Basic
public import Mathlib.Tactic.Linarith

@[expose] public section

namespace Cert.Sched

/-- `c` lists in order the 64 block starts and the 32 experts' first rows `s`. -/
structure IsSched (s : Nat → Nat) (c : Fin 96 → Nat) : Prop where
  mono : Monotone c
  cut : ∀ i, (∃ b < 64, c i = 512 * b) ∨ ∃ e < 32, c i = s e
  blockCut : ∀ b < 64, ∃ i, c i = 512 * b
  startCut : ∀ e < 32, ∃ i, c i = s e
  zero : s 0 = 0
  bound : ∀ e < 32, s e ≤ 2 ^ 20

/-- The first row after item `i`. -/
def endOf (c : Fin 96 → Nat) (i : Fin 96) : Nat := if h : i.val + 1 < 96 then c ⟨i.val + 1, h⟩ else 32768
/-- Item `i`'s block of 512 rows. -/
def blkOf (c : Fin 96 → Nat) (i : Fin 96) : Nat := min (c i / 512) 63
/-- The expert of row `r`: the last one whose first row is at or before `r`. -/
def expOf (s : Nat → Nat) (r : Nat) : Nat := Nat.count (fun e => s e ≤ r) 32 - 1

variable {s : Nat → Nat} {c : Fin 96 → Nat}

theorem IsSched.c_zero (h : IsSched s c) : c 0 = 0 := by
  obtain ⟨i, hi⟩ := h.blockCut 0 (by omega)
  have := h.mono (Fin.zero_le i)
  omega

theorem IsSched.c_le (h : IsSched s c) (i : Fin 96) : c i ≤ 2 ^ 20 := by
  rcases h.cut i with ⟨b, hb, e⟩ | ⟨e, he, e'⟩
  · omega
  · have := h.bound e he; omega

theorem le_endOf (h : IsSched s c) (i : Fin 96) : 512 * blkOf c i ≤ endOf c i := by
  unfold blkOf endOf
  split
  · next hi =>
    have : c i ≤ c ⟨i.val + 1, hi⟩ := h.mono (Fin.le_def.mpr (Nat.le_succ _))
    omega
  · omega

theorem endOf_le (h : IsSched s c) (i : Fin 96) : endOf c i ≤ 2 ^ 20 := by
  unfold endOf
  split
  · exact h.c_le _
  · norm_num

theorem blkOf_mono (h : IsSched s c) : Monotone (blkOf c) := fun i j hij => by
  have := h.mono hij
  unfold blkOf
  have := Nat.div_le_div_right (c := 512) this
  omega

theorem blkOf_lt (i : Fin 96) : blkOf c i < 64 := by unfold blkOf; omega

theorem blkOf_mul_le (i : Fin 96) : 512 * blkOf c i ≤ c i := by unfold blkOf; omega

theorem expOf_lt (r : Nat) : expOf s r < 32 := by
  unfold expOf
  have := Nat.count_le (p := fun e => s e ≤ r) (n := 32)
  omega

theorem count_pos (h : IsSched s c) (r : Nat) : 0 < Nat.count (fun e => s e ≤ r) 32 := by
  rw [show (32 : Nat) = 1 + 31 from rfl, Nat.count_add]
  have : Nat.count (fun e => s e ≤ r) 1 = 1 := by
    rw [Nat.count_succ, Nat.count_zero, if_pos (by rw [h.zero]; exact Nat.zero_le _)]
  omega

/-- Row `r` is one of item `i`'s. -/
def Has (c : Fin 96 → Nat) (i : Fin 96) (r : Nat) : Prop := c i ≤ r ∧ r < endOf c i

theorem exists_item (h : IsSched s c) {r : Nat} (hr : r < 32768) : ∃ i, Has c i r := by
  have key : ∀ n : Nat, ∀ hn : n < 96, c ⟨n, hn⟩ ≤ r → ∃ i, Has c i r := by
    intro n
    induction hk : 95 - n generalizing n with
    | zero =>
      intro hn hc
      refine ⟨⟨n, hn⟩, hc, ?_⟩
      unfold endOf; rw [dif_neg (by simp only; omega)]; exact hr
    | succ k ih =>
      intro hn hc
      by_cases h1 : c ⟨n + 1, by omega⟩ ≤ r
      · exact ih (n + 1) (by omega) (by omega) h1
      · refine ⟨⟨n, hn⟩, hc, ?_⟩
        unfold endOf; rw [dif_pos (show n + 1 < 96 by omega)]; exact not_le.mp h1
  exact key 0 (by omega) (by have := h.c_zero; simp only [Fin.zero_eta]; omega)

theorem le_of_has (h : IsSched s c) {i k : Fin 96} {r : Nat} (hi : Has c i r) (hk : c k ≤ r) : k ≤ i := by
  by_contra hlt
  have hlt : i.val + 1 ≤ k.val := by have := not_le.mp hlt; exact this
  have h2 := hi.2
  unfold endOf at h2
  rw [dif_pos (by have := k.isLt; omega)] at h2
  have : c ⟨i.val + 1, by have := k.isLt; omega⟩ ≤ c k := h.mono (Fin.le_def.mpr hlt)
  omega

theorem item_unique (h : IsSched s c) {i j : Fin 96} {r : Nat} (hi : Has c i r) (hj : Has c j r) : i = j :=
  le_antisymm (le_of_has h hj hi.1) (le_of_has h hi hj.1)

theorem item_blk (h : IsSched s c) {i : Fin 96} {r : Nat} (hr : r < 32768) (hi : Has c i r) : blkOf c i = r / 512 := by
  obtain ⟨k, hk⟩ := h.blockCut (r / 512) (by omega)
  have hki := h.mono (le_of_has h hi (k := k) (by omega))
  have := hi.1
  unfold blkOf
  omega

theorem item_exp (h : IsSched s c) {i : Fin 96} {r : Nat} (hi : Has c i r) : expOf s (c i) = expOf s r := by
  unfold expOf
  congr 1
  apply le_antisymm
  · exact Nat.count_mono_left fun e _ (he : s e ≤ c i) => le_trans he hi.1
  · rw [Nat.count_eq_card_filter_range, Nat.count_eq_card_filter_range]
    refine Finset.card_le_card fun e he => ?_
    rw [Finset.mem_filter, Finset.mem_range] at he ⊢
    obtain ⟨k, hk⟩ := h.startCut e he.1
    have := h.mono (le_of_has h hi (k := k) (by omega))
    exact ⟨he.1, by omega⟩

/-- A block of items that has a row's block keeps it up to the row's item and back. -/
theorem item_le_of_last (h : IsSched s c) {i t : Fin 96} {r : Nat} (hr : r < 32768) (hi : Has c i r) (hb : blkOf c t = r / 512)
    (hlast : ∀ ht : t.val + 1 < 96, blkOf c ⟨t.val + 1, ht⟩ ≠ blkOf c t) : i ≤ t := by
  by_contra hlt
  have hlt : t.val + 1 ≤ i.val := not_le.mp hlt
  have h1 := hlast (by have := i.isLt; omega)
  have h2 : blkOf c t ≤ blkOf c ⟨t.val + 1, by have := i.isLt; omega⟩ := blkOf_mono h (Fin.le_def.mpr (Nat.le_succ _))
  have h3 : blkOf c ⟨t.val + 1, by have := i.isLt; omega⟩ ≤ blkOf c i := blkOf_mono h (Fin.le_def.mpr hlt)
  have h4 := item_blk h hr hi
  omega

theorem blk_between (h : IsSched s c) {i u t : Fin 96} (hiu : i ≤ u) (hut : u ≤ t) (e : blkOf c i = blkOf c t) : blkOf c u = blkOf c t := by
  have := blkOf_mono h hiu
  have := blkOf_mono h hut
  omega

end Cert.Sched
-- ==== Proof.Tables.lean ====
/-
  The four tables of the experts' call, as words computed on the host from the experts' counts, and what they hold: the schedule of
  `Sched` as 32-bit words. Nothing here names a program: the definitions are the printed host operations in order.
-/
module

public import proofs.«01_k».proof.Proof.Sched
public import Idealize.ShloMosaic.Lib.Routing.Words
public import Idealize.ShloMosaic.Lib.SortFacts
public import Idealize.ShloMosaic.Lib.Pointwise.SelectCore

@[expose] public section

namespace Cert.Tables

open Idealize.ShloMosaic hiding ix0 ix1 ix2 ix3
open Idealize.ShloMosaic.ValueIdx Idealize.ShloMosaic.Routing Idealize.ShloMosaic.WordCmp Cert.Sched

/-- The sum of the first `j` counts. -/
def sumTo (n : Nat → Nat) (j : Nat) : Nat := ((List.range j).map n).sum

theorem sumTo_succ (n : Nat → Nat) (j : Nat) : sumTo n (j + 1) = sumTo n j + n j := by
  unfold sumTo; rw [List.range_succ, List.map_append, List.sum_append]; simp

theorem sumTo_le {n : Nat → Nat} (hn : ∀ e, n e ≤ 32768) (j : Nat) : sumTo n j ≤ j * 32768 := by
  induction j with
  | zero => exact Nat.zero_le _
  | succ j ih => rw [sumTo_succ]; have := hn j; omega

/-- Expert `e`'s count as a natural number. -/
def cnt (x : IVec (shape1 32) 32) (e : Nat) : Nat := if h : e < 32 then (x (ix1 ⟨e, h⟩)).toNat else 0

/-- The counts a schedule may have: none negative, none above 32768. -/
def CntOk (x : IVec (shape1 32) 32) : Prop := ∀ e, cnt x e ≤ 32768

section
variable (hb0 : shape0.BroadcastsInDim shape0 (![] : Fin 0 → Fin shape0.rank))
  (hrw : (shape1 32).ReduceWindows (![32] : Fin 1 → Nat) ![1] ![31] ![0] (shape1 32)) (hu : 0 < shape0.numel)
  (hb64 : shape0.BroadcastsInDim (shape1 64) (![] : Fin 0 → Fin (shape1 64).rank))
  (hc96 : Shape.Concatenates [shape1 64, shape1 32] (shape1 96) 0)
  (hsl : (shape1 96).Slices ![1] (shape1 95))
  (hb1 : shape0.BroadcastsInDim (shape1 1) (![] : Fin 0 → Fin (shape1 1).rank))
  (hce : Shape.Concatenates [shape1 95, shape1 1] (shape1 96) 0)
  (hb96 : shape0.BroadcastsInDim (shape1 96) (![] : Fin 0 → Fin (shape1 96).rank))
  (h132 : (shape1 32).BroadcastsInDim (shape2 1 32) (![1] : Fin 1 → Fin (shape2 1 32).rank))
  (h961 : (shape1 96).BroadcastsInDim (shape2 96 1) (![0] : Fin 1 → Fin (shape2 96 1).rank))
  (ha : (shape2 1 32).BroadcastsInDim (shape2 96 32) (![0, 1] : Fin 2 → Fin (shape2 96 32).rank))
  (hbb : (shape2 96 1).BroadcastsInDim (shape2 96 32) (![0, 1] : Fin 2 → Fin (shape2 96 32).rank))
  (hw : 1 < 32) (hred : (shape2 96 32).ReducesTo [1] (shape1 96))
  (x : IVec (shape1 32) 32)

/-- The experts' first rows. -/
noncomputable def startsV : IVec (shape1 32) 32 :=
  subi (Host.reduceWindow IntOp.addi ![32] ![1] ![31] ![0] x (broadcastInDim shape0 ![] hb0 (constantI shape0 32 0#32)) hrw hu) x

/-- The cuts before they are sorted. -/
noncomputable def preV : IVec (shape1 96) 32 :=
  concatenate (shape1 96) 0 [⟨shape1 64, muli (iotaInDim (shape1 64) 32 0) (broadcastInDim (shape1 64) ![] hb64 (constantI shape0 32 512#32))⟩,
    ⟨shape1 32, startsV hb0 hrw hu x⟩] hc96

/-- The cuts in order. -/
noncomputable def cutsV : IVec (shape1 96) 32 :=
  Host.sort (shape1 96) 0 (fun l r : BitVec 32 => IntOp.cmpi .slt l r) (preV hb0 hrw hu hb64 hc96 x)

/-- The end of each item. -/
noncomputable def endsV (c : IVec (shape1 96) 32) : IVec (shape1 96) 32 :=
  concatenate (shape1 96) 0 [⟨shape1 95, extractStridedSlice (shape1 95) ![1] c hsl⟩,
    ⟨shape1 1, broadcastInDim (shape1 1) ![] hb1 (constantI shape0 32 32768#32)⟩] hce

/-- Each item's block. -/
noncomputable def blkV (c : IVec (shape1 96) 32) : IVec (shape1 96) 32 :=
  minsi (pyDiv hb96 c (constantI shape0 32 512#32)) (broadcastInDim (shape1 96) ![] hb96 (constantI shape0 32 63#32))

/-- Each item's expert. -/
noncomputable def expV (s : IVec (shape1 32) 32) (c : IVec (shape1 96) 32) : IVec (shape1 96) 32 :=
  minsi (broadcastInDim (shape1 96) ![] hb96 (constantI shape0 32 31#32))
    (maxsi (broadcastInDim (shape1 96) ![] hb96 (constantI shape0 32 0#32))
      (subi (Host.reduce IntOp.addi (extui 32 (cmpi .sle (broadcastInDim (shape2 96 32) ![0, 1] ha (broadcastInDim (shape2 1 32) ![1] h132 s))
          (broadcastInDim (shape2 96 32) ![0, 1] hbb (broadcastInDim (shape2 96 1) ![0] h961 c))) hw) (constantI shape0 32 0#32) hred hu)
        (broadcastInDim (shape1 96) ![] hb96 (constantI shape0 32 1#32))))

/-- A position counted from the item's block. -/
noncomputable def offV (b c : IVec (shape1 96) 32) : IVec (shape1 96) 32 :=
  subi c (muli b (broadcastInDim (shape1 96) ![] hb96 (constantI shape0 32 512#32)))

theorem startsV_ap (hx : CntOk x) (e : Fin 32) : startsV hb0 hrw hu x (ix1 e) = BitVec.ofNat 32 (sumTo (cnt x) e.val) := by
  have hxe : ∀ i : Fin 32, x (ix1 i) = BitVec.ofNat 32 (cnt x i.val) := fun i => by
    unfold cnt; rw [dif_pos i.isLt]; simp
  unfold startsV
  rw [subi_ap, cumsum1 (by rfl) x (cnt x) hxe _ (by rw [bc0]; rfl), hxe e]
  have := sumTo_succ (cnt x) e.val
  unfold sumTo at this
  rw [this, ofNat32_sub (Nat.le_add_left _ _), Nat.add_sub_cancel]
  rfl

theorem preV_block (b : Fin 64) :
    preV hb0 hrw hu hb64 hc96 x (ix1 ⟨b.val, by omega⟩) = BitVec.ofNat 32 (512 * b.val) := by
  unfold preV
  refine (concatenate_pair_apply_left (t := shape1 96) (s₁ := shape1 64) (s₂ := shape1 32) 0 _ _ _ _ rfl (ix1 b) fun a => ?_).trans ?_
  · match a with
    | ⟨0, _⟩ => rfl
  · rw [muli_ap, iota1_ap, bc0]
    show BitVec.ofNat 32 b.val * BitVec.ofNat 32 512 = _
    rw [BitVec.ofNat_mul_ofNat, Nat.mul_comm]

theorem preV_start (hx : CntOk x) (e : Fin 32) :
    preV hb0 hrw hu hb64 hc96 x (ix1 ⟨64 + e.val, by omega⟩) = BitVec.ofNat 32 (sumTo (cnt x) e.val) := by
  unfold preV
  refine (concatenate_pair_apply_right (t := shape1 96) (s₁ := shape1 64) (s₂ := shape1 32) 0 _ _ _ _ rfl rfl (ix1 e) (fun a h => ?_) ?_).trans (startsV_ap hb0 hrw hu x hx e)
  · match a with
    | ⟨0, _⟩ => exact absurd rfl h
  · show e.val + 64 = 64 + e.val; omega

/-- The cuts as natural numbers. -/
noncomputable def cutN (i : Fin 96) : Nat := (cutsV hb0 hrw hu hb64 hc96 x (ix1 i)).toNat

theorem cutsV_ap (i : Fin 96) : cutsV hb0 hrw hu hb64 hc96 x (ix1 i) = BitVec.ofNat 32 (cutN hb0 hrw hu hb64 hc96 x i) := by
  unfold cutN; simp

theorem pre_cases (hx : CntOk x) (j : Fin 96) : ∃ v : Nat, preV hb0 hrw hu hb64 hc96 x (ix1 j) = BitVec.ofNat 32 v ∧ v ≤ 2 ^ 20 ∧
    ((∃ b < 64, v = 512 * b) ∨ ∃ e < 32, v = sumTo (cnt x) e) := by
  by_cases hj : j.val < 64
  · exact ⟨512 * j.val, preV_block hb0 hrw hu hb64 hc96 x ⟨j.val, hj⟩, by omega, Or.inl ⟨j.val, hj, rfl⟩⟩
  · have hl : j.val - 64 < 32 := by omega
    have := preV_start hb0 hrw hu hb64 hc96 x hx ⟨j.val - 64, hl⟩
    have hb := sumTo_le hx (j.val - 64)
    refine ⟨sumTo (cnt x) (j.val - 64), ?_, by omega, Or.inr ⟨_, hl, rfl⟩⟩
    have e : (⟨64 + (j.val - 64), by omega⟩ : Fin 96) = j := Fin.ext (by show 64 + (j.val - 64) = j.val; omega)
    rw [← this]; exact congrArg (fun k => preV hb0 hrw hu hb64 hc96 x (ix1 k)) e.symm

/-- The permutation the sort applies. -/
noncomputable def perm : Fin 96 → Fin 96 := sortedFrom fun k k' =>
  IntOp.cmpi .slt (preV hb0 hrw hu hb64 hc96 x (ix1 k)) (preV hb0 hrw hu hb64 hc96 x (ix1 k')) == 1#1

theorem along_ix1 (j : Fin 96) (k : Fin 96) : (ix1 j : (shape1 96).Idx).along (0 : Fin 1) k = ix1 k := by
  funext a
  match a with
  | ⟨0, _⟩ => rfl

theorem cutsV_perm (i : Fin 96) : cutsV hb0 hrw hu hb64 hc96 x (ix1 i) = preV hb0 hrw hu hb64 hc96 x (ix1 (perm hb0 hrw hu hb64 hc96 x i)) := by
  unfold cutsV Host.sort
  rw [dif_pos (show 0 < (shape1 96).rank from Nat.one_pos)]
  refine (congrArg (preV hb0 hrw hu hb64 hc96 x) (along_ix1 i _)).trans ?_
  unfold perm
  have e : (fun k k' : Fin 96 => IntOp.cmpi .slt (preV hb0 hrw hu hb64 hc96 x ((ix1 i : (shape1 96).Idx).along (0 : Fin 1) k))
      (preV hb0 hrw hu hb64 hc96 x ((ix1 i : (shape1 96).Idx).along (0 : Fin 1) k')) == 1#1)
      = fun k k' : Fin 96 => IntOp.cmpi .slt (preV hb0 hrw hu hb64 hc96 x (ix1 k)) (preV hb0 hrw hu hb64 hc96 x (ix1 k')) == 1#1 := by
    funext k k'
    rw [along_ix1, along_ix1]
  exact congrArg (fun f => preV hb0 hrw hu hb64 hc96 x (ix1 (sortedFrom f i))) e

theorem isSched (hx : CntOk x) : IsSched (sumTo (cnt x)) (cutN hb0 hrw hu hb64 hc96 x) where
  mono := fun i j hij => by
    rcases eq_or_lt_of_le hij with rfl | hlt
    · exact le_rfl
    have key := sortedFrom_noInversion (fun a b => decide ((preV hb0 hrw hu hb64 hc96 x (ix1 a)).slt (preV hb0 hrw hu hb64 hc96 x (ix1 b)) = true))
      (fun k k' => IntOp.cmpi .slt (preV hb0 hrw hu hb64 hc96 x (ix1 k)) (preV hb0 hrw hu hb64 hc96 x (ix1 k')) == 1#1)
      (fun a b h => by
        obtain ⟨va, ea, ha, -⟩ := pre_cases hb0 hrw hu hb64 hc96 x hx a
        obtain ⟨vb, eb, hb, -⟩ := pre_cases hb0 hrw hu hb64 hc96 x hx b
        simp only [ea, eb] at h ⊢
        rw [cmpi_slt_ofNat (w := 32) (by omega) (by omega)] at h
        rw [slt_ofNat32 (by omega) (by omega)]
        by_cases hl : va < vb
        · simp; omega
        · simp [hl] at h)
      (fun a b h => by
        obtain ⟨va, ea, ha, -⟩ := pre_cases hb0 hrw hu hb64 hc96 x hx a
        obtain ⟨vb, eb, hb, -⟩ := pre_cases hb0 hrw hu hb64 hc96 x hx b
        simp only [ea, eb] at h ⊢
        rw [slt_ofNat32 (by omega) (by omega)] at h
        rw [cmpi_slt_ofNat (w := 32) (by omega) (by omega)]
        have hl : va < vb := by simpa using h
        simp [hl])
      (fun a b c h1 h2 => by
        obtain ⟨va, ea, ha, -⟩ := pre_cases hb0 hrw hu hb64 hc96 x hx a
        obtain ⟨vb, eb, hb, -⟩ := pre_cases hb0 hrw hu hb64 hc96 x hx b
        obtain ⟨vc, ec, hc, -⟩ := pre_cases hb0 hrw hu hb64 hc96 x hx c
        simp only [ea, eb, ec] at h1 h2 ⊢
        rw [slt_ofNat32 (by omega) (by omega)] at h1 h2 ⊢
        simp at h1 h2 ⊢
        omega) i j hlt
    obtain ⟨va, ea, ha, -⟩ := pre_cases hb0 hrw hu hb64 hc96 x hx (perm hb0 hrw hu hb64 hc96 x i)
    obtain ⟨vb, eb, hb, -⟩ := pre_cases hb0 hrw hu hb64 hc96 x hx (perm hb0 hrw hu hb64 hc96 x j)
    unfold perm at ea eb
    simp only [ea, eb] at key
    rw [slt_ofNat32 (by omega) (by omega)] at key
    unfold cutN
    rw [cutsV_perm, cutsV_perm]
    unfold perm
    rw [ea, eb, toNat_ofNat_of_lt (w := 32) (by omega), toNat_ofNat_of_lt (w := 32) (by omega)]
    simp at key
    omega
  cut := fun i => by
    obtain ⟨v, e, hv, h⟩ := pre_cases hb0 hrw hu hb64 hc96 x hx (perm hb0 hrw hu hb64 hc96 x i)
    have : cutN hb0 hrw hu hb64 hc96 x i = v := by
      unfold cutN; rw [cutsV_perm, e, toNat_ofNat_of_lt (w := 32) (by omega)]
    rw [this]; exact h
  blockCut := fun b hb => by
    obtain ⟨i, hi⟩ := sortedFrom_surjective (fun k k' : Fin 96 =>
      IntOp.cmpi .slt (preV hb0 hrw hu hb64 hc96 x (ix1 k)) (preV hb0 hrw hu hb64 hc96 x (ix1 k')) == 1#1) ⟨b, by omega⟩
    refine ⟨i, ?_⟩
    unfold cutN; rw [cutsV_perm]; unfold perm; rw [hi, preV_block hb0 hrw hu hb64 hc96 x ⟨b, hb⟩, toNat_ofNat_of_lt (w := 32) (by dsimp only; omega)]
  startCut := fun e he => by
    obtain ⟨i, hi⟩ := sortedFrom_surjective (fun k k' : Fin 96 =>
      IntOp.cmpi .slt (preV hb0 hrw hu hb64 hc96 x (ix1 k)) (preV hb0 hrw hu hb64 hc96 x (ix1 k')) == 1#1) ⟨64 + e, by omega⟩
    refine ⟨i, ?_⟩
    have := sumTo_le hx e
    unfold cutN; rw [cutsV_perm]; unfold perm
    rw [hi, preV_start hb0 hrw hu hb64 hc96 x hx ⟨e, he⟩, toNat_ofNat_of_lt (w := 32) (by dsimp only; omega)]
  zero := rfl
  bound := fun e he => by have := sumTo_le hx e; omega

variable {c : Fin 96 → Nat} {s : Nat → Nat} (hs : IsSched s c) {cv : IVec (shape1 96) 32} (hcv : ∀ i, cv (ix1 i) = BitVec.ofNat 32 (c i))
include hs hcv

theorem endsV_ap (i : Fin 96) : endsV hsl hb1 hce cv (ix1 i) = BitVec.ofNat 32 (endOf c i) := by
  unfold endsV endOf
  by_cases h : i.val + 1 < 96
  · rw [dif_pos h]
    refine (concatenate_pair_apply_left (t := shape1 96) (s₁ := shape1 95) (s₂ := shape1 1) 0 _ _ _ _ rfl (ix1 (⟨i.val, by omega⟩ : Fin 95)) fun a => ?_).trans ?_
    · match a with
      | ⟨0, _⟩ => rfl
    · rw [slice1 1 cv hsl _ (by dsimp only; omega)]
      refine (congrArg (fun k => cv (ix1 k)) (Fin.ext ?_)).trans (hcv ⟨i.val + 1, h⟩)
      show 1 + i.val = i.val + 1; omega
  · rw [dif_neg h]
    refine (concatenate_pair_apply_right (t := shape1 96) (s₁ := shape1 95) (s₂ := shape1 1) 0 _ _ _ _ rfl rfl (ix1 (0 : Fin 1)) (fun a h => ?_) ?_).trans ?_
    · match a with
      | ⟨0, _⟩ => exact absurd rfl h
    · show 0 + 95 = i.val; have := i.isLt; omega
    · rw [bc0]; rfl

theorem blkV_ap (i : Fin 96) : blkV hb96 cv (ix1 i) = BitVec.ofNat 32 (blkOf c i) := by
  have hl := hs.c_le i
  unfold blkV blkOf
  show IntOp.minsi (pyDiv hb96 cv (constantI shape0 32 512#32) (ix1 i)) (broadcastInDim (shape1 96) ![] hb96 (constantI shape0 32 63#32) (ix1 i)) = _
  rw [pyDiv_ap hb96 cv _ (ix1 i) (b := 512) (hcv i) rfl (by omega) (by omega) (by omega), bc0]
  show IntOp.minsi (BitVec.ofNat 32 (c i / 512)) (BitVec.ofNat 32 63) = _
  unfold IntOp.minsi
  rw [slt_ofNat32 (by omega) (by omega)]
  by_cases hlt : c i / 512 < 63
  · simp [hlt]; congr 1; omega
  · simp [hlt]; congr 1; omega

theorem offV_ap {v : Fin 96 → Nat} {b vv : IVec (shape1 96) 32} (hb : ∀ i, b (ix1 i) = BitVec.ofNat 32 (blkOf c i))
    (hv : ∀ i, vv (ix1 i) = BitVec.ofNat 32 (v i)) (hle : ∀ i, 512 * blkOf c i ≤ v i) (i : Fin 96) :
    offV hb96 b vv (ix1 i) = BitVec.ofNat 32 (v i - 512 * blkOf c i) := by
  unfold offV
  rw [subi_ap, muli_ap, bc0, hb, hv]
  show BitVec.ofNat 32 (v i) - BitVec.ofNat 32 (blkOf c i) * BitVec.ofNat 32 512 = _
  rw [BitVec.ofNat_mul_ofNat, Nat.mul_comm (blkOf c i), ofNat32_sub (hle i)]

theorem expV_ap {sv : IVec (shape1 32) 32} (hsv : ∀ e : Fin 32, sv (ix1 e) = BitVec.ofNat 32 (s e.val)) (i : Fin 96) :
    expV hu hb96 h132 h961 ha hbb hw hred sv cv (ix1 i) = BitVec.ofNat 32 (expOf s (c i)) := by
  have hl := hs.c_le i
  have hcnt := reduce_count (n := 96) (m := 32) (by norm_num)
    (cmpi .sle (broadcastInDim (shape2 96 32) ![0, 1] ha (broadcastInDim (shape2 1 32) ![1] h132 sv))
      (broadcastInDim (shape2 96 32) ![0, 1] hbb (broadcastInDim (shape2 96 1) ![0] h961 cv))) hw hred hu i (fun e => s e ≤ c i)
    (fun q => by
      show IntOp.cmpi .sle (broadcastInDim (shape2 96 32) ![0, 1] ha (broadcastInDim (shape2 1 32) ![1] h132 sv) (ix2 i q))
        (broadcastInDim (shape2 96 32) ![0, 1] hbb (broadcastInDim (shape2 96 1) ![0] h961 cv) (ix2 i q)) = 1#1 ↔ _
      have hbq := hs.bound q.val q.isLt
      rw [bcCols, bcRows, hsv, hcv, cmpi_sle_ofNat (w := 32) (by omega) (by omega)]
      by_cases h : s q.val ≤ c i <;> simp [h])
  have hpos := count_pos hs (c i)
  have hle : Nat.count (fun e => s e ≤ c i) 32 ≤ 32 := Nat.count_le _
  unfold expV
  show IntOp.minsi (broadcastInDim (shape1 96) ![] hb96 (constantI shape0 32 31#32) (ix1 i))
    (IntOp.maxsi (broadcastInDim (shape1 96) ![] hb96 (constantI shape0 32 0#32) (ix1 i))
      (Host.reduce IntOp.addi (extui 32 (cmpi .sle (broadcastInDim (shape2 96 32) ![0, 1] ha (broadcastInDim (shape2 1 32) ![1] h132 sv))
          (broadcastInDim (shape2 96 32) ![0, 1] hbb (broadcastInDim (shape2 96 1) ![0] h961 cv))) hw) (constantI shape0 32 0#32) hred hu (ix1 i)
        - broadcastInDim (shape1 96) ![] hb96 (constantI shape0 32 1#32) (ix1 i))) = _
  rw [hcnt, bc0, bc0, bc0]
  show IntOp.minsi 31#32 (IntOp.maxsi 0#32 (BitVec.ofNat 32 _ - BitVec.ofNat 32 1)) = _
  rw [ofNat32_sub hpos, maxsi_zero_left (by omega)]
  unfold IntOp.minsi expOf
  rw [show (31#32 : BitVec 32) = BitVec.ofNat 32 31 from rfl, slt_ofNat32 (by omega) (by omega)]
  rw [if_neg (by simp; omega)]

end

end Cert.Tables
-- ==== Proof.ExpertsHost.lean ====
/-
  The host lines before the experts' call, read at the four tables and at the call's operands: the tables are `Tables`'s words of the
  counts, the operands are the arguments.
-/
module

public import proofs.«01_k».proof.Proof.Tables
public import proofs.«01_k».proof.Proof.Gen.Kernel.Launch
public import Idealize.ShloMosaic.Lib.StableHlo.RunRead
public import Idealize.ShloMosaic.Lib.Pipeline.Frame

@[expose] public section

noncomputable section

namespace Cert.Kernel.Hand

open Cert.Kernel Cert.Kernel.Gen Cert.Tables
open Idealize.ShloMosaic Idealize.ShloMosaic.TcCoe

variable {F : FTy → Type} [BitOps F]

/-- The stretches of host operations, in order. -/
abbrev opss : List (List (HloOp τ sig (Elt F))) :=
  [hostOps0, hostOps0_1, hostOps0_2, hostOps0_3, hostOps0_4, hostOps0_5, hostOps0_6, hostOps0_7]

/-- The cuts of the counts `x`. -/
abbrev cuts (x : IVec S32 32) : IVec S96 32 :=
  cutsV bcast_S_S_ reduceWindows_S32_S32_w32s1p31_0 h_S_ bcast_S_S64 concatenates_S64_S32_S96_d0 x
/-- The experts' first rows. -/
abbrev starts (x : IVec S32 32) : IVec S32 32 := startsV bcast_S_S_ reduceWindows_S32_S32_w32s1p31_0 h_S_ x
/-- The items' blocks. -/
abbrev blks (x : IVec S32 32) : IVec S96 32 := blkV bcast_S_S96 (cuts x)
/-- The items' experts. -/
abbrev exps (x : IVec S32 32) : IVec S96 32 :=
  expV h_S_ bcast_S_S96 bcast_S32_S1x32_1 bcast_S96_S96x1_0 bcast_S1x32_S96x32_0_1 bcast_S96x1_S96x32_0_1 natLt_1_32 reducesTo_S96x32_S96_d1 (starts x) (cuts x)
/-- The items' first rows inside their blocks. -/
abbrev los (x : IVec S32 32) : IVec S96 32 := offV bcast_S_S96 (blks x) (cuts x)
/-- The items' ends inside their blocks. -/
abbrev his (x : IVec S32 32) : IVec S96 32 :=
  offV bcast_S_S96 (blks x) (endsV slices_S96_S95_1 bcast_S_S1 concatenates_S95_S1_S96_d0 (cuts x))

variable (V : Valuation τ sig (Elt F))

theorem host_split : StableHlo.after (opss (F := F)).flatten V
    = StableHlo.after hostOps0_7 (StableHlo.after hostOps0_6 (StableHlo.after hostOps0_5 (StableHlo.after hostOps0_4
        (StableHlo.after hostOps0_3 (StableHlo.after hostOps0_2 (StableHlo.after hostOps0_1 (StableHlo.after hostOps0 V))))))) := by
  simp only [opss, List.flatten_cons, List.flatten_nil, List.append_nil, StableHlo.after_append]

seal Host.reduceWindow in
theorem h0 : StableHlo.after hostOps0 V (Proc.devRef .tc main_v0)
    = Host.reduceWindow IntOp.addi ![32] ![1] ![31] ![0] (V (Proc.devRef .tc main_arg0)) (broadcastInDim S_ ![] bcast_S_S_ (constantI S_ 32 0#32)) reduceWindows_S32_S32_w32s1p31_0 h_S_ := by
  after_reads_simp
  rfl
theorem h0_arg0 : StableHlo.after hostOps0 V (Proc.devRef .tc main_arg0) = V (Proc.devRef .tc main_arg0) := by
  after_reads_simp
theorem h1_v1 : StableHlo.after hostOps0_1 V (Proc.devRef .tc main_v1) = subi (V (Proc.devRef .tc main_v0)) (V (Proc.devRef .tc main_arg0)) := by
  after_reads_simp
  try rfl
theorem h1_v5 : StableHlo.after hostOps0_1 V (Proc.devRef .tc main_v5)
    = concatenate S96 0 [⟨S64, muli (iotaInDim S64 32 0) (broadcastInDim S64 ![] bcast_S_S64 (constantI S_ 32 512#32))⟩,
        ⟨S32, subi (V (Proc.devRef .tc main_v0)) (V (Proc.devRef .tc main_arg0))⟩] concatenates_S64_S32_S96_d0 := by
  after_reads_simp
  try rfl
theorem h2_v6 : StableHlo.after hostOps0_2 V (Proc.devRef .tc main_v6) = Host.sort S96 0 comparator_i32_d0 (V (Proc.devRef .tc main_v5)) := by
  after_reads_simp
  try rfl
theorem h3_v9 : StableHlo.after hostOps0_3 V (Proc.devRef .tc main_v9)
    = endsV slices_S96_S95_1 bcast_S_S1 concatenates_S95_S1_S96_d0 (V (Proc.devRef .tc main_v6)) := by
  after_reads_simp
  try rfl
theorem h3_c1 : StableHlo.after hostOps0_3 V (Proc.devRef .tc main_c_1) = constantI S_ 32 512#32 := by
  after_reads_simp
  try rfl
theorem h4_v10 : StableHlo.after hostOps0_4 V (Proc.devRef .tc main_v10)
    = Routing.pyDiv bcast_S_S96 (V (Proc.devRef .tc main_v6)) (V (Proc.devRef .tc main_c_1)) := by
  after_reads_simp
  try rfl
theorem h5_v12 : StableHlo.after hostOps0_5 V (Proc.devRef .tc main_v12)
    = minsi (V (Proc.devRef .tc main_v10)) (broadcastInDim S96 ![] bcast_S_S96 (constantI S_ 32 63#32)) := by
  after_reads_simp
  try rfl
theorem h5_v21 : StableHlo.after hostOps0_5 V (Proc.devRef .tc main_v21)
    = subi (Host.reduce IntOp.addi (extui 32 (cmpi .sle (broadcastInDim S96x32 ![0, 1] bcast_S1x32_S96x32_0_1 (broadcastInDim S1x32 ![1] bcast_S32_S1x32_1 (V (Proc.devRef .tc main_v1))))
          (broadcastInDim S96x32 ![0, 1] bcast_S96x1_S96x32_0_1 (broadcastInDim S96x1 ![0] bcast_S96_S96x1_0 (V (Proc.devRef .tc main_v6))))) natLt_1_32) (constantI S_ 32 0#32) reducesTo_S96x32_S96_d1 h_S_)
        (broadcastInDim S96 ![] bcast_S_S96 (constantI S_ 32 1#32)) := by
  after_reads_simp
  try rfl
theorem h5_c5 : StableHlo.after hostOps0_5 V (Proc.devRef .tc main_c_5) = constantI S_ 32 0#32 := by
  after_reads_simp
  try rfl
theorem h5_c6 : StableHlo.after hostOps0_5 V (Proc.devRef .tc main_c_6) = constantI S_ 32 31#32 := by
  after_reads_simp
  try rfl
theorem h6_v22 : StableHlo.after hostOps0_6 V (Proc.devRef .tc main_v22)
    = minsi (broadcastInDim S96 ![] bcast_S_S96 (V (Proc.devRef .tc main_c_6)))
        (maxsi (broadcastInDim S96 ![] bcast_S_S96 (V (Proc.devRef .tc main_c_5))) (V (Proc.devRef .tc main_v21))) := by
  after_reads_simp
  try rfl
theorem h7_v25 : StableHlo.after hostOps0_7 V (Proc.devRef .tc main_v25) = offV bcast_S_S96 (V (Proc.devRef .tc main_v12)) (V (Proc.devRef .tc main_v6)) := by
  after_reads_simp
  try rfl
theorem h7_v28 : StableHlo.after hostOps0_7 V (Proc.devRef .tc main_v28) = offV bcast_S_S96 (V (Proc.devRef .tc main_v12)) (V (Proc.devRef .tc main_v9)) := by
  after_reads_simp
  try rfl

/-! What the later lines leave as it was. -/

theorem k2_v1 : StableHlo.after hostOps0_2 V (Proc.devRef .tc main_v1) = V (Proc.devRef .tc main_v1) := by after_reads_simp
theorem k3_v1 : StableHlo.after hostOps0_3 V (Proc.devRef .tc main_v1) = V (Proc.devRef .tc main_v1) := by after_reads_simp
theorem k3_v6 : StableHlo.after hostOps0_3 V (Proc.devRef .tc main_v6) = V (Proc.devRef .tc main_v6) := by after_reads_simp
theorem k4_v1 : StableHlo.after hostOps0_4 V (Proc.devRef .tc main_v1) = V (Proc.devRef .tc main_v1) := by after_reads_simp
theorem k4_v6 : StableHlo.after hostOps0_4 V (Proc.devRef .tc main_v6) = V (Proc.devRef .tc main_v6) := by after_reads_simp
theorem k4_v9 : StableHlo.after hostOps0_4 V (Proc.devRef .tc main_v9) = V (Proc.devRef .tc main_v9) := by after_reads_simp
theorem k5_v6 : StableHlo.after hostOps0_5 V (Proc.devRef .tc main_v6) = V (Proc.devRef .tc main_v6) := by after_reads_simp
theorem k5_v9 : StableHlo.after hostOps0_5 V (Proc.devRef .tc main_v9) = V (Proc.devRef .tc main_v9) := by after_reads_simp
theorem k6_v6 : StableHlo.after hostOps0_6 V (Proc.devRef .tc main_v6) = V (Proc.devRef .tc main_v6) := by after_reads_simp
theorem k6_v9 : StableHlo.after hostOps0_6 V (Proc.devRef .tc main_v9) = V (Proc.devRef .tc main_v9) := by after_reads_simp
theorem k6_v12 : StableHlo.after hostOps0_6 V (Proc.devRef .tc main_v12) = V (Proc.devRef .tc main_v12) := by after_reads_simp
theorem k7_v12 : StableHlo.after hostOps0_7 V (Proc.devRef .tc main_v12) = V (Proc.devRef .tc main_v12) := by after_reads_simp
theorem k7_v22 : StableHlo.after hostOps0_7 V (Proc.devRef .tc main_v22) = V (Proc.devRef .tc main_v22) := by after_reads_simp

theorem cuts_eq : Host.sort S96 0 comparator_i32_d0 (StableHlo.after hostOps0_1 (StableHlo.after hostOps0 V) (Proc.devRef .tc main_v5))
    = cuts (V (Proc.devRef .tc main_arg0)) := by
  rw [h1_v5, h0, h0_arg0]; rfl
theorem starts_eq : StableHlo.after hostOps0_1 (StableHlo.after hostOps0 V) (Proc.devRef .tc main_v1)
    = starts (V (Proc.devRef .tc main_arg0)) := by
  rw [h1_v1, h0, h0_arg0]; rfl

theorem host_v12 : StableHlo.after (opss (F := F)).flatten V (Proc.devRef .tc main_v12) = blks (V (Proc.devRef .tc main_arg0)) := by
  rw [host_split, k7_v12, k6_v12, h5_v12, h4_v10, h3_c1, k3_v6, h2_v6, cuts_eq]; rfl
theorem host_v22 : StableHlo.after (opss (F := F)).flatten V (Proc.devRef .tc main_v22) = exps (V (Proc.devRef .tc main_arg0)) := by
  rw [host_split, k7_v22, h6_v22, h5_c5, h5_c6, h5_v21, k4_v1, k3_v1, k2_v1, starts_eq, k4_v6, k3_v6, h2_v6, cuts_eq]; rfl
theorem host_v25 : StableHlo.after (opss (F := F)).flatten V (Proc.devRef .tc main_v25) = los (V (Proc.devRef .tc main_arg0)) := by
  rw [host_split, h7_v25, k6_v12, h5_v12, h4_v10, h3_c1, k6_v6, k5_v6, k4_v6, k3_v6, h2_v6, cuts_eq]; rfl
theorem host_v28 : StableHlo.after (opss (F := F)).flatten V (Proc.devRef .tc main_v28) = his (V (Proc.devRef .tc main_arg0)) := by
  rw [host_split, h7_v28, k6_v12, h5_v12, h4_v10, h3_c1, k6_v9, k5_v9, k4_v9, h3_v9, k3_v6, h2_v6, cuts_eq]; rfl

theorem host_keep (b : Ref sig .tc) (hb : b = main_arg0 ∨ b = main_arg1 ∨ b = main_arg2 ∨ b = main_arg3 ∨ b = main_arg4 ∨ b = main_v29) :
    StableHlo.after (opss (F := F)).flatten V (Proc.devRef .tc b) = V (Proc.devRef .tc b) := by
  rw [host_split]
  rcases hb with rfl | rfl | rfl | rfl | rfl | rfl <;> after_reads_simp

end Cert.Kernel.Hand

end
-- ==== Proof.ExpertsRun.lean ====
/-
  The experts' call run at the tables the host computes: the relation the body keeps at every grid point, its obligation from the
  body's triple, and the run of the whole program.
-/
module

public import proofs.«01_k».proof.Proof.ExpertsBody
public import proofs.«01_k».proof.Proof.ExpertsHost
public import Idealize.ShloMosaic.Lib.Pipeline.FrameBody

@[expose] public section

noncomputable section

namespace Cert.Kernel.Hand

open Cert.Kernel Cert.Kernel.Gen Cert.Tables Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

/-! ## The tables' contents -/

/-- The four tables. -/
def tabs (x : IVec S32 32) : pre0.Contents (Elt F) := fun
  | 0 => blks x
  | 1 => exps x
  | 2 => los x
  | 3 => his x
  | ⟨_ + 4, h⟩ => absurd h (Nat.not_lt.2 (Nat.le_add_left _ _))

/-- The cuts as natural numbers. -/
abbrev cutOf (x : IVec S32 32) : Fin 96 → Nat := cutN bcast_S_S_ reduceWindows_S32_S32_w32s1p31_0 h_S_ bcast_S_S64 concatenates_S64_S32_S96_d0 x
/-- The experts' first rows as natural numbers. -/
abbrev startOf (x : IVec S32 32) : Nat → Nat := sumTo (cnt x)

theorem sched (x : IVec S32 32) (hx : CntOk x) : IsSched (startOf x) (cutOf x) := isSched _ _ _ _ _ x hx

/-- The item of a grid point. -/
abbrev itemOf (i : grid0.Coords) : Fin 96 := i 0

theorem wordAt_eq (v : S96.Idx → BitVec 32) (i : grid0.Coords) : wordAt v i = v (ValueIdx.ix1 (itemOf i)) := by
  unfold wordAt
  refine congrArg v (funext fun a => Fin.ext ?_)
  match a with
  | ⟨0, _⟩ =>
    have h : (i 0).val < 96 := (i 0).isLt
    show (k0_off1 i 0) + 1 * 0 = (i 0).val
    show (BitVec.ofNat 32 (i 0).val).toNat + 1 * 0 = (i 0).val
    rw [BitVec.toNat_ofNat, Nat.mod_eq_of_lt (by omega)]; omega

theorem blks_at (x : IVec S32 32) (hx : CntOk x) (i : grid0.Coords) : wordAt (blks x) i = BitVec.ofNat 32 (blkOf (cutOf x) (itemOf i)) := by
  rw [wordAt_eq]; exact blkV_ap _ (sched x hx) (fun i => cutsV_ap _ _ _ _ _ x i) _
theorem exps_at (x : IVec S32 32) (hx : CntOk x) (i : grid0.Coords) : wordAt (exps x) i = BitVec.ofNat 32 (expOf (startOf x) (cutOf x (itemOf i))) := by
  rw [wordAt_eq]
  exact expV_ap _ _ _ _ _ _ _ _ (sched x hx) (fun i => cutsV_ap _ _ _ _ _ x i) (fun e => startsV_ap _ _ _ x hx e) _
theorem los_at (x : IVec S32 32) (hx : CntOk x) (i : grid0.Coords) :
    wordAt (los x) i = BitVec.ofNat 32 (cutOf x (itemOf i) - 512 * blkOf (cutOf x) (itemOf i)) := by
  rw [wordAt_eq]
  exact offV_ap _ (sched x hx) (fun i => cutsV_ap _ _ _ _ _ x i) (fun i => blkV_ap _ (sched x hx) (fun i => cutsV_ap _ _ _ _ _ x i) i)
    (fun i => cutsV_ap _ _ _ _ _ x i) (fun i => blkOf_mul_le i) _
theorem his_at (x : IVec S32 32) (hx : CntOk x) (i : grid0.Coords) :
    wordAt (his x) i = BitVec.ofNat 32 (endOf (cutOf x) (itemOf i) - 512 * blkOf (cutOf x) (itemOf i)) := by
  rw [wordAt_eq]
  exact offV_ap _ (sched x hx) (fun i => cutsV_ap _ _ _ _ _ x i) (fun i => blkV_ap _ (sched x hx) (fun i => cutsV_ap _ _ _ _ _ x i) i)
    (fun i => endsV_ap _ _ _ (sched x hx) (fun i => cutsV_ap _ _ _ _ _ x i) i) (fun i => le_endOf (sched x hx) i) _

theorem tr0_eq (x : IVec S32 32) (i : grid0.Coords) : cc0_transform_0 k0_off1_inb numel1_S1 (tabs (F := F) x) i = ![(wordAt (blks x) i).toNat, 0] := rfl
theorem tr4_eq (x : IVec S32 32) (i : grid0.Coords) : cc0_transform_4 k0_off1_inb numel1_S1 (tabs (F := F) x) i = ![(wordAt (blks x) i).toNat, 0] := rfl
theorem tr1_eq (x : IVec S32 32) (i : grid0.Coords) : cc0_transform_1 k0_off1_inb numel1_S1 (tabs (F := F) x) i = ![(wordAt (exps x) i).toNat, 0, 0] := rfl
theorem tr2_eq (x : IVec S32 32) (i : grid0.Coords) : cc0_transform_2 k0_off1_inb numel1_S1 (tabs (F := F) x) i = ![(wordAt (exps x) i).toNat, 0, 0] := rfl
theorem tr3_eq (x : IVec S32 32) (i : grid0.Coords) : cc0_transform_3 k0_off1_inb numel1_S1 (tabs (F := F) x) i = ![(wordAt (exps x) i).toNat, 0, 0] := rfl

/-- The item's block and expert as natural numbers. -/
abbrev blkN (x : IVec S32 32) (i : grid0.Coords) : Nat := blkOf (cutOf x) (itemOf i)
abbrev expN (x : IVec S32 32) (i : grid0.Coords) : Nat := expOf (startOf x) (cutOf x (itemOf i))

theorem blks_nat (x : IVec S32 32) (hx : CntOk x) (i : grid0.Coords) : (wordAt (blks x) i).toNat = blkN x i := by
  have := blkOf_lt (c := cutOf x) (itemOf i)
  rw [blks_at x hx, BitVec.toNat_ofNat, Nat.mod_eq_of_lt (by omega)]
theorem exps_nat (x : IVec S32 32) (hx : CntOk x) (i : grid0.Coords) : (wordAt (exps x) i).toNat = expN x i := by
  have := expOf_lt (s := startOf x) (cutOf x (itemOf i))
  rw [exps_at x hx, BitVec.toNat_ofNat, Nat.mod_eq_of_lt (by omega)]

theorem tabs_ok (x : IVec S32 32) (hx : CntOk x) : ok0 (tabs (F := F) x) := by
  have hb : ∀ i, (wordAt (blks x) i).toNat < 64 := fun i => by rw [blks_nat x hx]; exact blkOf_lt _
  have he : ∀ i, (wordAt (exps x) i).toNat < 32 := fun i => by rw [exps_nat x hx]; exact expOf_lt _
  refine ⟨fun i => ⟨fun a => ?_, Or.inl rfl⟩, fun i => ⟨fun a => ?_, Or.inl rfl⟩, fun i => ⟨fun a => ?_, Or.inl rfl⟩, fun i => ⟨fun a => ?_, Or.inl rfl⟩,
    fun i => ⟨fun a => ?_, Or.inl rfl⟩⟩
  · rw [tr0_eq]; have := hb i
    match a with
    | ⟨0, _⟩ => show ((wordAt (blks x) i).toNat + 1) * 512 ≤ 32768; omega
    | ⟨1, _⟩ => show (0 + 1) * 512 ≤ 512; omega
  · rw [tr1_eq]; have := he i
    match a with
    | ⟨0, _⟩ => show ((wordAt (exps x) i).toNat + 1) * 1 ≤ 32; omega
    | ⟨1, _⟩ => show (0 + 1) * 1024 ≤ 1024; omega
    | ⟨2, _⟩ => show (0 + 1) * 256 ≤ 256; omega
  · rw [tr2_eq]; have := he i
    match a with
    | ⟨0, _⟩ => show ((wordAt (exps x) i).toNat + 1) * 1 ≤ 32; omega
    | ⟨1, _⟩ => show (0 + 1) * 1024 ≤ 1024; omega
    | ⟨2, _⟩ => show (0 + 1) * 256 ≤ 256; omega
  · rw [tr3_eq]; have := he i
    match a with
    | ⟨0, _⟩ => show ((wordAt (exps x) i).toNat + 1) * 1 ≤ 32; omega
    | ⟨1, _⟩ => show (0 + 1) * 256 ≤ 256; omega
    | ⟨2, _⟩ => show (0 + 1) * 1024 ≤ 1024; omega
  · rw [tr4_eq]; have := hb i
    match a with
    | ⟨0, _⟩ => show ((wordAt (blks x) i).toNat + 1) * 512 ≤ 32768; omega
    | ⟨1, _⟩ => show (0 + 1) * 512 ≤ 512; omega

/-- The tables, admissible. -/
def adm (x : IVec S32 32) (hx : CntOk x) : (p : Fin 1) → (pcfgs (F := F) p).Adm := fun _ => ⟨tabs x, tabs_ok x hx⟩

/-! ## The data of the run -/

section Run
variable (m : (ℓ : Loc nD τ sig) → Buf (Elt F) ℓ) (ρ : Dev nD → PrngReg)

/-- The buffers when the call starts. -/
abbrev V (c : Dev nD) (b : Ref sig .tc) : Buf (Elt F) ((c : Thread nD τ).loc b) := StableHlo.after (opss (F := F)).flatten (fun b => m (c, b)) b

variable (x : IVec S32 32) (hx : CntOk x)

/-- The configuration at the tables. -/
abbrev cfgT : Pipeline.Cfg sig Λ₀ := cfg0 (F := F) (adm x hx 0)

/-- The block an input window reads at point `t`. -/
def blockIn (c : Dev nD) (w : Fin 5) (t : Fin grid0.N) : ((win0 (F := F) (adm x hx 0) w).xblock (grid0.coords t)).Idx → Elt F (win0 (F := F) (adm x hx 0) w).elt :=
  ((win0 (F := F) (adm x hx 0) w).blk t).view.read (Elt F) (V m c (Pipeline.arrRef spec0 w))

/-- The relation between what a point finds in a staging buffer and what it leaves: an input's block stays, the output's rows are the item's. -/
def afterR (c : Dev nD) : (w : Fin 5) → (t : Fin grid0.N) → (Y X : (win0 (F := F) (adm x hx 0) w).block.Idx → Elt F (win0 (F := F) (adm x hx 0) w).elt) → Prop := fun
  | 0 => fun _ Y X => X = Y
  | 1 => fun _ Y X => X = Y
  | 2 => fun _ Y X => X = Y
  | 3 => fun _ Y X => X = Y
  | 4 => fun t Y X => X = stepOut (F := F) (wordAt (los x) (grid0.coords t)) (wordAt (his x) (grid0.coords t))
      (blockIn m x hx c 0 t) (blockIn m x hx c 1 t) (blockIn m x hx c 2 t) (blockIn m x hx c 3 t) Y
  | ⟨_ + 5, h⟩ => absurd h (Nat.not_lt.2 (Nat.le_add_left _ _))

/-- The run's data on core `c`. -/
def rdat (c : Dev nD) : Pipeline.RDat τ (Elt F) Unit ℕ (UR sig nD τ) ℕ (cfgT (F := F) x hx) c where
  A w := V m c (Pipeline.arrRef spec0 w)
  after := afterR m x hx c
  Φ _ := iprop(Pipeline.ΦA spec0 c ∗ Pipeline.ΦT pre0 (tabs x) c)
  q _ := fullShare
  owed _ := 0

/-- What an input window's buffer holds at a point. -/
theorem finds_in (c : Dev nD) (t : Fin grid0.N) (w : Fin 5) (hw : w ≠ 4) (Y) (h : (rdat m x hx c).Finds w t Y) : Y = blockIn m x hx c w t := by
  have hk : ∀ t Y X, (rdat m x hx c).after w t Y X → X = Y := by
    match w, hw with
    | 0, _ => exact fun _ _ _ h => h
    | 1, _ => exact fun _ _ _ h => h
    | 2, _ => exact fun _ _ _ h => h
    | 3, _ => exact fun _ _ _ h => h
    | 4, hw => exact absurd rfl hw
    | ⟨_ + 5, h⟩, _ => exact absurd h (Nat.not_lt.2 (Nat.le_add_left _ _))
  have hi : ((cfgT (F := F) x hx).win w).isOut = false := by
    match w, hw with
    | 0, _ => rfl
    | 1, _ => rfl
    | 2, _ => rfl
    | 3, _ => rfl
    | 4, hw => exact absurd rfl hw
    | ⟨_ + 5, h⟩, _ => exact absurd h (Nat.not_lt.2 (Nat.le_add_left _ _))
  obtain ⟨d, hd⟩ := Pipeline.RDat.finds_in_eq_fetched (rdat m x hx c) w hi (fun _ _ _ => rfl) hk t Y h
  rw [hd]
  match w, hw with
  | 0, _ => rfl
  | 1, _ => rfl
  | 2, _ => rfl
  | 3, _ => rfl
  | 4, hw => exact absurd rfl hw
  | ⟨_ + 5, h⟩, _ => exact absurd h (Nat.not_lt.2 (Nat.le_add_left _ _))

/-- The tables conjoined one by one. -/
theorem tables_eq (c : Dev nD) : (Pipeline.ΦT pre0 (tabs (F := F) x) c : sProp 𝕄)
    = iprop(tabPt c (Memref.whole main_v12) (blks x) ∗ tabPt c (Memref.whole main_v22) (exps x) ∗ tabPt c (Memref.whole main_v25) (los x)
        ∗ tabPt c (Memref.whole main_v28) (his x)) := by
  unfold Pipeline.ΦT Pipeline.prefHeld
  exact bigSep_univ_eq_bigSepL [(0 : Fin 4), (1 : Fin 4), (2 : Fin 4), (3 : Fin 4)] (by decide) (by decide) _

/-- The body table's row at the point. -/
theorem defs₀_row (t : Fin grid0.N) : defs₀ (F := F) .tc (cfgT (F := F) x hx).body ((cfgT (F := F) x hx).bodyArgs t ((cfgT (F := F) x hx).slots t))
    = cc0_experts (F := F) (grid0.coords t) (Memref.whole main_v12) (Memref.isWhole_whole _) (Memref.whole main_v22) (Memref.isWhole_whole _)
        (Memref.whole main_v25) (Memref.isWhole_whole _) (Memref.whole main_v28) (Memref.isWhole_whole _)
        (spec0_0.stage ((cfgT (F := F) x hx).slots t 0)) (hstage0_0 (((cfgT (F := F) x hx).slots t 0).cast nbuf0_0))
        (spec0_1.stage ((cfgT (F := F) x hx).slots t 1)) (hstage0_1 (((cfgT (F := F) x hx).slots t 1).cast nbuf0_1))
        (spec0_2.stage ((cfgT (F := F) x hx).slots t 2)) (hstage0_2 (((cfgT (F := F) x hx).slots t 2).cast nbuf0_2))
        (spec0_3.stage ((cfgT (F := F) x hx).slots t 3)) (hstage0_3 (((cfgT (F := F) x hx).slots t 3).cast nbuf0_3))
        (spec0_4.stage ((cfgT (F := F) x hx).slots t 4)) (hstage0_4 (((cfgT (F := F) x hx).slots t 4).cast nbuf0_4)) := by
  unfold defs₀; rw [Defs.onTc_tc]

theorem body_obligation (c : Dev nD) : (rdat m x hx c).BodyObligation (defs₀ (F := F)) Variants.none () Set.univ := fun t Y hY => by
  rw [bigSep_W0, bigSep_W0, defs₀_row]
  have e0 := finds_in m x hx c t 0 (by decide) (Y 0) (hY 0)
  have e1 := finds_in m x hx c t 1 (by decide) (Y 1) (hY 1)
  have e2 := finds_in m x hx c t 2 (by decide) (Y 2) (hY 2)
  have e3 := finds_in m x hx c t 3 (by decide) (Y 3) (hY 3)
  rw [show (rdat m x hx c).Φ t.succ = (rdat m x hx c).Φ t.castSucc from rfl,
    show (rdat m x hx c).owesAt () t.succ = (rdat m x hx c).owesAt () t.castSucc from rfl,
    show (rdat m x hx c).Φ t.castSucc = iprop(Pipeline.ΦA spec0 c ∗ Pipeline.ΦT pre0 (tabs x) c) from rfl, tables_eq]
  iintro ⟨⟨HA, HB, HE, HL, HH⟩, HO, H5, H6, H7, H8, H9⟩
  iapply (bodyRun c (grid0.coords t) _ _ _ _ _ _ _ _ _ _ (los x) (his x) (Y 0) (Y 1) (Y 2) (Y 3) (Y 4) _)
  isplitl [HL]; · iexact HL
  isplitl [HH]; · iexact HH
  isplitl [H5]; · iexact H5
  isplitl [H6]; · iexact H6
  isplitl [H7]; · iexact H7
  isplitl [H8]; · iexact H8
  isplitl [H9]; · iexact H9
  iintro ⟨HL, HH, H5, H6, H7, H8, H9⟩
  isplitl [HA HB HE HL HH]
  · isplitl [HA]; · iexact HA
    isplitl [HB]; · iexact HB
    isplitl [HE]; · iexact HE
    isplitl [HL]; · iexact HL
    iexact HH
  isplitl [HO]; · iexact HO
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  iexists _; isplitr; swap; · iexact H9
  ipureintro
  rw [e0, e1, e2, e3]
  rfl

/-! ## The launch -/

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub⟩

theorem opss_fresh : (opss (F := F)).Forall fun ops => ops.Forall fun op => op.fresh = ∅ := by
  simp only [opss, List.forall_cons, List.Forall]
  repeat' constructor

theorem hmainT : Pipeline.HMainP (Ix := Unit) (Name := ℕ) (U := UR sig nD τ) (Lvl := ℕ) (pcfgs (F := F)) 0 defs₀ Variants.none m (main (F := F)) (V m) :=
  Pipeline.hmainP_prefixes pcfgs 0 defs₀ Variants.none m main opss opss_sub opss_fresh fun c => (main_chain c).trans rfl

variable (hm : ∀ c : Dev nD, m ((c : Thread nD τ).loc main_arg0) = x)
include hm

theorem tables_at (c : Dev nD) (k : Fin 4) : V m c (pre0.ref k) = (adm (F := F) x hx 0).1 k := by
  have h : ∀ c : Dev nD, (fun b => m (c, b) : Valuation τ sig (Elt F)) (Proc.devRef .tc main_arg0) = x := hm
  match k with
  | 0 => exact (host_v12 _).trans (congrArg blks (h c))
  | 1 => exact (host_v22 _).trans (congrArg exps (h c))
  | 2 => exact (host_v25 _).trans (congrArg los (h c))
  | 3 => exact (host_v28 _).trans (congrArg his (h c))
  | ⟨_ + 4, h⟩ => exact absurd h (Nat.not_lt.2 (Nat.le_add_left _ _))

set_option backward.isDefEq.respectTransparency.types false in
/-- The program runs, and ends with every array at contents the relation allows, every other buffer as it was, every counter at zero. -/
theorem run_main :
    θ_run defs (onTc (τ := τ) (main (F := F))) (s₀ m ρ)
      (fun r => Pipeline.RDat.FramePost (cfgT (F := F) x hx) (fun c => rdat m x hx c) (V m) r ∧ r.2.sem = fun _ => 0) :=
  Pipeline.RDat.θ_run_frameP (Q' := _) pcfgs (adm x hx) (0 : Fin 1) launch0 defs₀ Variants.none (fun c => rdat m x hx c) m ρ main
    (hbody := body_obligation m x hx) (hshare := fun c w => by
      unfold Pipeline.RDat.share; split <;> rfl)
    (howed := fun _ _ => rfl) (V := V m) (hmain := hmainT m) (hA := fun _ _ => rfl)
    (hpf := tables_at m x hx hm) (hΦ := fun _ _ => rfl) (hQ' := fun _ h => h)

end Run

end Cert.Kernel.Hand

end
-- ==== Proof.ExpertsFrame.lean ====
/-
  The frame of the experts' call from its run, and what the precondition says of the counts.
-/
module

public import proofs.«01_k».proof.Defs
public import proofs.«01_k».proof.Proof.ExpertsRun

@[expose] public section

noncomputable section

namespace Cert.Kernel.Hand

open Cert.Kernel Cert.Kernel.Gen Cert.Tables Cert.Sched
open Idealize.ShloMosaic Idealize.ShloMosaic.TcCoe Idealize.ShloMosaic.Tactic
open Idealize.SL Idealize.SL.Sem

variable {F : FTy → Type} [BitOps F] [∀ e, Nonempty (Elt F e)]

/-- The precondition's side condition. -/
theorem pre_facts : Cert.Pre_counted.Facts := ⟨by decide⟩

/-- What the precondition says: every count between 0 and 32768. -/
theorem cntOk_of_pre [h : Cert.Pre_counted.Facts] (x : IVec S32 32) (a1 a2 a3 a4) (hp : Cert.Pre_counted.fn (F := F) x a1 a2 a3 a4 = fun _ => 1#1) : CntOk x := by
  intro e
  unfold cnt
  split
  case isFalse => omega
  case isTrue he =>
    have h1 : BitVec.ofBool ((0#32).sle (x (ValueIdx.ix1 ⟨e, he⟩))) &&& BitVec.ofBool ((x (ValueIdx.ix1 ⟨e, he⟩)).sle 32768#32) = 1#1 :=
      congrFun hp (ValueIdx.ix1 ⟨e, he⟩)
    generalize x (ValueIdx.ix1 ⟨e, he⟩) = w at h1
    have h0 : (0#32).sle w = true ∧ w.sle 32768#32 = true := by
      cases h2 : (0#32).sle w <;> cases h3 : w.sle 32768#32 <;> rw [h2, h3] at h1 <;> first | exact ⟨rfl, rfl⟩ | exact absurd h1 (by decide)
    have hz := BitVec.sle_iff_toInt_le.1 h0.1
    have ht := BitVec.sle_iff_toInt_le.1 h0.2
    have hzi : (0#32 : BitVec 32).toInt = 0 := by decide
    have hti : (32768#32 : BitVec 32).toInt = 32768 := by decide
    rw [hzi] at hz; rw [hti] at ht
    have hw := w.isLt
    rw [BitVec.toInt_eq_toNat_cond] at hz ht
    split at ht <;> omega

section Final
variable (m : (ℓ : Loc nD τ sig) → Buf (Elt F) ℓ) (x : IVec S32 32) (hx : CntOk x)

/-- The host leaves the argument arrays and the result's buffer as they were. -/
theorem V_keep (c : Dev nD) (b : Ref sig .tc) (hb : b = main_arg0 ∨ b = main_arg1 ∨ b = main_arg2 ∨ b = main_arg3 ∨ b = main_arg4 ∨ b = main_v29) :
    V m c b = m ((c : Thread nD τ).loc b) := host_keep (fun b => m (c, b)) b hb

/-- An input's array ends as the launch found it. -/
theorem final_in {r} (h : Pipeline.RDat.FramePost (cfgT (F := F) x hx) (fun c => rdat m x hx c) (V m) r) (c : Dev nD) (w : Fin 5)
    (hi : ((cfgT (F := F) x hx).win w).isOut = false) :
    r.2.mem ((c : Thread nD τ).loc (Pipeline.arrRef spec0 w)) = V m c (Pipeline.arrRef spec0 w) :=
  (congrFun ((rdat m x hx c).ArrAt_in w hi _) _).mp ((h c).1 w)

/-- Every argument array ends as it was. -/
theorem final_args {r} (h : Pipeline.RDat.FramePost (cfgT (F := F) x hx) (fun c => rdat m x hx c) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  have e0 := V_keep m c main_arg0 (.inl rfl)
  have e1 := V_keep m c main_arg1 (.inr (.inl rfl))
  have e2 := V_keep m c main_arg2 (.inr (.inr (.inl rfl)))
  have e3 := V_keep m c main_arg3 (.inr (.inr (.inr (.inl rfl))))
  have e4 := V_keep m c main_arg4 (.inr (.inr (.inr (.inr (.inl rfl)))))
  rw [← e0, ← e1, ← e2, ← e3, ← e4]
  exact ⟨(h c).2 main_arg0 (Pipeline.mem_restRefs_of (win := spec0) main_arg0 (by decide) (by decide)),
    final_in m x hx h c 0 rfl, final_in m x hx h c 1 rfl, final_in m x hx h c 2 rfl, final_in m x hx h c 3 rfl⟩

end Final

end Cert.Kernel.Hand

end
-- ==== Proof.ExpertsValue.lean ====
/-
  What the experts' call leaves in its result: every row at its own expert's result, whatever order the items come in. By induction on
  the items: the item of a row writes it, and no later item of the same block touches it before the block is written back.
-/
module

public import proofs.«01_k».proof.Proof.ExpertsFrame
public import Idealize.ShloMosaic.Lib.Pipeline.ArrRel
public import Idealize.ShloMosaic.Lib.Pipeline.Value
public import Idealize.ShloMosaic.Lib.Pipeline.ValueKit.Geometry
public import Idealize.ShloMosaic.Lib.WordCmp

@[expose] public section

noncomputable section

namespace Cert.Kernel.Hand

open Cert.Kernel Cert.Kernel.Gen Cert.Tables Cert.Sched
open Idealize.ShloMosaic hiding ix0 ix1 ix2 ix3
open Idealize.ShloMosaic.ValueIdx Idealize.ShloMosaic.TcCoe Idealize.ShloMosaic.Tactic
open Idealize.SL Idealize.SL.Sem

variable {F : FTy → Type} [BitOps F] [∀ e, Nonempty (Elt F e)]

/-! ## The result's words -/

/-- Block `b` of 512 rows. -/
def blockAt (a : S32768x512.Idx → Elt F .i32) (b : Fin 64) : S512x512.Idx → Elt F .i32 :=
  fun q => a (ix2 ⟨512 * b.val + (q 0).val, by have h : (q 0).val < 512 := (q 0).isLt; have := b.isLt; show _ < 32768; omega⟩ (q 1))

/-- Expert `e`'s matrix out of the stack of 32. -/
def expertAt {n k : Nat} (a : (⟨3, ![32, n, k]⟩ : Shape).Idx → Elt F .f32) (e : Fin 32) : (⟨3, ![1, n, k]⟩ : Shape).Idx → Elt F .f32 :=
  fun q => a (ix3 e (q 1) (q 2))

/-- The block's result under expert `e`, as words. -/
def blockWords (a1 : S32768x512.Idx → Elt F .i32) (a2 a3 : S32x1024x256.Idx → Elt F .f32) (a4 : S32x256x1024.Idx → Elt F .f32)
    (b : Fin 64) (e : Fin 32) : S512x512.Idx → Elt F .i32 :=
  k0_pay1 (F := F) (blockAt a1 b) (expertAt a2 e) (expertAt a3 e) (expertAt a4 e)

/-- The expert of row `r`. -/
def ownerOf (x : IVec S32 32) (r : Nat) : Fin 32 := ⟨expOf (startOf x) r, expOf_lt r⟩

/-- The whole result: row `r` is row `r mod 512` of its block's result under its own expert. -/
def result (x : IVec S32 32) (a1 : S32768x512.Idx → Elt F .i32) (a2 a3 : S32x1024x256.Idx → Elt F .f32) (a4 : S32x256x1024.Idx → Elt F .f32) :
    S32768x512.Idx → Elt F .i32 :=
  fun p => blockWords a1 a2 a3 a4 ⟨(p 0).val / 512, by have h : (p 0).val < 32768 := (p 0).isLt; omega⟩ (ownerOf x (p 0).val)
    (ix2 ⟨(p 0).val % 512, Nat.mod_lt _ (by omega)⟩ (p 1))

/-! ## The mask -/

/-- The mask of an item: the rows from `lo` up to `hi`. -/
theorem mask_iff (a b : Nat) (ha : a ≤ 2 ^ 20) (hb : b ≤ 2 ^ 20) (p : S512x512.Idx) :
    (k0_cond1 (BitVec.ofNat 32 a) (BitVec.ofNat 32 b) = 1#1 ∧ k0_pay2 (F := F) (BitVec.ofNat 32 a) (BitVec.ofNat 32 b) p = 1#1)
      ↔ a ≤ (p 0).val ∧ (p 0).val < b := by
  have hp : (p 0).val < 512 := (p 0).isLt
  have h2 : k0_pay2 (F := F) (BitVec.ofNat 32 a) (BitVec.ofNat 32 b) p = BitVec.ofBool (decide (a ≤ (p 0).val ∧ (p 0).val < b)) := by
    unfold k0_pay2
    rw [shapeCast_self]
    show IntOp.andi (IntOp.cmpi .sge (iota .tc S512x512 32 [0] iota_S512x512_d0_w32 p) (BitVec.ofNat 32 a))
      (IntOp.cmpi .slt (iota .tc S512x512 32 [0] iota_S512x512_d0_w32 p) (BitVec.ofNat 32 b)) = _
    have hi : iota .tc S512x512 32 [0] iota_S512x512_d0_w32 p = BitVec.ofNat 32 (p 0).val := by
      rw [iota_single_apply]
    rw [hi, WordCmp.cmpi_sge_eq, WordCmp.cmpi_slt_eq, WordCmp.toInt_ofNat_of_lt (by omega), WordCmp.toInt_ofNat_of_lt (by omega),
      WordCmp.toInt_ofNat_of_lt (by omega), WordCmp.andi_ofBool]
    congr 1
    simp
  have h1 : k0_cond1 (BitVec.ofNat 32 a) (BitVec.ofNat 32 b) = BitVec.ofBool (decide (a < b)) := by
    have e : IntOp.cmpi .sgt (BitVec.ofNat 32 b) (BitVec.ofNat 32 a) = BitVec.ofBool (decide (a < b)) := by
      rw [WordCmp.cmpi_sgt_eq, WordCmp.toInt_ofNat_of_lt (by omega), WordCmp.toInt_ofNat_of_lt (by omega)]
      congr 1; simp
    show IntOp.cmpi .ne ((IntOp.cmpi .sgt (BitVec.ofNat 32 b) (BitVec.ofNat 32 a)).setWidth 32) 0#32 = _
    rw [e]
    by_cases h : a < b
    · rw [decide_eq_true h]; decide
    · rw [decide_eq_false h]; decide
  rw [h1, h2, WordCmp.ofBool_decide_eq_one_iff, WordCmp.ofBool_decide_eq_one_iff]
  constructor
  · exact fun h => h.2
  · exact fun h => ⟨by omega, h⟩

/-! ## The points -/

/-- The grid point of item `i`. -/
def pt (i : Fin 96) : Fin grid0.N := ⟨i.val, by rw [N_0]; exact i.isLt⟩

theorem item_pt (i : Fin 96) : itemOf (grid0.coords (pt i)) = i := by
  refine Fin.ext ?_
  have h := Pipeline.Grid.coords_val (G := grid0) (pt i) 0 (S := 1) (B := 96) (by decide) rfl
  show ((grid0.coords (pt i)) 0).val = i.val
  rw [h]
  have := i.isLt
  show i.val / 1 % 96 = i.val
  omega

section Run
variable (m : (ℓ : Loc nD τ sig) → Buf (Elt F) ℓ) (x : IVec S32 32) (hx : CntOk x) (c : Dev nD)

/-- The output window's block at item `i`'s point. -/
theorem index_out (i : Fin 96) : ((cfgT (F := F) x hx).win 4).index (pt i) = ![blkOf (cutOf x) i, 0] := by
  show cc0_transform_4 k0_off1_inb numel1_S1 (tabs (F := F) x) (grid0.coords (pt i)) = _
  rw [tr4_eq, blks_nat x hx]
  unfold blkN
  rw [item_pt]

/-- The output's block is written back at an item's point exactly if the item is the last one of its block. -/
theorem flush_out (i : Fin 96) : ((cfgT (F := F) x hx).win 4).flush (pt i) = true
    ↔ ∀ ht : i.val + 1 < 96, blkOf (cutOf x) ⟨i.val + 1, ht⟩ ≠ blkOf (cutOf x) i := by
  have hN : (grid0.N : Nat) = 96 := N_0
  have hix : ∀ h : i.val + 1 < 96, ((cfgT (F := F) x hx).win 4).index ⟨i.val + 1, by rw [hN]; exact h⟩ = ![blkOf (cutOf x) ⟨i.val + 1, h⟩, 0] :=
    fun h => index_out (F := F) x hx ⟨i.val + 1, h⟩
  have hi := index_out (F := F) x hx i
  unfold Pipeline.Window.flush
  rw [Bool.and_eq_true, Bool.or_eq_true, decide_eq_true_iff, decide_eq_true_iff]
  constructor
  · rintro ⟨-, h | ⟨h, hne⟩⟩ ht he
    · have h : i.val + 1 = grid0.N := h
      omega
    · have e1 := hix ht
      exact hne (e1.trans (by rw [he, hi]))
  · intro h
    refine ⟨rfl, ?_⟩
    by_cases ht : i.val + 1 < 96
    · refine .inr ⟨by show i.val + 1 < grid0.N; omega, fun he => h ht ?_⟩
      have := (hix ht).symm.trans (he.trans hi)
      exact congrFun this 0
    · refine .inl ?_
      show i.val + 1 = grid0.N
      have := i.isLt; omega

/-- Indices into a stack of 32 matrices are equal when their coordinates are. -/
theorem idx_ext3 {n k : Nat} (i j : (⟨3, ![32, n, k]⟩ : Shape).Idx) (h0 : (i 0).val = (j 0).val) (h1 : (i 1).val = (j 1).val)
    (h2 : (i 2).val = (j 2).val) : i = j := funext fun
  | ⟨0, _⟩ => Fin.ext h0
  | ⟨1, _⟩ => Fin.ext h1
  | ⟨2, _⟩ => Fin.ext h2

/-- The four inputs' blocks at item `i`'s point. -/
theorem blockIn_0 (i : Fin 96) : blockIn m x hx c 0 (pt i) = blockAt (m ((c : Thread nD τ).loc main_arg1)) ⟨blkOf (cutOf x) i, blkOf_lt i⟩ := by
  rw [← V_keep m c main_arg1 (.inr (.inl rfl))]
  refine funext fun q => congrArg (V m c main_arg1) (funext fun a => Fin.ext ?_)
  have h : cc0_transform_0 k0_off1_inb numel1_S1 (tabs (F := F) x) (grid0.coords (pt i)) = ![blkOf (cutOf x) i, 0] := by
    rw [tr0_eq, blks_nat x hx]; unfold blkN; rw [item_pt]
  match a with
  | ⟨0, _⟩ =>
    show cc0_transform_0 k0_off1_inb numel1_S1 (tabs (F := F) x) (grid0.coords (pt i)) 0 * 512 + 1 * (q 0).val = 512 * blkOf (cutOf x) i + (q 0).val
    rw [h]; show blkOf (cutOf x) i * 512 + 1 * (q 0).val = _; omega
  | ⟨1, _⟩ =>
    show cc0_transform_0 k0_off1_inb numel1_S1 (tabs (F := F) x) (grid0.coords (pt i)) 1 * 512 + 1 * (q 1).val = (q 1).val
    rw [h]; show 0 * 512 + 1 * (q 1).val = _; omega

theorem read_1 (i : Fin 96) (A : S32x1024x256.Idx → Elt F .f32) (e : Fin 32) (hx' : ((cfgT (F := F) x hx).win 1).index (pt i) = ![e.val, 0, 0]) :
    ((win0 (F := F) (adm x hx 0) 1).blk (pt i)).view.read (Elt F) A = expertAt (F := F) (n := 1024) (k := 256) A e := by
  refine funext fun q => congrArg A (idx_ext3 (n := 1024) (k := 256) _ _ ?_ ?_ ?_)
  · refine (Pipeline.Window.rect_emb_val ((cfgT (F := F) x hx).win 1) (pt i) q (0 : Fin 3) rfl).trans ?_
    have hq : (q (0 : Fin 3)).val = 0 := Nat.lt_one_iff.mp (q (0 : Fin 3)).isLt
    exact (congrArg₂ (fun a b : Nat => a * 1 + b) (congrFun hx' (0 : Fin 3)) hq).trans (Nat.mul_one e.val)
  · refine (Pipeline.Window.rect_emb_val ((cfgT (F := F) x hx).win 1) (pt i) q (1 : Fin 3) rfl).trans ?_
    rw [hx']
    exact (congrArg (· + (q (1 : Fin 3)).val) (Nat.zero_mul 1024)).trans (Nat.zero_add _)
  · refine (Pipeline.Window.rect_emb_val ((cfgT (F := F) x hx).win 1) (pt i) q (2 : Fin 3) rfl).trans ?_
    rw [hx']
    exact (congrArg (· + (q (2 : Fin 3)).val) (Nat.zero_mul 256)).trans (Nat.zero_add _)

theorem blockIn_1 (i : Fin 96) : blockIn m x hx c 1 (pt i) = expertAt (F := F) (n := 1024) (k := 256) (m ((c : Thread nD τ).loc main_arg2)) (ownerOf x (cutOf x i)) := by
  have h : cc0_transform_1 k0_off1_inb numel1_S1 (tabs (F := F) x) (grid0.coords (pt i)) = ![(ownerOf x (cutOf x i)).val, 0, 0] := by
    rw [tr1_eq, exps_nat x hx]; unfold expN ownerOf; rw [item_pt]
  have hk := V_keep m c main_arg2 (.inr (.inr (.inl rfl)))
  rw [← hk]
  exact read_1 x hx i (V m c main_arg2) _ h

theorem read_2 (i : Fin 96) (A : S32x1024x256.Idx → Elt F .f32) (e : Fin 32) (hx' : ((cfgT (F := F) x hx).win 2).index (pt i) = ![e.val, 0, 0]) :
    ((win0 (F := F) (adm x hx 0) 2).blk (pt i)).view.read (Elt F) A = expertAt (F := F) (n := 1024) (k := 256) A e := by
  refine funext fun q => congrArg A (idx_ext3 (n := 1024) (k := 256) _ _ ?_ ?_ ?_)
  · refine (Pipeline.Window.rect_emb_val ((cfgT (F := F) x hx).win 2) (pt i) q (0 : Fin 3) rfl).trans ?_
    have hq : (q (0 : Fin 3)).val = 0 := Nat.lt_one_iff.mp (q (0 : Fin 3)).isLt
    exact (congrArg₂ (fun a b : Nat => a * 1 + b) (congrFun hx' (0 : Fin 3)) hq).trans (Nat.mul_one e.val)
  · refine (Pipeline.Window.rect_emb_val ((cfgT (F := F) x hx).win 2) (pt i) q (1 : Fin 3) rfl).trans ?_
    rw [hx']
    exact (congrArg (· + (q (1 : Fin 3)).val) (Nat.zero_mul 1024)).trans (Nat.zero_add _)
  · refine (Pipeline.Window.rect_emb_val ((cfgT (F := F) x hx).win 2) (pt i) q (2 : Fin 3) rfl).trans ?_
    rw [hx']
    exact (congrArg (· + (q (2 : Fin 3)).val) (Nat.zero_mul 256)).trans (Nat.zero_add _)

theorem blockIn_2 (i : Fin 96) : blockIn m x hx c 2 (pt i) = expertAt (F := F) (n := 1024) (k := 256) (m ((c : Thread nD τ).loc main_arg3)) (ownerOf x (cutOf x i)) := by
  have h : cc0_transform_2 k0_off1_inb numel1_S1 (tabs (F := F) x) (grid0.coords (pt i)) = ![(ownerOf x (cutOf x i)).val, 0, 0] := by
    rw [tr2_eq, exps_nat x hx]; unfold expN ownerOf; rw [item_pt]
  have hk := V_keep m c main_arg3 (.inr (.inr (.inr (.inl rfl))))
  rw [← hk]
  exact read_2 x hx i (V m c main_arg3) _ h

theorem read_3 (i : Fin 96) (A : S32x256x1024.Idx → Elt F .f32) (e : Fin 32) (hx' : ((cfgT (F := F) x hx).win 3).index (pt i) = ![e.val, 0, 0]) :
    ((win0 (F := F) (adm x hx 0) 3).blk (pt i)).view.read (Elt F) A = expertAt (F := F) (n := 256) (k := 1024) A e := by
  refine funext fun q => congrArg A (idx_ext3 (n := 256) (k := 1024) _ _ ?_ ?_ ?_)
  · refine (Pipeline.Window.rect_emb_val ((cfgT (F := F) x hx).win 3) (pt i) q (0 : Fin 3) rfl).trans ?_
    have hq : (q (0 : Fin 3)).val = 0 := Nat.lt_one_iff.mp (q (0 : Fin 3)).isLt
    exact (congrArg₂ (fun a b : Nat => a * 1 + b) (congrFun hx' (0 : Fin 3)) hq).trans (Nat.mul_one e.val)
  · refine (Pipeline.Window.rect_emb_val ((cfgT (F := F) x hx).win 3) (pt i) q (1 : Fin 3) rfl).trans ?_
    rw [hx']
    exact (congrArg (· + (q (1 : Fin 3)).val) (Nat.zero_mul 256)).trans (Nat.zero_add _)
  · refine (Pipeline.Window.rect_emb_val ((cfgT (F := F) x hx).win 3) (pt i) q (2 : Fin 3) rfl).trans ?_
    rw [hx']
    exact (congrArg (· + (q (2 : Fin 3)).val) (Nat.zero_mul 1024)).trans (Nat.zero_add _)

theorem blockIn_3 (i : Fin 96) : blockIn m x hx c 3 (pt i) = expertAt (F := F) (n := 256) (k := 1024) (m ((c : Thread nD τ).loc main_arg4)) (ownerOf x (cutOf x i)) := by
  have h : cc0_transform_3 k0_off1_inb numel1_S1 (tabs (F := F) x) (grid0.coords (pt i)) = ![(ownerOf x (cutOf x i)).val, 0, 0] := by
    rw [tr3_eq, exps_nat x hx]; unfold expN ownerOf; rw [item_pt]
  have hk := V_keep m c main_arg4 (.inr (.inr (.inr (.inr (.inl rfl)))))
  rw [← hk]
  exact read_3 x hx i (V m c main_arg4) _ h

/-- What item `i` leaves in the output's block: its own rows at its expert's result, the others as found. -/
theorem after_out (i : Fin 96) (Y X : S512x512.Idx → Elt F .i32) (h : (rdat m x hx c).after 4 (pt i) Y X) (p : S512x512.Idx) :
    X p = if cutOf x i ≤ 512 * blkOf (cutOf x) i + (p 0).val ∧ 512 * blkOf (cutOf x) i + (p 0).val < endOf (cutOf x) i
      then blockWords (m ((c : Thread nD τ).loc main_arg1)) (m ((c : Thread nD τ).loc main_arg2)) (m ((c : Thread nD τ).loc main_arg3))
        (m ((c : Thread nD τ).loc main_arg4)) ⟨blkOf (cutOf x) i, blkOf_lt i⟩ (ownerOf x (cutOf x i)) p
      else Y p := by
  have h : X = stepOut (F := F) (wordAt (los x) (grid0.coords (pt i))) (wordAt (his x) (grid0.coords (pt i)))
      (blockIn m x hx c 0 (pt i)) (blockIn m x hx c 1 (pt i)) (blockIn m x hx c 2 (pt i)) (blockIn m x hx c 3 (pt i)) Y := h
  rw [h, los_at x hx, his_at x hx, item_pt]
  unfold stepOut
  have hb := blkOf_mul_le (c := cutOf x) i
  have hc := (sched x hx).c_le i
  have he := endOf_le (sched x hx) i
  have hl := le_endOf (sched x hx) i
  have hm := mask_iff (F := F) (cutOf x i - 512 * blkOf (cutOf x) i) (endOf (cutOf x) i - 512 * blkOf (cutOf x) i) (by omega) (by omega) p
  simp only [hm]
  rw [blockIn_0, blockIn_1, blockIn_2, blockIn_3]
  unfold blockWords
  by_cases hq : cutOf x i ≤ 512 * blkOf (cutOf x) i + (p 0).val ∧ 512 * blkOf (cutOf x) i + (p 0).val < endOf (cutOf x) i
  · rw [if_pos hq, if_pos (by omega)]
  · rw [if_neg hq, if_neg (by omega)]

/-- A row written by its item stays written until its block is written back. -/
theorem leaves_row (i : Fin 96) (r : Nat) (hr : r < 32768) (hi : Has (cutOf x) i r) (n : Nat) (hin : i.val ≤ n) :
    ∀ (hn : n < 96), blkOf (cutOf x) ⟨n, hn⟩ = r / 512 → ∀ X : S512x512.Idx → Elt F .i32, (rdat m x hx c).Leaves 4 (pt ⟨n, hn⟩) X →
      ∀ p : S512x512.Idx, (p 0).val = r % 512 →
        X p = blockWords (m ((c : Thread nD τ).loc main_arg1)) (m ((c : Thread nD τ).loc main_arg2)) (m ((c : Thread nD τ).loc main_arg3))
          (m ((c : Thread nD τ).loc main_arg4)) ⟨r / 512, by omega⟩ (ownerOf x r) p := by
  have hib := item_blk (sched x hx) hr hi
  have hie := item_exp (sched x hx) hi
  induction n, hin using Nat.le_induction with
  | base =>
    rintro hn hb X ⟨Y, -, hX⟩ p hp
    refine (after_out m x hx c i Y X hX p).trans ((if_pos (by rw [hib, hp]; have := hi.1; have := hi.2; omega)).trans ?_)
    have e1 : (⟨blkOf (cutOf x) i, blkOf_lt i⟩ : Fin 64) = ⟨r / 512, by omega⟩ := Fin.ext hib
    have e2 : ownerOf x (cutOf x i) = ownerOf x r := Fin.ext hie
    rw [e1, e2]
  | succ n hin ih =>
    rintro hn hb X ⟨Y, hY, hX⟩ p hp
    have hn' : n < 96 := by omega
    have hbn : blkOf (cutOf x) ⟨n, hn'⟩ = r / 512 := by
      rw [← hb]
      exact blk_between (sched x hx) (i := i) (t := ⟨n + 1, hn⟩) (Fin.le_def.mpr hin) (Fin.le_def.mpr (Nat.le_succ n)) (by rw [hib, hb])
    have hfl : ¬ ((cfgT (F := F) x hx).win 4).flush (pt ⟨n, hn'⟩) = true := by
      rw [flush_out]
      intro h
      exact h hn (by rw [hb, hbn])
    have hL : (rdat m x hx c).Leaves 4 (pt ⟨n, hn'⟩) Y :=
      (((rdat m x hx c).finds_of_pos (w := 4) (t := pt ⟨n + 1, hn⟩) rfl (Nat.succ_ne_zero n) Y).mp hY).resolve_left hfl
    refine (after_out m x hx c ⟨n + 1, hn⟩ Y X hX p).trans ((if_neg ?_).trans (ih hn' hbn Y hL p hp))
    rw [hb, hp]
    intro h
    have := item_unique (sched x hx) hi (j := ⟨n + 1, hn⟩) (r := r) ⟨by have := h.1; omega, by have := h.2; omega⟩
    have := congrArg Fin.val this
    simp only at this
    omega

end Run

end Cert.Kernel.Hand

end
-- ==== Proof.ExpertsFinal.lean ====
/-
  The experts' call's result array after the run: `result` of the arguments.
-/
module

public import proofs.«01_k».proof.Proof.ExpertsValue

@[expose] public section

noncomputable section

namespace Cert.Kernel.Hand

open Cert.Kernel Cert.Kernel.Gen Cert.Tables Cert.Sched
open Idealize.ShloMosaic hiding ix0 ix1 ix2 ix3
open Idealize.ShloMosaic.ValueIdx Idealize.ShloMosaic.TcCoe Idealize.ShloMosaic.Tactic
open Idealize.SL Idealize.SL.Sem

variable {F : FTy → Type} [BitOps F] [∀ e, Nonempty (Elt F e)]

/-- The result at an index given by its block and its place in the block. -/
theorem result_at (x : IVec S32 32) (a1 : S32768x512.Idx → Elt F .i32) (a2 a3 : S32x1024x256.Idx → Elt F .f32) (a4 : S32x256x1024.Idx → Elt F .f32)
    (p : S32768x512.Idx) (b : Fin 64) (q : S512x512.Idx) (h0 : (p 0).val = 512 * b.val + (q 0).val) (h1 : (p 1).val = (q 1).val) :
    result x a1 a2 a3 a4 p = blockWords a1 a2 a3 a4 b (ownerOf x (512 * b.val + (q 0).val)) q := by
  have hq : (q 0).val < 512 := (q 0).isLt
  unfold result
  have hb : (⟨(p 0).val / 512, by have h : (p 0).val < 32768 := (p 0).isLt; omega⟩ : Fin 64) = b := Fin.ext (by show (p 0).val / 512 = b.val; omega)
  have hi : (ix2 (⟨(p 0).val % 512, Nat.mod_lt _ (by omega)⟩ : Fin 512) (p 1) : S512x512.Idx) = q := funext fun
    | ⟨0, _⟩ => Fin.ext (by show (p 0).val % 512 = (q 0).val; omega)
    | ⟨1, _⟩ => Fin.ext h1
  rw [hb, hi, h0]

/-- The last item of a block that is not empty. -/
theorem exists_last (x : IVec S32 32) (b : Nat) (i : Fin 96) (hi : blkOf (cutOf x) i = b) :
    ∃ t : Fin 96, blkOf (cutOf x) t = b ∧ ∀ ht : t.val + 1 < 96, blkOf (cutOf x) ⟨t.val + 1, ht⟩ ≠ blkOf (cutOf x) t := by
  obtain ⟨t, ht, hmax⟩ := Finset.exists_max_image (Finset.univ.filter fun t : Fin 96 => blkOf (cutOf x) t = b) (fun t => t.val)
    ⟨i, Finset.mem_filter.mpr ⟨Finset.mem_univ _, hi⟩⟩
  have hb := (Finset.mem_filter.mp ht).2
  refine ⟨t, hb, fun hn he => ?_⟩
  have := hmax ⟨t.val + 1, hn⟩ (Finset.mem_filter.mpr ⟨Finset.mem_univ _, he.trans hb⟩)
  simp only at this
  omega

section Run
variable (m : (ℓ : Loc nD τ sig) → Buf (Elt F) ℓ) (x : IVec S32 32) (hx : CntOk x)

/-- The place of a block's element in the result. -/
theorem emb_out_0 (i : Fin 96) (y : (((cfgT (F := F) x hx).win 4).xblock (grid0.coords (pt i))).Idx) :
    ((((cfgT (F := F) x hx).win 4).blk (pt i)).view.emb y (0 : Fin 2)).val = 512 * blkOf (cutOf x) i + (y (0 : Fin 2)).val := by
  refine (Pipeline.Window.rect_emb_val ((cfgT (F := F) x hx).win 4) (pt i) y (0 : Fin 2) rfl).trans ?_
  rw [index_out]
  show blkOf (cutOf x) i * 512 + (y (0 : Fin 2)).val = _
  omega

theorem emb_out_1 (i : Fin 96) (y : (((cfgT (F := F) x hx).win 4).xblock (grid0.coords (pt i))).Idx) :
    ((((cfgT (F := F) x hx).win 4).blk (pt i)).view.emb y (1 : Fin 2)).val = (y (1 : Fin 2)).val := by
  refine (Pipeline.Window.rect_emb_val ((cfgT (F := F) x hx).win 4) (pt i) y (1 : Fin 2) rfl).trans ?_
  rw [index_out]
  show 0 * 512 + (y (1 : Fin 2)).val = _
  omega

/-- After the run the result array holds `result` of the arguments. -/
theorem final_out {r} (h : Pipeline.RDat.FramePost (cfgT (F := F) x hx) (fun c => rdat m x hx c) (V m) r) (c : Dev nD) :
    r.2.mem ((c : Thread nD τ).loc main_v29) = result x (m ((c : Thread nD τ).loc main_arg1)) (m ((c : Thread nD τ).loc main_arg2))
      (m ((c : Thread nD τ).loc main_arg3)) (m ((c : Thread nD τ).loc main_arg4)) := by
  obtain ⟨after, hL, hA⟩ := Pipeline.RDat.FramePost.exists_exact h c
  refine (hA 4).trans (Pipeline.Dat.arrAt_eq_of_emb _ 4 _ ?_ ?_)
  · intro t hf y
    obtain ⟨i, rfl⟩ : ∃ i : Fin 96, t = pt i := ⟨⟨t.val, by exact lt_of_lt_of_eq (show t.val < grid0.N from t.isLt) N_0⟩, rfl⟩
    have hlast := (flush_out (F := F) x hx i).mp hf
    have hy : (y (0 : Fin 2)).val < 512 := (y (0 : Fin 2)).isLt
    have hb := blkOf_lt (c := cutOf x) i
    set r := 512 * blkOf (cutOf x) i + (y (0 : Fin 2)).val with hrd
    have hr : r < 32768 := by omega
    have hdiv : r / 512 = blkOf (cutOf x) i := by omega
    obtain ⟨k, hk⟩ := exists_item (sched x hx) hr
    have hki := item_le_of_last (sched x hx) hr hk (t := i) hdiv.symm hlast
    have hrow := leaves_row m x hx c k r hr hk i.val (Fin.le_def.mp hki) i.isLt hdiv.symm _ (hL 4 (pt i) hf) y (by show (y (0 : Fin 2)).val = r % 512; omega)
    refine Eq.trans hrow (Eq.symm ?_)
    refine (result_at x _ _ _ _ _ ⟨blkOf (cutOf x) i, hb⟩ y (emb_out_0 x hx i y) (emb_out_1 x hx i y)).trans ?_
    have e : (⟨blkOf (cutOf x) i, hb⟩ : Fin 64) = ⟨r / 512, by omega⟩ := Fin.ext hdiv.symm
    rw [e]
    exact congrArg (fun n => blockWords _ _ _ _ _ (ownerOf x n) _) (by show 512 * (r / 512) + _ = r; rw [hdiv])
  · intro p
    have hp : (p (0 : Fin 2)).val < 32768 := (p (0 : Fin 2)).isLt
    have hp1 : (p (1 : Fin 2)).val < 512 := (p (1 : Fin 2)).isLt
    obtain ⟨k, hk⟩ := exists_item (sched x hx) hp
    obtain ⟨t, htb, hlast⟩ := exists_last x _ k (item_blk (sched x hx) hp hk)
    refine ⟨pt t, (flush_out (F := F) x hx t).mpr hlast, ?_⟩
    refine (Pipeline.Window.emb_mem_blk_iff ((cfgT (F := F) x hx).win 4) (pt t) p rfl).mpr fun a => ?_
    rw [index_out, htb]
    match a with
    | ⟨0, _⟩ =>
      show (p (0 : Fin 2)).val / 512 * 512 ≤ (p (0 : Fin 2)).val ∧ (p (0 : Fin 2)).val < (p (0 : Fin 2)).val / 512 * 512 + 512
      omega
    | ⟨1, _⟩ =>
      show 0 * 512 ≤ (p (1 : Fin 2)).val ∧ (p (1 : Fin 2)).val < 0 * 512 + 512
      omega

end Run

end Cert.Kernel.Hand

end
-- ==== Proof.DenseBody.lean ====
/-
  The reference's kernel body: every expert over every block of 512 rows, a row kept at its own expert. One pass of the inner loop as
  a triple, and the two loops by one invariant: the rows whose block is done, or whose expert has had its turn, hold the result.
-/
module

public import proofs.«01_k».proof.Proof.Gen.Reference.Skeleton
public import proofs.«01_k».proof.Proof.ExpertsValue
public import Idealize.ShloMosaic.Lib.Exec
public import Idealize.ShloMosaic.Lib.Tactic
public import Idealize.ShloMosaic.Lib.Pipeline.Kit

@[expose] public section

noncomputable section

namespace Cert.Reference.Hand

open Cert.Reference Cert.Reference.Gen Cert.Tables Cert.Sched
open Cert.Kernel.Hand (ownerOf blockAt expertAt blockWords result)
open Idealize.ShloMosaic hiding ix0 ix1 ix2 ix3
open Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

/-! ## One pass -/

theorem iv_eq : ∀ e : Fin k0_t2_loop.trips, Scf.iv 0#32 1#32 e = BitVec.ofNat 32 e.val := by decide +kernel
theorem trips1 : k0_t1_loop.trips = 64 := by decide
theorem trips2 : k0_t2_loop.trips = 32 := by decide

/-- A pass's words: the expert's result in its own rows, what was found in the others. -/
theorem pay_eq (e : Fin k0_t2_loop.trips) (v5 : Vec F S512x512 .i32) (v14 v18 : Vec F S1x1024x256 .f32) (v25 : Vec F S1x256x1024 .f32)
    (v32 : Vec F S512x1 .i32) (v42 : Vec F S512x512 .i32) (q : S512x512.Idx) :
    k0_pay1 (F := F) 0#32 1#32 e v5 v14 v18 v25 v32 v42 q
      = if v32 (ix2 (q 0) (0 : Fin 1)) = BitVec.ofNat 32 e.val then Cert.Kernel.Gen.k0_pay1 (F := F) v5 v14 v18 v25 q else v42 q := by
  unfold k0_pay1 Cert.Kernel.Gen.k0_pay1
  simp only [shapeCast_self]
  rw [iv_eq]
  have hm : ∀ x : IVec S512x1 1, broadcastTo S512x512 x broadcasts_S512x1_S512x512 q = x (ix2 (q 0) (0 : Fin 1)) := fun x =>
    broadcastTo_apply x broadcasts_S512x1_S512x512 q (ix2 (q 0) (0 : Fin 1)) fun a => by
      match a with
      | ⟨0, _⟩ => rfl
      | ⟨1, _⟩ => rfl
  rw [select_apply, hm]
  by_cases h : v32 (ix2 (q 0) (0 : Fin 1)) = BitVec.ofNat 32 e.val
  · rw [if_pos h]
    have hc : cmpi .eq v32 (broadcast S512x1 (BitVec.ofNat 32 e.val)) (ix2 (q 0) (0 : Fin 1)) = 1#1 := by
      show IntOp.cmpi .eq (v32 (ix2 (q 0) (0 : Fin 1))) (BitVec.ofNat 32 e.val) = 1#1
      rw [h]; simp [IntOp.cmpi]
    rw [hc]; rfl
  · rw [if_neg h]
    have hc : cmpi .eq v32 (broadcast S512x1 (BitVec.ofNat 32 e.val)) (ix2 (q 0) (0 : Fin 1)) = 0#1 := by
      show IntOp.cmpi .eq (v32 (ix2 (q 0) (0 : Fin 1))) (BitVec.ofNat 32 e.val) = 0#1
      simp only [IntOp.cmpi, beq_false_of_ne h]; rfl
    rw [hc]; rfl

/-- Block `b` of the owners' column. -/
def ownAt (o : S32768x1.Idx → Elt F .i32) (b : Fin 64) : S512x1.Idx → Elt F .i32 :=
  fun q => o (ix2 ⟨512 * b.val + (q 0).val, by have h : (q 0).val < 512 := (q 0).isLt; have := b.isLt; show _ < 32768; omega⟩ (0 : Fin 1))

variable (o : Vec F S32768x1 .i32) (x : Vec F S32768x512 .i32) (wg wu : Vec F S32x1024x256 .f32) (wd : Vec F S32x256x1024 .f32)

/-- What a pass leaves of the whole result. -/
def pass (b : Fin 64) (e : Fin 32) (y : Vec F S32768x512 .i32) : Vec F S32768x512 .i32 := fun p =>
  if (p 0).val / 512 = b.val then
    if o (ix2 (p 0) (0 : Fin 1)) = BitVec.ofNat 32 e.val then
      blockWords x wg wu wd b e (ix2 ⟨(p 0).val % 512, Nat.mod_lt _ (by omega)⟩ (p 1))
    else y p
  else y p

theorem load_block {M : Memref sig .tc .vmem S32768x512 .i32} (b : Fin k0_t1_loop.trips) (f : M.view.ty.Contents (Elt F)) :
    M.view.readAt (Elt F) (Rect.unit (s := S32768x512) (k0_off1 b) S512x512.size (k0_off1_inb b)).toLoadRect f
      = blockAt (M.view.read (Elt F) f) (b.cast trips1) := funext fun q => by
  refine congrArg (M.view.read (Elt F) f) (funext fun a => Fin.ext ?_)
  have hoff := k0_off1_eq b
  match a with
  | ⟨0, _⟩ => have h : k0_off1 b 0 = 512 * b.val := congrFun hoff 0; show k0_off1 b 0 + 1 * (q 0).val = 512 * b.val + (q 0).val; omega
  | ⟨1, _⟩ => have h : k0_off1 b 1 = 0 := congrFun hoff 1; show k0_off1 b 1 + 1 * (q 1).val = (q 1).val; omega
theorem load_own {M : Memref sig .tc .vmem S32768x1 .i32} (b : Fin k0_t1_loop.trips) (f : M.view.ty.Contents (Elt F)) :
    M.view.readAt (Elt F) (Rect.unit (s := S32768x1) (k0_off4 b) S512x1.size (k0_off4_inb b)).toLoadRect f
      = ownAt (M.view.read (Elt F) f) (b.cast trips1) := funext fun q => by
  refine congrArg (M.view.read (Elt F) f) (funext fun a => Fin.ext ?_)
  have hoff := k0_off4_eq b
  match a with
  | ⟨0, _⟩ => have h : k0_off4 b 0 = 512 * b.val := congrFun hoff 0; show k0_off4 b 0 + 1 * (q 0).val = 512 * b.val + (q 0).val; omega
  | ⟨1, _⟩ =>
    have h : (q 1).val < 1 := (q 1).isLt
    have h' : k0_off4 b 1 = 0 := congrFun hoff 1
    show k0_off4 b 1 + 1 * (q 1).val = 0; omega
theorem load_in {M : Memref sig .tc .vmem S32x1024x256 .f32} (e : Fin k0_t2_loop.trips) (f : M.view.ty.Contents (Elt F)) :
    M.view.readAt (Elt F) (Rect.unit (s := S32x1024x256) (k0_off2 e) S1x1024x256.size (k0_off2_inb e)).toLoadRect f
      = expertAt (n := 1024) (k := 256) (M.view.read (Elt F) f) (e.cast trips2) := funext fun q => by
  refine congrArg (M.view.read (Elt F) f) (funext fun a => Fin.ext ?_)
  have hoff := k0_off2_eq e
  match a with
  | ⟨0, _⟩ =>
    have h : (q 0).val < 1 := (q 0).isLt
    have h' : k0_off2 e 0 = e.val := congrFun hoff 0
    show k0_off2 e 0 + 1 * (q 0).val = e.val; omega
  | ⟨1, _⟩ => have h : k0_off2 e 1 = 0 := congrFun hoff 1; show k0_off2 e 1 + 1 * (q 1).val = (q 1).val; omega
  | ⟨2, _⟩ => have h : k0_off2 e 2 = 0 := congrFun hoff 2; show k0_off2 e 2 + 1 * (q 2).val = (q 2).val; omega
theorem load_down {M : Memref sig .tc .vmem S32x256x1024 .f32} (e : Fin k0_t2_loop.trips) (f : M.view.ty.Contents (Elt F)) :
    M.view.readAt (Elt F) (Rect.unit (s := S32x256x1024) (k0_off3 e) S1x256x1024.size (k0_off3_inb e)).toLoadRect f
      = expertAt (n := 256) (k := 1024) (M.view.read (Elt F) f) (e.cast trips2) := funext fun q => by
  refine congrArg (M.view.read (Elt F) f) (funext fun a => Fin.ext ?_)
  have hoff := k0_off3_eq e
  match a with
  | ⟨0, _⟩ =>
    have h : (q 0).val < 1 := (q 0).isLt
    have h' : k0_off3 e 0 = e.val := congrFun hoff 0
    show k0_off3 e 0 + 1 * (q 0).val = e.val; omega
  | ⟨1, _⟩ => have h : k0_off3 e 1 = 0 := congrFun hoff 1; show k0_off3 e 1 + 1 * (q 1).val = (q 1).val; omega
  | ⟨2, _⟩ => have h : k0_off3 e 2 = 0 := congrFun hoff 2; show k0_off3 e 2 + 1 * (q 2).val = (q 2).val; omega

/-- The store of a block, read back. -/
theorem store_block {M : Memref sig .tc .vmem S32768x512 .i32} (b : Fin k0_t1_loop.trips) (f : M.view.ty.Contents (Elt F)) (w : S512x512.Idx → Elt F .i32)
    (p : S32768x512.Idx) :
    M.view.read (Elt F) ((M.access (Rect.unit (s := S32768x512) (k0_off1 b) S512x512.size (k0_off1_inb b))).write (Elt F) f w Finset.univ) p
      = if (p 0).val / 512 = b.val then w (ix2 ⟨(p 0).val % 512, Nat.mod_lt _ (by omega)⟩ (p 1)) else M.view.read (Elt F) f p := by
  by_cases h : (p 0).val / 512 = b.val
  · rw [if_pos h]
    have := View.read_slice_write_emb (Val := Elt F) (v := M.view) (Rect.unit (s := S32768x512) (k0_off1 b) S512x512.size (k0_off1_inb b)) f w
      (M := Finset.univ) (x := (ix2 ⟨(p 0).val % 512, Nat.mod_lt _ (by omega)⟩ (p 1) : S512x512.Idx)) (Finset.mem_univ _)
    refine Eq.trans (congrArg _ (funext fun a => Fin.ext ?_)) this
    match a with
    | ⟨0, _⟩ =>
      have h' : k0_off1 b 0 = 512 * b.val := congrFun (k0_off1_eq b) 0
      show (p 0).val = k0_off1 b 0 + 1 * ((p 0).val % 512); omega
    | ⟨1, _⟩ =>
      have h' : k0_off1 b 1 = 0 := congrFun (k0_off1_eq b) 1
      show (p 1).val = k0_off1 b 1 + 1 * (p 1).val; omega
  · rw [if_neg h]
    refine View.read_slice_write_of_not_mem (Val := Elt F) (v := M.view) (Rect.unit (s := S32768x512) (k0_off1 b) S512x512.size (k0_off1_inb b)) f w Finset.univ ?_
    intro hm
    obtain ⟨z, -, hzp⟩ := Finset.mem_map.mp hm
    have h0 : k0_off1 b 0 + 1 * (z 0).val = (p 0).val := congrArg (fun k : S32768x512.Idx => (k 0).val) hzp
    have h' : k0_off1 b 0 = 512 * b.val := congrFun (k0_off1_eq b) 0
    have hz : (z 0).val < 512 := (z 0).isLt
    omega

section Wp
variable (c : Dev nD) (arg0 : Memref sig .tc .vmem S32768x1 .i32) (harg0 : arg0.IsWhole) (arg1 : Memref sig .tc .vmem S32768x512 .i32) (harg1 : arg1.IsWhole)
  (arg2 : Memref sig .tc .vmem S32x1024x256 .f32) (harg2 : arg2.IsWhole) (arg3 : Memref sig .tc .vmem S32x1024x256 .f32) (harg3 : arg3.IsWhole)
  (arg4 : Memref sig .tc .vmem S32x256x1024 .f32) (harg4 : arg4.IsWhole) (arg5 : Memref sig .tc .vmem S32768x512 .i32) (harg5 : arg5.IsWhole)

/-- The six buffers, the result's at `y`. -/
abbrev held (y : Vec F S32768x512 .i32) : sProp 𝕄 :=
  iprop(owns (c : Thread nD τ) arg0 fullShare o ∗ owns (c : Thread nD τ) arg1 fullShare x ∗ owns (c : Thread nD τ) arg2 fullShare wg
    ∗ owns (c : Thread nD τ) arg3 fullShare wu ∗ owns (c : Thread nD τ) arg4 fullShare wd ∗ owns (c : Thread nD τ) arg5 fullShare y)

theorem passRun (b : Fin k0_t1_loop.trips) (v2 : BitVec 32) (e : Fin k0_t2_loop.trips) (u : Unit) (y : Vec F S32768x512 .i32) :
    held o x wg wu wd c arg0 arg1 arg2 arg3 arg4 arg5 y
      ⊢ wp frame (wpE (defs₀ (F := F)) Variants.none c none) Set.univ
          (k0_t2_body (F := F) arg0 harg0 arg1 harg1 arg2 harg2 arg3 harg3 arg4 harg4 arg5 harg5 b v2 e u)
          (fun _ => held o x wg wu wd c arg0 arg1 arg2 arg3 arg4 arg5 (pass o x wg wu wd (b.cast trips1) (e.cast trips2) y)) := by
  unfold k0_t2_body
  rw [k0_part1_eq_skeleton]; unfold k0_part1_skel
  unfold held owns
  iintro ⟨⟨%f0, %h0, H0⟩, ⟨%f1, %h1, H1⟩, ⟨%f2, %h2, H2⟩, ⟨%f3, %h3, H3⟩, ⟨%f4, %h4, H4⟩, ⟨%f5, %h5, H5⟩⟩
  sl_exec
  sl_step
  isplitl [H0]; · iexists _; isplitr; swap; · iexact H0
                  ipureintro; exact h0
  isplitl [H1]; · iexists _; isplitr; swap; · iexact H1
                  ipureintro; exact h1
  isplitl [H2]; · iexists _; isplitr; swap; · iexact H2
                  ipureintro; exact h2
  isplitl [H3]; · iexists _; isplitr; swap; · iexact H3
                  ipureintro; exact h3
  isplitl [H4]; · iexists _; isplitr; swap; · iexact H4
                  ipureintro; exact h4
  iexists _; isplitr; swap; · iexact H5
  ipureintro
  rw [load_block, load_block, load_own, load_in, load_in, load_down, h0, h1, h2, h3, h4, h5]
  funext p
  refine (store_block b f5 _ p).trans ?_
  unfold pass
  rw [h5]
  by_cases h : (p 0).val / 512 = b.val
  · have hc : (p 0).val / 512 = (b.cast trips1).val := h
    rw [if_pos h, if_pos hc]
    refine (pay_eq e _ _ _ _ _ _ _).trans ?_
    have e1 : ownAt o (b.cast trips1) (ix2 ((ix2 ⟨(p 0).val % 512, Nat.mod_lt _ (by omega)⟩ (p 1) : S512x512.Idx) 0) (0 : Fin 1)) = o (ix2 (p 0) (0 : Fin 1)) := by
      refine congrArg o (funext fun a => Fin.ext ?_)
      match a with
      | ⟨0, _⟩ => show 512 * b.val + (p 0).val % 512 = (p 0).val; omega
      | ⟨1, _⟩ => rfl
    have e2 : blockAt y (b.cast trips1) (ix2 ⟨(p 0).val % 512, Nat.mod_lt _ (by omega)⟩ (p 1) : S512x512.Idx) = y p := by
      refine congrArg y (funext fun a => Fin.ext ?_)
      match a with
      | ⟨0, _⟩ => show 512 * b.val + (p 0).val % 512 = (p 0).val; omega
      | ⟨1, _⟩ => rfl
    rw [e1, e2]
    rfl
  · have hc : ¬ (p 0).val / 512 = (b.cast trips1).val := h
    rw [if_neg h, if_neg hc]

/-! ## The two loops -/

variable (cnts : IVec Cert.Kernel.S32 32)

/-- The rows before block `b`, and those of block `b` whose expert is before `e`, hold the result. -/
def Done (b e : Nat) (y : Vec F S32768x512 .i32) : Prop :=
  ∀ p : S32768x512.Idx, ((p 0).val / 512 < b ∨ ((p 0).val / 512 = b ∧ (ownerOf cnts (p 0).val).val < e)) → y p = result cnts x wg wu wd p

theorem done_next {b : Nat} {y : Vec F S32768x512 .i32} (h : Done x wg wu wd cnts b 32 y) : Done x wg wu wd cnts (b + 1) 0 y := fun p hp => by
  have := (ownerOf cnts (p 0).val).isLt
  exact h p (by omega)

theorem done_pass (ho : ∀ p : S32768x512.Idx, o (ix2 (p 0) (0 : Fin 1)) = BitVec.ofNat 32 (ownerOf cnts (p 0).val).val) {b : Fin 64} {e : Fin 32} {y : Vec F S32768x512 .i32}
    (h : Done x wg wu wd cnts b.val e.val y) : Done x wg wu wd cnts b.val (e.val + 1) (pass o x wg wu wd b e y) := fun p hp => by
  have hw := (ownerOf cnts (p 0).val).isLt
  unfold pass
  by_cases hb : (p 0).val / 512 = b.val
  · rw [if_pos hb, ho]
    by_cases he : (ownerOf cnts (p 0).val).val = e.val
    · rw [if_pos (congrArg _ he)]
      unfold result
      have e1 : (⟨(p 0).val / 512, by have h : (p 0).val < 32768 := (p 0).isLt; omega⟩ : Fin 64) = b := Fin.ext hb
      have e2 : ownerOf cnts (p 0).val = e := Fin.ext he
      rw [e1, e2]
    · rw [if_neg fun h' => he (by
        have := congrArg BitVec.toNat h'
        rw [BitVec.toNat_ofNat, BitVec.toNat_ofNat, Nat.mod_eq_of_lt (by omega), Nat.mod_eq_of_lt (by omega)] at this
        exact this)]
      exact h p (by omega)
  · rw [if_neg hb]
    exact h p (by omega)

variable (ho : ∀ p : S32768x512.Idx, o (ix2 (p 0) (0 : Fin 1)) = BitVec.ofNat 32 (ownerOf cnts (p 0).val).val)

/-- Before expert `e` of block `b`. -/
def inv (b e : Nat) : sProp 𝕄 :=
  iprop(∃ y, held o x wg wu wd c arg0 arg1 arg2 arg3 arg4 arg5 y ∗ ⌜Done x wg wu wd cnts b e y⌝)

include ho in
theorem inner (b : Fin k0_t1_loop.trips) (v2 : BitVec 32) :
    inv o x wg wu wd c arg0 arg1 arg2 arg3 arg4 arg5 cnts b.val 0
      ⊢ wp frame (wpE (defs₀ (F := F)) Variants.none c none) Set.univ
          (k0_t1_body (F := F) arg0 harg0 arg1 harg1 arg2 harg2 arg3 harg3 arg4 harg4 arg5 harg5 b ⟨⟩)
          (fun _ => inv o x wg wu wd c arg0 arg1 arg2 arg3 arg4 arg5 cnts (b.val + 1) 0) := by
  unfold k0_t1_body
  iintro HI
  iapply (Scf.wp_for_bind frame (wpE (defs₀ (F := F)) Variants.none c none) Set.univ _ _ _ k0_t2_ok ⟨⟩ _
    (fun e _ => inv o x wg wu wd c arg0 arg1 arg2 arg3 arg4 arg5 cnts b.val e) (fun e u => by
      unfold inv
      iintro ⟨%y, H, %hd⟩
      iapply (wp_wand_r Idealize.ShloMosaic.frame (wpE (defs₀ (F := F)) Variants.none (c : Thread nD τ) none) Set.univ)
      isplitl [H]
      · iapply (passRun o x wg wu wd c arg0 harg0 arg1 harg1 arg2 harg2 arg3 harg3 arg4 harg4 arg5 harg5 b _ e u y) $$ H
      · iintro %_ H
        iexists _
        isplitl [H]; · iexact H
        ipureintro
        exact done_pass o x wg wu wd cnts ho (b := b.cast trips1) (e := e.cast trips2) hd)) $$ [HI]
  · iexact HI
  iintro %_ HI
  sl_step
  rw [show Scf.trips k0_t2_loop.lb k0_t2_loop.ub k0_t2_loop.st = 32 from trips2]
  unfold inv
  icases HI with ⟨%y, H, %hd⟩
  iexists y
  isplitl [H]; · iexact H
  ipureintro
  exact done_next x wg wu wd cnts hd

include ho in
/-- The body leaves the result. -/
theorem bodyRun (y : Vec F S32768x512 .i32) (K : PUnit → sProp 𝕄) :
    iprop(held o x wg wu wd c arg0 arg1 arg2 arg3 arg4 arg5 y
        ∗ (held o x wg wu wd c arg0 arg1 arg2 arg3 arg4 arg5 (result cnts x wg wu wd) -∗ K ⟨⟩))
      ⊢ wp frame (wpE (defs₀ (F := F)) Variants.none c none) Set.univ
          (cc0__dense_experts (F := F) arg0 harg0 arg1 harg1 arg2 harg2 arg3 harg3 arg4 harg4 arg5 harg5) K := by
  simp only [cc0__dense_experts_eq_skeleton]; unfold cc0__dense_experts_skel
  iintro ⟨H, HK⟩
  iapply (Scf.wp_for_bind frame (wpE (defs₀ (F := F)) Variants.none c none) Set.univ _ _ _ k0_t1_ok ⟨⟩ _
    (fun b _ => inv o x wg wu wd c arg0 arg1 arg2 arg3 arg4 arg5 cnts b 0)
    (fun b u => inner o x wg wu wd c arg0 harg0 arg1 harg1 arg2 harg2 arg3 harg3 arg4 harg4 arg5 harg5 cnts ho b 0#32)) $$ [H]
  · unfold inv
    iexists y
    isplitl [H]; · iexact H
    ipureintro
    exact fun p hp => absurd hp (by omega)
  iintro %_ HI
  sl_step
  rw [show Scf.trips k0_t1_loop.lb k0_t1_loop.ub k0_t1_loop.st = 64 from trips1]
  unfold inv
  icases HI with ⟨%y', H, %hd⟩
  have e : y' = result cnts x wg wu wd := funext fun p => hd p (.inl (by
    have h : (p 0).val < 32768 := (p 0).isLt
    omega))
  rw [e]
  iapply HK $$ H

end Wp

end Cert.Reference.Hand

end
-- ==== Proof.DenseRun.lean ====
/-
  The reference's run: the host's column of owners is each row's expert, the call leaves the result, every argument array ends as it
  was.
-/
module

public import proofs.«01_k».proof.Proof.DenseBody
public import proofs.«01_k».proof.Proof.Gen.Reference.Launch
public import Idealize.ShloMosaic.Lib.StableHlo.RunRead
public import Idealize.ShloMosaic.Lib.Pipeline.Frame
public import Idealize.ShloMosaic.Lib.Pipeline.FrameBody
public import Idealize.ShloMosaic.Lib.Pipeline.ArrRel

@[expose] public section

noncomputable section

namespace Cert.Reference.Hand

open Cert.Reference Cert.Reference.Gen Cert.Tables Cert.Sched
open Cert.Kernel.Hand (ownerOf blockAt expertAt blockWords result sched)
open Idealize.ShloMosaic hiding ix0 ix1 ix2 ix3
open Idealize.ShloMosaic.ValueIdx Idealize.ShloMosaic.Routing Idealize.ShloMosaic.WordCmp Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

/-! ## The host -/

/-- The owners' column from the experts' first rows. -/
def owners (s : IVec S32 32) : IVec S32768x1 32 :=
  subi (broadcastInDim S32768x1 ![0] bcast_S32768_S32768x1_0 (Host.reduce IntOp.addi (extui 32
      (cmpi .sle (broadcastInDim S32768x32 ![0, 1] bcast_S1x32_S32768x32_0_1 (broadcastInDim S1x32 ![1] bcast_S32_S1x32_1 s)) (iotaInDim S32768x32 32 0)) natLt_1_32)
      (constantI S_ 32 0#32) reducesTo_S32768x32_S32768_d1 h_S_))
    (broadcastInDim S32768x1 ![] bcast_S_S32768x1 (constantI S_ 32 1#32))

/-- The owner of a row is its expert. -/
theorem owners_ap (x : IVec S32 32) (hx : CntOk x) (i : Fin 32768) :
    owners (startsV bcast_S_S_ reduceWindows_S32_S32_w32s1p31_0 h_S_ x) (ix2 i (0 : Fin 1)) = BitVec.ofNat 32 (ownerOf x i.val).val := by
  have hs := sched x hx
  have hcnt := reduce_count (n := 32768) (m := 32) (by norm_num)
    (cmpi .sle (broadcastInDim (shape2 32768 32) ![0, 1] bcast_S1x32_S32768x32_0_1 (broadcastInDim (shape2 1 32) ![1] bcast_S32_S1x32_1
        (startsV bcast_S_S_ reduceWindows_S32_S32_w32s1p31_0 h_S_ x))) (iotaInDim (shape2 32768 32) 32 0))
    natLt_1_32 reducesTo_S32768x32_S32768_d1 h_S_ i (fun e => Cert.Kernel.Hand.startOf x e ≤ i.val)
    (fun q => by
      show IntOp.cmpi .sle (broadcastInDim (shape2 32768 32) ![0, 1] bcast_S1x32_S32768x32_0_1 (broadcastInDim (shape2 1 32) ![1] bcast_S32_S1x32_1
        (startsV bcast_S_S_ reduceWindows_S32_S32_w32s1p31_0 h_S_ x)) (ix2 i q)) (BitVec.ofNat 32 i.val) = 1#1 ↔ _
      have hbq : sumTo (cnt x) q.val ≤ 2 ^ 20 := hs.bound q.val q.isLt
      have hi := i.isLt
      rw [bcCols, startsV_ap _ _ _ x hx q, cmpi_sle_ofNat (w := 32) (by omega) (by omega)]
      show BitVec.ofBool (decide (Cert.Kernel.Hand.startOf x q.val ≤ i.val)) = 1#1 ↔ _
      by_cases h : Cert.Kernel.Hand.startOf x q.val ≤ i.val <;> simp [h])
  have hpos := count_pos hs i.val
  unfold owners ownerOf expOf
  refine (congrArg₂ (· - ·) ((bcCol bcast_S32768_S32768x1_0 _ i).trans hcnt) (bc0 ..)).trans ?_
  show BitVec.ofNat 32 _ - BitVec.ofNat 32 1 = _
  rw [ofNat32_sub hpos]

/-- The stretches of host operations, in order. -/
abbrev opss : List (List (HloOp τ sig (Elt F))) := [hostOps0, hostOps0_1]

section Host
variable (V : Valuation τ sig (Elt F))

theorem host_split : StableHlo.after (opss (F := F)).flatten V = StableHlo.after hostOps0_1 (StableHlo.after hostOps0 V) := by
  simp only [opss, List.flatten_cons, List.flatten_nil, List.append_nil, StableHlo.after_append]

seal Host.reduceWindow in
theorem h0 : StableHlo.after hostOps0 V (Proc.devRef .tc main_v0)
    = Host.reduceWindow IntOp.addi ![32] ![1] ![31] ![0] (V (Proc.devRef .tc main_arg0)) (broadcastInDim S_ ![] bcast_S_S_ (constantI S_ 32 0#32)) reduceWindows_S32_S32_w32s1p31_0 h_S_ := by
  after_reads_simp
  rfl
theorem h0_arg0 : StableHlo.after hostOps0 V (Proc.devRef .tc main_arg0) = V (Proc.devRef .tc main_arg0) := by
  after_reads_simp
seal Host.reduce in
theorem h1 : StableHlo.after hostOps0_1 V (Proc.devRef .tc main_v10) = owners (subi (V (Proc.devRef .tc main_v0)) (V (Proc.devRef .tc main_arg0))) := by
  after_reads_simp
  try rfl

theorem host_v10 : StableHlo.after (opss (F := F)).flatten V (Proc.devRef .tc main_v10)
    = owners (startsV bcast_S_S_ reduceWindows_S32_S32_w32s1p31_0 h_S_ (V (Proc.devRef .tc main_arg0))) := by
  rw [host_split, h1, h0, h0_arg0]; rfl

theorem host_keep (b : Ref sig .tc) (hb : b = main_arg0 ∨ b = main_arg1 ∨ b = main_arg2 ∨ b = main_arg3 ∨ b = main_arg4) :
    StableHlo.after (opss (F := F)).flatten V (Proc.devRef .tc b) = V (Proc.devRef .tc b) := by
  rw [host_split]
  rcases hb with rfl | rfl | rfl | rfl | rfl <;> after_reads_simp

end Host

theorem opss_sub : (opss (F := F)).Forall fun ops => ops.Forall fun op => op.bufs ⊆ StableHlo.tcRefs τ sig := ⟨hostOps0_sub, hostOps0_1_sub⟩
theorem opss_fresh : (opss (F := F)).Forall fun ops => ops.Forall fun op => op.fresh = ∅ := by
  simp only [opss, List.forall_cons, List.Forall]
  repeat' constructor

/-! ## The run -/

section Run
variable (m : (ℓ : Loc nD τ sig) → Buf (Elt F) ℓ) (ρ : Dev nD → PrngReg)

/-- The buffers when the call starts. -/
abbrev V (c : Dev nD) (b : Ref sig .tc) : Buf (Elt F) ((c : Thread nD τ).loc b) := StableHlo.after (opss (F := F)).flatten (fun b => m (c, b)) b

theorem hmainT : Pipeline.HMain (Ix := Unit) (Name := ℕ) (U := UR sig nD τ) (Lvl := ℕ) cfgs 0 defs₀ Variants.none m (main (F := F)) (V m) :=
  Pipeline.hmain_prefixes cfgs 0 defs₀ Variants.none m main opss opss_sub opss_fresh fun c => (main_chain c).trans rfl

/-- What the call leaves of the arguments as it found them. -/
def out (c : Dev nD) : S32768x512.Idx → Elt F .i32 :=
  result (m ((c : Thread nD τ).loc main_arg0)) (m ((c : Thread nD τ).loc main_arg1)) (m ((c : Thread nD τ).loc main_arg2))
    (m ((c : Thread nD τ).loc main_arg3)) (m ((c : Thread nD τ).loc main_arg4))

/-- What the point finds in a staging buffer and what it leaves. -/
def afterR (c : Dev nD) : (w : Fin 6) → (t : Fin grid0.N) → (Y X : (win0 w).block.Idx → Elt F (win0 w).elt) → Prop := fun
  | 0 => fun _ Y X => X = Y
  | 1 => fun _ Y X => X = Y
  | 2 => fun _ Y X => X = Y
  | 3 => fun _ Y X => X = Y
  | 4 => fun _ Y X => X = Y
  | 5 => fun t Y X => X = out m c
  | ⟨_ + 6, h⟩ => absurd h (Nat.not_lt.2 (Nat.le_add_left _ _))

/-- The run's data on core `c`. -/
def rdat (c : Dev nD) : Pipeline.RDat τ (Elt F) Unit ℕ (UR sig nD τ) ℕ cfg0 c where
  A w := V m c (Pipeline.arrRef spec0 w)
  after := afterR m c
  Φ _ := Pipeline.ΦA spec0 c
  q _ := fullShare
  owed _ := 0

/-- The block an input window reads: its whole array. -/
def blockIn (c : Dev nD) (w : Fin 6) (t : Fin grid0.N) : ((win0 w).xblock (grid0.coords t)).Idx → Elt F (win0 w).elt :=
  ((win0 w).blk t).view.read (Elt F) (V m c (Pipeline.arrRef spec0 w))

theorem finds_0 (c : Dev nD) (t : Fin grid0.N) (Y) (h : (rdat m c).Finds 0 t Y) : Y = blockIn m c 0 t := by
  obtain ⟨d, hd⟩ := Pipeline.RDat.finds_in_eq_fetched (rdat m c) 0 rfl (fun _ _ _ => rfl) (fun _ _ _ h => h) t Y h
  rw [hd]; rfl
theorem finds_1 (c : Dev nD) (t : Fin grid0.N) (Y) (h : (rdat m c).Finds 1 t Y) : Y = blockIn m c 1 t := by
  obtain ⟨d, hd⟩ := Pipeline.RDat.finds_in_eq_fetched (rdat m c) 1 rfl (fun _ _ _ => rfl) (fun _ _ _ h => h) t Y h
  rw [hd]; rfl
theorem finds_2 (c : Dev nD) (t : Fin grid0.N) (Y) (h : (rdat m c).Finds 2 t Y) : Y = blockIn m c 2 t := by
  obtain ⟨d, hd⟩ := Pipeline.RDat.finds_in_eq_fetched (rdat m c) 2 rfl (fun _ _ _ => rfl) (fun _ _ _ h => h) t Y h
  rw [hd]; rfl
theorem finds_3 (c : Dev nD) (t : Fin grid0.N) (Y) (h : (rdat m c).Finds 3 t Y) : Y = blockIn m c 3 t := by
  obtain ⟨d, hd⟩ := Pipeline.RDat.finds_in_eq_fetched (rdat m c) 3 rfl (fun _ _ _ => rfl) (fun _ _ _ h => h) t Y h
  rw [hd]; rfl
theorem finds_4 (c : Dev nD) (t : Fin grid0.N) (Y) (h : (rdat m c).Finds 4 t Y) : Y = blockIn m c 4 t := by
  obtain ⟨d, hd⟩ := Pipeline.RDat.finds_in_eq_fetched (rdat m c) 4 rfl (fun _ _ _ => rfl) (fun _ _ _ h => h) t Y h
  rw [hd]; rfl

theorem read_0 (A : S32768x1.Idx → Elt F .i32) (t : Fin grid0.N) : (win0_0.blk t).view.read (Elt F) A = A := funext fun q =>
  congrArg A (funext fun a => Fin.ext ((Pipeline.Window.rect_emb_val win0_0 t q a rfl).trans (by
    show 0 * _ + (q a).val = (q a).val; omega)))
theorem read_1 (A : S32768x512.Idx → Elt F .i32) (t : Fin grid0.N) : (win0_1.blk t).view.read (Elt F) A = A := funext fun q =>
  congrArg A (funext fun a => Fin.ext ((Pipeline.Window.rect_emb_val win0_1 t q a rfl).trans (by
    show 0 * _ + (q a).val = (q a).val; omega)))
theorem read_2 (A : S32x1024x256.Idx → Elt F .f32) (t : Fin grid0.N) : (win0_2.blk t).view.read (Elt F) A = A := funext fun q =>
  congrArg A (funext fun a => Fin.ext ((Pipeline.Window.rect_emb_val win0_2 t q a rfl).trans (by
    show 0 * _ + (q a).val = (q a).val; omega)))
theorem read_3 (A : S32x1024x256.Idx → Elt F .f32) (t : Fin grid0.N) : (win0_3.blk t).view.read (Elt F) A = A := funext fun q =>
  congrArg A (funext fun a => Fin.ext ((Pipeline.Window.rect_emb_val win0_3 t q a rfl).trans (by
    show 0 * _ + (q a).val = (q a).val; omega)))
theorem read_4 (A : S32x256x1024.Idx → Elt F .f32) (t : Fin grid0.N) : (win0_4.blk t).view.read (Elt F) A = A := funext fun q =>
  congrArg A (funext fun a => Fin.ext ((Pipeline.Window.rect_emb_val win0_4 t q a rfl).trans (by
    show 0 * _ + (q a).val = (q a).val; omega)))

/-- The host leaves the argument arrays as they were. -/
theorem V_keep (c : Dev nD) (b : Ref sig .tc) (hb : b = main_arg0 ∨ b = main_arg1 ∨ b = main_arg2 ∨ b = main_arg3 ∨ b = main_arg4) :
    V m c b = m ((c : Thread nD τ).loc b) := host_keep (fun b => m (c, b)) b hb

theorem blockIn_0 (c : Dev nD) (t : Fin grid0.N) :
    blockIn m c 0 t = owners (startsV bcast_S_S_ reduceWindows_S32_S32_w32s1p31_0 h_S_ (m ((c : Thread nD τ).loc main_arg0))) :=
  (read_0 _ t).trans (host_v10 _)
theorem blockIn_1 (c : Dev nD) (t : Fin grid0.N) : blockIn m c 1 t = m ((c : Thread nD τ).loc main_arg1) :=
  (read_1 _ t).trans (V_keep m c main_arg1 (by simp))
theorem blockIn_2 (c : Dev nD) (t : Fin grid0.N) : blockIn m c 2 t = m ((c : Thread nD τ).loc main_arg2) :=
  (read_2 _ t).trans (V_keep m c main_arg2 (by simp))
theorem blockIn_3 (c : Dev nD) (t : Fin grid0.N) : blockIn m c 3 t = m ((c : Thread nD τ).loc main_arg3) :=
  (read_3 _ t).trans (V_keep m c main_arg3 (by simp))
theorem blockIn_4 (c : Dev nD) (t : Fin grid0.N) : blockIn m c 4 t = m ((c : Thread nD τ).loc main_arg4) :=
  (read_4 _ t).trans (V_keep m c main_arg4 (by simp))

/-- The body table's row at the point. -/
theorem defs₀_row (t : Fin grid0.N) : defs₀ (F := F) .tc (cfg0).body ((cfg0).bodyArgs t ((cfg0).slots t))
    = cc0__dense_experts (F := F) (win0_0.stage ((cfg0).slots t 0)) (hstage0_0 0) (win0_1.stage ((cfg0).slots t 1)) (hstage0_1 0)
        (win0_2.stage ((cfg0).slots t 2)) (hstage0_2 0) (win0_3.stage ((cfg0).slots t 3)) (hstage0_3 0)
        (win0_4.stage ((cfg0).slots t 4)) (hstage0_4 0) (win0_5.stage ((cfg0).slots t 5)) (hstage0_5 0) := by
  unfold defs₀; rw [Defs.onTc_tc]

variable (hx : ∀ c : Dev nD, CntOk (m ((c : Thread nD τ).loc main_arg0)))
include hx

theorem body_obligation (c : Dev nD) : (rdat m c).BodyObligation (defs₀ (F := F)) Variants.none () Set.univ := fun t Y hY => by
  rw [bigSep_W0, bigSep_W0, defs₀_row]
  have e0 := (finds_0 m c t (Y 0) (hY 0)).trans (blockIn_0 m c t)
  have e1 := (finds_1 m c t (Y 1) (hY 1)).trans (blockIn_1 m c t)
  have e2 := (finds_2 m c t (Y 2) (hY 2)).trans (blockIn_2 m c t)
  have e3 := (finds_3 m c t (Y 3) (hY 3)).trans (blockIn_3 m c t)
  have e4 := (finds_4 m c t (Y 4) (hY 4)).trans (blockIn_4 m c t)
  rw [show (rdat m c).Φ t.succ = (rdat m c).Φ t.castSucc from rfl,
    show (rdat m c).owesAt () t.succ = (rdat m c).owesAt () t.castSucc from rfl]
  iintro ⟨HA, HO, H0, H1, H2, H3, H4, H5⟩
  iapply (bodyRun (Y 0) (Y 1) (Y 2) (Y 3) (Y 4) c _ _ _ _ _ _ _ _ _ _ _ _ (m ((c : Thread nD τ).loc main_arg0)) (fun p => by
    rw [e0]; exact owners_ap _ (hx c) (p 0)) (Y 5) _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HA]; · iexact HA
  isplitl [HO]; · iexact HO
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  iexists _; isplitr; swap; · iexact H5
  ipureintro
  rw [e1, e2, e3, e4]
  rfl

set_option backward.isDefEq.respectTransparency.types false in
/-- The program runs, and ends with every array at contents the relation allows, every other buffer as it was, every counter at zero. -/
theorem run_main :
    θ_run defs (onTc (τ := τ) (main (F := F))) (s₀ m ρ)
      (fun r => Pipeline.RDat.FramePost cfg0 (fun c => rdat m c) (V m) r ∧ r.2.sem = fun _ => 0) :=
  Pipeline.RDat.θ_run_frame (Q' := _) cfgs (0 : Fin 1) launch0 defs₀ Variants.none (fun c => rdat m c) m ρ main
    (hbody := body_obligation m hx) (hshare := fun c w => by
      unfold Pipeline.RDat.share; split <;> rfl)
    (howed := fun _ _ => rfl) (V := V m) (hmain := hmainT m) (hA := fun _ _ => rfl)
    (hΦ := fun _ _ => rfl) (hQ' := fun _ h => h)

omit hx in
theorem final_in {r} (h : Pipeline.RDat.FramePost cfg0 (fun c => rdat m c) (V m) r) (c : Dev nD) (w : Fin 6) (hi : ((cfg0).win w).isOut = false) :
    r.2.mem ((c : Thread nD τ).loc (Pipeline.arrRef spec0 w)) = V m c (Pipeline.arrRef spec0 w) :=
  (congrFun ((rdat m c).ArrAt_in w hi _) _).mp ((h c).1 w)

omit hx in
/-- Every argument array ends as it was. -/
theorem final_args {r} (h : Pipeline.RDat.FramePost cfg0 (fun c => rdat m c) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  rw [← V_keep m c main_arg0 (by simp), ← V_keep m c main_arg1 (by simp), ← V_keep m c main_arg2 (by simp), ← V_keep m c main_arg3 (by simp), ← V_keep m c main_arg4 (by simp)]
  exact ⟨(h c).2 main_arg0 (Pipeline.mem_restRefs_of (win := spec0) main_arg0 (by decide) (by decide)),
    final_in m h c 1 rfl, final_in m h c 2 rfl, final_in m h c 3 rfl, final_in m h c 4 rfl⟩

omit hx in
/-- The result array ends at the result. -/
theorem final_out {r} (h : Pipeline.RDat.FramePost cfg0 (fun c => rdat m c) (V m) r) (c : Dev nD) :
    r.2.mem ((c : Thread nD τ).loc main_v11) = out m c := by
  obtain ⟨after, hL, hA⟩ := Pipeline.RDat.FramePost.exists_exact h c
  refine (hA 5).trans (Pipeline.Dat.arrAt_eq_of_emb _ 5 _ ?_ ?_)
  · intro t hf y
    have hl : after 5 t = out m c := by
      obtain ⟨Y, -, hY⟩ := hL 5 t hf
      exact hY
    refine (congrFun hl _).trans (congrArg (out m c) (funext fun a => Fin.ext ?_))
    refine Eq.symm ((Pipeline.Window.rect_emb_val win0_5 t y a rfl).trans ?_)
    show 0 * _ + (y a).val = (y a).val
    omega
  · intro p
    refine ⟨t0_0, by decide, ?_⟩
    refine (Pipeline.Window.emb_mem_blk_iff win0_5 t0_0 p rfl).mpr fun a => ?_
    have hp : (p a).val < S32768x512.size a := (p a).isLt
    show 0 * _ ≤ (p a).val ∧ (p a).val < 0 * _ + S32768x512.size a
    omega

end Run

end Cert.Reference.Hand

end
-- ==== Proof.PromptIdealRun.lean ====
/-
  One grid step of the projection call (PromptIdeal): its body run over whole buffers. What each of q, k, v, the two gates
  and the tail receives is found as a list of stored rectangles; the convolution's output and the history are left at some contents.
-/
module

public import proofs.«01_k».proof.Proof.Gen.PromptIdeal.Frame
public import proofs.«01_k».proof.Proof.Gen.PromptIdeal.Launch
public import proofs.«01_k».proof.Proof.Gen.PromptIdeal.Skeleton
public import proofs.«01_k».proof.Proof.Gen.PromptIdeal.Loops
public import proofs.«01_k».proof.Proof.Gen.PromptIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.PromptIdeal.Hand

open Cert.PromptIdeal Cert.PromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VO0_11 : View sig .tc .vmem S2x256x1024 .bf16 := (Memref.whole cc0_stg11_0 : Memref sig .tc .vmem S2x256x1024 .bf16).view
abbrev VO0_12 : View sig .tc .vmem S2x256x256 .f32 := (Memref.whole cc0_stg12_0 : Memref sig .tc .vmem S2x256x256 .f32).view
abbrev VO0_13 : View sig .tc .vmem S2x256x256 .f32 := (Memref.whole cc0_stg13_0 : Memref sig .tc .vmem S2x256x256 .f32).view
abbrev VO0_14 : View sig .tc .vmem S2x256x1024 .bf16 := (Memref.whole cc0_stg14_0 : Memref sig .tc .vmem S2x256x1024 .bf16).view
abbrev VO0_15 : View sig .tc .vmem S2x256x1024 .bf16 := (Memref.whole cc0_stg15_0 : Memref sig .tc .vmem S2x256x1024 .bf16).view
abbrev VO0_16 : View sig .tc .vmem S2x256x1024 .bf16 := (Memref.whole cc0_stg16_0 : Memref sig .tc .vmem S2x256x1024 .bf16).view
abbrev VO0_17 : View sig .tc .vmem S2x32x1024 .f32 := (Memref.whole cc0_stg17_0 : Memref sig .tc .vmem S2x32x1024 .f32).view
abbrev ms0_0 (t : Fin cfg0.N) : Memref sig .tc .vmem S2x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x5632 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S31x16x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x256x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x256x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2x256x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2x256x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S2x256x1024 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2x256x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2x32x1024 .f32 := win0_17.stage (cfg0.slots t 17)
abbrev hs0_17 (t : Fin cfg0.N) : (ms0_17 t).IsWhole := hstage0_17 ((cfg0.slots t 17).cast nbuf0_17)
abbrev scM0_0 : Memref sig .tc .vmem S2304x2x128 .bf16 := Memref.whole cc0_scratch0
abbrev scM0_1 : Memref sig .tc .vmem S4096x128 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The first block of a row of blocks clears the history; every later one moves it up. -/
theorem conds (i : grid0.Coords) :
    ((Scalar.cmpi .ne (Scalar.extui (Scalar.cmpi .eq (BitVec.ofNat 32 (i 1).val) 0#32) : BitVec 32) 0#32 = 1#1) ∧ ¬(Scalar.cmpi .ne (Scalar.extui (Scalar.cmpi .sgt (BitVec.ofNat 32 (i 1).val) 0#32) : BitVec 32) 0#32 = 1#1))
    ∨ (¬(Scalar.cmpi .ne (Scalar.extui (Scalar.cmpi .eq (BitVec.ofNat 32 (i 1).val) 0#32) : BitVec 32) 0#32 = 1#1) ∧ (Scalar.cmpi .ne (Scalar.extui (Scalar.cmpi .sgt (BitVec.ofNat 32 (i 1).val) 0#32) : BitVec 32) 0#32 = 1#1)) := by
  have h : ∀ k : Fin 32, ((Scalar.cmpi .ne (Scalar.extui (Scalar.cmpi .eq (BitVec.ofNat 32 k.val) 0#32) : BitVec 32) 0#32 = 1#1) ∧ ¬(Scalar.cmpi .ne (Scalar.extui (Scalar.cmpi .sgt (BitVec.ofNat 32 k.val) 0#32) : BitVec 32) 0#32 = 1#1))
    ∨ (¬(Scalar.cmpi .ne (Scalar.extui (Scalar.cmpi .eq (BitVec.ofNat 32 k.val) 0#32) : BitVec 32) 0#32 = 1#1) ∧ (Scalar.cmpi .ne (Scalar.extui (Scalar.cmpi .sgt (BitVec.ofNat 32 k.val) 0#32) : BitVec 32) 0#32 = 1#1)) := by decide +kernel
  exact h (i 1)

set_option backward.proofsInPublic true in
set_option maxHeartbeats 1296000 in set_option sl_exec.stridedRows true in
/-- The body's run on whole buffers, with the rectangles it stores into each output it determines. -/
noncomputable def kernelRun0_A (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec F S2x256x1024 .f32) (x1 : Vec F S1x1024 .f32) (x2 : Vec F S1024x5632 .bf16) (x3 : Vec F S1x1024 .f32) (x4 : Vec F S1x256 .f32) (x5 : Vec F S31x16x128 .bf16) (x6 : Vec F S16x128 .f32) (x7 : Vec F S1x1024 .f32) (x8 : Vec F S1x1024 .f32) (x9 : Vec F S1024x1024 .bf16) (x10 : Vec F S1x1024 .f32) :
    Σ' (L11 : List (View.Piece (Elt F) S2x256x1024 .bf16)), Σ' (L12 : List (View.Piece (Elt F) S2x256x256 .f32)), Σ' (L13 : List (View.Piece (Elt F) S2x256x256 .f32)), Σ' (L14 : List (View.Piece (Elt F) S2x256x1024 .bf16)), Σ' (L15 : List (View.Piece (Elt F) S2x256x1024 .bf16)), { L17 : List (View.Piece (Elt F) S2x32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ d, owns (c : Thread nD τ) arg18 fullShare d) ∗ (∃ f, arg19.view.loc (c : Thread nD τ) ↦[arg19.view.set]{fullShare} arg19.view.writes (Elt F) f L17) ∗ (∃ d, owns (c : Thread nD τ) arg20 fullShare d) ∗ (∃ d, owns (c : Thread nD τ) arg21 fullShare d)) -∗ K ⟨⟩))
          ⊢ wp frame (wpE (defs₀ (F := F)) Variants.none c none) E (cc0_inproj_conv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, fun E K => ?run⟩
  case run =>
    simp only [cc0_inproj_conv_eq_skeleton]; unfold cc0_inproj_conv_skel
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    have hrd0 : ∀ (𝒱 : Variants) (c : Dev nD) (bd : Option 𝒱.V) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole) (v22 : FVec F S512x1024 .bf16) (v553 : FVec F S1x256x256 .bf16) (X_arg7 : BufTy.Contents (Elt F) arg7.view.ty) (X_arg8 : BufTy.Contents (Elt F) arg8.view.ty) (X_arg20 : BufTy.Contents (Elt F) arg20.view.ty) (hrdF : BufTy.Contents (Elt F) arg21.view.ty) (hrdB : LoadRect S4096x128), arg21.view.readAt (Elt F) hrdB (arg21.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v22 v553 X_arg7 X_arg8 X_arg20 (Scf.trips k0_t1_loop.lb k0_t1_loop.ub k0_t1_loop.st))) = arg21.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v22 v553 X_arg7 X_arg8 X_arg20 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v22 v553 X_arg7 X_arg8 X_arg20 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v22 v553 X_arg7 X_arg8 X_arg20 (Scf.trips k0_t1_loop.lb k0_t1_loop.ub k0_t1_loop.st)) S256x128.size (by sl_kernel_rfl) (hrdB.idx hrdJ))
    rcases conds i with ⟨hc1, hc2⟩ | ⟨hc1, hc2⟩
    all_goals
     sl_exec
     sl_step
     iapply Hk
     isplitl [H0]
     · iexists _; isplitr; · ipureintro; exact harg2.read_unread _
       iexact H0
     isplitl [H1]
     · iexists _; isplitr; · ipureintro; exact harg3.read_unread _
       iexact H1
     isplitl [H2]
     · iexists _; isplitr; · ipureintro; exact harg4.read_unread _
       iexact H2
     isplitl [H3]
     · iexists _; isplitr; · ipureintro; exact harg5.read_unread _
       iexact H3
     isplitl [H4]
     · iexists _; isplitr; · ipureintro; exact harg6.read_unread _
       iexact H4
     isplitl [H5]
     · iexists _; isplitr; · ipureintro; exact harg7.read_unread _
       iexact H5
     isplitl [H6]
     · iexists _; isplitr; · ipureintro; exact harg8.read_unread _
       iexact H6
     isplitl [H7]
     · iexists _; isplitr; · ipureintro; exact harg9.read_unread _
       iexact H7
     isplitl [H8]
     · iexists _; isplitr; · ipureintro; exact harg10.read_unread _
       iexact H8
     isplitl [H9]
     · iexists _; isplitr; · ipureintro; exact harg11.read_unread _
       iexact H9
     isplitl [H10]
     · iexists _; isplitr; · ipureintro; exact harg12.read_unread _
       iexact H10
     isplitl [H11]; · iexists _; iexact H11
     isplitl [H12]; · iexists _; iexact H12
     isplitl [H13]; · iexists _; iexact H13
     isplitl [H14]; · iexists _; iexact H14
     isplitl [H15]; · iexists _; iexact H15
     isplitl [H16]
     · iexists _, _; isplitr; swap; · iexact H16
       ipureintro; rfl
     isplitl [H17]; · iexists _; iexact H17
     isplitl [HS0]
     · iexists _, _; isplitr; swap; · iexact HS0
       ipureintro; rfl
     iexists _, _; isplitr; swap; · iexact HS1
     ipureintro; rfl

end Cert.PromptIdeal.Hand

end
-- ==== Proof.PromptIdealFrame.lean ====
/-
  The launch of the projection call (PromptIdeal): what every step leaves, and what the whole run leaves.
-/
module

public import proofs.«01_k».proof.Proof.PromptIdealRun
public import Idealize.ShloMosaic.Lib.Claim

@[expose] public section

set_option maxRecDepth 16384

noncomputable section

namespace Cert.PromptIdeal.Hand

open Cert.PromptIdeal Cert.PromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_11 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec F S2x256x1024 .f32) (x1 : Vec F S1x1024 .f32) (x2 : Vec F S1024x5632 .bf16) (x3 : Vec F S1x1024 .f32) (x4 : Vec F S1x256 .f32) (x5 : Vec F S31x16x128 .bf16) (x6 : Vec F S16x128 .f32) (x7 : Vec F S1x1024 .f32) (x8 : Vec F S1x1024 .f32) (x9 : Vec F S1024x1024 .bf16) (x10 : Vec F S1x1024 .f32) (y : S2x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).1 S1x256x256.size (by sl_kernel_rfl) y

def out0_A_11 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec F S2x256x1024 .f32) (x1 : Vec F S1x1024 .f32) (x2 : Vec F S1024x5632 .bf16) (x3 : Vec F S1x1024 .f32) (x4 : Vec F S1x256 .f32) (x5 : Vec F S31x16x128 .bf16) (x6 : Vec F S16x128 .f32) (x7 : Vec F S1x1024 .f32) (x8 : Vec F S1x1024 .f32) (x9 : Vec F S1024x1024 .bf16) (x10 : Vec F S1x1024 .f32) : Vec F S2x256x1024 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).1)

theorem cover0_A_12 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec F S2x256x1024 .f32) (x1 : Vec F S1x1024 .f32) (x2 : Vec F S1024x5632 .bf16) (x3 : Vec F S1x1024 .f32) (x4 : Vec F S1x256 .f32) (x5 : Vec F S31x16x128 .bf16) (x6 : Vec F S16x128 .f32) (x7 : Vec F S1x1024 .f32) (x8 : Vec F S1x1024 .f32) (x9 : Vec F S1024x1024 .bf16) (x10 : Vec F S1x1024 .f32) (y : S2x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.1 S1x256x256.size (by sl_kernel_rfl) y

def out0_A_12 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec F S2x256x1024 .f32) (x1 : Vec F S1x1024 .f32) (x2 : Vec F S1024x5632 .bf16) (x3 : Vec F S1x1024 .f32) (x4 : Vec F S1x256 .f32) (x5 : Vec F S31x16x128 .bf16) (x6 : Vec F S16x128 .f32) (x7 : Vec F S1x1024 .f32) (x8 : Vec F S1x1024 .f32) (x9 : Vec F S1024x1024 .bf16) (x10 : Vec F S1x1024 .f32) : Vec F S2x256x256 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.1)

theorem cover0_A_13 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec F S2x256x1024 .f32) (x1 : Vec F S1x1024 .f32) (x2 : Vec F S1024x5632 .bf16) (x3 : Vec F S1x1024 .f32) (x4 : Vec F S1x256 .f32) (x5 : Vec F S31x16x128 .bf16) (x6 : Vec F S16x128 .f32) (x7 : Vec F S1x1024 .f32) (x8 : Vec F S1x1024 .f32) (x9 : Vec F S1024x1024 .bf16) (x10 : Vec F S1x1024 .f32) (y : S2x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.1 S1x256x256.size (by sl_kernel_rfl) y

def out0_A_13 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec F S2x256x1024 .f32) (x1 : Vec F S1x1024 .f32) (x2 : Vec F S1024x5632 .bf16) (x3 : Vec F S1x1024 .f32) (x4 : Vec F S1x256 .f32) (x5 : Vec F S31x16x128 .bf16) (x6 : Vec F S16x128 .f32) (x7 : Vec F S1x1024 .f32) (x8 : Vec F S1x1024 .f32) (x9 : Vec F S1024x1024 .bf16) (x10 : Vec F S1x1024 .f32) : Vec F S2x256x256 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.1)

theorem cover0_A_14 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec F S2x256x1024 .f32) (x1 : Vec F S1x1024 .f32) (x2 : Vec F S1024x5632 .bf16) (x3 : Vec F S1x1024 .f32) (x4 : Vec F S1x256 .f32) (x5 : Vec F S31x16x128 .bf16) (x6 : Vec F S16x128 .f32) (x7 : Vec F S1x1024 .f32) (x8 : Vec F S1x1024 .f32) (x9 : Vec F S1024x1024 .bf16) (x10 : Vec F S1x1024 .f32) (y : S2x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.1 S1x256x256.size (by sl_kernel_rfl) y

def out0_A_14 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec F S2x256x1024 .f32) (x1 : Vec F S1x1024 .f32) (x2 : Vec F S1024x5632 .bf16) (x3 : Vec F S1x1024 .f32) (x4 : Vec F S1x256 .f32) (x5 : Vec F S31x16x128 .bf16) (x6 : Vec F S16x128 .f32) (x7 : Vec F S1x1024 .f32) (x8 : Vec F S1x1024 .f32) (x9 : Vec F S1024x1024 .bf16) (x10 : Vec F S1x1024 .f32) : Vec F S2x256x1024 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.1)

theorem cover0_A_15 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec F S2x256x1024 .f32) (x1 : Vec F S1x1024 .f32) (x2 : Vec F S1024x5632 .bf16) (x3 : Vec F S1x1024 .f32) (x4 : Vec F S1x256 .f32) (x5 : Vec F S31x16x128 .bf16) (x6 : Vec F S16x128 .f32) (x7 : Vec F S1x1024 .f32) (x8 : Vec F S1x1024 .f32) (x9 : Vec F S1024x1024 .bf16) (x10 : Vec F S1x1024 .f32) (y : S2x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.1 S1x256x256.size (by sl_kernel_rfl) y

def out0_A_15 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec F S2x256x1024 .f32) (x1 : Vec F S1x1024 .f32) (x2 : Vec F S1024x5632 .bf16) (x3 : Vec F S1x1024 .f32) (x4 : Vec F S1x256 .f32) (x5 : Vec F S31x16x128 .bf16) (x6 : Vec F S16x128 .f32) (x7 : Vec F S1x1024 .f32) (x8 : Vec F S1x1024 .f32) (x9 : Vec F S1024x1024 .bf16) (x10 : Vec F S1x1024 .f32) : Vec F S2x256x1024 .bf16 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.1)

theorem cover0_A_17 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec F S2x256x1024 .f32) (x1 : Vec F S1x1024 .f32) (x2 : Vec F S1024x5632 .bf16) (x3 : Vec F S1x1024 .f32) (x4 : Vec F S1x256 .f32) (x5 : Vec F S31x16x128 .bf16) (x6 : Vec F S16x128 .f32) (x7 : Vec F S1x1024 .f32) (x8 : Vec F S1x1024 .f32) (x9 : Vec F S1024x1024 .bf16) (x10 : Vec F S1x1024 .f32) (y : S2x32x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.1 S1x32x256.size (by sl_kernel_rfl) y

def out0_A_17 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec F S2x256x1024 .f32) (x1 : Vec F S1x1024 .f32) (x2 : Vec F S1024x5632 .bf16) (x3 : Vec F S1x1024 .f32) (x4 : Vec F S1x256 .f32) (x5 : Vec F S31x16x128 .bf16) (x6 : Vec F S16x128 .f32) (x7 : Vec F S1x1024 .f32) (x8 : Vec F S1x1024 .f32) (x9 : Vec F S1024x1024 .bf16) (x10 : Vec F S1x1024 .f32) : Vec F S2x32x1024 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.1)

def outsAt0 (c : Dev nD) (t : Fin cfg0.N) : Vec F S2x256x1024 .bf16 × Vec F S2x256x256 .f32 × Vec F S2x256x256 .f32 × Vec F S2x256x1024 .bf16 × Vec F S2x256x1024 .bf16 × Vec F S2x32x1024 .f32 :=
  (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t).1
    | ⟨12, _⟩ => (outsAt0 m c t).2.1
    | ⟨13, _⟩ => (outsAt0 m c t).2.2.1
    | ⟨14, _⟩ => (outsAt0 m c t).2.2.2.1
    | ⟨15, _⟩ => (outsAt0 m c t).2.2.2.2.1
    | ⟨16, _⟩ => VO0_16.read (Elt F) VO0_16.junk
    | ⟨17, _⟩ => (outsAt0 m c t).2.2.2.2.2
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t).1 := by dsimp only [dats]
theorem after0_12 (c : Dev nD) (t : Fin cfg0.N) : (dats m 0 c).after 12 t = (outsAt0 m c t).2.1 := by dsimp only [dats]
theorem after0_13 (c : Dev nD) (t : Fin cfg0.N) : (dats m 0 c).after 13 t = (outsAt0 m c t).2.2.1 := by dsimp only [dats]
theorem after0_14 (c : Dev nD) (t : Fin cfg0.N) : (dats m 0 c).after 14 t = (outsAt0 m c t).2.2.2.1 := by dsimp only [dats]
theorem after0_15 (c : Dev nD) (t : Fin cfg0.N) : (dats m 0 c).after 15 t = (outsAt0 m c t).2.2.2.2.1 := by dsimp only [dats]
theorem after0_17 (c : Dev nD) (t : Fin cfg0.N) : (dats m 0 c).after 17 t = (outsAt0 m c t).2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ d, owns (c : Thread nD τ) (ms0_16 t) fullShare d)
    ∗ owns (c : Thread nD τ) (ms0_17 t) fullShare ((dats m 0 c).after 17 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_17]
  rw [show (dats m 0 c).Φ t.castSucc = Pipeline.ΦA spec0 c from rfl, PhiA0_eq]
  unfold outsAt0
  unfold out0_A_11 out0_A_12 out0_A_13 out0_A_14 out0_A_15 out0_A_17; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kernelRun0_A c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [HS0]; · iexact HS0
  isplitl [HS1]; · iexact HS1
  iintro ⟨H0, H1, H2, H3, H4, H5, H6, H7, H8, H9, H10, ⟨%e11, H11⟩, ⟨%e12, H12⟩, ⟨%e13, H13⟩, ⟨%e14, H14⟩, ⟨%e15, H15⟩, H16, ⟨%e17, H17⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _)
  isplitl [H16]; · iexact H16
  unfold owns; iexists _; isplitr
  swap; · iexact H17
  ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The window whose contents are not followed: the convolution's output. -/
def fgt (w : Fin cfg0.W) : Bool := decide (w = 16)

/-- The body at every step, the convolution's output at some contents. -/
theorem body_obligation (c : Dev nD) : Pipeline.BodyObligationLoose (dats (F := F) m 0 c) (defs₀ (F := F)) Variants.none () Set.univ fgt :=
  (show BodyObligation (dats (F := F) m 0 c) (defs₀ (F := F)) Variants.none () Set.univ fgt from fun t => by
    rw [bigSep_W0, bigSep_W0, defs₀_row]
    exact triple_restated (sound_body m c t) rfl .rfl fun _ => .rfl).loose

/-- What the run leaves: the arrays as the steps write them, the convolution's output at some contents. -/
abbrev Final (r : PUnit × MemSt nD τ sig (Elt F)) : Prop :=
  Pipeline.RDat.FramePost cfg0 (fun c => (dats m 0 c).toRForget fgt) (V m) r

set_option backward.isDefEq.respectTransparency.types false in
/-- Every run of the program ends there, with no counter left raised. -/
theorem run_main_quiescent : θ_run defs (onTc (τ := τ) (main (F := F))) (s₀ m ρ) (fun r => Final m r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- An input's array ends as the launch found it. -/
theorem final_in {r} (h : Final m r) (c : Dev nD) (w : Fin cfg0.W) (hi : (cfg0.win w).isOut = false) :
    r.2.mem ((c.tc : Thread nD τ).loc (Pipeline.arrRef spec0 w)) = V m c (Pipeline.arrRef spec0 w) :=
  ((congrFun (((dats m 0 c).toRForget fgt).ArrAt_in w hi _) _).mp ((h c).1 w)).trans (A_eq m c w)

/-- A followed output's array ends as the steps write it. -/
theorem final_out {r} (h : Final m r) (c : Dev nD) (w : Fin cfg0.W) (hw : fgt w = false) :
    r.2.mem ((c.tc : Thread nD τ).loc (Pipeline.arrRef spec0 w)) = (dats m 0 c).arrAt w cfg0.N :=
  (Dat.toRForget_arrAt_iff (dats m 0 c) hw _ _).mp ((h c).1 w)

/-- Every argument ends as it was. -/
theorem unchanged {r} (h : Final m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(final_in m h c 0 rfl).trans (V_main_arg0 m c),
      (final_in m h c 1 rfl).trans (V_main_arg1 m c),
      (final_in m h c 2 rfl).trans (V_main_arg2 m c),
      (final_in m h c 3 rfl).trans (V_main_arg3 m c),
      (final_in m h c 4 rfl).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (final_in m h c 7 rfl).trans (V_main_arg7 m c),
      (final_in m h c 8 rfl).trans (V_main_arg8 m c),
      (final_in m h c 9 rfl).trans (V_main_arg9 m c),
      (final_in m h c 10 rfl).trans (V_main_arg10 m c)⟩

/-- Every run ends with the arguments as they were and no counter left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => unchanged m h.1 c, h.2⟩) (run_main_quiescent m ρ)

end Cert.PromptIdeal.Hand

end
-- ==== Proof.PromptRows.lean ====
/- What the prompt's projection computes, row by row: the normalised row, its projection, and the head-by-head normalisation, each read
   at one index of the kernel's own expressions. -/
module
public import proofs.«01_k».proof.Proof.Gen.PromptIdeal.Skeleton
public import Idealize.ShloMosaic.Lib.Pointwise
public import Idealize.ShloMosaic.Lib.WholeRead
public import Idealize.ShloMosaic.Lib.WordCmp

@[expose] public section

set_option maxRecDepth 16384

noncomputable section

namespace Cert.PromptIdeal.Rows

open Cert.PromptIdeal Cert.PromptIdeal.Gen
open Idealize.ShloMosaic

local notation "FI" => Idealize.ShloMosaic.Ideal

/-- The small constant added to a mean square. -/
def eps : EReal := Ideal.ofBits .f32 0x358637BD#32

/-- The row's width, 1024. -/
def wid : EReal := Ideal.ofBits .f32 0x44800000#32

/-- One entry of a row divided by its root mean square and scaled. -/
def nrm (f g : Fin 1024 → EReal) (k : Fin 1024) : EReal :=
  f k * Ideal.rsqrt (Ideal.div (∑ j, f j * f j) wid + eps) * g k

/-- A normalised row times one column. -/
def dotc (f g w : Fin 1024 → EReal) : EReal := ∑ k, nrm f g k * w k

/-- One entry of a head of 64 lanes divided by its root mean square. -/
def hnrm (f : Fin 64 → EReal) (y q : EReal) : EReal :=
  y * Ideal.rsqrt (Ideal.div (∑ j, f j * f j) (Ideal.ofBits .f32 0x42800000#32) + eps) * q

/-- The rows of the two batches, one after the other. -/
def rowOf (a b : FVec FI S1x256x1024 .f32) (R : Fin 512) (k : Fin 1024) : EReal :=
  if h : R.val < 256 then a (ix3 0 ⟨R.val, h⟩ k) else b (ix3 0 ⟨R.val - 256, by omega⟩ k)

theorem pay25_at (a b : FVec FI S1x256x1024 .f32) (g : FVec FI S1x1024 .f32) (R : Fin 512) (k : Fin 1024) :
    (k0_pay25 (F := FI) a b g (ix2 R k) : EReal) = nrm (rowOf a b R) (fun k => g (ix2 0 k)) k := by
  unfold nrm rowOf eps wid
  pointwise [k0_pay25]

theorem prj_at (A : FVec FI S512x1024 .bf16) (W : FVec FI S1024x256 .bf16) (R : Fin 512) (c : Fin 256) :
    k0_pay58 A W (ix2 R c) = ∑ k : Fin 1024, A (ix2 R k) * W (ix2 k c) := by
  pointwise [k0_pay58]

/-- The first 256 rows, and the last 256, as a block of one batch. -/
def lo (M : FVec FI S512x256 .f32) : FVec FI S1x256x256 .f32 :=
  shapeCast S1x256x256 (extractStridedSlice S256x256 ![0, 0] M slices_S512x256_o0_0_S256x256) shapeCasts_S256x256_S1x256x256

def hi (M : FVec FI S512x256 .f32) : FVec FI S1x256x256 .f32 :=
  shapeCast S1x256x256 (extractStridedSlice S256x256 ![256, 0] M slices_S512x256_o256_0_S256x256) shapeCasts_S256x256_S1x256x256

def loB (M : FVec FI S512x256 .f32) : FVec FI S1x256x256 .bf16 :=
  shapeCast S1x256x256 (truncf .bf16 (extractStridedSlice S256x256 ![0, 0] M slices_S512x256_o0_0_S256x256) bitsLt_bf16_f32) shapeCasts_S256x256_S1x256x256

def hiB (M : FVec FI S512x256 .f32) : FVec FI S1x256x256 .bf16 :=
  shapeCast S1x256x256 (truncf .bf16 (extractStridedSlice S256x256 ![256, 0] M slices_S512x256_o256_0_S256x256) bitsLt_bf16_f32) shapeCasts_S256x256_S1x256x256

def loT (M : FVec FI S512x256 .f32) : FVec FI S1x32x256 .f32 :=
  shapeCast S1x32x256 (extractStridedSlice S32x256 ![224, 0] M slices_S512x256_o224_0_S32x256) shapeCasts_S32x256_S1x32x256

def hiT (M : FVec FI S512x256 .f32) : FVec FI S1x32x256 .f32 :=
  shapeCast S1x32x256 (extractStridedSlice S32x256 ![480, 0] M slices_S512x256_o480_0_S32x256) shapeCasts_S32x256_S1x32x256

theorem lo_at (M : FVec FI S512x256 .f32) (b : Fin 1) (r c : Fin 256) : lo M (ix3 b r c) = M (ix2 ⟨r.val, by omega⟩ c) := by
  pointwise [lo]

theorem hi_at (M : FVec FI S512x256 .f32) (b : Fin 1) (r c : Fin 256) : hi M (ix3 b r c) = M (ix2 ⟨256 + r.val, by omega⟩ c) := by
  pointwise [hi]

theorem loB_at (M : FVec FI S512x256 .f32) (b : Fin 1) (r c : Fin 256) : loB M (ix3 b r c) = M (ix2 ⟨r.val, by omega⟩ c) := by
  pointwise [loB]

theorem hiB_at (M : FVec FI S512x256 .f32) (b : Fin 1) (r c : Fin 256) : hiB M (ix3 b r c) = M (ix2 ⟨256 + r.val, by omega⟩ c) := by
  pointwise [hiB]

theorem loT_at (M : FVec FI S512x256 .f32) (b : Fin 1) (r : Fin 32) (c : Fin 256) : loT M (ix3 b r c) = M (ix2 ⟨224 + r.val, by omega⟩ c) := by
  pointwise [loT]

theorem hiT_at (M : FVec FI S512x256 .f32) (b : Fin 1) (r : Fin 32) (c : Fin 256) : hiT M (ix3 b r c) = M (ix2 ⟨480 + r.val, by omega⟩ c) := by
  pointwise [hiT]

/-- The logistic of a projection, and the gated linear unit. -/
def gate (A : FVec FI S512x1024 .bf16) (W : FVec FI S1024x256 .bf16) : FVec FI S512x256 .f32 := logistic (k0_pay58 A W)

def gluv (A : FVec FI S512x1024 .bf16) (W W' : FVec FI S1024x256 .bf16) : FVec FI S512x256 .f32 := mulf (k0_pay58 A W) (gate A W')

theorem gate_at (A : FVec FI S512x1024 .bf16) (W : FVec FI S1024x256 .bf16) (R : Fin 512) (c : Fin 256) :
    gate A W (ix2 R c) = Ideal.logistic (∑ k : Fin 1024, A (ix2 R k) * W (ix2 k c)) := by
  rw [← prj_at]; pointwise [gate]

theorem gluv_at (A : FVec FI S512x1024 .bf16) (W W' : FVec FI S1024x256 .bf16) (R : Fin 512) (c : Fin 256) :
    gluv A W W' (ix2 R c) = (∑ k : Fin 1024, A (ix2 R k) * W (ix2 k c)) * Ideal.logistic (∑ k : Fin 1024, A (ix2 R k) * W' (ix2 k c)) := by
  rw [← prj_at, ← prj_at]; pointwise [gluv, gate]

/-- A block of four heads normalised: the first kernel expression of its kind, of the projection alone. -/
def hn (P : FVec FI S512x256 .f32) (Q : FVec FI S1x256 .f32) : FVec FI S512x256 .f32 :=
  k0_pay62 P k0_pay59 (mulf (extractStridedSlice S512x128 ![0, 0] P slices_S512x256_o0_0_S512x128) (extractStridedSlice S512x128 ![0, 0] P slices_S512x256_o0_0_S512x128))
    (multiReduction .add [1] S512 (select k0_pay59 (mulf (extractStridedSlice S512x128 ![0, 0] P slices_S512x256_o0_0_S512x128) (extractStridedSlice S512x128 ![0, 0] P slices_S512x256_o0_0_S512x128)) (broadcast S512x128 (Scalar.ofBits .f32 0x00000000#32)))
      0x00000000#32 reduces_S512x128_S512 (.inl rfl) rfl) Q

/-- A mask of the first 64 of 128 lanes, read at a lane. -/
theorem mask_at (n : ℕ) (h : n < 128) (a b : EReal) :
    Scalar.select (IntOp.cmpi CmpIPredicate.slt (BitVec.ofNat 32 n) 64#32) a b = if n < 64 then a else b := by
  have e := WordCmp.cmpi_slt_ofNat (w := 32) (a := n) (b := 64) (by omega) (by omega)
  rw [show (64#32) = BitVec.ofNat 32 64 from rfl, e]
  by_cases hn : n < 64 <;> simp [hn, Scalar.select]

/-- A sum over 128 lanes of which only the first 64 count. -/
theorem sum_lo (f : Fin 128 → EReal) :
    (∑ x : Fin 128, Scalar.select (IntOp.cmpi CmpIPredicate.slt (BitVec.ofNat 32 x.val) 64#32) (f x) 0) = ∑ l : Fin 64, f ⟨l.val, by omega⟩ := by
  simp only [mask_at _ (Fin.isLt _)]
  rw [show (∑ x : Fin 128, if x.val < 64 then f x else 0) = ∑ x : Fin (64 + 64), if x.val < 64 then f x else 0 from rfl, Fin.sum_univ_add]
  simp
  rfl

/-- A sum over 128 lanes of which only the last 64 count. -/
theorem sum_hi (f : Fin 128 → EReal) :
    (∑ x : Fin 128, Scalar.select (IntOp.cmpi CmpIPredicate.slt (BitVec.ofNat 32 x.val) 64#32) 0 (f x)) = ∑ l : Fin 64, f ⟨64 + l.val, by omega⟩ := by
  simp only [mask_at _ (Fin.isLt _)]
  rw [show (∑ x : Fin 128, if x.val < 64 then 0 else f x) = ∑ x : Fin (64 + 64), if x.val < 64 then 0 else f x from rfl, Fin.sum_univ_add]
  simp
  rfl

/-- A sixty-fourth of a value is the value divided by 64. -/
theorem div64 (x : EReal) : x * Ideal.ofBits .f32 1015021568#32 = Ideal.div x (Ideal.ofBits .f32 1115684864#32) := by
  have e1 : Ideal.ofBits .f32 1015021568#32 = ((1 / 64 : ℝ) : EReal) := by
    simp [Ideal.ofBits, Ideal.ieee, -EReal.coe_mul]; norm_num
  have e2 : Ideal.ofBits .f32 1115684864#32 = ((64 : ℝ) : EReal) := by
    simp [Ideal.ofBits, Ideal.ieee, -EReal.coe_mul]; norm_num
  rw [e1, e2, Ideal.div_coe (by norm_num)]

theorem hn_at (P : FVec FI S512x256 .f32) (Q : FVec FI S1x256 .f32) (R : Fin 512) (c : Fin 256) :
    hn P Q (ix2 R c) = hnrm (fun l => P (ix2 R ⟨64 * (c.val / 64) + l.val, by omega⟩)) (P (ix2 R c)) (Q (ix2 0 c)) := by
  unfold hnrm eps
  pointwise [hn, k0_pay62, k0_pay59]
  have hc := c.isLt
  rw [← div64]
  simp only [sum_lo (fun x => P (ix2 R ⟨x.val, by omega⟩) * P (ix2 R ⟨x.val, by omega⟩)), sum_hi (fun x => P (ix2 R ⟨x.val, by omega⟩) * P (ix2 R ⟨x.val, by omega⟩)),
    sum_lo (fun x => P (ix2 R ⟨128 + x.val, by omega⟩) * P (ix2 R ⟨128 + x.val, by omega⟩)), sum_hi (fun x => P (ix2 R ⟨128 + x.val, by omega⟩) * P (ix2 R ⟨128 + x.val, by omega⟩))]
  have H : ∀ (n : ℕ) (hn : n + 64 ≤ 256), 64 * (c.val / 64) = n →
      (∑ x : Fin 64, P (ix2 R ⟨64 * (c.val / 64) + x.val, by omega⟩) * P (ix2 R ⟨64 * (c.val / 64) + x.val, by omega⟩))
        = ∑ x : Fin 64, P (ix2 R ⟨n + x.val, by omega⟩) * P (ix2 R ⟨n + x.val, by omega⟩) := by
    intro n hn e; subst e; rfl
  split
  · rw [mask_at _ (by omega)]
    by_cases h64 : c.val < 64
    · rw [if_pos h64, H 0 (by omega) (by omega)]; simp
    · rw [if_neg h64, H 64 (by omega) (by omega)]
  · rw [mask_at _ (by omega)]
    by_cases h64 : c.val - 128 < 64
    · rw [if_pos h64, H 128 (by omega) (by omega)]
    · rw [if_neg h64, H 192 (by omega) (by omega)]
      simp only [← Nat.add_assoc]

/-- The combined projection's entry of a row at a column. -/
def hid (f g : Fin 1024 → EReal) (w : FVec FI S1024x5632 .bf16) (n : ℕ) (hn : n < 5632) : EReal := dotc f g fun k => w (ix2 k ⟨n, hn⟩)

/-- The six results at a row and a column of theirs. -/
def vF (f g : Fin 1024 → EReal) (w : FVec FI S1024x5632 .bf16) (c : Fin 256) : EReal := hid f g w (3328 + c.val) (by omega)

def gaF (f g : Fin 1024 → EReal) (w : FVec FI S1024x5632 .bf16) (c : Fin 1024) : EReal := Ideal.logistic (hid f g w (3584 + c.val) (by omega))

def gbF (f g : Fin 1024 → EReal) (w : FVec FI S1024x5632 .bf16) (c : Fin 1024) : EReal := Ideal.logistic (hid f g w (4608 + c.val) (by omega))

def tailF (f g : Fin 1024 → EReal) (w : FVec FI S1024x5632 .bf16) (c : Fin 1024) : EReal :=
  hid f g w c.val (by omega) * Ideal.logistic (hid f g w (1024 + c.val) (by omega))

def qF (f g : Fin 1024 → EReal) (w : FVec FI S1024x5632 .bf16) (q : FVec FI S1x1024 .f32) (c : Fin 1024) : EReal :=
  hnrm (fun l => hid f g w (2048 + (64 * (c.val / 64) + l.val)) (by omega)) (hid f g w (2048 + c.val) (by omega)) (q (ix2 0 c))

def kF (f g : Fin 1024 → EReal) (w : FVec FI S1024x5632 .bf16) (q : FVec FI S1x256 .f32) (c : Fin 256) : EReal :=
  hnrm (fun l => hid f g w (3072 + (64 * (c.val / 64) + l.val)) (by omega)) (hid f g w (3072 + c.val) (by omega)) (q (ix2 0 c))

/-- The projection of two batches' rows by 256 columns is the combined projection's entry. -/
theorem prj_lo (a b : FVec FI S1x256x1024 .f32) (g : FVec FI S1x1024 .f32) (W : FVec FI S1024x256 .bf16)
    (f : Fin 256 → Fin 1024 → EReal) (G : Fin 1024 → EReal) (w : FVec FI S1024x5632 .bf16) (o : ℕ) (ho : o + 256 ≤ 5632)
    (ha : ∀ r k, a (ix3 0 r k) = f r k) (hg : ∀ k, g (ix2 0 k) = G k) (hW : ∀ k (c : Fin 256), W (ix2 k c) = w (ix2 k ⟨o + c.val, by omega⟩))
    (r c : Fin 256) : (k0_pay58 (F := FI) (k0_pay25 (F := FI) a b g) W (ix2 ⟨r.val, by omega⟩ c) : EReal) = hid (f r) G w (o + c.val) (by omega) := by
  rw [prj_at]
  unfold hid dotc
  refine Finset.sum_congr rfl fun k _ => ?_
  rw [pay25_at, hW]
  have e : rowOf a b ⟨r.val, by omega⟩ = f r := by
    funext j; unfold rowOf; rw [dif_pos r.isLt]; exact ha r j
  rw [e, show (fun k => (g (ix2 0 k) : EReal)) = G from funext hg]

theorem prj_hi (a b : FVec FI S1x256x1024 .f32) (g : FVec FI S1x1024 .f32) (W : FVec FI S1024x256 .bf16)
    (f : Fin 256 → Fin 1024 → EReal) (G : Fin 1024 → EReal) (w : FVec FI S1024x5632 .bf16) (o : ℕ) (ho : o + 256 ≤ 5632)
    (hb : ∀ r k, b (ix3 0 r k) = f r k) (hg : ∀ k, g (ix2 0 k) = G k) (hW : ∀ k (c : Fin 256), W (ix2 k c) = w (ix2 k ⟨o + c.val, by omega⟩))
    (r c : Fin 256) : (k0_pay58 (F := FI) (k0_pay25 (F := FI) a b g) W (ix2 ⟨256 + r.val, by omega⟩ c) : EReal) = hid (f r) G w (o + c.val) (by omega) := by
  rw [prj_at]
  unfold hid dotc
  refine Finset.sum_congr rfl fun k _ => ?_
  rw [pay25_at, hW]
  have e : rowOf a b ⟨256 + r.val, by omega⟩ = f r := by
    funext j; unfold rowOf; rw [dif_neg (by simp)]; rw [← hb r j]; congr 2; ext; simp
  rw [e, show (fun k => (g (ix2 0 k) : EReal)) = G from funext hg]

/-- Where a stored block's entry lies. -/
theorem emb3 {A B C a b c : ℕ} (o : Fin 3 → ℕ) (inb) (b' : Fin a) (r : Fin b) (l : Fin c) (X : Fin A) (Y : Fin B) (Z : Fin C)
    (hX : X.val = o 0 + b'.val) (hY : Y.val = o 1 + r.val) (hZ : Z.val = o 2 + l.val) :
    (Rect.unit (s := ⟨3, ![A, B, C]⟩) o ![a, b, c] inb).emb (ix3 b' r l) = ix3 X Y Z := by
  funext d
  refine Fin.ext ?_
  rw [Rect.emb_apply]
  match d with
  | ⟨0, _⟩ => exact (by omega : o 0 + 1 * b'.val = X.val)
  | ⟨1, _⟩ => exact (by omega : o 1 + 1 * r.val = Y.val)
  | ⟨2, _⟩ => exact (by omega : o 2 + 1 * l.val = Z.val)

/-- A load from an array held whole, at an index. -/
theorem ld3 {A B C a b c : ℕ} {e : EltTy} {m : Memref sig .tc .vmem ⟨3, ![A, B, C]⟩ e} (h : m.IsWhole) (X : Vec FI ⟨3, ![A, B, C]⟩ e) (o : Fin 3 → ℕ) (inb)
    (b' : Fin a) (r : Fin b) (l : Fin c) (x : Fin A) (y : Fin B) (z : Fin C)
    (hX : x.val = o 0 + b'.val) (hY : y.val = o 1 + r.val) (hZ : z.val = o 2 + l.val) :
    View.readAt (Elt FI) m.view (Rect.unit (s := ⟨3, ![A, B, C]⟩) o ![a, b, c] inb).toLoadRect (h.unread X) (ix3 b' r l) = X (ix3 x y z) := by
  rw [h.readAt_unread]
  exact congrArg X (emb3 o inb b' r l x y z hX hY hZ)

theorem emb2 {A B a b : ℕ} (o : Fin 2 → ℕ) (inb) (r : Fin a) (l : Fin b) (X : Fin A) (Y : Fin B)
    (hX : X.val = o 0 + r.val) (hY : Y.val = o 1 + l.val) :
    (Rect.unit (s := ⟨2, ![A, B]⟩) o ![a, b] inb).emb (ix2 r l) = ix2 X Y := by
  funext d
  refine Fin.ext ?_
  rw [Rect.emb_apply]
  match d with
  | ⟨0, _⟩ => exact (by omega : o 0 + 1 * r.val = X.val)
  | ⟨1, _⟩ => exact (by omega : o 1 + 1 * l.val = Y.val)

theorem ld2 {A B a b : ℕ} {e : EltTy} {m : Memref sig .tc .vmem ⟨2, ![A, B]⟩ e} (h : m.IsWhole) (X : Vec FI ⟨2, ![A, B]⟩ e) (o : Fin 2 → ℕ) (inb)
    (r : Fin a) (l : Fin b) (x : Fin A) (y : Fin B) (hX : x.val = o 0 + r.val) (hY : y.val = o 1 + l.val) :
    View.readAt (Elt FI) m.view (Rect.unit (s := ⟨2, ![A, B]⟩) o ![a, b] inb).toLoadRect (h.unread X) (ix2 r l) = X (ix2 x y) := by
  rw [h.readAt_unread]
  exact congrArg X (emb2 o inb r l x y hX hY)

end Cert.PromptIdeal.Rows
end
-- ==== Proof.PromptPieces.lean ====
/- What one grid step of the projection call stores, piece by piece: every stored block is the rows' function on its rectangle. -/
module
public import proofs.«01_k».proof.Proof.PromptIdealFrame
public import proofs.«01_k».proof.Proof.PromptRows
public import Idealize.ShloMosaic.Lib.Writes

@[expose] public section

set_option maxRecDepth 16384

noncomputable section

namespace Cert.PromptIdeal.Rows

open Cert.PromptIdeal Cert.PromptIdeal.Gen Cert.PromptIdeal.Hand
open Idealize.ShloMosaic

local notation "FI" => Idealize.ShloMosaic.Ideal

/-- A batch's row, and the one row of scales. -/
def rowf {n : ℕ} (x : FVec FI ⟨3, ![2, n, 1024]⟩ .f32) (b : Fin 2) (r : Fin n) (k : Fin 1024) : EReal := x (ix3 b r k)

def grow (g : FVec FI S1x1024 .f32) (k : Fin 1024) : EReal := g (ix2 0 k)

theorem hid_congr (f g : Fin 1024 → EReal) (w : FVec FI S1024x5632 .bf16) {n m : ℕ} (hn : n < 5632) (hm : m < 5632) (e : n = m) :
    hid f g w n hn = hid f g w m hm := by subst e; rfl

theorem gate_at2 (A : FVec FI S512x1024 .bf16) (W : FVec FI S1024x256 .bf16) (i : S512x256.Idx) :
    gate A W i = Ideal.logistic (k0_pay58 (F := FI) A W i) := rfl

theorem gluv_at2 (A : FVec FI S512x1024 .bf16) (W W' : FVec FI S1024x256 .bf16) (i : S512x256.Idx) :
    gluv A W W' i = (k0_pay58 (F := FI) A W i : EReal) * Ideal.logistic (k0_pay58 (F := FI) A W' i) := rfl

theorem blk_lo {C : ℕ} (M : FVec FI S512x256 .f32) (G : (⟨3, ![2, 256, C]⟩ : Shape).Idx → EReal) (o : ℕ) (inb) (ho : o + 256 ≤ C)
    (H : ∀ (r : Fin 256) (c : Fin 256), (M (ix2 ⟨r.val, by omega⟩ c) : EReal) = G (ix3 0 r ⟨o + c.val, by omega⟩)) :
    ∀ x : (Rect.unit (s := ⟨3, ![2, 256, C]⟩) ![0, 0, o] ![1, 256, 256] inb).shape.Idx,
      (lo M x : EReal) = G ((Rect.unit (s := ⟨3, ![2, 256, C]⟩) ![0, 0, o] ![1, 256, 256] inb).emb x) := by
  intro x
  obtain ⟨b', r, l, rfl⟩ : ∃ (b' : Fin 1) (r : Fin 256) (l : Fin 256), x = ix3 b' r l := ⟨x 0, x 1, x 2, eq_ix3 x⟩
  refine (lo_at M b' r l).trans ((H r l).trans (congrArg G ?_))
  refine (emb3 _ inb b' r l 0 r ⟨o + l.val, by omega⟩ ?_ ?_ ?_).symm
  · have := b'.isLt; show 0 = 0 + b'.val; omega
  · show r.val = 0 + r.val; omega
  · rfl

theorem blk_hi {C : ℕ} (M : FVec FI S512x256 .f32) (G : (⟨3, ![2, 256, C]⟩ : Shape).Idx → EReal) (o : ℕ) (inb) (ho : o + 256 ≤ C)
    (H : ∀ (r : Fin 256) (c : Fin 256), (M (ix2 ⟨256 + r.val, by omega⟩ c) : EReal) = G (ix3 1 r ⟨o + c.val, by omega⟩)) :
    ∀ x : (Rect.unit (s := ⟨3, ![2, 256, C]⟩) ![1, 0, o] ![1, 256, 256] inb).shape.Idx,
      (hi M x : EReal) = G ((Rect.unit (s := ⟨3, ![2, 256, C]⟩) ![1, 0, o] ![1, 256, 256] inb).emb x) := by
  intro x
  obtain ⟨b', r, l, rfl⟩ : ∃ (b' : Fin 1) (r : Fin 256) (l : Fin 256), x = ix3 b' r l := ⟨x 0, x 1, x 2, eq_ix3 x⟩
  refine (hi_at M b' r l).trans ((H r l).trans (congrArg G ?_))
  refine (emb3 _ inb b' r l 1 r ⟨o + l.val, by omega⟩ ?_ ?_ ?_).symm
  · have := b'.isLt; show 1 = 1 + b'.val; omega
  · show r.val = 0 + r.val; omega
  · rfl

theorem blk_loB {C : ℕ} (M : FVec FI S512x256 .f32) (G : (⟨3, ![2, 256, C]⟩ : Shape).Idx → EReal) (o : ℕ) (inb) (ho : o + 256 ≤ C)
    (H : ∀ (r : Fin 256) (c : Fin 256), (M (ix2 ⟨r.val, by omega⟩ c) : EReal) = G (ix3 0 r ⟨o + c.val, by omega⟩)) :
    ∀ x : (Rect.unit (s := ⟨3, ![2, 256, C]⟩) ![0, 0, o] ![1, 256, 256] inb).shape.Idx,
      (loB M x : EReal) = G ((Rect.unit (s := ⟨3, ![2, 256, C]⟩) ![0, 0, o] ![1, 256, 256] inb).emb x) := by
  intro x
  obtain ⟨b', r, l, rfl⟩ : ∃ (b' : Fin 1) (r : Fin 256) (l : Fin 256), x = ix3 b' r l := ⟨x 0, x 1, x 2, eq_ix3 x⟩
  refine (loB_at M b' r l).trans ((H r l).trans (congrArg G ?_))
  refine (emb3 _ inb b' r l 0 r ⟨o + l.val, by omega⟩ ?_ ?_ ?_).symm
  · have := b'.isLt; show 0 = 0 + b'.val; omega
  · show r.val = 0 + r.val; omega
  · rfl

theorem blk_hiB {C : ℕ} (M : FVec FI S512x256 .f32) (G : (⟨3, ![2, 256, C]⟩ : Shape).Idx → EReal) (o : ℕ) (inb) (ho : o + 256 ≤ C)
    (H : ∀ (r : Fin 256) (c : Fin 256), (M (ix2 ⟨256 + r.val, by omega⟩ c) : EReal) = G (ix3 1 r ⟨o + c.val, by omega⟩)) :
    ∀ x : (Rect.unit (s := ⟨3, ![2, 256, C]⟩) ![1, 0, o] ![1, 256, 256] inb).shape.Idx,
      (hiB M x : EReal) = G ((Rect.unit (s := ⟨3, ![2, 256, C]⟩) ![1, 0, o] ![1, 256, 256] inb).emb x) := by
  intro x
  obtain ⟨b', r, l, rfl⟩ : ∃ (b' : Fin 1) (r : Fin 256) (l : Fin 256), x = ix3 b' r l := ⟨x 0, x 1, x 2, eq_ix3 x⟩
  refine (hiB_at M b' r l).trans ((H r l).trans (congrArg G ?_))
  refine (emb3 _ inb b' r l 1 r ⟨o + l.val, by omega⟩ ?_ ?_ ?_).symm
  · have := b'.isLt; show 1 = 1 + b'.val; omega
  · show r.val = 0 + r.val; omega
  · rfl

theorem blk_loT {C : ℕ} (M : FVec FI S512x256 .f32) (G : (⟨3, ![2, 32, C]⟩ : Shape).Idx → EReal) (o : ℕ) (inb) (ho : o + 256 ≤ C)
    (H : ∀ (r : Fin 32) (c : Fin 256), (M (ix2 ⟨224 + r.val, by omega⟩ c) : EReal) = G (ix3 0 r ⟨o + c.val, by omega⟩)) :
    ∀ x : (Rect.unit (s := ⟨3, ![2, 32, C]⟩) ![0, 0, o] ![1, 32, 256] inb).shape.Idx,
      (loT M x : EReal) = G ((Rect.unit (s := ⟨3, ![2, 32, C]⟩) ![0, 0, o] ![1, 32, 256] inb).emb x) := by
  intro x
  obtain ⟨b', r, l, rfl⟩ : ∃ (b' : Fin 1) (r : Fin 32) (l : Fin 256), x = ix3 b' r l := ⟨x 0, x 1, x 2, eq_ix3 x⟩
  refine (loT_at M b' r l).trans ((H r l).trans (congrArg G ?_))
  refine (emb3 _ inb b' r l 0 r ⟨o + l.val, by omega⟩ ?_ ?_ ?_).symm
  · have := b'.isLt; show 0 = 0 + b'.val; omega
  · show r.val = 0 + r.val; omega
  · rfl

theorem blk_hiT {C : ℕ} (M : FVec FI S512x256 .f32) (G : (⟨3, ![2, 32, C]⟩ : Shape).Idx → EReal) (o : ℕ) (inb) (ho : o + 256 ≤ C)
    (H : ∀ (r : Fin 32) (c : Fin 256), (M (ix2 ⟨480 + r.val, by omega⟩ c) : EReal) = G (ix3 1 r ⟨o + c.val, by omega⟩)) :
    ∀ x : (Rect.unit (s := ⟨3, ![2, 32, C]⟩) ![1, 0, o] ![1, 32, 256] inb).shape.Idx,
      (hiT M x : EReal) = G ((Rect.unit (s := ⟨3, ![2, 32, C]⟩) ![1, 0, o] ![1, 32, 256] inb).emb x) := by
  intro x
  obtain ⟨b', r, l, rfl⟩ : ∃ (b' : Fin 1) (r : Fin 32) (l : Fin 256), x = ix3 b' r l := ⟨x 0, x 1, x 2, eq_ix3 x⟩
  refine (hiT_at M b' r l).trans ((H r l).trans (congrArg G ?_))
  refine (emb3 _ inb b' r l 1 r ⟨o + l.val, by omega⟩ ?_ ?_ ?_).symm
  · have := b'.isLt; show 1 = 1 + b'.val; omega
  · show r.val = 0 + r.val; omega
  · rfl

section step

variable (arg2 : Memref sig .tc .vmem S2x256x1024 .f32) (harg2 : arg2.IsWhole) (arg3 : Memref sig .tc .vmem S1x1024 .f32) (harg3 : arg3.IsWhole)
  (arg4 : Memref sig .tc .vmem S1024x5632 .bf16) (harg4 : arg4.IsWhole) (arg5 : Memref sig .tc .vmem S1x1024 .f32) (harg5 : arg5.IsWhole)
  (arg6 : Memref sig .tc .vmem S1x256 .f32) (harg6 : arg6.IsWhole)
  (x0 : Vec FI S2x256x1024 .f32) (x1 : Vec FI S1x1024 .f32) (x2 : Vec FI S1024x5632 .bf16) (x3 : Vec FI S1x1024 .f32) (x4 : Vec FI S1x256 .f32)

/-- The normalised rows of the two batches' blocks. -/
def nrows : FVec FI S512x1024 .bf16 :=
  k0_pay25 (F := FI) (View.readAt (Elt FI) arg2.view (Rect.unit (s := S2x256x1024) ![0, 0, 0] S1x256x1024.size inb_S2x256x1024_S1x256x1024_0_0_0).toLoadRect (harg2.unread x0))
    (View.readAt (Elt FI) arg2.view (Rect.unit (s := S2x256x1024) ![1, 0, 0] S1x256x1024.size inb_S2x256x1024_S1x256x1024_1_0_0).toLoadRect (harg2.unread x0))
    (View.readAt (Elt FI) arg3.view (Rect.unit (s := S1x1024) ![0, 0] S1x1024.size inb_S1x1024_S1x1024_0_0).toLoadRect (harg3.unread x1))

/-- 256 columns of the combined weights. -/
def wcols (n : ℕ) (inb : ∀ a, (![0, n] : Fin 2 → ℕ) a + S1024x256.size a ≤ S1024x5632.size a) : FVec FI S1024x256 .bf16 :=
  View.readAt (Elt FI) arg4.view (Rect.unit (s := S1024x5632) ![0, n] S1024x256.size inb).toLoadRect (harg4.unread x2)

local notation "AA" => nrows arg2 harg2 arg3 harg3 x0 x1
local notation "WW" => wcols arg4 harg4 x2

theorem P_lo (n : ℕ) (inb) (hn : n + 256 ≤ 5632) (r c : Fin 256) :
    (k0_pay58 (F := FI) AA (WW n inb) (ix2 ⟨r.val, by omega⟩ c) : EReal) = hid (rowf x0 0 r) (grow x1) x2 (n + c.val) (by omega) :=
  prj_lo _ _ _ _ (fun r => rowf x0 0 r) (grow x1) x2 n hn
    (fun r k => ld3 harg2 x0 _ _ 0 r k 0 r k rfl (by simp) (by simp))
    (fun k => ld2 harg3 x1 _ _ 0 k 0 k rfl (by simp))
    (fun k c => ld2 harg4 x2 _ _ k c k ⟨n + c.val, by omega⟩ (by simp) rfl) r c

theorem P_hi (n : ℕ) (inb) (hn : n + 256 ≤ 5632) (r c : Fin 256) :
    (k0_pay58 (F := FI) AA (WW n inb) (ix2 ⟨256 + r.val, by omega⟩ c) : EReal) = hid (rowf x0 1 r) (grow x1) x2 (n + c.val) (by omega) :=
  prj_hi _ _ _ _ (fun r => rowf x0 1 r) (grow x1) x2 n hn
    (fun r k => ld3 harg2 x0 _ _ 0 r k 1 r k rfl (by simp) (by simp))
    (fun k => ld2 harg3 x1 _ _ 0 k 0 k rfl (by simp))
    (fun k c => ld2 harg4 x2 _ _ k c k ⟨n + c.val, by omega⟩ (by simp) rfl) r c

def G11 (x0 : Vec FI S2x256x1024 .f32) (x1 : Vec FI S1x1024 .f32) (x2 : Vec FI S1024x5632 .bf16) (x3 : Vec FI S1x1024 .f32) : (⟨3, ![2, 256, 1024]⟩ : Shape).Idx → EReal :=
  fun y : (⟨3, ![2, 256, 1024]⟩ : Shape).Idx => qF (rowf x0 (y 0) (y 1)) (grow x1) x2 x3 (y 2)

def G12 (x0 : Vec FI S2x256x1024 .f32) (x1 : Vec FI S1x1024 .f32) (x2 : Vec FI S1024x5632 .bf16) (x4 : Vec FI S1x256 .f32) : (⟨3, ![2, 256, 256]⟩ : Shape).Idx → EReal :=
  fun y : (⟨3, ![2, 256, 256]⟩ : Shape).Idx => kF (rowf x0 (y 0) (y 1)) (grow x1) x2 x4 (y 2)

def G13 (x0 : Vec FI S2x256x1024 .f32) (x1 : Vec FI S1x1024 .f32) (x2 : Vec FI S1024x5632 .bf16) : (⟨3, ![2, 256, 256]⟩ : Shape).Idx → EReal :=
  fun y : (⟨3, ![2, 256, 256]⟩ : Shape).Idx => vF (rowf x0 (y 0) (y 1)) (grow x1) x2 (y 2)

def G14 (x0 : Vec FI S2x256x1024 .f32) (x1 : Vec FI S1x1024 .f32) (x2 : Vec FI S1024x5632 .bf16) : (⟨3, ![2, 256, 1024]⟩ : Shape).Idx → EReal :=
  fun y : (⟨3, ![2, 256, 1024]⟩ : Shape).Idx => gaF (rowf x0 (y 0) (y 1)) (grow x1) x2 (y 2)

def G15 (x0 : Vec FI S2x256x1024 .f32) (x1 : Vec FI S1x1024 .f32) (x2 : Vec FI S1024x5632 .bf16) : (⟨3, ![2, 256, 1024]⟩ : Shape).Idx → EReal :=
  fun y : (⟨3, ![2, 256, 1024]⟩ : Shape).Idx => gbF (rowf x0 (y 0) (y 1)) (grow x1) x2 (y 2)

def G17 (x0 : Vec FI S2x256x1024 .f32) (x1 : Vec FI S1x1024 .f32) (x2 : Vec FI S1024x5632 .bf16) : (⟨3, ![2, 32, 1024]⟩ : Shape).Idx → EReal :=
  fun y : (⟨3, ![2, 32, 1024]⟩ : Shape).Idx => tailF (rowf x0 (y 0) ⟨224 + (y 1).val, by have := (y 1).isLt; change _ < 32 at this; omega⟩) (grow x1) x2 (y 2)

/-- The pieces stored into result 13 are the rows' function. -/
theorem pieces13 (c : Dev nD) : ∀ p ∈ kernelRun0_A.sl.H13_2 (F := FI) c arg2 harg2 arg3 harg3 arg4 harg4 x0 x1 x2, ∀ x, p.2 x = G13 x0 x1 x2 (p.1.emb x) := by
  unfold kernelRun0_A.sl.H13_2
  simp only [List.forall_mem_cons]
  refine ⟨?_, ?_, fun p hp => absurd hp List.not_mem_nil⟩
  · exact blk_hi (k0_pay58 (F := FI) AA (WW 3328 inb_S1024x5632_S1024x256_0_3328)) (G13 x0 x1 x2) 0 _ (by omega) fun r c =>
      (P_hi arg2 harg2 arg3 harg3 arg4 harg4 x0 x1 x2 3328 inb_S1024x5632_S1024x256_0_3328 (by omega) r c).trans (hid_congr _ _ _ _ _ (by show 3328 + c.val = 3328 + (0 + c.val); omega))
  · exact blk_lo (k0_pay58 (F := FI) AA (WW 3328 inb_S1024x5632_S1024x256_0_3328)) (G13 x0 x1 x2) 0 _ (by omega) fun r c =>
      (P_lo arg2 harg2 arg3 harg3 arg4 harg4 x0 x1 x2 3328 inb_S1024x5632_S1024x256_0_3328 (by omega) r c).trans (hid_congr _ _ _ _ _ (by show 3328 + c.val = 3328 + (0 + c.val); omega))

/-- The pieces stored into result 14 are the rows' function. -/
theorem pieces14 (c : Dev nD) : ∀ p ∈ kernelRun0_A.sl.H14_8 (F := FI) c arg2 harg2 arg3 harg3 arg4 harg4 x0 x1 x2, ∀ x, p.2 x = G14 x0 x1 x2 (p.1.emb x) := by
  unfold kernelRun0_A.sl.H14_8
  simp only [List.forall_mem_cons]
  refine ⟨?_, ?_, ?_, ?_, ?_, ?_, ?_, ?_, fun p hp => absurd hp List.not_mem_nil⟩
  · exact blk_hiB (gate AA (WW 4352 inb_S1024x5632_S1024x256_0_4352)) (G14 x0 x1 x2) 768 _ (by omega) fun r c =>
      (gate_at2 _ _ _).trans (congrArg Ideal.logistic ((P_hi arg2 harg2 arg3 harg3 arg4 harg4 x0 x1 x2 4352 inb_S1024x5632_S1024x256_0_4352 (by omega) r c).trans (hid_congr _ _ _ _ _ (by show 4352 + c.val = 3584 + (768 + c.val); omega))))
  · exact blk_loB (gate AA (WW 4352 inb_S1024x5632_S1024x256_0_4352)) (G14 x0 x1 x2) 768 _ (by omega) fun r c =>
      (gate_at2 _ _ _).trans (congrArg Ideal.logistic ((P_lo arg2 harg2 arg3 harg3 arg4 harg4 x0 x1 x2 4352 inb_S1024x5632_S1024x256_0_4352 (by omega) r c).trans (hid_congr _ _ _ _ _ (by show 4352 + c.val = 3584 + (768 + c.val); omega))))
  · exact blk_hiB (gate AA (WW 4096 inb_S1024x5632_S1024x256_0_4096)) (G14 x0 x1 x2) 512 _ (by omega) fun r c =>
      (gate_at2 _ _ _).trans (congrArg Ideal.logistic ((P_hi arg2 harg2 arg3 harg3 arg4 harg4 x0 x1 x2 4096 inb_S1024x5632_S1024x256_0_4096 (by omega) r c).trans (hid_congr _ _ _ _ _ (by show 4096 + c.val = 3584 + (512 + c.val); omega))))
  · exact blk_loB (gate AA (WW 4096 inb_S1024x5632_S1024x256_0_4096)) (G14 x0 x1 x2) 512 _ (by omega) fun r c =>
      (gate_at2 _ _ _).trans (congrArg Ideal.logistic ((P_lo arg2 harg2 arg3 harg3 arg4 harg4 x0 x1 x2 4096 inb_S1024x5632_S1024x256_0_4096 (by omega) r c).trans (hid_congr _ _ _ _ _ (by show 4096 + c.val = 3584 + (512 + c.val); omega))))
  · exact blk_hiB (gate AA (WW 3840 inb_S1024x5632_S1024x256_0_3840)) (G14 x0 x1 x2) 256 _ (by omega) fun r c =>
      (gate_at2 _ _ _).trans (congrArg Ideal.logistic ((P_hi arg2 harg2 arg3 harg3 arg4 harg4 x0 x1 x2 3840 inb_S1024x5632_S1024x256_0_3840 (by omega) r c).trans (hid_congr _ _ _ _ _ (by show 3840 + c.val = 3584 + (256 + c.val); omega))))
  · exact blk_loB (gate AA (WW 3840 inb_S1024x5632_S1024x256_0_3840)) (G14 x0 x1 x2) 256 _ (by omega) fun r c =>
      (gate_at2 _ _ _).trans (congrArg Ideal.logistic ((P_lo arg2 harg2 arg3 harg3 arg4 harg4 x0 x1 x2 3840 inb_S1024x5632_S1024x256_0_3840 (by omega) r c).trans (hid_congr _ _ _ _ _ (by show 3840 + c.val = 3584 + (256 + c.val); omega))))
  · exact blk_hiB (gate AA (WW 3584 inb_S1024x5632_S1024x256_0_3584)) (G14 x0 x1 x2) 0 _ (by omega) fun r c =>
      (gate_at2 _ _ _).trans (congrArg Ideal.logistic ((P_hi arg2 harg2 arg3 harg3 arg4 harg4 x0 x1 x2 3584 inb_S1024x5632_S1024x256_0_3584 (by omega) r c).trans (hid_congr _ _ _ _ _ (by show 3584 + c.val = 3584 + (0 + c.val); omega))))
  · exact blk_loB (gate AA (WW 3584 inb_S1024x5632_S1024x256_0_3584)) (G14 x0 x1 x2) 0 _ (by omega) fun r c =>
      (gate_at2 _ _ _).trans (congrArg Ideal.logistic ((P_lo arg2 harg2 arg3 harg3 arg4 harg4 x0 x1 x2 3584 inb_S1024x5632_S1024x256_0_3584 (by omega) r c).trans (hid_congr _ _ _ _ _ (by show 3584 + c.val = 3584 + (0 + c.val); omega))))

/-- The pieces stored into result 15 are the rows' function. -/
theorem pieces15 (c : Dev nD) : ∀ p ∈ kernelRun0_A.sl.H15_8 (F := FI) c arg2 harg2 arg3 harg3 arg4 harg4 x0 x1 x2, ∀ x, p.2 x = G15 x0 x1 x2 (p.1.emb x) := by
  unfold kernelRun0_A.sl.H15_8
  simp only [List.forall_mem_cons]
  refine ⟨?_, ?_, ?_, ?_, ?_, ?_, ?_, ?_, fun p hp => absurd hp List.not_mem_nil⟩
  · exact blk_hiB (gate AA (WW 5376 inb_S1024x5632_S1024x256_0_5376)) (G15 x0 x1 x2) 768 _ (by omega) fun r c =>
      (gate_at2 _ _ _).trans (congrArg Ideal.logistic ((P_hi arg2 harg2 arg3 harg3 arg4 harg4 x0 x1 x2 5376 inb_S1024x5632_S1024x256_0_5376 (by omega) r c).trans (hid_congr _ _ _ _ _ (by show 5376 + c.val = 4608 + (768 + c.val); omega))))
  · exact blk_loB (gate AA (WW 5376 inb_S1024x5632_S1024x256_0_5376)) (G15 x0 x1 x2) 768 _ (by omega) fun r c =>
      (gate_at2 _ _ _).trans (congrArg Ideal.logistic ((P_lo arg2 harg2 arg3 harg3 arg4 harg4 x0 x1 x2 5376 inb_S1024x5632_S1024x256_0_5376 (by omega) r c).trans (hid_congr _ _ _ _ _ (by show 5376 + c.val = 4608 + (768 + c.val); omega))))
  · exact blk_hiB (gate AA (WW 5120 inb_S1024x5632_S1024x256_0_5120)) (G15 x0 x1 x2) 512 _ (by omega) fun r c =>
      (gate_at2 _ _ _).trans (congrArg Ideal.logistic ((P_hi arg2 harg2 arg3 harg3 arg4 harg4 x0 x1 x2 5120 inb_S1024x5632_S1024x256_0_5120 (by omega) r c).trans (hid_congr _ _ _ _ _ (by show 5120 + c.val = 4608 + (512 + c.val); omega))))
  · exact blk_loB (gate AA (WW 5120 inb_S1024x5632_S1024x256_0_5120)) (G15 x0 x1 x2) 512 _ (by omega) fun r c =>
      (gate_at2 _ _ _).trans (congrArg Ideal.logistic ((P_lo arg2 harg2 arg3 harg3 arg4 harg4 x0 x1 x2 5120 inb_S1024x5632_S1024x256_0_5120 (by omega) r c).trans (hid_congr _ _ _ _ _ (by show 5120 + c.val = 4608 + (512 + c.val); omega))))
  · exact blk_hiB (gate AA (WW 4864 inb_S1024x5632_S1024x256_0_4864)) (G15 x0 x1 x2) 256 _ (by omega) fun r c =>
      (gate_at2 _ _ _).trans (congrArg Ideal.logistic ((P_hi arg2 harg2 arg3 harg3 arg4 harg4 x0 x1 x2 4864 inb_S1024x5632_S1024x256_0_4864 (by omega) r c).trans (hid_congr _ _ _ _ _ (by show 4864 + c.val = 4608 + (256 + c.val); omega))))
  · exact blk_loB (gate AA (WW 4864 inb_S1024x5632_S1024x256_0_4864)) (G15 x0 x1 x2) 256 _ (by omega) fun r c =>
      (gate_at2 _ _ _).trans (congrArg Ideal.logistic ((P_lo arg2 harg2 arg3 harg3 arg4 harg4 x0 x1 x2 4864 inb_S1024x5632_S1024x256_0_4864 (by omega) r c).trans (hid_congr _ _ _ _ _ (by show 4864 + c.val = 4608 + (256 + c.val); omega))))
  · exact blk_hiB (gate AA (WW 4608 inb_S1024x5632_S1024x256_0_4608)) (G15 x0 x1 x2) 0 _ (by omega) fun r c =>
      (gate_at2 _ _ _).trans (congrArg Ideal.logistic ((P_hi arg2 harg2 arg3 harg3 arg4 harg4 x0 x1 x2 4608 inb_S1024x5632_S1024x256_0_4608 (by omega) r c).trans (hid_congr _ _ _ _ _ (by show 4608 + c.val = 4608 + (0 + c.val); omega))))
  · exact blk_loB (gate AA (WW 4608 inb_S1024x5632_S1024x256_0_4608)) (G15 x0 x1 x2) 0 _ (by omega) fun r c =>
      (gate_at2 _ _ _).trans (congrArg Ideal.logistic ((P_lo arg2 harg2 arg3 harg3 arg4 harg4 x0 x1 x2 4608 inb_S1024x5632_S1024x256_0_4608 (by omega) r c).trans (hid_congr _ _ _ _ _ (by show 4608 + c.val = 4608 + (0 + c.val); omega))))

/-- The pieces stored into result 17 are the rows' function. -/
theorem pieces17 (c : Dev nD) : ∀ p ∈ kernelRun0_A.sl.H17_8 (F := FI) c arg2 harg2 arg3 harg3 arg4 harg4 x0 x1 x2, ∀ x, p.2 x = G17 x0 x1 x2 (p.1.emb x) := by
  unfold kernelRun0_A.sl.H17_8
  simp only [List.forall_mem_cons]
  refine ⟨?_, ?_, ?_, ?_, ?_, ?_, ?_, ?_, fun p hp => absurd hp List.not_mem_nil⟩
  · refine blk_hiT (gluv AA (WW 768 inb_S1024x5632_S1024x256_0_768) (WW 1792 inb_S1024x5632_S1024x256_0_1792)) (G17 x0 x1 x2) 768 _ (by omega) fun r c => ?_
    have e1 := P_hi arg2 harg2 arg3 harg3 arg4 harg4 x0 x1 x2 768 inb_S1024x5632_S1024x256_0_768 (by omega) ⟨224 + r.val, by omega⟩ c
    have e2 := (P_hi arg2 harg2 arg3 harg3 arg4 harg4 x0 x1 x2 1792 inb_S1024x5632_S1024x256_0_1792 (by omega) ⟨224 + r.val, by omega⟩ c).trans (hid_congr _ _ _ _ (by omega : 1024 + (768 + c.val) < 5632) (by omega))
    refine (gluv_at2 _ _ _ _).trans ?_
    exact (congrArg₂ (fun a b : EReal => a * Ideal.logistic b) ((congrArg (fun i => (k0_pay58 (F := FI) AA (WW 768 inb_S1024x5632_S1024x256_0_768) (ix2 i c) : EReal)) (Fin.ext (by show 480 + r.val = 256 + (224 + r.val); omega))).trans e1) ((congrArg (fun i => (k0_pay58 (F := FI) AA (WW 1792 inb_S1024x5632_S1024x256_0_1792) (ix2 i c) : EReal)) (Fin.ext (by show 480 + r.val = 256 + (224 + r.val); omega))).trans e2))
  · refine blk_loT (gluv AA (WW 768 inb_S1024x5632_S1024x256_0_768) (WW 1792 inb_S1024x5632_S1024x256_0_1792)) (G17 x0 x1 x2) 768 _ (by omega) fun r c => ?_
    have e1 := P_lo arg2 harg2 arg3 harg3 arg4 harg4 x0 x1 x2 768 inb_S1024x5632_S1024x256_0_768 (by omega) ⟨224 + r.val, by omega⟩ c
    have e2 := (P_lo arg2 harg2 arg3 harg3 arg4 harg4 x0 x1 x2 1792 inb_S1024x5632_S1024x256_0_1792 (by omega) ⟨224 + r.val, by omega⟩ c).trans (hid_congr _ _ _ _ (by omega : 1024 + (768 + c.val) < 5632) (by omega))
    refine (gluv_at2 _ _ _ _).trans ?_
    exact (congrArg₂ (fun a b : EReal => a * Ideal.logistic b) (e1) (e2))
  · refine blk_hiT (gluv AA (WW 512 inb_S1024x5632_S1024x256_0_512) (WW 1536 inb_S1024x5632_S1024x256_0_1536)) (G17 x0 x1 x2) 512 _ (by omega) fun r c => ?_
    have e1 := P_hi arg2 harg2 arg3 harg3 arg4 harg4 x0 x1 x2 512 inb_S1024x5632_S1024x256_0_512 (by omega) ⟨224 + r.val, by omega⟩ c
    have e2 := (P_hi arg2 harg2 arg3 harg3 arg4 harg4 x0 x1 x2 1536 inb_S1024x5632_S1024x256_0_1536 (by omega) ⟨224 + r.val, by omega⟩ c).trans (hid_congr _ _ _ _ (by omega : 1024 + (512 + c.val) < 5632) (by omega))
    refine (gluv_at2 _ _ _ _).trans ?_
    exact (congrArg₂ (fun a b : EReal => a * Ideal.logistic b) ((congrArg (fun i => (k0_pay58 (F := FI) AA (WW 512 inb_S1024x5632_S1024x256_0_512) (ix2 i c) : EReal)) (Fin.ext (by show 480 + r.val = 256 + (224 + r.val); omega))).trans e1) ((congrArg (fun i => (k0_pay58 (F := FI) AA (WW 1536 inb_S1024x5632_S1024x256_0_1536) (ix2 i c) : EReal)) (Fin.ext (by show 480 + r.val = 256 + (224 + r.val); omega))).trans e2))
  · refine blk_loT (gluv AA (WW 512 inb_S1024x5632_S1024x256_0_512) (WW 1536 inb_S1024x5632_S1024x256_0_1536)) (G17 x0 x1 x2) 512 _ (by omega) fun r c => ?_
    have e1 := P_lo arg2 harg2 arg3 harg3 arg4 harg4 x0 x1 x2 512 inb_S1024x5632_S1024x256_0_512 (by omega) ⟨224 + r.val, by omega⟩ c
    have e2 := (P_lo arg2 harg2 arg3 harg3 arg4 harg4 x0 x1 x2 1536 inb_S1024x5632_S1024x256_0_1536 (by omega) ⟨224 + r.val, by omega⟩ c).trans (hid_congr _ _ _ _ (by omega : 1024 + (512 + c.val) < 5632) (by omega))
    refine (gluv_at2 _ _ _ _).trans ?_
    exact (congrArg₂ (fun a b : EReal => a * Ideal.logistic b) (e1) (e2))
  · refine blk_hiT (gluv AA (WW 256 inb_S1024x5632_S1024x256_0_256) (WW 1280 inb_S1024x5632_S1024x256_0_1280)) (G17 x0 x1 x2) 256 _ (by omega) fun r c => ?_
    have e1 := P_hi arg2 harg2 arg3 harg3 arg4 harg4 x0 x1 x2 256 inb_S1024x5632_S1024x256_0_256 (by omega) ⟨224 + r.val, by omega⟩ c
    have e2 := (P_hi arg2 harg2 arg3 harg3 arg4 harg4 x0 x1 x2 1280 inb_S1024x5632_S1024x256_0_1280 (by omega) ⟨224 + r.val, by omega⟩ c).trans (hid_congr _ _ _ _ (by omega : 1024 + (256 + c.val) < 5632) (by omega))
    refine (gluv_at2 _ _ _ _).trans ?_
    exact (congrArg₂ (fun a b : EReal => a * Ideal.logistic b) ((congrArg (fun i => (k0_pay58 (F := FI) AA (WW 256 inb_S1024x5632_S1024x256_0_256) (ix2 i c) : EReal)) (Fin.ext (by show 480 + r.val = 256 + (224 + r.val); omega))).trans e1) ((congrArg (fun i => (k0_pay58 (F := FI) AA (WW 1280 inb_S1024x5632_S1024x256_0_1280) (ix2 i c) : EReal)) (Fin.ext (by show 480 + r.val = 256 + (224 + r.val); omega))).trans e2))
  · refine blk_loT (gluv AA (WW 256 inb_S1024x5632_S1024x256_0_256) (WW 1280 inb_S1024x5632_S1024x256_0_1280)) (G17 x0 x1 x2) 256 _ (by omega) fun r c => ?_
    have e1 := P_lo arg2 harg2 arg3 harg3 arg4 harg4 x0 x1 x2 256 inb_S1024x5632_S1024x256_0_256 (by omega) ⟨224 + r.val, by omega⟩ c
    have e2 := (P_lo arg2 harg2 arg3 harg3 arg4 harg4 x0 x1 x2 1280 inb_S1024x5632_S1024x256_0_1280 (by omega) ⟨224 + r.val, by omega⟩ c).trans (hid_congr _ _ _ _ (by omega : 1024 + (256 + c.val) < 5632) (by omega))
    refine (gluv_at2 _ _ _ _).trans ?_
    exact (congrArg₂ (fun a b : EReal => a * Ideal.logistic b) (e1) (e2))
  · refine blk_hiT (gluv AA (WW 0 inb_S1024x5632_S1024x256_0_0) (WW 1024 inb_S1024x5632_S1024x256_0_1024)) (G17 x0 x1 x2) 0 _ (by omega) fun r c => ?_
    have e1 := P_hi arg2 harg2 arg3 harg3 arg4 harg4 x0 x1 x2 0 inb_S1024x5632_S1024x256_0_0 (by omega) ⟨224 + r.val, by omega⟩ c
    have e2 := (P_hi arg2 harg2 arg3 harg3 arg4 harg4 x0 x1 x2 1024 inb_S1024x5632_S1024x256_0_1024 (by omega) ⟨224 + r.val, by omega⟩ c).trans (hid_congr _ _ _ _ (by omega : 1024 + (0 + c.val) < 5632) (by omega))
    refine (gluv_at2 _ _ _ _).trans ?_
    exact (congrArg₂ (fun a b : EReal => a * Ideal.logistic b) ((congrArg (fun i => (k0_pay58 (F := FI) AA (WW 0 inb_S1024x5632_S1024x256_0_0) (ix2 i c) : EReal)) (Fin.ext (by show 480 + r.val = 256 + (224 + r.val); omega))).trans e1) ((congrArg (fun i => (k0_pay58 (F := FI) AA (WW 1024 inb_S1024x5632_S1024x256_0_1024) (ix2 i c) : EReal)) (Fin.ext (by show 480 + r.val = 256 + (224 + r.val); omega))).trans e2))
  · refine blk_loT (gluv AA (WW 0 inb_S1024x5632_S1024x256_0_0) (WW 1024 inb_S1024x5632_S1024x256_0_1024)) (G17 x0 x1 x2) 0 _ (by omega) fun r c => ?_
    have e1 := P_lo arg2 harg2 arg3 harg3 arg4 harg4 x0 x1 x2 0 inb_S1024x5632_S1024x256_0_0 (by omega) ⟨224 + r.val, by omega⟩ c
    have e2 := (P_lo arg2 harg2 arg3 harg3 arg4 harg4 x0 x1 x2 1024 inb_S1024x5632_S1024x256_0_1024 (by omega) ⟨224 + r.val, by omega⟩ c).trans (hid_congr _ _ _ _ (by omega : 1024 + (0 + c.val) < 5632) (by omega))
    refine (gluv_at2 _ _ _ _).trans ?_
    exact (congrArg₂ (fun a b : EReal => a * Ideal.logistic b) (e1) (e2))

/-- The pieces stored into result 12 are the rows' function. -/
theorem pieces12 (c : Dev nD) : ∀ p ∈ kernelRun0_A.sl.H12_2 (F := FI) c arg2 harg2 arg3 harg3 arg4 harg4 arg6 harg6 x0 x1 x2 x4, ∀ x, p.2 x = G12 x0 x1 x2 x4 (p.1.emb x) := by
  unfold kernelRun0_A.sl.H12_2
  simp only [List.forall_mem_cons]
  refine ⟨?_, ?_, fun p hp => absurd hp List.not_mem_nil⟩
  · refine blk_hi (hn (k0_pay58 (F := FI) AA (WW 3072 inb_S1024x5632_S1024x256_0_3072)) (View.readAt (Elt FI) arg6.view (Rect.unit (s := S1x256) ![0, 0] S1x256.size inb_S1x256_S1x256_0_0).toLoadRect (harg6.unread x4))) (G12 x0 x1 x2 x4) 0 _ (by omega) fun r c => ?_
    refine (hn_at _ _ _ _).trans ?_
    have eq := ld2 harg6 x4 ![0, 0] inb_S1x256_S1x256_0_0 0 c 0 ⟨0 + c.val, by omega⟩ rfl rfl
    have ep := (P_hi arg2 harg2 arg3 harg3 arg4 harg4 x0 x1 x2 3072 inb_S1024x5632_S1024x256_0_3072 (by omega) r c).trans (hid_congr _ _ _ _ (by omega : 3072 + (0 + c.val) < 5632) (by omega))
    have ef : (fun l : Fin 64 => _) = _ := funext fun l : Fin 64 => (P_hi arg2 harg2 arg3 harg3 arg4 harg4 x0 x1 x2 3072 inb_S1024x5632_S1024x256_0_3072 (by omega) r ⟨64 * (c.val / 64) + l.val, by omega⟩).trans
      (hid_congr _ _ _ _ (by omega : 3072 + (64 * ((0 + c.val) / 64) + l.val) < 5632) (by show 3072 + (64 * (c.val / 64) + l.val) = _; omega))
    rw [ef, ep, eq]; rfl
  · refine blk_lo (hn (k0_pay58 (F := FI) AA (WW 3072 inb_S1024x5632_S1024x256_0_3072)) (View.readAt (Elt FI) arg6.view (Rect.unit (s := S1x256) ![0, 0] S1x256.size inb_S1x256_S1x256_0_0).toLoadRect (harg6.unread x4))) (G12 x0 x1 x2 x4) 0 _ (by omega) fun r c => ?_
    refine (hn_at _ _ _ _).trans ?_
    have eq := ld2 harg6 x4 ![0, 0] inb_S1x256_S1x256_0_0 0 c 0 ⟨0 + c.val, by omega⟩ rfl rfl
    have ep := (P_lo arg2 harg2 arg3 harg3 arg4 harg4 x0 x1 x2 3072 inb_S1024x5632_S1024x256_0_3072 (by omega) r c).trans (hid_congr _ _ _ _ (by omega : 3072 + (0 + c.val) < 5632) (by omega))
    have ef : (fun l : Fin 64 => _) = _ := funext fun l : Fin 64 => (P_lo arg2 harg2 arg3 harg3 arg4 harg4 x0 x1 x2 3072 inb_S1024x5632_S1024x256_0_3072 (by omega) r ⟨64 * (c.val / 64) + l.val, by omega⟩).trans
      (hid_congr _ _ _ _ (by omega : 3072 + (64 * ((0 + c.val) / 64) + l.val) < 5632) (by show 3072 + (64 * (c.val / 64) + l.val) = _; omega))
    rw [ef, ep, eq]; rfl

/-- The pieces stored into result 11 are the rows' function. -/
theorem pieces11 (c : Dev nD) : ∀ p ∈ kernelRun0_A.sl.H11_8 (F := FI) c arg2 harg2 arg3 harg3 arg4 harg4 arg5 harg5 x0 x1 x2 x3, ∀ x, p.2 x = G11 x0 x1 x2 x3 (p.1.emb x) := by
  unfold kernelRun0_A.sl.H11_8
  simp only [List.forall_mem_cons]
  refine ⟨?_, ?_, ?_, ?_, ?_, ?_, ?_, ?_, fun p hp => absurd hp List.not_mem_nil⟩
  · refine blk_hiB (hn (k0_pay58 (F := FI) AA (WW 2816 inb_S1024x5632_S1024x256_0_2816)) (View.readAt (Elt FI) arg5.view (Rect.unit (s := S1x1024) ![0, 768] S1x256.size inb_S1x1024_S1x256_0_768).toLoadRect (harg5.unread x3))) (G11 x0 x1 x2 x3) 768 _ (by omega) fun r c => ?_
    refine (hn_at _ _ _ _).trans ?_
    have eq := ld2 harg5 x3 ![0, 768] inb_S1x1024_S1x256_0_768 0 c 0 ⟨768 + c.val, by omega⟩ rfl rfl
    have ep := (P_hi arg2 harg2 arg3 harg3 arg4 harg4 x0 x1 x2 2816 inb_S1024x5632_S1024x256_0_2816 (by omega) r c).trans (hid_congr _ _ _ _ (by omega : 2048 + (768 + c.val) < 5632) (by omega))
    have ef : (fun l : Fin 64 => _) = _ := funext fun l : Fin 64 => (P_hi arg2 harg2 arg3 harg3 arg4 harg4 x0 x1 x2 2816 inb_S1024x5632_S1024x256_0_2816 (by omega) r ⟨64 * (c.val / 64) + l.val, by omega⟩).trans
      (hid_congr _ _ _ _ (by omega : 2048 + (64 * ((768 + c.val) / 64) + l.val) < 5632) (by show 2816 + (64 * (c.val / 64) + l.val) = _; omega))
    rw [ef, ep, eq]; rfl
  · refine blk_loB (hn (k0_pay58 (F := FI) AA (WW 2816 inb_S1024x5632_S1024x256_0_2816)) (View.readAt (Elt FI) arg5.view (Rect.unit (s := S1x1024) ![0, 768] S1x256.size inb_S1x1024_S1x256_0_768).toLoadRect (harg5.unread x3))) (G11 x0 x1 x2 x3) 768 _ (by omega) fun r c => ?_
    refine (hn_at _ _ _ _).trans ?_
    have eq := ld2 harg5 x3 ![0, 768] inb_S1x1024_S1x256_0_768 0 c 0 ⟨768 + c.val, by omega⟩ rfl rfl
    have ep := (P_lo arg2 harg2 arg3 harg3 arg4 harg4 x0 x1 x2 2816 inb_S1024x5632_S1024x256_0_2816 (by omega) r c).trans (hid_congr _ _ _ _ (by omega : 2048 + (768 + c.val) < 5632) (by omega))
    have ef : (fun l : Fin 64 => _) = _ := funext fun l : Fin 64 => (P_lo arg2 harg2 arg3 harg3 arg4 harg4 x0 x1 x2 2816 inb_S1024x5632_S1024x256_0_2816 (by omega) r ⟨64 * (c.val / 64) + l.val, by omega⟩).trans
      (hid_congr _ _ _ _ (by omega : 2048 + (64 * ((768 + c.val) / 64) + l.val) < 5632) (by show 2816 + (64 * (c.val / 64) + l.val) = _; omega))
    rw [ef, ep, eq]; rfl
  · refine blk_hiB (hn (k0_pay58 (F := FI) AA (WW 2560 inb_S1024x5632_S1024x256_0_2560)) (View.readAt (Elt FI) arg5.view (Rect.unit (s := S1x1024) ![0, 512] S1x256.size inb_S1x1024_S1x256_0_512).toLoadRect (harg5.unread x3))) (G11 x0 x1 x2 x3) 512 _ (by omega) fun r c => ?_
    refine (hn_at _ _ _ _).trans ?_
    have eq := ld2 harg5 x3 ![0, 512] inb_S1x1024_S1x256_0_512 0 c 0 ⟨512 + c.val, by omega⟩ rfl rfl
    have ep := (P_hi arg2 harg2 arg3 harg3 arg4 harg4 x0 x1 x2 2560 inb_S1024x5632_S1024x256_0_2560 (by omega) r c).trans (hid_congr _ _ _ _ (by omega : 2048 + (512 + c.val) < 5632) (by omega))
    have ef : (fun l : Fin 64 => _) = _ := funext fun l : Fin 64 => (P_hi arg2 harg2 arg3 harg3 arg4 harg4 x0 x1 x2 2560 inb_S1024x5632_S1024x256_0_2560 (by omega) r ⟨64 * (c.val / 64) + l.val, by omega⟩).trans
      (hid_congr _ _ _ _ (by omega : 2048 + (64 * ((512 + c.val) / 64) + l.val) < 5632) (by show 2560 + (64 * (c.val / 64) + l.val) = _; omega))
    rw [ef, ep, eq]; rfl
  · refine blk_loB (hn (k0_pay58 (F := FI) AA (WW 2560 inb_S1024x5632_S1024x256_0_2560)) (View.readAt (Elt FI) arg5.view (Rect.unit (s := S1x1024) ![0, 512] S1x256.size inb_S1x1024_S1x256_0_512).toLoadRect (harg5.unread x3))) (G11 x0 x1 x2 x3) 512 _ (by omega) fun r c => ?_
    refine (hn_at _ _ _ _).trans ?_
    have eq := ld2 harg5 x3 ![0, 512] inb_S1x1024_S1x256_0_512 0 c 0 ⟨512 + c.val, by omega⟩ rfl rfl
    have ep := (P_lo arg2 harg2 arg3 harg3 arg4 harg4 x0 x1 x2 2560 inb_S1024x5632_S1024x256_0_2560 (by omega) r c).trans (hid_congr _ _ _ _ (by omega : 2048 + (512 + c.val) < 5632) (by omega))
    have ef : (fun l : Fin 64 => _) = _ := funext fun l : Fin 64 => (P_lo arg2 harg2 arg3 harg3 arg4 harg4 x0 x1 x2 2560 inb_S1024x5632_S1024x256_0_2560 (by omega) r ⟨64 * (c.val / 64) + l.val, by omega⟩).trans
      (hid_congr _ _ _ _ (by omega : 2048 + (64 * ((512 + c.val) / 64) + l.val) < 5632) (by show 2560 + (64 * (c.val / 64) + l.val) = _; omega))
    rw [ef, ep, eq]; rfl
  · refine blk_hiB (hn (k0_pay58 (F := FI) AA (WW 2304 inb_S1024x5632_S1024x256_0_2304)) (View.readAt (Elt FI) arg5.view (Rect.unit (s := S1x1024) ![0, 256] S1x256.size inb_S1x1024_S1x256_0_256).toLoadRect (harg5.unread x3))) (G11 x0 x1 x2 x3) 256 _ (by omega) fun r c => ?_
    refine (hn_at _ _ _ _).trans ?_
    have eq := ld2 harg5 x3 ![0, 256] inb_S1x1024_S1x256_0_256 0 c 0 ⟨256 + c.val, by omega⟩ rfl rfl
    have ep := (P_hi arg2 harg2 arg3 harg3 arg4 harg4 x0 x1 x2 2304 inb_S1024x5632_S1024x256_0_2304 (by omega) r c).trans (hid_congr _ _ _ _ (by omega : 2048 + (256 + c.val) < 5632) (by omega))
    have ef : (fun l : Fin 64 => _) = _ := funext fun l : Fin 64 => (P_hi arg2 harg2 arg3 harg3 arg4 harg4 x0 x1 x2 2304 inb_S1024x5632_S1024x256_0_2304 (by omega) r ⟨64 * (c.val / 64) + l.val, by omega⟩).trans
      (hid_congr _ _ _ _ (by omega : 2048 + (64 * ((256 + c.val) / 64) + l.val) < 5632) (by show 2304 + (64 * (c.val / 64) + l.val) = _; omega))
    rw [ef, ep, eq]; rfl
  · refine blk_loB (hn (k0_pay58 (F := FI) AA (WW 2304 inb_S1024x5632_S1024x256_0_2304)) (View.readAt (Elt FI) arg5.view (Rect.unit (s := S1x1024) ![0, 256] S1x256.size inb_S1x1024_S1x256_0_256).toLoadRect (harg5.unread x3))) (G11 x0 x1 x2 x3) 256 _ (by omega) fun r c => ?_
    refine (hn_at _ _ _ _).trans ?_
    have eq := ld2 harg5 x3 ![0, 256] inb_S1x1024_S1x256_0_256 0 c 0 ⟨256 + c.val, by omega⟩ rfl rfl
    have ep := (P_lo arg2 harg2 arg3 harg3 arg4 harg4 x0 x1 x2 2304 inb_S1024x5632_S1024x256_0_2304 (by omega) r c).trans (hid_congr _ _ _ _ (by omega : 2048 + (256 + c.val) < 5632) (by omega))
    have ef : (fun l : Fin 64 => _) = _ := funext fun l : Fin 64 => (P_lo arg2 harg2 arg3 harg3 arg4 harg4 x0 x1 x2 2304 inb_S1024x5632_S1024x256_0_2304 (by omega) r ⟨64 * (c.val / 64) + l.val, by omega⟩).trans
      (hid_congr _ _ _ _ (by omega : 2048 + (64 * ((256 + c.val) / 64) + l.val) < 5632) (by show 2304 + (64 * (c.val / 64) + l.val) = _; omega))
    rw [ef, ep, eq]; rfl
  · refine blk_hiB (hn (k0_pay58 (F := FI) AA (WW 2048 inb_S1024x5632_S1024x256_0_2048)) (View.readAt (Elt FI) arg5.view (Rect.unit (s := S1x1024) ![0, 0] S1x256.size inb_S1x1024_S1x256_0_0).toLoadRect (harg5.unread x3))) (G11 x0 x1 x2 x3) 0 _ (by omega) fun r c => ?_
    refine (hn_at _ _ _ _).trans ?_
    have eq := ld2 harg5 x3 ![0, 0] inb_S1x1024_S1x256_0_0 0 c 0 ⟨0 + c.val, by omega⟩ rfl rfl
    have ep := (P_hi arg2 harg2 arg3 harg3 arg4 harg4 x0 x1 x2 2048 inb_S1024x5632_S1024x256_0_2048 (by omega) r c).trans (hid_congr _ _ _ _ (by omega : 2048 + (0 + c.val) < 5632) (by omega))
    have ef : (fun l : Fin 64 => _) = _ := funext fun l : Fin 64 => (P_hi arg2 harg2 arg3 harg3 arg4 harg4 x0 x1 x2 2048 inb_S1024x5632_S1024x256_0_2048 (by omega) r ⟨64 * (c.val / 64) + l.val, by omega⟩).trans
      (hid_congr _ _ _ _ (by omega : 2048 + (64 * ((0 + c.val) / 64) + l.val) < 5632) (by show 2048 + (64 * (c.val / 64) + l.val) = _; omega))
    rw [ef, ep, eq]; rfl
  · refine blk_loB (hn (k0_pay58 (F := FI) AA (WW 2048 inb_S1024x5632_S1024x256_0_2048)) (View.readAt (Elt FI) arg5.view (Rect.unit (s := S1x1024) ![0, 0] S1x256.size inb_S1x1024_S1x256_0_0).toLoadRect (harg5.unread x3))) (G11 x0 x1 x2 x3) 0 _ (by omega) fun r c => ?_
    refine (hn_at _ _ _ _).trans ?_
    have eq := ld2 harg5 x3 ![0, 0] inb_S1x1024_S1x256_0_0 0 c 0 ⟨0 + c.val, by omega⟩ rfl rfl
    have ep := (P_lo arg2 harg2 arg3 harg3 arg4 harg4 x0 x1 x2 2048 inb_S1024x5632_S1024x256_0_2048 (by omega) r c).trans (hid_congr _ _ _ _ (by omega : 2048 + (0 + c.val) < 5632) (by omega))
    have ef : (fun l : Fin 64 => _) = _ := funext fun l : Fin 64 => (P_lo arg2 harg2 arg3 harg3 arg4 harg4 x0 x1 x2 2048 inb_S1024x5632_S1024x256_0_2048 (by omega) r ⟨64 * (c.val / 64) + l.val, by omega⟩).trans
      (hid_congr _ _ _ _ (by omega : 2048 + (64 * ((0 + c.val) / 64) + l.val) < 5632) (by show 2048 + (64 * (c.val / 64) + l.val) = _; omega))
    rw [ef, ep, eq]; rfl

end step

end Cert.PromptIdeal.Rows
end
-- ==== Proof.PromptValue.lean ====
/- What the projection call leaves in its six followed results: the rows' functions of the arguments. -/
module
public import proofs.«01_k».proof.Proof.PromptPieces
public import Idealize.ShloMosaic.Lib.Pipeline.Value
public import Idealize.ShloMosaic.Lib.Pipeline.ValueKit

@[expose] public section

set_option maxRecDepth 16384

noncomputable section

namespace Cert.PromptIdeal.Rows

open Cert.PromptIdeal Cert.PromptIdeal.Gen Cert.PromptIdeal.Hand
open Idealize.ShloMosaic Idealize.ShloMosaic.TcCoe Idealize.SL.Sem
open Idealize.ShloMosaic.Pipeline (Dat)

local notation "FI" => Idealize.ShloMosaic.Ideal

theorem out11 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec FI S2x256x1024 .f32) (x1 : Vec FI S1x1024 .f32) (x2 : Vec FI S1024x5632 .bf16) (x3 : Vec FI S1x1024 .f32) (x4 : Vec FI S1x256 .f32) (x5 : Vec FI S31x16x128 .bf16) (x6 : Vec FI S16x128 .f32) (x7 : Vec FI S1x1024 .f32) (x8 : Vec FI S1x1024 .f32) (x9 : Vec FI S1024x1024 .bf16) (x10 : Vec FI S1x1024 .f32) :
    out0_A_11 (F := FI) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 = G11 x0 x1 x2 x3 := by
  funext y
  refine View.read_writes_apply_of_pieces VO0_11 VO0_11.junk (G11 x0 x1 x2 x3) _ ?_ y (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 y)
  unfold kernelRun0_A
  exact pieces11 arg2 harg2 arg3 harg3 arg4 harg4 arg5 harg5 x0 x1 x2 x3 c

theorem out12 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec FI S2x256x1024 .f32) (x1 : Vec FI S1x1024 .f32) (x2 : Vec FI S1024x5632 .bf16) (x3 : Vec FI S1x1024 .f32) (x4 : Vec FI S1x256 .f32) (x5 : Vec FI S31x16x128 .bf16) (x6 : Vec FI S16x128 .f32) (x7 : Vec FI S1x1024 .f32) (x8 : Vec FI S1x1024 .f32) (x9 : Vec FI S1024x1024 .bf16) (x10 : Vec FI S1x1024 .f32) :
    out0_A_12 (F := FI) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 = G12 x0 x1 x2 x4 := by
  funext y
  refine View.read_writes_apply_of_pieces VO0_12 VO0_12.junk (G12 x0 x1 x2 x4) _ ?_ y (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 y)
  unfold kernelRun0_A
  exact pieces12 arg2 harg2 arg3 harg3 arg4 harg4 arg6 harg6 x0 x1 x2 x4 c

theorem out13 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec FI S2x256x1024 .f32) (x1 : Vec FI S1x1024 .f32) (x2 : Vec FI S1024x5632 .bf16) (x3 : Vec FI S1x1024 .f32) (x4 : Vec FI S1x256 .f32) (x5 : Vec FI S31x16x128 .bf16) (x6 : Vec FI S16x128 .f32) (x7 : Vec FI S1x1024 .f32) (x8 : Vec FI S1x1024 .f32) (x9 : Vec FI S1024x1024 .bf16) (x10 : Vec FI S1x1024 .f32) :
    out0_A_13 (F := FI) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 = G13 x0 x1 x2 := by
  funext y
  refine View.read_writes_apply_of_pieces VO0_13 VO0_13.junk (G13 x0 x1 x2) _ ?_ y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 y)
  unfold kernelRun0_A
  exact pieces13 arg2 harg2 arg3 harg3 arg4 harg4 x0 x1 x2 c

theorem out14 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec FI S2x256x1024 .f32) (x1 : Vec FI S1x1024 .f32) (x2 : Vec FI S1024x5632 .bf16) (x3 : Vec FI S1x1024 .f32) (x4 : Vec FI S1x256 .f32) (x5 : Vec FI S31x16x128 .bf16) (x6 : Vec FI S16x128 .f32) (x7 : Vec FI S1x1024 .f32) (x8 : Vec FI S1x1024 .f32) (x9 : Vec FI S1024x1024 .bf16) (x10 : Vec FI S1x1024 .f32) :
    out0_A_14 (F := FI) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 = G14 x0 x1 x2 := by
  funext y
  refine View.read_writes_apply_of_pieces VO0_14 VO0_14.junk (G14 x0 x1 x2) _ ?_ y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 y)
  unfold kernelRun0_A
  exact pieces14 arg2 harg2 arg3 harg3 arg4 harg4 x0 x1 x2 c

theorem out15 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec FI S2x256x1024 .f32) (x1 : Vec FI S1x1024 .f32) (x2 : Vec FI S1024x5632 .bf16) (x3 : Vec FI S1x1024 .f32) (x4 : Vec FI S1x256 .f32) (x5 : Vec FI S31x16x128 .bf16) (x6 : Vec FI S16x128 .f32) (x7 : Vec FI S1x1024 .f32) (x8 : Vec FI S1x1024 .f32) (x9 : Vec FI S1024x1024 .bf16) (x10 : Vec FI S1x1024 .f32) :
    out0_A_15 (F := FI) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 = G15 x0 x1 x2 := by
  funext y
  refine View.read_writes_apply_of_pieces VO0_15 VO0_15.junk (G15 x0 x1 x2) _ ?_ y (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 y)
  unfold kernelRun0_A
  exact pieces15 arg2 harg2 arg3 harg3 arg4 harg4 x0 x1 x2 c

theorem out17 (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S31x16x128 .bf16) (harg7 : arg7.IsWhole) (arg8 : Memref sig .tc .vmem S16x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x256x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S2x256x1024 .bf16) (harg18 : arg18.IsWhole) (arg19 : Memref sig .tc .vmem S2x32x1024 .f32) (harg19 : arg19.IsWhole) (arg20 : Memref sig .tc .vmem S2304x2x128 .bf16) (harg20 : arg20.IsWhole) (arg21 : Memref sig .tc .vmem S4096x128 .f32) (harg21 : arg21.IsWhole)
    (x0 : Vec FI S2x256x1024 .f32) (x1 : Vec FI S1x1024 .f32) (x2 : Vec FI S1024x5632 .bf16) (x3 : Vec FI S1x1024 .f32) (x4 : Vec FI S1x256 .f32) (x5 : Vec FI S31x16x128 .bf16) (x6 : Vec FI S16x128 .f32) (x7 : Vec FI S1x1024 .f32) (x8 : Vec FI S1x1024 .f32) (x9 : Vec FI S1024x1024 .bf16) (x10 : Vec FI S1x1024 .f32) :
    out0_A_17 (F := FI) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 = G17 x0 x1 x2 := by
  funext y
  refine View.read_writes_apply_of_pieces VO0_17 VO0_17.junk (G17 x0 x1 x2) _ ?_ y (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 y)
  unfold kernelRun0_A
  exact pieces17 arg2 harg2 arg3 harg3 arg4 harg4 x0 x1 x2 c

variable (m : (ℓ : Loc nD τ sig) → Buf (Elt FI) ℓ)

/-- Where the blocks lie: step `t` has rows `256 t` and on; the scales and weights are whole; the tail's block is the same at every step. -/
theorem index3 : ∀ t : Fin grid0.N, win0_0.index t = ![0, t.val, 0] ∧ win0_11.index t = ![0, t.val, 0] ∧ win0_12.index t = ![0, t.val, 0]
    ∧ win0_13.index t = ![0, t.val, 0] ∧ win0_14.index t = ![0, t.val, 0] ∧ win0_15.index t = ![0, t.val, 0] ∧ win0_17.index t = ![0, 0, 0] := by decide +kernel

theorem index2 : ∀ t : Fin grid0.N, win0_1.index t = ![0, 0] ∧ win0_2.index t = ![0, 0] ∧ win0_3.index t = ![0, 0] ∧ win0_4.index t = ![0, 0] := by decide +kernel

theorem flush_all : ∀ t : Fin grid0.N, win0_11.flush t = true ∧ win0_12.flush t = true ∧ win0_13.flush t = true ∧ win0_14.flush t = true ∧ win0_15.flush t = true
    ∧ (win0_17.flush t = true ↔ t.val = 31) := by decide +kernel

theorem rows_lt (t : Fin grid0.N) (r : Fin 256) : 256 * t.val + r.val < 8192 := by
  have := lt_of_lt_of_eq t.isLt N_0; omega

theorem blk0 (c : Dev nD) (t : Fin grid0.N) (b : Fin 2) (r : Fin 256) (k : Fin 1024) :
    (iblk m c 0 t (ix3 b r k) : EReal) = (m ((c : Thread nD τ).loc main_arg0)) (ix3 b ⟨256 * t.val + r.val, rows_lt t r⟩ k) := by
  refine Eq.trans (b := V m c main_arg0 ((win0_0.blk t).view.emb (ix3 b r k))) rfl ?_
  rw [V_main_arg0]
  refine congrArg (m ((c : Thread nD τ).loc main_arg0)) (funext fun d => Fin.ext ?_)
  refine (Pipeline.Window.rect_emb_val win0_0 t (ix3 b r k) d rfl).trans ?_
  rw [(index3 t).1]
  match d with
  | ⟨0, _⟩ => show 0 * 2 + b.val = b.val; omega
  | ⟨1, _⟩ => show t.val * 256 + r.val = 256 * t.val + r.val; omega
  | ⟨2, _⟩ => show 0 * 1024 + k.val = k.val; omega

theorem blk1 (c : Dev nD) (t : Fin grid0.N) (y : (⟨2, ![1, 1024]⟩ : Shape).Idx) :
    (iblk m c 1 t y : EReal) = (m ((c : Thread nD τ).loc main_arg1)) y := by
  refine Eq.trans (b := V m c main_arg1 ((win0_1.blk t).view.emb y)) rfl ?_
  rw [V_main_arg1]
  refine congrArg (m ((c : Thread nD τ).loc main_arg1)) (funext fun d => Fin.ext ?_)
  refine (Pipeline.Window.rect_emb_val win0_1 t y d rfl).trans ?_
  rw [(index2 t).1]
  match d with
  | ⟨0, _⟩ => show 0 * 1 + (y 0).val = (y 0).val; omega
  | ⟨1, _⟩ => show 0 * 1024 + (y 1).val = (y 1).val; omega

theorem blk2 (c : Dev nD) (t : Fin grid0.N) (y : (⟨2, ![1024, 5632]⟩ : Shape).Idx) :
    (iblk m c 2 t y : EReal) = (m ((c : Thread nD τ).loc main_arg2)) y := by
  refine Eq.trans (b := V m c main_arg2 ((win0_2.blk t).view.emb y)) rfl ?_
  rw [V_main_arg2]
  refine congrArg (m ((c : Thread nD τ).loc main_arg2)) (funext fun d => Fin.ext ?_)
  refine (Pipeline.Window.rect_emb_val win0_2 t y d rfl).trans ?_
  rw [(index2 t).2.1]
  match d with
  | ⟨0, _⟩ => show 0 * 1024 + (y 0).val = (y 0).val; omega
  | ⟨1, _⟩ => show 0 * 5632 + (y 1).val = (y 1).val; omega

theorem blk3 (c : Dev nD) (t : Fin grid0.N) (y : (⟨2, ![1, 1024]⟩ : Shape).Idx) :
    (iblk m c 3 t y : EReal) = (m ((c : Thread nD τ).loc main_arg3)) y := by
  refine Eq.trans (b := V m c main_arg3 ((win0_3.blk t).view.emb y)) rfl ?_
  rw [V_main_arg3]
  refine congrArg (m ((c : Thread nD τ).loc main_arg3)) (funext fun d => Fin.ext ?_)
  refine (Pipeline.Window.rect_emb_val win0_3 t y d rfl).trans ?_
  rw [(index2 t).2.2.1]
  match d with
  | ⟨0, _⟩ => show 0 * 1 + (y 0).val = (y 0).val; omega
  | ⟨1, _⟩ => show 0 * 1024 + (y 1).val = (y 1).val; omega

theorem blk4 (c : Dev nD) (t : Fin grid0.N) (y : (⟨2, ![1, 256]⟩ : Shape).Idx) :
    (iblk m c 4 t y : EReal) = (m ((c : Thread nD τ).loc main_arg4)) y := by
  refine Eq.trans (b := V m c main_arg4 ((win0_4.blk t).view.emb y)) rfl ?_
  rw [V_main_arg4]
  refine congrArg (m ((c : Thread nD τ).loc main_arg4)) (funext fun d => Fin.ext ?_)
  refine (Pipeline.Window.rect_emb_val win0_4 t y d rfl).trans ?_
  rw [(index2 t).2.2.2]
  match d with
  | ⟨0, _⟩ => show 0 * 1 + (y 0).val = (y 0).val; omega
  | ⟨1, _⟩ => show 0 * 256 + (y 1).val = (y 1).val; omega

/-- The six results of whole arguments. -/
def R11 (x : FVec FI S2x8192x1024 .f32) (g : FVec FI S1x1024 .f32) (w : FVec FI S1024x5632 .bf16) (q : FVec FI S1x1024 .f32) : (⟨3, ![2, 8192, 1024]⟩ : Shape).Idx → EReal :=
  fun y => qF (rowf x (y 0) (y 1)) (grow g) w q (y 2)

def R12 (x : FVec FI S2x8192x1024 .f32) (g : FVec FI S1x1024 .f32) (w : FVec FI S1024x5632 .bf16) (q : FVec FI S1x256 .f32) : (⟨3, ![2, 8192, 256]⟩ : Shape).Idx → EReal :=
  fun y => kF (rowf x (y 0) (y 1)) (grow g) w q (y 2)

def R13 (x : FVec FI S2x8192x1024 .f32) (g : FVec FI S1x1024 .f32) (w : FVec FI S1024x5632 .bf16) : (⟨3, ![2, 8192, 256]⟩ : Shape).Idx → EReal :=
  fun y => vF (rowf x (y 0) (y 1)) (grow g) w (y 2)

def R14 (x : FVec FI S2x8192x1024 .f32) (g : FVec FI S1x1024 .f32) (w : FVec FI S1024x5632 .bf16) : (⟨3, ![2, 8192, 1024]⟩ : Shape).Idx → EReal :=
  fun y => gaF (rowf x (y 0) (y 1)) (grow g) w (y 2)

def R15 (x : FVec FI S2x8192x1024 .f32) (g : FVec FI S1x1024 .f32) (w : FVec FI S1024x5632 .bf16) : (⟨3, ![2, 8192, 1024]⟩ : Shape).Idx → EReal :=
  fun y => gbF (rowf x (y 0) (y 1)) (grow g) w (y 2)

def R17 (x : FVec FI S2x8192x1024 .f32) (g : FVec FI S1x1024 .f32) (w : FVec FI S1024x5632 .bf16) : (⟨3, ![2, 32, 1024]⟩ : Shape).Idx → EReal :=
  fun y => tailF (rowf x (y 0) ⟨8160 + (y 1).val, by have := (y 1).isLt; change _ < 32 at this; omega⟩) (grow g) w (y 2)

theorem row_blk (c : Dev nD) (t : Fin grid0.N) (b : Fin 2) (r : Fin 256) (r' : Fin 8192) (h : r'.val = 256 * t.val + r.val) :
    rowf (n := 256) (iblk m c 0 t) b r = rowf (n := 8192) (m ((c : Thread nD τ).loc main_arg0)) b r' := by
  funext k
  exact (blk0 m c t b r k).trans (congrArg (fun r => ((m ((c : Thread nD τ).loc main_arg0)) (ix3 b r k) : EReal)) (Fin.ext h.symm))

theorem grow_blk (c : Dev nD) (t : Fin grid0.N) : grow (iblk m c 1 t) = grow (m ((c : Thread nD τ).loc main_arg1)) :=
  funext fun k => blk1 m c t (ix2 0 k)

theorem outs11 (c : Dev nD) (t : Fin cfg0.N) : (outsAt0 m c t).1 = G11 (iblk m c 0 t) (iblk m c 1 t) (iblk m c 2 t) (iblk m c 3 t) := by
  unfold outsAt0
  dsimp only
  exact out11 ..

theorem flushed11 (c : Dev nD) (t : Fin cfg0.N) : (dats m 0 c).flushed 11 t = (cfg0.win 11).cut (grid0.coords t) (outsAt0 m c t).1 := by
  show (cfg0.win 11).cut (grid0.coords t) ((dats m 0 c).after 11 t) = _
  rw [after0_11]

theorem fl11 (c : Dev nD) (t : Fin cfg0.N) (y : (⟨3, ![2, 256, 1024]⟩ : Shape).Idx) :
    ((dats m 0 c).flushed 11 t y : EReal) = G11 (iblk m c 0 t) (iblk m c 1 t) (iblk m c 2 t) (iblk m c 3 t) y := by
  rw [flushed11, outs11]
  rfl

/-- Result 11 after the run. -/
theorem final11 {r} (h : Final m r) (c : Dev nD) : r.2.mem ((c : Thread nD τ).loc main_v7_0) = R11 (m ((c : Thread nD τ).loc main_arg0)) (m ((c : Thread nD τ).loc main_arg1)) (m ((c : Thread nD τ).loc main_arg2)) (m ((c : Thread nD τ).loc main_arg3)) := by
  refine (final_out m h c 11 rfl).trans (Pipeline.Dat.arrAt_eq_of_emb _ 11 _ ?_ ?_)
  · intro t hf y
    have hd : ∀ d : Fin 3, (((win0_11.blk t).view.emb y) d).val = win0_11.index t d * (![2, 256, 1024] : Fin 3 → ℕ) d + (y d).val :=
      fun d => Pipeline.Window.rect_emb_val win0_11 t y d rfl
    rw [(index3 t).2.1] at hd
    have h0 := hd 0; have h1 := hd 1; have h2 := hd 2
    have e0 : ((win0_11.blk t).view.emb y) 0 = y 0 := Fin.ext (h0.trans (by show 0 * 2 + (y 0).val = _; omega))
    have e2 : ((win0_11.blk t).view.emb y) 2 = y 2 := Fin.ext (h2.trans (by show 0 * 1024 + (y 2).val = _; omega))
    have e1 : (((win0_11.blk t).view.emb y) 1).val = 256 * t.val + (y 1).val := h1.trans (by show t.val * 256 + (y 1).val = _; omega)
    refine Eq.trans (fl11 m c t y) ?_
    refine Eq.trans (?_ : _ = R11 (m ((c : Thread nD τ).loc main_arg0)) (m ((c : Thread nD τ).loc main_arg1)) (m ((c : Thread nD τ).loc main_arg2)) (m ((c : Thread nD τ).loc main_arg3)) ((win0_11.blk t).view.emb y)) rfl
    unfold G11 R11
    rw [e0, e2, grow_blk m c t, show (iblk m c 2 t : FVec FI S1024x5632 .bf16) = m ((c : Thread nD τ).loc main_arg2) from funext (blk2 m c t)]
    rw [show (iblk m c 3 t : FVec FI S1x1024 .f32) = m ((c : Thread nD τ).loc main_arg3) from funext (blk3 m c t)]
    rw [row_blk m c t (y 0) (y 1) _ e1]
  · intro p
    have hp : (p (1 : Fin 3)).val < 8192 := (p (1 : Fin 3)).isLt
    have hp0 : (p (0 : Fin 3)).val < 2 := (p (0 : Fin 3)).isLt
    have hp2 : (p (2 : Fin 3)).val < 1024 := (p (2 : Fin 3)).isLt
    have hN : (p (1 : Fin 3)).val / 256 < grid0.N := lt_of_lt_of_eq (b := 32) (by omega) N_0.symm
    refine ⟨⟨(p (1 : Fin 3)).val / 256, hN⟩, (flush_all _).1, ?_⟩
    refine (Pipeline.Window.emb_mem_blk_iff win0_11 ⟨(p (1 : Fin 3)).val / 256, hN⟩ p rfl).mpr fun a => ?_
    rw [(index3 _).2.1]
    match a with
    | ⟨0, _⟩ => show 0 * 2 ≤ (p (0 : Fin 3)).val ∧ (p (0 : Fin 3)).val < 0 * 2 + 2; omega
    | ⟨1, _⟩ => show (p (1 : Fin 3)).val / 256 * 256 ≤ (p (1 : Fin 3)).val ∧ (p (1 : Fin 3)).val < (p (1 : Fin 3)).val / 256 * 256 + 256; omega
    | ⟨2, _⟩ => show 0 * 1024 ≤ (p (2 : Fin 3)).val ∧ (p (2 : Fin 3)).val < 0 * 1024 + 1024; omega

theorem outs12 (c : Dev nD) (t : Fin cfg0.N) : (outsAt0 m c t).2.1 = G12 (iblk m c 0 t) (iblk m c 1 t) (iblk m c 2 t) (iblk m c 4 t) := by
  unfold outsAt0
  dsimp only
  exact out12 ..

theorem flushed12 (c : Dev nD) (t : Fin cfg0.N) : (dats m 0 c).flushed 12 t = (cfg0.win 12).cut (grid0.coords t) (outsAt0 m c t).2.1 := by
  show (cfg0.win 12).cut (grid0.coords t) ((dats m 0 c).after 12 t) = _
  rw [after0_12]

theorem fl12 (c : Dev nD) (t : Fin cfg0.N) (y : (⟨3, ![2, 256, 256]⟩ : Shape).Idx) :
    ((dats m 0 c).flushed 12 t y : EReal) = G12 (iblk m c 0 t) (iblk m c 1 t) (iblk m c 2 t) (iblk m c 4 t) y := by
  rw [flushed12, outs12]
  rfl

/-- Result 12 after the run. -/
theorem final12 {r} (h : Final m r) (c : Dev nD) : r.2.mem ((c : Thread nD τ).loc main_v7_1) = R12 (m ((c : Thread nD τ).loc main_arg0)) (m ((c : Thread nD τ).loc main_arg1)) (m ((c : Thread nD τ).loc main_arg2)) (m ((c : Thread nD τ).loc main_arg4)) := by
  refine (final_out m h c 12 rfl).trans (Pipeline.Dat.arrAt_eq_of_emb _ 12 _ ?_ ?_)
  · intro t hf y
    have hd : ∀ d : Fin 3, (((win0_12.blk t).view.emb y) d).val = win0_12.index t d * (![2, 256, 256] : Fin 3 → ℕ) d + (y d).val :=
      fun d => Pipeline.Window.rect_emb_val win0_12 t y d rfl
    rw [(index3 t).2.2.1] at hd
    have h0 := hd 0; have h1 := hd 1; have h2 := hd 2
    have e0 : ((win0_12.blk t).view.emb y) 0 = y 0 := Fin.ext (h0.trans (by show 0 * 2 + (y 0).val = _; omega))
    have e2 : ((win0_12.blk t).view.emb y) 2 = y 2 := Fin.ext (h2.trans (by show 0 * 256 + (y 2).val = _; omega))
    have e1 : (((win0_12.blk t).view.emb y) 1).val = 256 * t.val + (y 1).val := h1.trans (by show t.val * 256 + (y 1).val = _; omega)
    refine Eq.trans (fl12 m c t y) ?_
    refine Eq.trans (?_ : _ = R12 (m ((c : Thread nD τ).loc main_arg0)) (m ((c : Thread nD τ).loc main_arg1)) (m ((c : Thread nD τ).loc main_arg2)) (m ((c : Thread nD τ).loc main_arg4)) ((win0_12.blk t).view.emb y)) rfl
    unfold G12 R12
    rw [e0, e2, grow_blk m c t, show (iblk m c 2 t : FVec FI S1024x5632 .bf16) = m ((c : Thread nD τ).loc main_arg2) from funext (blk2 m c t)]
    rw [show (iblk m c 4 t : FVec FI S1x256 .f32) = m ((c : Thread nD τ).loc main_arg4) from funext (blk4 m c t)]
    rw [row_blk m c t (y 0) (y 1) _ e1]
  · intro p
    have hp : (p (1 : Fin 3)).val < 8192 := (p (1 : Fin 3)).isLt
    have hp0 : (p (0 : Fin 3)).val < 2 := (p (0 : Fin 3)).isLt
    have hp2 : (p (2 : Fin 3)).val < 256 := (p (2 : Fin 3)).isLt
    have hN : (p (1 : Fin 3)).val / 256 < grid0.N := lt_of_lt_of_eq (b := 32) (by omega) N_0.symm
    refine ⟨⟨(p (1 : Fin 3)).val / 256, hN⟩, (flush_all _).2.1, ?_⟩
    refine (Pipeline.Window.emb_mem_blk_iff win0_12 ⟨(p (1 : Fin 3)).val / 256, hN⟩ p rfl).mpr fun a => ?_
    rw [(index3 _).2.2.1]
    match a with
    | ⟨0, _⟩ => show 0 * 2 ≤ (p (0 : Fin 3)).val ∧ (p (0 : Fin 3)).val < 0 * 2 + 2; omega
    | ⟨1, _⟩ => show (p (1 : Fin 3)).val / 256 * 256 ≤ (p (1 : Fin 3)).val ∧ (p (1 : Fin 3)).val < (p (1 : Fin 3)).val / 256 * 256 + 256; omega
    | ⟨2, _⟩ => show 0 * 256 ≤ (p (2 : Fin 3)).val ∧ (p (2 : Fin 3)).val < 0 * 256 + 256; omega

theorem outs13 (c : Dev nD) (t : Fin cfg0.N) : (outsAt0 m c t).2.2.1 = G13 (iblk m c 0 t) (iblk m c 1 t) (iblk m c 2 t) := by
  unfold outsAt0
  dsimp only
  exact out13 ..

theorem flushed13 (c : Dev nD) (t : Fin cfg0.N) : (dats m 0 c).flushed 13 t = (cfg0.win 13).cut (grid0.coords t) (outsAt0 m c t).2.2.1 := by
  show (cfg0.win 13).cut (grid0.coords t) ((dats m 0 c).after 13 t) = _
  rw [after0_13]

theorem fl13 (c : Dev nD) (t : Fin cfg0.N) (y : (⟨3, ![2, 256, 256]⟩ : Shape).Idx) :
    ((dats m 0 c).flushed 13 t y : EReal) = G13 (iblk m c 0 t) (iblk m c 1 t) (iblk m c 2 t) y := by
  rw [flushed13, outs13]
  rfl

/-- Result 13 after the run. -/
theorem final13 {r} (h : Final m r) (c : Dev nD) : r.2.mem ((c : Thread nD τ).loc main_v7_2) = R13 (m ((c : Thread nD τ).loc main_arg0)) (m ((c : Thread nD τ).loc main_arg1)) (m ((c : Thread nD τ).loc main_arg2)) := by
  refine (final_out m h c 13 rfl).trans (Pipeline.Dat.arrAt_eq_of_emb _ 13 _ ?_ ?_)
  · intro t hf y
    have hd : ∀ d : Fin 3, (((win0_13.blk t).view.emb y) d).val = win0_13.index t d * (![2, 256, 256] : Fin 3 → ℕ) d + (y d).val :=
      fun d => Pipeline.Window.rect_emb_val win0_13 t y d rfl
    rw [(index3 t).2.2.2.1] at hd
    have h0 := hd 0; have h1 := hd 1; have h2 := hd 2
    have e0 : ((win0_13.blk t).view.emb y) 0 = y 0 := Fin.ext (h0.trans (by show 0 * 2 + (y 0).val = _; omega))
    have e2 : ((win0_13.blk t).view.emb y) 2 = y 2 := Fin.ext (h2.trans (by show 0 * 256 + (y 2).val = _; omega))
    have e1 : (((win0_13.blk t).view.emb y) 1).val = 256 * t.val + (y 1).val := h1.trans (by show t.val * 256 + (y 1).val = _; omega)
    refine Eq.trans (fl13 m c t y) ?_
    refine Eq.trans (?_ : _ = R13 (m ((c : Thread nD τ).loc main_arg0)) (m ((c : Thread nD τ).loc main_arg1)) (m ((c : Thread nD τ).loc main_arg2)) ((win0_13.blk t).view.emb y)) rfl
    unfold G13 R13
    rw [e0, e2, grow_blk m c t, show (iblk m c 2 t : FVec FI S1024x5632 .bf16) = m ((c : Thread nD τ).loc main_arg2) from funext (blk2 m c t)]
    rw [row_blk m c t (y 0) (y 1) _ e1]
  · intro p
    have hp : (p (1 : Fin 3)).val < 8192 := (p (1 : Fin 3)).isLt
    have hp0 : (p (0 : Fin 3)).val < 2 := (p (0 : Fin 3)).isLt
    have hp2 : (p (2 : Fin 3)).val < 256 := (p (2 : Fin 3)).isLt
    have hN : (p (1 : Fin 3)).val / 256 < grid0.N := lt_of_lt_of_eq (b := 32) (by omega) N_0.symm
    refine ⟨⟨(p (1 : Fin 3)).val / 256, hN⟩, (flush_all _).2.2.1, ?_⟩
    refine (Pipeline.Window.emb_mem_blk_iff win0_13 ⟨(p (1 : Fin 3)).val / 256, hN⟩ p rfl).mpr fun a => ?_
    rw [(index3 _).2.2.2.1]
    match a with
    | ⟨0, _⟩ => show 0 * 2 ≤ (p (0 : Fin 3)).val ∧ (p (0 : Fin 3)).val < 0 * 2 + 2; omega
    | ⟨1, _⟩ => show (p (1 : Fin 3)).val / 256 * 256 ≤ (p (1 : Fin 3)).val ∧ (p (1 : Fin 3)).val < (p (1 : Fin 3)).val / 256 * 256 + 256; omega
    | ⟨2, _⟩ => show 0 * 256 ≤ (p (2 : Fin 3)).val ∧ (p (2 : Fin 3)).val < 0 * 256 + 256; omega

theorem outs14 (c : Dev nD) (t : Fin cfg0.N) : (outsAt0 m c t).2.2.2.1 = G14 (iblk m c 0 t) (iblk m c 1 t) (iblk m c 2 t) := by
  unfold outsAt0
  dsimp only
  exact out14 ..

theorem flushed14 (c : Dev nD) (t : Fin cfg0.N) : (dats m 0 c).flushed 14 t = (cfg0.win 14).cut (grid0.coords t) (outsAt0 m c t).2.2.2.1 := by
  show (cfg0.win 14).cut (grid0.coords t) ((dats m 0 c).after 14 t) = _
  rw [after0_14]

theorem fl14 (c : Dev nD) (t : Fin cfg0.N) (y : (⟨3, ![2, 256, 1024]⟩ : Shape).Idx) :
    ((dats m 0 c).flushed 14 t y : EReal) = G14 (iblk m c 0 t) (iblk m c 1 t) (iblk m c 2 t) y := by
  rw [flushed14, outs14]
  rfl

/-- Result 14 after the run. -/
theorem final14 {r} (h : Final m r) (c : Dev nD) : r.2.mem ((c : Thread nD τ).loc main_v7_3) = R14 (m ((c : Thread nD τ).loc main_arg0)) (m ((c : Thread nD τ).loc main_arg1)) (m ((c : Thread nD τ).loc main_arg2)) := by
  refine (final_out m h c 14 rfl).trans (Pipeline.Dat.arrAt_eq_of_emb _ 14 _ ?_ ?_)
  · intro t hf y
    have hd : ∀ d : Fin 3, (((win0_14.blk t).view.emb y) d).val = win0_14.index t d * (![2, 256, 1024] : Fin 3 → ℕ) d + (y d).val :=
      fun d => Pipeline.Window.rect_emb_val win0_14 t y d rfl
    rw [(index3 t).2.2.2.2.1] at hd
    have h0 := hd 0; have h1 := hd 1; have h2 := hd 2
    have e0 : ((win0_14.blk t).view.emb y) 0 = y 0 := Fin.ext (h0.trans (by show 0 * 2 + (y 0).val = _; omega))
    have e2 : ((win0_14.blk t).view.emb y) 2 = y 2 := Fin.ext (h2.trans (by show 0 * 1024 + (y 2).val = _; omega))
    have e1 : (((win0_14.blk t).view.emb y) 1).val = 256 * t.val + (y 1).val := h1.trans (by show t.val * 256 + (y 1).val = _; omega)
    refine Eq.trans (fl14 m c t y) ?_
    refine Eq.trans (?_ : _ = R14 (m ((c : Thread nD τ).loc main_arg0)) (m ((c : Thread nD τ).loc main_arg1)) (m ((c : Thread nD τ).loc main_arg2)) ((win0_14.blk t).view.emb y)) rfl
    unfold G14 R14
    rw [e0, e2, grow_blk m c t, show (iblk m c 2 t : FVec FI S1024x5632 .bf16) = m ((c : Thread nD τ).loc main_arg2) from funext (blk2 m c t)]
    rw [row_blk m c t (y 0) (y 1) _ e1]
  · intro p
    have hp : (p (1 : Fin 3)).val < 8192 := (p (1 : Fin 3)).isLt
    have hp0 : (p (0 : Fin 3)).val < 2 := (p (0 : Fin 3)).isLt
    have hp2 : (p (2 : Fin 3)).val < 1024 := (p (2 : Fin 3)).isLt
    have hN : (p (1 : Fin 3)).val / 256 < grid0.N := lt_of_lt_of_eq (b := 32) (by omega) N_0.symm
    refine ⟨⟨(p (1 : Fin 3)).val / 256, hN⟩, (flush_all _).2.2.2.1, ?_⟩
    refine (Pipeline.Window.emb_mem_blk_iff win0_14 ⟨(p (1 : Fin 3)).val / 256, hN⟩ p rfl).mpr fun a => ?_
    rw [(index3 _).2.2.2.2.1]
    match a with
    | ⟨0, _⟩ => show 0 * 2 ≤ (p (0 : Fin 3)).val ∧ (p (0 : Fin 3)).val < 0 * 2 + 2; omega
    | ⟨1, _⟩ => show (p (1 : Fin 3)).val / 256 * 256 ≤ (p (1 : Fin 3)).val ∧ (p (1 : Fin 3)).val < (p (1 : Fin 3)).val / 256 * 256 + 256; omega
    | ⟨2, _⟩ => show 0 * 1024 ≤ (p (2 : Fin 3)).val ∧ (p (2 : Fin 3)).val < 0 * 1024 + 1024; omega

theorem outs15 (c : Dev nD) (t : Fin cfg0.N) : (outsAt0 m c t).2.2.2.2.1 = G15 (iblk m c 0 t) (iblk m c 1 t) (iblk m c 2 t) := by
  unfold outsAt0
  dsimp only
  exact out15 ..

theorem flushed15 (c : Dev nD) (t : Fin cfg0.N) : (dats m 0 c).flushed 15 t = (cfg0.win 15).cut (grid0.coords t) (outsAt0 m c t).2.2.2.2.1 := by
  show (cfg0.win 15).cut (grid0.coords t) ((dats m 0 c).after 15 t) = _
  rw [after0_15]

theorem fl15 (c : Dev nD) (t : Fin cfg0.N) (y : (⟨3, ![2, 256, 1024]⟩ : Shape).Idx) :
    ((dats m 0 c).flushed 15 t y : EReal) = G15 (iblk m c 0 t) (iblk m c 1 t) (iblk m c 2 t) y := by
  rw [flushed15, outs15]
  rfl

/-- Result 15 after the run. -/
theorem final15 {r} (h : Final m r) (c : Dev nD) : r.2.mem ((c : Thread nD τ).loc main_v7_4) = R15 (m ((c : Thread nD τ).loc main_arg0)) (m ((c : Thread nD τ).loc main_arg1)) (m ((c : Thread nD τ).loc main_arg2)) := by
  refine (final_out m h c 15 rfl).trans (Pipeline.Dat.arrAt_eq_of_emb _ 15 _ ?_ ?_)
  · intro t hf y
    have hd : ∀ d : Fin 3, (((win0_15.blk t).view.emb y) d).val = win0_15.index t d * (![2, 256, 1024] : Fin 3 → ℕ) d + (y d).val :=
      fun d => Pipeline.Window.rect_emb_val win0_15 t y d rfl
    rw [(index3 t).2.2.2.2.2.1] at hd
    have h0 := hd 0; have h1 := hd 1; have h2 := hd 2
    have e0 : ((win0_15.blk t).view.emb y) 0 = y 0 := Fin.ext (h0.trans (by show 0 * 2 + (y 0).val = _; omega))
    have e2 : ((win0_15.blk t).view.emb y) 2 = y 2 := Fin.ext (h2.trans (by show 0 * 1024 + (y 2).val = _; omega))
    have e1 : (((win0_15.blk t).view.emb y) 1).val = 256 * t.val + (y 1).val := h1.trans (by show t.val * 256 + (y 1).val = _; omega)
    refine Eq.trans (fl15 m c t y) ?_
    refine Eq.trans (?_ : _ = R15 (m ((c : Thread nD τ).loc main_arg0)) (m ((c : Thread nD τ).loc main_arg1)) (m ((c : Thread nD τ).loc main_arg2)) ((win0_15.blk t).view.emb y)) rfl
    unfold G15 R15
    rw [e0, e2, grow_blk m c t, show (iblk m c 2 t : FVec FI S1024x5632 .bf16) = m ((c : Thread nD τ).loc main_arg2) from funext (blk2 m c t)]
    rw [row_blk m c t (y 0) (y 1) _ e1]
  · intro p
    have hp : (p (1 : Fin 3)).val < 8192 := (p (1 : Fin 3)).isLt
    have hp0 : (p (0 : Fin 3)).val < 2 := (p (0 : Fin 3)).isLt
    have hp2 : (p (2 : Fin 3)).val < 1024 := (p (2 : Fin 3)).isLt
    have hN : (p (1 : Fin 3)).val / 256 < grid0.N := lt_of_lt_of_eq (b := 32) (by omega) N_0.symm
    refine ⟨⟨(p (1 : Fin 3)).val / 256, hN⟩, (flush_all _).2.2.2.2.1, ?_⟩
    refine (Pipeline.Window.emb_mem_blk_iff win0_15 ⟨(p (1 : Fin 3)).val / 256, hN⟩ p rfl).mpr fun a => ?_
    rw [(index3 _).2.2.2.2.2.1]
    match a with
    | ⟨0, _⟩ => show 0 * 2 ≤ (p (0 : Fin 3)).val ∧ (p (0 : Fin 3)).val < 0 * 2 + 2; omega
    | ⟨1, _⟩ => show (p (1 : Fin 3)).val / 256 * 256 ≤ (p (1 : Fin 3)).val ∧ (p (1 : Fin 3)).val < (p (1 : Fin 3)).val / 256 * 256 + 256; omega
    | ⟨2, _⟩ => show 0 * 1024 ≤ (p (2 : Fin 3)).val ∧ (p (2 : Fin 3)).val < 0 * 1024 + 1024; omega

theorem outs17 (c : Dev nD) (t : Fin cfg0.N) : (outsAt0 m c t).2.2.2.2.2 = G17 (iblk m c 0 t) (iblk m c 1 t) (iblk m c 2 t) := by
  unfold outsAt0
  dsimp only
  exact out17 ..

theorem flushed17 (c : Dev nD) (t : Fin cfg0.N) : (dats m 0 c).flushed 17 t = (cfg0.win 17).cut (grid0.coords t) (outsAt0 m c t).2.2.2.2.2 := by
  show (cfg0.win 17).cut (grid0.coords t) ((dats m 0 c).after 17 t) = _
  rw [after0_17]

theorem fl17 (c : Dev nD) (t : Fin cfg0.N) (y : (⟨3, ![2, 32, 1024]⟩ : Shape).Idx) :
    ((dats m 0 c).flushed 17 t y : EReal) = G17 (iblk m c 0 t) (iblk m c 1 t) (iblk m c 2 t) y := by
  rw [flushed17, outs17]
  rfl

/-- Result 17 after the run. -/
theorem final17 {r} (h : Final m r) (c : Dev nD) : r.2.mem ((c : Thread nD τ).loc main_v7_6) = R17 (m ((c : Thread nD τ).loc main_arg0)) (m ((c : Thread nD τ).loc main_arg1)) (m ((c : Thread nD τ).loc main_arg2)) := by
  refine (final_out m h c 17 rfl).trans (Pipeline.Dat.arrAt_eq_of_emb _ 17 _ ?_ ?_)
  · intro t hf y
    have hd : ∀ d : Fin 3, (((win0_17.blk t).view.emb y) d).val = win0_17.index t d * (![2, 32, 1024] : Fin 3 → ℕ) d + (y d).val :=
      fun d => Pipeline.Window.rect_emb_val win0_17 t y d rfl
    rw [(index3 t).2.2.2.2.2.2] at hd
    have h0 := hd 0; have h1 := hd 1; have h2 := hd 2
    have ht := (flush_all t).2.2.2.2.2.mp hf
    have e0 : ((win0_17.blk t).view.emb y) 0 = y 0 := Fin.ext (h0.trans (by show 0 * 2 + (y 0).val = _; omega))
    have e2 : ((win0_17.blk t).view.emb y) 2 = y 2 := Fin.ext (h2.trans (by show 0 * 1024 + (y 2).val = _; omega))
    have e1 : (((win0_17.blk t).view.emb y) 1).val = (y 1).val := h1.trans (by show 0 * 32 + (y 1).val = _; omega)
    refine Eq.trans (fl17 m c t y) ?_
    refine Eq.trans (?_ : _ = R17 (m ((c : Thread nD τ).loc main_arg0)) (m ((c : Thread nD τ).loc main_arg1)) (m ((c : Thread nD τ).loc main_arg2)) ((win0_17.blk t).view.emb y)) rfl
    unfold G17 R17
    rw [e0, e2, grow_blk m c t, show (iblk m c 2 t : FVec FI S1024x5632 .bf16) = m ((c : Thread nD τ).loc main_arg2) from funext (blk2 m c t)]
    rw [row_blk m c t (y 0) _ ⟨8160 + (((win0_17.blk t).view.emb y) 1).val, by have := (y 1).isLt; change _ < 32 at this; omega⟩ (by show 8160 + _ = 256 * t.val + (224 + (y 1).val); omega)]
  · intro p
    have hp : (p (1 : Fin 3)).val < 32 := (p (1 : Fin 3)).isLt
    have hp0 : (p (0 : Fin 3)).val < 2 := (p (0 : Fin 3)).isLt
    have hp2 : (p (2 : Fin 3)).val < 1024 := (p (2 : Fin 3)).isLt
    have hN : 31 < grid0.N := lt_of_lt_of_eq (b := 32) (by omega) N_0.symm
    refine ⟨⟨31, hN⟩, (flush_all _).2.2.2.2.2.mpr rfl, ?_⟩
    refine (Pipeline.Window.emb_mem_blk_iff win0_17 ⟨31, hN⟩ p rfl).mpr fun a => ?_
    rw [(index3 _).2.2.2.2.2.2]
    match a with
    | ⟨0, _⟩ => show 0 * 2 ≤ (p (0 : Fin 3)).val ∧ (p (0 : Fin 3)).val < 0 * 2 + 2; omega
    | ⟨1, _⟩ => show 0 * 32 ≤ (p (1 : Fin 3)).val ∧ (p (1 : Fin 3)).val < 0 * 32 + 32; omega
    | ⟨2, _⟩ => show 0 * 1024 ≤ (p (2 : Fin 3)).val ∧ (p (2 : Fin 3)).val < 0 * 1024 + 1024; omega

end Cert.PromptIdeal.Rows
end
-- ==== Proof.PromptReference.lean ====
/- What the reference's host program computes, read at one index: the same rows' functions. -/
module
public import proofs.«01_k».proof.Proof.PromptValue
public import proofs.«01_k».proof.Proof.Gen.PromptRefIdeal.Run
public import Idealize.ShloMosaic.Lib.Pointwise
public import Idealize.ShloMosaic.Lib.IdealHost

@[expose] public section

set_option maxRecDepth 16384

noncomputable section

namespace Cert.PromptRefIdeal.Rows

open Cert.PromptRefIdeal Cert.PromptRefIdeal.Gen
open Cert.PromptIdeal.Rows (nrm dotc hid hnrm eps wid rowf grow vF kF qF gaF gbF tailF hid_congr R11 R12 R13 R14 R15 R17)
open Idealize.ShloMosaic

local notation "FI" => Idealize.ShloMosaic.Ideal

/-- The reference's combined projection. -/
def hidden (x : FVec FI S2x8192x1024 .f32) (g : FVec FI S1x1024 .f32) (w : FVec FI S1024x5632 .bf16) : FVec FI S2x8192x5632 .f32 :=
  Host.dotGeneral dot_S2x8192x1024_S1024x5632_S2x8192x5632_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![1, 2] bcast_S1x1024_S1x1x1024_1_2 g))) (extf .f32 w bitsLt_bf16_f32)

theorem hidden_at (x : FVec FI S2x8192x1024 .f32) (g : FVec FI S1x1024 .f32) (w : FVec FI S1024x5632 .bf16) (b : Fin 2) (r : Fin 8192) (n : Fin 5632) :
    hidden x g w (ix3 b r n) = hid (rowf x b r) (grow g) w n.val n.isLt := by
  unfold hid dotc nrm rowf grow eps wid
  pointwise [hidden]

/-- One over one plus the exponential of the negative is the logistic. -/
theorem logistic_eq (x : EReal) : Ideal.div 1 (1 + Ideal.exp (-x)) = Ideal.logistic x := by
  rfl

def tv19 (x : FVec FI S2x8192x1024 .f32) (g : FVec FI S1x1024 .f32) (w : FVec FI S1024x5632 .bf16) : FVec FI S2x8192x256 .f32 :=
  extractStridedSlice S2x8192x256 ![0, 0, 3328] (hidden x g w) slices_S2x8192x5632_S2x8192x256_0_0_3328

theorem tv19_eq (x : FVec FI S2x8192x1024 .f32) (g : FVec FI S1x1024 .f32) (w : FVec FI S1024x5632 .bf16) : tv19 x g w = R13 x g w := by
  funext y
  obtain ⟨b, r, c, rfl⟩ : ∃ (b : Fin 2) (r : Fin 8192) (c : Fin 256), y = ix3 b r c := ⟨y 0, y 1, y 2, eq_ix3 y⟩
  show _ = vF (rowf x b r) (grow g) w c
  unfold vF
  pointwise [tv19]
  simp only [hidden_at]

def tv66 (x : FVec FI S2x8192x1024 .f32) (g : FVec FI S1x1024 .f32) (w : FVec FI S1024x5632 .bf16) : FVec FI S2x8192x1024 .bf16 :=
  truncf .bf16 (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 3584] (hidden x g w) slices_S2x8192x5632_S2x8192x1024_0_0_3584))))) bitsLt_bf16_f32

theorem tv66_eq (x : FVec FI S2x8192x1024 .f32) (g : FVec FI S1x1024 .f32) (w : FVec FI S1024x5632 .bf16) : tv66 x g w = R14 x g w := by
  funext y
  obtain ⟨b, r, c, rfl⟩ : ∃ (b : Fin 2) (r : Fin 8192) (c : Fin 1024), y = ix3 b r c := ⟨y 0, y 1, y 2, eq_ix3 y⟩
  show _ = gaF (rowf x b r) (grow g) w c
  unfold gaF
  pointwise [tv66]
  simp only [hidden_at, Ideal.ofBits_one_f32, logistic_eq]

def tv73 (x : FVec FI S2x8192x1024 .f32) (g : FVec FI S1x1024 .f32) (w : FVec FI S1024x5632 .bf16) : FVec FI S2x8192x1024 .bf16 :=
  truncf .bf16 (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 4608] (hidden x g w) slices_S2x8192x5632_S2x8192x1024_0_0_4608))))) bitsLt_bf16_f32

theorem tv73_eq (x : FVec FI S2x8192x1024 .f32) (g : FVec FI S1x1024 .f32) (w : FVec FI S1024x5632 .bf16) : tv73 x g w = R15 x g w := by
  funext y
  obtain ⟨b, r, c, rfl⟩ : ∃ (b : Fin 2) (r : Fin 8192) (c : Fin 1024), y = ix3 b r c := ⟨y 0, y 1, y 2, eq_ix3 y⟩
  show _ = gbF (rowf x b r) (grow g) w c
  unfold gbF
  pointwise [tv73]
  simp only [hidden_at, Ideal.ofBits_one_f32, logistic_eq]

def tv74 (x : FVec FI S2x8192x1024 .f32) (g : FVec FI S1x1024 .f32) (w : FVec FI S1024x5632 .bf16) : FVec FI S2x32x1024 .f32 :=
  extractStridedSlice S2x32x1024 ![0, 8160, 0] (mulf (extractStridedSlice S2x8192x1024 ![0, 0, 0] (hidden x g w) slices_S2x8192x5632_S2x8192x1024_0_0_0) (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 1024] (hidden x g w) slices_S2x8192x5632_S2x8192x1024_0_0_1024)))))) slices_S2x8192x1024_S2x32x1024_0_8160_0

theorem tv74_eq (x : FVec FI S2x8192x1024 .f32) (g : FVec FI S1x1024 .f32) (w : FVec FI S1024x5632 .bf16) : tv74 x g w = R17 x g w := by
  funext y
  obtain ⟨b, r, c, rfl⟩ : ∃ (b : Fin 2) (r : Fin 32) (c : Fin 1024), y = ix3 b r c := ⟨y 0, y 1, y 2, eq_ix3 y⟩
  show _ = tailF (rowf x b ⟨8160 + r.val, by omega⟩) (grow g) w c
  unfold tailF
  pointwise [tv74]
  simp only [hidden_at, Ideal.ofBits_one_f32, logistic_eq]

def tv51 (x : FVec FI S2x8192x1024 .f32) (g : FVec FI S1x1024 .f32) (w : FVec FI S1024x5632 .bf16) (q : FVec FI S1x256 .f32) : FVec FI S2x8192x256 .f32 :=
  mulf (shapeCast _ (mulf (shapeCast _ (extractStridedSlice S2x8192x256 ![0, 0, 3072] (hidden x g w) slices_S2x8192x5632_S2x8192x256_0_0_3072) shapeCasts_S2x8192x256_S2x8192x4x64) (broadcastInDim S2x8192x4x64 ![0, 1, 2, 3] bcast_S2x8192x4x1_S2x8192x4x64_0_1_2_3 (Host.rsqrt (addf (Host.divf (broadcastInDim S2x8192x4x1 ![0, 1, 2] bcast_S2x8192x4_S2x8192x4x1_0_1_2 (Host.reduceAdd (mulf (shapeCast _ (extractStridedSlice S2x8192x256 ![0, 0, 3072] (hidden x g w) slices_S2x8192x5632_S2x8192x256_0_0_3072) shapeCasts_S2x8192x256_S2x8192x4x64) (shapeCast _ (extractStridedSlice S2x8192x256 ![0, 0, 3072] (hidden x g w) slices_S2x8192x5632_S2x8192x256_0_0_3072) shapeCasts_S2x8192x256_S2x8192x4x64)) (constant S_ .f32 0x00000000#32) reducesTo_S2x8192x4x64_S2x8192x4_d3 h_S_)) (broadcastInDim S2x8192x4x1 ![] bcast_S_S2x8192x4x1 (constant S_ .f32 0x42800000#32))) (broadcastInDim S2x8192x4x1 ![] bcast_S_S2x8192x4x1 (constant S_ .f32 0x358637BD#32)))))) shapeCasts_S2x8192x4x64_S2x8192x256) (broadcastInDim S2x8192x256 ![0, 1, 2] bcast_S1x1x256_S2x8192x256_0_1_2 (broadcastInDim S1x1x256 ![1, 2] bcast_S1x256_S1x1x256_1_2 q))

theorem tv51_eq (x : FVec FI S2x8192x1024 .f32) (g : FVec FI S1x1024 .f32) (w : FVec FI S1024x5632 .bf16) (q : FVec FI S1x256 .f32) : tv51 x g w q = R12 x g w q := by
  funext y
  obtain ⟨b, r, c, rfl⟩ : ∃ (b : Fin 2) (r : Fin 8192) (c : Fin 256), y = ix3 b r c := ⟨y 0, y 1, y 2, eq_ix3 y⟩
  show _ = kF (rowf x b r) (grow g) w q c
  unfold kF hnrm eps
  pointwise [tv51]
  simp only [hidden_at]
  simp only [Nat.mul_comm (c.val / 64) 64]

def tv59 (x : FVec FI S2x8192x1024 .f32) (g : FVec FI S1x1024 .f32) (w : FVec FI S1024x5632 .bf16) (q : FVec FI S1x1024 .f32) : FVec FI S2x8192x1024 .bf16 :=
  truncf .bf16 (mulf (shapeCast _ (mulf (shapeCast _ (extractStridedSlice S2x8192x1024 ![0, 0, 2048] (hidden x g w) slices_S2x8192x5632_S2x8192x1024_0_0_2048) shapeCasts_S2x8192x1024_S2x8192x16x64) (broadcastInDim S2x8192x16x64 ![0, 1, 2, 3] bcast_S2x8192x16x1_S2x8192x16x64_0_1_2_3 (Host.rsqrt (addf (Host.divf (broadcastInDim S2x8192x16x1 ![0, 1, 2] bcast_S2x8192x16_S2x8192x16x1_0_1_2 (Host.reduceAdd (mulf (shapeCast _ (extractStridedSlice S2x8192x1024 ![0, 0, 2048] (hidden x g w) slices_S2x8192x5632_S2x8192x1024_0_0_2048) shapeCasts_S2x8192x1024_S2x8192x16x64) (shapeCast _ (extractStridedSlice S2x8192x1024 ![0, 0, 2048] (hidden x g w) slices_S2x8192x5632_S2x8192x1024_0_0_2048) shapeCasts_S2x8192x1024_S2x8192x16x64)) (constant S_ .f32 0x00000000#32) reducesTo_S2x8192x16x64_S2x8192x16_d3 h_S_)) (broadcastInDim S2x8192x16x1 ![] bcast_S_S2x8192x16x1 (constant S_ .f32 0x42800000#32))) (broadcastInDim S2x8192x16x1 ![] bcast_S_S2x8192x16x1 (constant S_ .f32 0x358637BD#32)))))) shapeCasts_S2x8192x16x64_S2x8192x1024) (broadcastInDim S2x8192x1024 ![0, 1, 2] bcast_S1x1x1024_S2x8192x1024_0_1_2 (broadcastInDim S1x1x1024 ![1, 2] bcast_S1x1024_S1x1x1024_1_2 q))) bitsLt_bf16_f32

theorem tv59_eq (x : FVec FI S2x8192x1024 .f32) (g : FVec FI S1x1024 .f32) (w : FVec FI S1024x5632 .bf16) (q : FVec FI S1x1024 .f32) : tv59 x g w q = R11 x g w q := by
  funext y
  obtain ⟨b, r, c, rfl⟩ : ∃ (b : Fin 2) (r : Fin 8192) (c : Fin 1024), y = ix3 b r c := ⟨y 0, y 1, y 2, eq_ix3 y⟩
  show _ = qF (rowf x b r) (grow g) w q c
  unfold qF hnrm eps
  pointwise [tv59]
  simp only [hidden_at]
  simp only [Nat.mul_comm (c.val / 64) 64]

end Cert.PromptRefIdeal.Rows
end
-- ==== Proof.PromptClaims.lean ====
/- The claims about the prompt's projection call: its frames, the rewriting of its packed words, and its six results against the reference's. -/
module
public import proofs.«01_k».proof.Defs
public import proofs.«01_k».proof.Proof.PromptReference
public import proofs.«01_k».proof.Proof.PromptFrame
public import proofs.«01_k».proof.Proof.Gen.Prompt
public import proofs.«01_k».proof.Proof.Gen.PromptIdeal
public import proofs.«01_k».proof.Proof.Gen.PromptRefIdeal
public import Idealize.ShloMosaic.Lib.Bf16PairInverse
public import Idealize.ShloMosaic.Lib.Quiescent

@[expose] public section

set_option maxRecDepth 16384

noncomputable section

namespace Cert.Proof.PromptClaims

open Idealize.ShloMosaic Idealize.SL.Sem

/-- The call as printed runs and leaves its arguments and every counter as they were. -/
theorem frame_p : Cert.quiescent_Prompt := fun m g _ => Cert.Prompt.Hand.frame m g

/-- So does its idealization. -/
theorem frame_pi : Cert.quiescent_PromptIdeal := fun m g _ => Cert.PromptIdeal.Hand.frame m g

/-- So does the reference. -/
theorem frame_ri : Cert.quiescent_PromptRefIdeal := fun m g _ =>
  (θ_run Cert.PromptRefIdeal.defs _ _).mono (fun r h => ⟨fun c => (h c).2.2.2.2.2.2,
    Idealize.ShloMosaic.sem_eq_zero_of_no_sems (by decide) r.2⟩) (Cert.PromptRefIdeal.Value.run m g)

/-- Each rewriting of a packed word is one of the pair rules' statements. -/
theorem preserves : Cert.preserves_Prompt_PromptIdeal :=
  open Cert.PromptIdeal IdealRules.bf16_pair in
  ⟨bufferStatement S2304x2x128 S2304x1x128, statement S256x2x128 S256x1x128, selectZeroStatement S256x128,
    halfStatement S256x256, statement S128x2x128 S128x1x128, statement S256x128 S128x128⟩

/-- What the reference leaves: the same rows' functions of its arguments. -/
theorem ref_run (m : (ℓ : Loc Cert.PromptRefIdeal.nD Cert.PromptRefIdeal.τ Cert.PromptRefIdeal.sig) → Buf (Elt Ideal) ℓ) (g : Dev Cert.PromptRefIdeal.nD → PrngReg) :
    θ_run (Cert.PromptRefIdeal.defs (F := Ideal)) (onTc (τ := Cert.PromptRefIdeal.τ) (Cert.PromptRefIdeal.main (F := Ideal))) ⟨m, fun _ => 0, g⟩ (fun r => ∀ c : Dev Cert.PromptRefIdeal.nD,
      r.2.mem ((c.tc : Thread Cert.PromptRefIdeal.nD Cert.PromptRefIdeal.τ).loc Cert.PromptRefIdeal.main_v59) = Cert.PromptIdeal.Rows.R11 (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg3))
      ∧ r.2.mem ((c.tc : Thread Cert.PromptRefIdeal.nD Cert.PromptRefIdeal.τ).loc Cert.PromptRefIdeal.main_v51) = Cert.PromptIdeal.Rows.R12 (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg4))
      ∧ r.2.mem ((c.tc : Thread Cert.PromptRefIdeal.nD Cert.PromptRefIdeal.τ).loc Cert.PromptRefIdeal.main_v19) = Cert.PromptIdeal.Rows.R13 (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2))
      ∧ r.2.mem ((c.tc : Thread Cert.PromptRefIdeal.nD Cert.PromptRefIdeal.τ).loc Cert.PromptRefIdeal.main_v66) = Cert.PromptIdeal.Rows.R14 (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2))
      ∧ r.2.mem ((c.tc : Thread Cert.PromptRefIdeal.nD Cert.PromptRefIdeal.τ).loc Cert.PromptRefIdeal.main_v73) = Cert.PromptIdeal.Rows.R15 (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2))
      ∧ r.2.mem ((c.tc : Thread Cert.PromptRefIdeal.nD Cert.PromptRefIdeal.τ).loc Cert.PromptRefIdeal.main_v74) = Cert.PromptIdeal.Rows.R17 (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2))
      ∧ r.2.mem ((c.tc : Thread Cert.PromptRefIdeal.nD Cert.PromptRefIdeal.τ).loc Cert.PromptRefIdeal.main_arg0) = (m ((c.tc : Thread Cert.PromptRefIdeal.nD Cert.PromptRefIdeal.τ).loc Cert.PromptRefIdeal.main_arg0))
      ∧ r.2.mem ((c.tc : Thread Cert.PromptRefIdeal.nD Cert.PromptRefIdeal.τ).loc Cert.PromptRefIdeal.main_arg1) = (m ((c.tc : Thread Cert.PromptRefIdeal.nD Cert.PromptRefIdeal.τ).loc Cert.PromptRefIdeal.main_arg1))
      ∧ r.2.mem ((c.tc : Thread Cert.PromptRefIdeal.nD Cert.PromptRefIdeal.τ).loc Cert.PromptRefIdeal.main_arg2) = (m ((c.tc : Thread Cert.PromptRefIdeal.nD Cert.PromptRefIdeal.τ).loc Cert.PromptRefIdeal.main_arg2))
      ∧ r.2.mem ((c.tc : Thread Cert.PromptRefIdeal.nD Cert.PromptRefIdeal.τ).loc Cert.PromptRefIdeal.main_arg3) = (m ((c.tc : Thread Cert.PromptRefIdeal.nD Cert.PromptRefIdeal.τ).loc Cert.PromptRefIdeal.main_arg3))
      ∧ r.2.mem ((c.tc : Thread Cert.PromptRefIdeal.nD Cert.PromptRefIdeal.τ).loc Cert.PromptRefIdeal.main_arg4) = (m ((c.tc : Thread Cert.PromptRefIdeal.nD Cert.PromptRefIdeal.τ).loc Cert.PromptRefIdeal.main_arg4))
      ∧ r.2.mem ((c.tc : Thread Cert.PromptRefIdeal.nD Cert.PromptRefIdeal.τ).loc Cert.PromptRefIdeal.main_arg5) = (m ((c.tc : Thread Cert.PromptRefIdeal.nD Cert.PromptRefIdeal.τ).loc Cert.PromptRefIdeal.main_arg5))
      ∧ r.2.mem ((c.tc : Thread Cert.PromptRefIdeal.nD Cert.PromptRefIdeal.τ).loc Cert.PromptRefIdeal.main_arg6) = (m ((c.tc : Thread Cert.PromptRefIdeal.nD Cert.PromptRefIdeal.τ).loc Cert.PromptRefIdeal.main_arg6))
      ∧ r.2.mem ((c.tc : Thread Cert.PromptRefIdeal.nD Cert.PromptRefIdeal.τ).loc Cert.PromptRefIdeal.main_arg7) = (m ((c.tc : Thread Cert.PromptRefIdeal.nD Cert.PromptRefIdeal.τ).loc Cert.PromptRefIdeal.main_arg7))
      ∧ r.2.mem ((c.tc : Thread Cert.PromptRefIdeal.nD Cert.PromptRefIdeal.τ).loc Cert.PromptRefIdeal.main_arg8) = (m ((c.tc : Thread Cert.PromptRefIdeal.nD Cert.PromptRefIdeal.τ).loc Cert.PromptRefIdeal.main_arg8))
      ∧ r.2.mem ((c.tc : Thread Cert.PromptRefIdeal.nD Cert.PromptRefIdeal.τ).loc Cert.PromptRefIdeal.main_arg9) = (m ((c.tc : Thread Cert.PromptRefIdeal.nD Cert.PromptRefIdeal.τ).loc Cert.PromptRefIdeal.main_arg9))
      ∧ r.2.mem ((c.tc : Thread Cert.PromptRefIdeal.nD Cert.PromptRefIdeal.τ).loc Cert.PromptRefIdeal.main_arg10) = (m ((c.tc : Thread Cert.PromptRefIdeal.nD Cert.PromptRefIdeal.τ).loc Cert.PromptRefIdeal.main_arg10))) :=
  (θ_run Cert.PromptRefIdeal.defs _ _).mono (fun r h c => by
    obtain ⟨h0, h1, h2, h3, h4, h5, ha⟩ := h c
    exact ⟨h0.trans (Cert.PromptRefIdeal.Rows.tv59_eq _ _ _ _), h1.trans (Cert.PromptRefIdeal.Rows.tv51_eq _ _ _ _), h2.trans (Cert.PromptRefIdeal.Rows.tv19_eq _ _ _),
      h3.trans (Cert.PromptRefIdeal.Rows.tv66_eq _ _ _), h4.trans (Cert.PromptRefIdeal.Rows.tv73_eq _ _ _), h5.trans (Cert.PromptRefIdeal.Rows.tv74_eq _ _ _), ha⟩) (Cert.PromptRefIdeal.Value.run m g)

/-- At exact arithmetic the call's queries, keys, values, two gates and carried tail are the reference's. -/
theorem algebraic : Cert.algebraic_PromptIdeal_PromptRefIdeal := fun m g m' g' _ ha => by
  refine ⟨fun c => Cert.PromptIdeal.Rows.R11 (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)),
    fun c => Cert.PromptIdeal.Rows.R12 (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg4)),
    fun c => Cert.PromptIdeal.Rows.R13 (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)),
    fun c => Cert.PromptIdeal.Rows.R14 (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)),
    fun c => Cert.PromptIdeal.Rows.R15 (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)),
    fun c => Cert.PromptIdeal.Rows.R17 (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)), ?_, ?_⟩
  · exact (θ_run _ _ _).mono (fun _ h c => ⟨Cert.PromptIdeal.Rows.final11 m h.1 c, Cert.PromptIdeal.Rows.final12 m h.1 c, Cert.PromptIdeal.Rows.final13 m h.1 c,
      Cert.PromptIdeal.Rows.final14 m h.1 c, Cert.PromptIdeal.Rows.final15 m h.1 c, Cert.PromptIdeal.Rows.final17 m h.1 c, Cert.PromptIdeal.Hand.unchanged m h.1 c⟩)
      (Cert.PromptIdeal.Hand.run_main_quiescent m g)
  · refine (θ_run _ _ _).mono (fun _ h c => ?_) (ref_run m' g')
    obtain ⟨h0, h1, h2, h3, h4, h5, hu⟩ := h c
    obtain ⟨e0, e1, e2, e3, e4, -⟩ := ha c
    rw [e0, e1, e2, e3] at h0
    rw [e0, e1, e2, e4] at h1
    rw [e0, e1, e2] at h2 h3 h4 h5
    exact ⟨h0, h1, h2, h3, h4, h5, hu⟩

end Cert.Proof.PromptClaims
end
-- ==== Proof.FinishValue.lean ====
/- What the step between attention and experts leaves in its first result: the layer's sum of the two gated branches, projected and added to its input. -/
module
public import proofs.«01_k».proof.Proof.Gen.FinishIdeal.Value
public import proofs.«01_k».proof.Proof.Gen.FinishRefIdeal.Run
public import Idealize.ShloMosaic.Lib.Pointwise
public import Idealize.ShloMosaic.Lib.IdealHost
public import Idealize.ShloMosaic.Lib.Pipeline.Value
public import Idealize.ShloMosaic.Lib.Pipeline.ValueKit
public import Idealize.ShloMosaic.Lib.WholeRead

@[expose] public section

set_option maxRecDepth 16384

noncomputable section

namespace Cert.FinishIdeal.Rows

open Cert.FinishIdeal Cert.FinishIdeal.Gen
open Idealize.ShloMosaic Idealize.ShloMosaic.TcCoe Idealize.SL.Sem
open Idealize.ShloMosaic.Pipeline (Dat)

local notation "FI" => Idealize.ShloMosaic.Ideal

/-- A row's result: its input, plus its gated sum of the convolution branch and of the projected attention, projected. -/
def sumF (x conv o ga gb : Fin 1024 → EReal) (wa wo : (⟨2, ![1024, 1024]⟩ : Shape).Idx → EReal) (c : Fin 1024) : EReal :=
  x c + ∑ k, (ga k * conv k + gb k * ∑ j, o j * wa (ix2 j k)) * wo (ix2 k c)

/-- A row of an array. -/
def row {n : ℕ} (x : (⟨2, ![n, 1024]⟩ : Shape).Idx → EReal) (r : Fin n) (k : Fin 1024) : EReal := x (ix2 r k)

/-- The whole result, from the arrays. -/
def R {n : ℕ} (x conv o ga gb : (⟨2, ![n, 1024]⟩ : Shape).Idx → EReal) (wa wo : (⟨2, ![1024, 1024]⟩ : Shape).Idx → EReal) : (⟨2, ![n, 1024]⟩ : Shape).Idx → EReal :=
  fun y => sumF (row x (y 0)) (row conv (y 0)) (row o (y 0)) (row ga (y 0)) (row gb (y 0)) wa wo (y 1)

theorem pay4_eq (x0 : Vec FI S512x1024 .f32) (x1 x2 x3 x4 : Vec FI S512x1024 .bf16) (x5 x6 : Vec FI S1024x1024 .bf16) (r : Fin 512) (c : Fin 1024) :
    (k0_pay4 (F := FI) x2 x5 x3 x1 x4 x0 x6 (ix2 r c) : EReal) = sumF (row x0 r) (row x1 r) (row x2 r) (row x3 r) (row x4 r) x5 x6 c := by
  unfold sumF row
  pointwise [k0_pay4]

/-- The rectangle of a whole matrix sends every index to itself. -/
theorem emb_whole {A B : ℕ} (inb) (y : (⟨2, ![A, B]⟩ : Shape).Idx) : (Rect.unit (s := ⟨2, ![A, B]⟩) ![0, 0] ![A, B] inb).emb y = y := by
  funext d
  refine Fin.ext ?_
  rw [Rect.emb_apply]
  match d with
  | ⟨0, _⟩ => exact (by omega : 0 + 1 * (y 0).val = (y 0).val)
  | ⟨1, _⟩ => exact (by omega : 0 + 1 * (y 1).val = (y 1).val)

/-- Reading a whole buffer gives what it holds. -/
theorem ld_whole {A B : ℕ} {e : EltTy} {m : Memref sig .tc .vmem ⟨2, ![A, B]⟩ e} (h : m.IsWhole) (X : Vec FI ⟨2, ![A, B]⟩ e) (inb) :
    View.readAt (Elt FI) m.view (Rect.unit (s := ⟨2, ![A, B]⟩) ![0, 0] ![A, B] inb).toLoadRect (h.unread X) = X := by
  exact funext fun y => (h.readAt_unread X _ y).trans (congrArg X (emb_whole inb y))

theorem out_A (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x1024 .f32) (harg12 : arg12.IsWhole) (arg13 : Memref sig .tc .vmem S512x2x512 .bf16) (harg13 : arg13.IsWhole) (arg14 : Memref sig .tc .vmem S512x128 .f32) (harg14 : arg14.IsWhole) (arg15 : Memref sig .tc .vmem S8x128 .f32) (harg15 : arg15.IsWhole) (arg16 : Memref sig .tc .vmem S1x128 .f32) (harg16 : arg16.IsWhole) (hc0 : cond0_0 i)
    (x0 : Vec FI S512x1024 .f32) (x1 : Vec FI S512x1024 .bf16) (x2 : Vec FI S512x1024 .bf16) (x3 : Vec FI S512x1024 .bf16) (x4 : Vec FI S512x1024 .bf16) (x5 : Vec FI S1024x1024 .bf16) (x6 : Vec FI S1024x1024 .bf16) (x7 : Vec FI S1x1024 .f32) (x8 : Vec FI S1024x128 .bf16) (x9 : Vec FI S1x128 .f32) (x10 : Vec FI S512x512 .bf16) :
    out0_A_11 (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = R x0 x1 x2 x3 x4 x5 x6 := by
  funext y
  refine View.read_writes_apply_of_pieces VO0_11 VO0_11.junk (R x0 x1 x2 x3 x4 x5 x6) _ ?_ y (cover0_A_11 (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 y)
  unfold kernelRun0_A
  dsimp only
  simp only [List.forall_mem_cons]
  refine ⟨fun z => ?_, fun p hp => absurd hp List.not_mem_nil⟩
  rw [emb_whole, eq_ix2 z]
  exact (congrFun (congr (congr (congr (congr (congr (congr (congrArg k0_pay4 (ld_whole harg3 x2 _)) (ld_whole harg6 x5 _)) (ld_whole harg4 x3 _)) (ld_whole harg2 x1 _)) (ld_whole harg5 x4 _)) (ld_whole harg1 x0 _)) (ld_whole harg7 x6 _)) _).trans
    (pay4_eq x0 x1 x2 x3 x4 x5 x6 _ _)

theorem out_B (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x1024 .f32) (harg12 : arg12.IsWhole) (arg13 : Memref sig .tc .vmem S512x2x512 .bf16) (harg13 : arg13.IsWhole) (arg14 : Memref sig .tc .vmem S512x128 .f32) (harg14 : arg14.IsWhole) (arg15 : Memref sig .tc .vmem S8x128 .f32) (harg15 : arg15.IsWhole) (arg16 : Memref sig .tc .vmem S1x128 .f32) (harg16 : arg16.IsWhole) (hc0 : ¬cond0_0 i)
    (x0 : Vec FI S512x1024 .f32) (x1 : Vec FI S512x1024 .bf16) (x2 : Vec FI S512x1024 .bf16) (x3 : Vec FI S512x1024 .bf16) (x4 : Vec FI S512x1024 .bf16) (x5 : Vec FI S1024x1024 .bf16) (x6 : Vec FI S1024x1024 .bf16) (x7 : Vec FI S1x1024 .f32) (x8 : Vec FI S1024x128 .bf16) (x9 : Vec FI S1x128 .f32) (x10 : Vec FI S512x512 .bf16) (xs0 : Vec FI S1x128 .f32) :
    out0_B_11 (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 = R x0 x1 x2 x3 x4 x5 x6 := by
  funext y
  refine View.read_writes_apply_of_pieces VO0_11 VO0_11.junk (R x0 x1 x2 x3 x4 x5 x6) _ ?_ y (cover0_B_11 (F := FI) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 y)
  unfold kernelRun0_B
  dsimp only
  simp only [List.forall_mem_cons]
  refine ⟨fun z => ?_, fun p hp => absurd hp List.not_mem_nil⟩
  rw [emb_whole, eq_ix2 z]
  exact (congrFun (congr (congr (congr (congr (congr (congr (congrArg k0_pay4 (ld_whole harg3 x2 _)) (ld_whole harg6 x5 _)) (ld_whole harg4 x3 _)) (ld_whole harg2 x1 _)) (ld_whole harg5 x4 _)) (ld_whole harg1 x0 _)) (ld_whole harg7 x6 _)) _).trans
    (pay4_eq x0 x1 x2 x3 x4 x5 x6 _ _)

variable (m : (ℓ : Loc nD τ sig) → Buf (Elt FI) ℓ)

/-- Where the blocks lie: step `t` has rows `512 t` and on of the five arrays and of the result; the two matrices are whole. -/
theorem index_rows : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_11.index t = ![t.val, 0] ∧ win0_5.index t = ![0, 0] ∧ win0_6.index t = ![0, 0] := by decide +kernel

theorem row_blk0 (c : Dev nD) (t : Fin grid0.N) (r : Fin 512) (r' : Fin 16384) (h : r'.val = t.val * 512 + r.val) :
    row (n := 512) (iblk m c 0 t) r = row (n := 16384) (m ((c : Thread nD τ).loc main_arg0)) r' := by
  funext k
  refine Eq.trans (b := V m c main_arg0 ((win0_0.blk t).view.emb (ix2 r k))) rfl ?_
  rw [V_main_arg0]
  refine congrArg (m ((c : Thread nD τ).loc main_arg0)) (funext fun d => Fin.ext ?_)
  refine (Pipeline.Window.rect_emb_val win0_0 t (ix2 r k) d rfl).trans ?_
  rw [(index_rows t).1]
  match d with
  | ⟨0, _⟩ => exact h.symm
  | ⟨1, _⟩ => show 0 * 1024 + k.val = k.val; omega

theorem row_blk1 (c : Dev nD) (t : Fin grid0.N) (r : Fin 512) (r' : Fin 16384) (h : r'.val = t.val * 512 + r.val) :
    row (n := 512) (iblk m c 1 t) r = row (n := 16384) (m ((c : Thread nD τ).loc main_arg1)) r' := by
  funext k
  refine Eq.trans (b := V m c main_arg1 ((win0_1.blk t).view.emb (ix2 r k))) rfl ?_
  rw [V_main_arg1]
  refine congrArg (m ((c : Thread nD τ).loc main_arg1)) (funext fun d => Fin.ext ?_)
  refine (Pipeline.Window.rect_emb_val win0_1 t (ix2 r k) d rfl).trans ?_
  rw [(index_rows t).2.1]
  match d with
  | ⟨0, _⟩ => exact h.symm
  | ⟨1, _⟩ => show 0 * 1024 + k.val = k.val; omega

theorem row_blk2 (c : Dev nD) (t : Fin grid0.N) (r : Fin 512) (r' : Fin 16384) (h : r'.val = t.val * 512 + r.val) :
    row (n := 512) (iblk m c 2 t) r = row (n := 16384) (m ((c : Thread nD τ).loc main_arg2)) r' := by
  funext k
  refine Eq.trans (b := V m c main_arg2 ((win0_2.blk t).view.emb (ix2 r k))) rfl ?_
  rw [V_main_arg2]
  refine congrArg (m ((c : Thread nD τ).loc main_arg2)) (funext fun d => Fin.ext ?_)
  refine (Pipeline.Window.rect_emb_val win0_2 t (ix2 r k) d rfl).trans ?_
  rw [(index_rows t).2.2.1]
  match d with
  | ⟨0, _⟩ => exact h.symm
  | ⟨1, _⟩ => show 0 * 1024 + k.val = k.val; omega

theorem row_blk3 (c : Dev nD) (t : Fin grid0.N) (r : Fin 512) (r' : Fin 16384) (h : r'.val = t.val * 512 + r.val) :
    row (n := 512) (iblk m c 3 t) r = row (n := 16384) (m ((c : Thread nD τ).loc main_arg3)) r' := by
  funext k
  refine Eq.trans (b := V m c main_arg3 ((win0_3.blk t).view.emb (ix2 r k))) rfl ?_
  rw [V_main_arg3]
  refine congrArg (m ((c : Thread nD τ).loc main_arg3)) (funext fun d => Fin.ext ?_)
  refine (Pipeline.Window.rect_emb_val win0_3 t (ix2 r k) d rfl).trans ?_
  rw [(index_rows t).2.2.2.1]
  match d with
  | ⟨0, _⟩ => exact h.symm
  | ⟨1, _⟩ => show 0 * 1024 + k.val = k.val; omega

theorem row_blk4 (c : Dev nD) (t : Fin grid0.N) (r : Fin 512) (r' : Fin 16384) (h : r'.val = t.val * 512 + r.val) :
    row (n := 512) (iblk m c 4 t) r = row (n := 16384) (m ((c : Thread nD τ).loc main_arg4)) r' := by
  funext k
  refine Eq.trans (b := V m c main_arg4 ((win0_4.blk t).view.emb (ix2 r k))) rfl ?_
  rw [V_main_arg4]
  refine congrArg (m ((c : Thread nD τ).loc main_arg4)) (funext fun d => Fin.ext ?_)
  refine (Pipeline.Window.rect_emb_val win0_4 t (ix2 r k) d rfl).trans ?_
  rw [(index_rows t).2.2.2.2.1]
  match d with
  | ⟨0, _⟩ => exact h.symm
  | ⟨1, _⟩ => show 0 * 1024 + k.val = k.val; omega

theorem blk5 (c : Dev nD) (t : Fin grid0.N) : (iblk m c 5 t : FVec FI S1024x1024 .bf16) = (m ((c : Thread nD τ).loc main_arg5)) := by
  funext y
  refine Eq.trans (b := V m c main_arg5 ((win0_5.blk t).view.emb y)) rfl ?_
  rw [V_main_arg5]
  refine congrArg (m ((c : Thread nD τ).loc main_arg5)) (funext fun d => Fin.ext ?_)
  refine (Pipeline.Window.rect_emb_val win0_5 t y d rfl).trans ?_
  rw [(index_rows t).2.2.2.2.2.2.1]
  match d with
  | ⟨0, _⟩ => show 0 * 1024 + (y 0).val = (y 0).val; omega
  | ⟨1, _⟩ => show 0 * 1024 + (y 1).val = (y 1).val; omega

theorem blk6 (c : Dev nD) (t : Fin grid0.N) : (iblk m c 6 t : FVec FI S1024x1024 .bf16) = (m ((c : Thread nD τ).loc main_arg6)) := by
  funext y
  refine Eq.trans (b := V m c main_arg6 ((win0_6.blk t).view.emb y)) rfl ?_
  rw [V_main_arg6]
  refine congrArg (m ((c : Thread nD τ).loc main_arg6)) (funext fun d => Fin.ext ?_)
  refine (Pipeline.Window.rect_emb_val win0_6 t y d rfl).trans ?_
  rw [(index_rows t).2.2.2.2.2.2.2]
  match d with
  | ⟨0, _⟩ => show 0 * 1024 + (y 0).val = (y 0).val; omega
  | ⟨1, _⟩ => show 0 * 1024 + (y 1).val = (y 1).val; omega

theorem fl (c : Dev nD) (t : Fin cfg0.N) (y : (⟨2, ![512, 1024]⟩ : Shape).Idx) :
    ((dats m 0 c).flushed 11 t y : EReal) = R (n := 512) (iblk m c 0 t) (iblk m c 1 t) (iblk m c 2 t) (iblk m c 3 t) (iblk m c 4 t) (iblk m c 5 t) (iblk m c 6 t) y := by
  by_cases h0 : t.val % 32 = 0
  · rw [Cert.FinishIdeal.Value.flushed11_A m c t h0, out_A]
    rfl
  · rw [Cert.FinishIdeal.Value.flushed11_B m c t h0, out_B]
    rfl

/-- The call's first result is the rows' function of the arrays. -/
theorem final (c : Dev nD) : (dats m 0 c).arrAt 11 cfg0.N = R (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine Pipeline.Dat.arrAt_eq_of_emb _ 11 _ ?_ ?_
  · intro t hf y
    have hd : ∀ d : Fin 2, (((win0_11.blk t).view.emb y) d).val = win0_11.index t d * (![512, 1024] : Fin 2 → ℕ) d + (y d).val :=
      fun d => Pipeline.Window.rect_emb_val win0_11 t y d rfl
    rw [(index_rows t).2.2.2.2.2.1] at hd
    have e0 : (((win0_11.blk t).view.emb y) 0).val = t.val * 512 + (y 0).val := hd 0
    have e1 : ((win0_11.blk t).view.emb y) 1 = y 1 := Fin.ext ((hd 1).trans (by show 0 * 1024 + (y 1).val = _; omega))
    refine Eq.trans (fl m c t y) ?_
    refine Eq.trans (?_ : _ = (R (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) ((win0_11.blk t).view.emb y)) rfl
    unfold R
    rw [e1, blk5 m c t, blk6 m c t, row_blk0 m c t (y 0) _ e0, row_blk1 m c t (y 0) _ e0, row_blk2 m c t (y 0) _ e0, row_blk3 m c t (y 0) _ e0, row_blk4 m c t (y 0) _ e0]
  · intro p
    have hp : (p (0 : Fin 2)).val < 16384 := (p (0 : Fin 2)).isLt
    have hp1 : (p (1 : Fin 2)).val < 1024 := (p (1 : Fin 2)).isLt
    have hN : (p (0 : Fin 2)).val / 512 < grid0.N := lt_of_lt_of_eq (b := 32) (by omega) N_0.symm
    refine ⟨⟨(p (0 : Fin 2)).val / 512, hN⟩, flush0_11 _, ?_⟩
    refine (Pipeline.Window.emb_mem_blk_iff win0_11 ⟨(p (0 : Fin 2)).val / 512, hN⟩ p rfl).mpr fun a => ?_
    rw [(index_rows _).2.2.2.2.2.1]
    match a with
    | ⟨0, _⟩ => show (p (0 : Fin 2)).val / 512 * 512 ≤ (p (0 : Fin 2)).val ∧ (p (0 : Fin 2)).val < (p (0 : Fin 2)).val / 512 * 512 + 512; omega
    | ⟨1, _⟩ => show 0 * 1024 ≤ (p (1 : Fin 2)).val ∧ (p (1 : Fin 2)).val < 0 * 1024 + 1024; omega

end Cert.FinishIdeal.Rows

namespace Cert.FinishRefIdeal.Rows

open Cert.FinishRefIdeal Cert.FinishRefIdeal.Gen
open Cert.FinishIdeal.Rows (sumF row R)
open Idealize.ShloMosaic

local notation "FI" => Idealize.ShloMosaic.Ideal

/-- The reference's term. -/
def whole (x : FVec FI S16384x1024 .f32) (conv o ga gb : FVec FI S16384x1024 .bf16) (wa wo : FVec FI S1024x1024 .bf16) : FVec FI S16384x1024 .f32 :=
  addf x (Host.dotGeneral dot_S16384x1024_S1024x1024_S16384x1024_1_0_0_1_n_n none (addf (mulf (extf .f32 ga bitsLt_bf16_f32) (extf .f32 conv bitsLt_bf16_f32)) (mulf (extf .f32 gb bitsLt_bf16_f32) (Host.dotGeneral dot_S16384x1024_S1024x1024_S16384x1024_1_0_0_1_n_n none (extf .f32 o bitsLt_bf16_f32) (extf .f32 wa bitsLt_bf16_f32)))) (extf .f32 wo bitsLt_bf16_f32))

theorem whole_eq (x : FVec FI S16384x1024 .f32) (conv o ga gb : FVec FI S16384x1024 .bf16) (wa wo : FVec FI S1024x1024 .bf16) :
    whole x conv o ga gb wa wo = R x conv o ga gb wa wo := by
  funext y
  rw [eq_ix2 y]
  generalize y 0 = r
  generalize y 1 = c
  show _ = sumF (row x r) (row conv r) (row o r) (row ga r) (row gb r) wa wo c
  unfold sumF row
  pointwise [whole]

end Cert.FinishRefIdeal.Rows
end
-- ==== Proof.FinishClaims.lean ====
/- The claims about the call between attention and experts: its frames, the rewriting of its packed words, and its first result against the reference's. -/
module
public import proofs.«01_k».proof.Defs
public import proofs.«01_k».proof.Proof.FinishValue
public import proofs.«01_k».proof.Proof.Gen.Finish.Frame
public import proofs.«01_k».proof.Proof.Gen.Finish
public import proofs.«01_k».proof.Proof.Gen.FinishIdeal
public import proofs.«01_k».proof.Proof.Gen.FinishRefIdeal
public import Idealize.ShloMosaic.Lib.Bf16PairInverse
public import Idealize.ShloMosaic.Lib.Quiescent

@[expose] public section

set_option maxRecDepth 16384

noncomputable section

namespace Cert.Proof.FinishClaims

open Idealize.ShloMosaic Idealize.SL.Sem
open Cert.FinishIdeal.Rows (R)

/-- The call as printed runs and leaves its arguments and every counter as they were. -/
theorem frame_p : Cert.quiescent_Finish := fun m g _ => Cert.Finish.Gen.frame m g

/-- So does its idealization. -/
theorem frame_pi : Cert.quiescent_FinishIdeal := fun m g _ => Cert.FinishIdeal.Gen.frame m g

/-- So does the reference. -/
theorem frame_ri : Cert.quiescent_FinishRefIdeal := fun m g _ =>
  (θ_run Cert.FinishRefIdeal.defs _ _).mono (fun r h => ⟨fun c => (h c).2,
    Idealize.ShloMosaic.sem_eq_zero_of_no_sems (by decide) r.2⟩) (Cert.FinishRefIdeal.Value.run m g)

/-- Each rewriting of a packed word is one of the pair rules' statements. -/
theorem preserves : Cert.preserves_Finish_FinishIdeal :=
  open Cert.FinishIdeal IdealRules.bf16_pair in
  ⟨bufferStatement S16384x2x512 S16384x1x512, bufferStatement S512x2x512 S512x1x512, halfStatement S512x512, statement S512x2x512 S512x1x512⟩

/-- At exact arithmetic the call's new residual rows are the reference's. -/
theorem algebraic : Cert.algebraic_FinishIdeal_FinishRefIdeal := fun m g m' g' _ ha => by
  refine ⟨fun c => R (m ((c.tc : Thread Cert.FinishIdeal.nD Cert.FinishIdeal.τ).loc Cert.FinishIdeal.main_arg0)) (m ((c.tc : Thread Cert.FinishIdeal.nD Cert.FinishIdeal.τ).loc Cert.FinishIdeal.main_arg1)) (m ((c.tc : Thread Cert.FinishIdeal.nD Cert.FinishIdeal.τ).loc Cert.FinishIdeal.main_arg2)) (m ((c.tc : Thread Cert.FinishIdeal.nD Cert.FinishIdeal.τ).loc Cert.FinishIdeal.main_arg3)) (m ((c.tc : Thread Cert.FinishIdeal.nD Cert.FinishIdeal.τ).loc Cert.FinishIdeal.main_arg4)) (m ((c.tc : Thread Cert.FinishIdeal.nD Cert.FinishIdeal.τ).loc Cert.FinishIdeal.main_arg5)) (m ((c.tc : Thread Cert.FinishIdeal.nD Cert.FinishIdeal.τ).loc Cert.FinishIdeal.main_arg6)), ?_, ?_⟩
  · exact (θ_run _ _ _).mono (fun _ h c => ⟨(h c).1.trans (Cert.FinishIdeal.Rows.final m c), (h c).2.2.2.2⟩) (Cert.FinishIdeal.Value.run_blocks m g)
  · refine (θ_run _ _ _).mono (fun _ h c => ?_) (Cert.FinishRefIdeal.Value.run m' g')
    obtain ⟨h0, hu⟩ := h c
    obtain ⟨e0, e1, e2, e3, e4, e5, e6, -⟩ := ha c
    replace h0 := h0.trans (Cert.FinishRefIdeal.Rows.whole_eq _ _ _ _ _ _ _)
    rw [e0, e1, e2, e3, e4, e5, e6] at h0
    exact ⟨h0, hu⟩

end Cert.Proof.FinishClaims
end
-- ==== Proof.SampleConvValue.lean ====
/- What the sample's convolution call leaves as the state: the last 30 rows of each sequence's history. -/
module
public import proofs.«01_k».proof.Proof.Gen.SampleConvIdeal.Value
public import proofs.«01_k».proof.Proof.Gen.SampleConvRefIdeal.Run
public import Idealize.ShloMosaic.Lib.Pointwise
public import Idealize.ShloMosaic.Lib.IdealHost
public import Idealize.ShloMosaic.Lib.Pipeline.Value
public import Idealize.ShloMosaic.Lib.Pipeline.ValueKit
public import Idealize.ShloMosaic.Lib.WholeRead
public import Idealize.ShloMosaic.Lib.StableHlo.RunRead

@[expose] public section

set_option maxRecDepth 16384

noncomputable section

namespace Cert.SampleConvIdeal.Rows

open Cert.SampleConvIdeal Cert.SampleConvIdeal.Gen
open Idealize.ShloMosaic Idealize.ShloMosaic.TcCoe Idealize.SL.Sem
open Idealize.ShloMosaic.Pipeline (Dat Cfg Window)

local notation "FI" => Idealize.ShloMosaic.Ideal

/-- Old rows 8 to 29 first, then the 8 new ones. -/
def S {n : ℕ} (old : FVec FI ⟨3, ![30, n, 1024]⟩ .f32) (new : FVec FI ⟨3, ![8, n, 1024]⟩ .f32) : FVec FI ⟨3, ![30, n, 1024]⟩ .f32 := fun y =>
  if h : (y 0).val < 22 then old (ix3 ⟨(y 0).val + 8, by omega⟩ (y 1) (y 2)) else new (ix3 ⟨(y 0).val - 22, by have : (y 0).val < 30 := (y 0).isLt; omega⟩ (y 1) (y 2))

theorem S_old {n : ℕ} (old : FVec FI ⟨3, ![30, n, 1024]⟩ .f32) (new : FVec FI ⟨3, ![8, n, 1024]⟩ .f32) (y : (⟨3, ![30, n, 1024]⟩ : Shape).Idx) (u : Fin 30) (s : Fin n) (k : Fin 1024)
    (h : (y 0).val < 22) (hu : u.val = (y 0).val + 8) (hs : s.val = (y 1).val) (hk : k.val = (y 2).val) : S old new y = old (ix3 u s k) := by
  unfold S
  rw [dif_pos h]
  exact congrArg old (funext fun d => Fin.ext (match d with | ⟨0, _⟩ => hu.symm | ⟨1, _⟩ => hs.symm | ⟨2, _⟩ => hk.symm))

theorem S_new {n : ℕ} (old : FVec FI ⟨3, ![30, n, 1024]⟩ .f32) (new : FVec FI ⟨3, ![8, n, 1024]⟩ .f32) (y : (⟨3, ![30, n, 1024]⟩ : Shape).Idx) (u : Fin 8) (s : Fin n) (k : Fin 1024)
    (h : ¬ (y 0).val < 22) (hu : u.val + 22 = (y 0).val) (hs : s.val = (y 1).val) (hk : k.val = (y 2).val) : S old new y = new (ix3 u s k) := by
  unfold S
  rw [dif_neg h]
  exact congrArg new (funext fun d => Fin.ext (match d with
    | ⟨0, _⟩ => (by rw [← hu]; exact Nat.add_sub_cancel _ _ : (y 0).val - 22 = u.val) | ⟨1, _⟩ => hs.symm | ⟨2, _⟩ => hk.symm))

theorem pay92_eq (v : Vec FI S22x64x1024 .f32) : k0_pay92 (F := FI) v = v := shapeCast_self v _
theorem pay1_eq (v : Vec FI S8x64x1024 .f32) : k0_pay1 (F := FI) v = v := shapeCast_self v _

theorem out9 (c : Dev nD) (i : grid0.Coords) (arg1 : Memref sig .tc .vmem S30x64x1024 .f32) (harg1 : arg1.IsWhole) (arg2 : Memref sig .tc .vmem S8x64x1024 .f32) (harg2 : arg2.IsWhole) (arg3 : Memref sig .tc .vmem S31x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S8x64x1024 .bf16) (harg9 : arg9.IsWhole) (arg10 : Memref sig .tc .vmem S30x64x1024 .f32) (harg10 : arg10.IsWhole)
    (x0 : Vec FI S30x64x1024 .f32) (x1 : Vec FI S8x64x1024 .f32) (x2 : Vec FI S31x1024 .f32) (x3 : Vec FI S1x1024 .f32) (x4 : Vec FI S1x1024 .f32) (x5 : Vec FI S1x1024 .f32) (x6 : Vec FI S1024x1024 .bf16) (x7 : Vec FI S1x1024 .f32) :
    out0_A_9 (F := FI) c i arg1 harg1 arg2 harg2 arg3 harg3 arg4 harg4 arg5 harg5 arg6 harg6 arg7 harg7 arg8 harg8 arg9 harg9 arg10 harg10 x0 x1 x2 x3 x4 x5 x6 x7 = S x0 x1 := by
  funext y
  refine View.read_writes_apply_of_pieces VO0_9 VO0_9.junk (S x0 x1) _ ?_ y (cover0_A_9 (F := FI) c i arg1 harg1 arg2 harg2 arg3 harg3 arg4 harg4 arg5 harg5 arg6 harg6 arg7 harg7 arg8 harg8 arg9 harg9 arg10 harg10 x0 x1 x2 x3 x4 x5 x6 x7 y)
  unfold kernelRun0_A
  dsimp only
  simp only [List.forall_mem_cons]
  refine ⟨fun z => ?_, fun z => ?_, fun p hp => absurd hp List.not_mem_nil⟩
  · rw [pay1_eq, harg2.readAt_unread]
    have e : ∀ d, (((Rect.unit (s := S30x64x1024) ![22, 0, 0] S8x64x1024.size inb_S30x64x1024_S8x64x1024_22_0_0).emb z) d).val = (![22, 0, 0] : Fin 3 → ℕ) d + 1 * (z d).val := fun d => rfl
    have e0 := e 0
    have hz : (z 0).val < 8 := (z 0).isLt
    unfold S
    rw [dif_neg (by rw [e0]; show ¬ 22 + 1 * (z 0).val < 22; omega)]
    refine congrArg x1 (funext fun d => Fin.ext ?_)
    match d with
    | ⟨0, _⟩ => exact (by show 0 + 1 * (z 0).val = (22 + 1 * (z 0).val) - 22; omega)
    | ⟨1, _⟩ => rfl
    | ⟨2, _⟩ => rfl
  · rw [pay92_eq, harg1.readAt_unread]
    have e : ∀ d, (((Rect.unit (s := S30x64x1024) ![0, 0, 0] S22x64x1024.size inb_S30x64x1024_S22x64x1024_0_0_0).emb z) d).val = (![0, 0, 0] : Fin 3 → ℕ) d + 1 * (z d).val := fun d => rfl
    have e0 := e 0
    have hz : (z 0).val < 22 := (z 0).isLt
    unfold S
    rw [dif_pos (by rw [e0]; show 0 + 1 * (z 0).val < 22; omega)]
    refine congrArg x0 (funext fun d => Fin.ext ?_)
    match d with
    | ⟨0, _⟩ => exact (by show 8 + 1 * (z 0).val = (0 + 1 * (z 0).val) + 8; omega)
    | ⟨1, _⟩ => rfl
    | ⟨2, _⟩ => rfl

variable (m : (ℓ : Loc nD τ sig) → Buf (Elt FI) ℓ)

/-- Step `t` has sequences `64 t` and on. -/
theorem index_seqs : ∀ t : Fin grid0.N, win0_0.index t = ![0, t.val, 0] ∧ win0_1.index t = ![0, t.val, 0] ∧ win0_9.index t = ![0, t.val, 0]
    ∧ win0_9.flush t = true := by decide +kernel

/-- The history as the call takes it: rows first, sequences second. -/
def old (a : FVec FI S128x30x1024 .f32) : FVec FI S30x128x1024 .f32 := transpose S30x128x1024 [1, 0, 2] a transposes_S128x30x1024_S30x128x1024_1_0_2
/-- The new rows as the call takes them. -/
def new (a : FVec FI S1024x1024 .f32) : FVec FI S8x128x1024 .f32 :=
  transpose S8x128x1024 [1, 0, 2] (shapeCast S128x8x1024 a shapeCasts_S1024x1024_S128x8x1024) transposes_S128x8x1024_S8x128x1024_1_0_2

theorem V_old (c : Dev nD) : V m c main_v2 = old (m ((c : Thread nD τ).loc main_arg0)) := by
  show StableHlo.after hostOps0 (fun b => m (c, b)) (Proc.devRef .tc main_v2) = _
  after_reads_simp
  rfl
theorem V_new (c : Dev nD) : V m c main_v1 = new (m ((c : Thread nD τ).loc main_arg1)) := by
  show StableHlo.after hostOps0 (fun b => m (c, b)) (Proc.devRef .tc main_v1) = _
  after_reads_simp
  rfl

theorem fl (c : Dev nD) (t : Fin cfg0.N) (y : (⟨3, ![30, 64, 1024]⟩ : Shape).Idx) :
    ((dats m 0 c).flushed 9 t y : EReal) = S (n := 64) (iblk m c 0 t) (iblk m c 1 t) y := by
  rw [Cert.SampleConvIdeal.Value.flushed9_A m c t, out9]
  rfl

theorem blk0 (c : Dev nD) (t : Fin grid0.N) (u : Fin 30) (s : Fin 64) (s' : Fin 128) (k : Fin 1024) (h : s'.val = t.val * 64 + s.val) :
    (iblk m c 0 t (ix3 u s k) : EReal) = old (m ((c : Thread nD τ).loc main_arg0)) (ix3 u s' k) := by
  refine Eq.trans (b := V m c main_v2 ((win0_0.blk t).view.emb (ix3 u s k))) rfl ?_
  rw [V_old]
  refine congrArg (old (m ((c : Thread nD τ).loc main_arg0))) (funext fun d => Fin.ext ?_)
  refine (Pipeline.Window.rect_emb_val win0_0 t (ix3 u s k) d rfl).trans ?_
  rw [(index_seqs t).1]
  match d with
  | ⟨0, _⟩ => show 0 * 30 + u.val = u.val; omega
  | ⟨1, _⟩ => exact h.symm
  | ⟨2, _⟩ => show 0 * 1024 + k.val = k.val; omega

theorem blk1 (c : Dev nD) (t : Fin grid0.N) (u : Fin 8) (s : Fin 64) (s' : Fin 128) (k : Fin 1024) (h : s'.val = t.val * 64 + s.val) :
    (iblk m c 1 t (ix3 u s k) : EReal) = new (m ((c : Thread nD τ).loc main_arg1)) (ix3 u s' k) := by
  refine Eq.trans (b := V m c main_v1 ((win0_1.blk t).view.emb (ix3 u s k))) rfl ?_
  rw [V_new]
  refine congrArg (new (m ((c : Thread nD τ).loc main_arg1))) (funext fun d => Fin.ext ?_)
  refine (Pipeline.Window.rect_emb_val win0_1 t (ix3 u s k) d rfl).trans ?_
  rw [(index_seqs t).2.1]
  match d with
  | ⟨0, _⟩ => show 0 * 8 + u.val = u.val; omega
  | ⟨1, _⟩ => exact h.symm
  | ⟨2, _⟩ => show 0 * 1024 + k.val = k.val; omega

/-- The state that the call leaves: each sequence's last 30 rows. -/
theorem final (c : Dev nD) : (dats m 0 c).arrAt 9 cfg0.N = S (n := 128) (old (m ((c : Thread nD τ).loc main_arg0))) (new (m ((c : Thread nD τ).loc main_arg1))) := by
  refine Pipeline.Dat.arrAt_eq_of_emb _ 9 _ ?_ ?_
  · intro t hf y
    have hd : ∀ d : Fin 3, (((win0_9.blk t).view.emb y) d).val = win0_9.index t d * (![30, 64, 1024] : Fin 3 → ℕ) d + (y d).val :=
      fun d => Pipeline.Window.rect_emb_val win0_9 t y d rfl
    rw [(index_seqs t).2.2.1] at hd
    have e0 : (((win0_9.blk t).view.emb y) 0).val = (y 0).val := (hd 0).trans (by show 0 * 30 + (y 0).val = _; omega)
    have e1 : (((win0_9.blk t).view.emb y) 1).val = t.val * 64 + (y 1).val := hd 1
    have e2 : (((win0_9.blk t).view.emb y) 2).val = (y 2).val := (hd 2).trans (by show 0 * 1024 + (y 2).val = _; omega)
    have y0 : (y 0).val < 30 := (y 0).isLt
    have y1 : (y 1).val < 64 := (y 1).isLt
    have y2 : (y 2).val < 1024 := (y 2).isLt
    refine Eq.trans (fl m c t y) ?_
    by_cases h : (y 0).val < 22
    · refine (S_old (n := 64) _ _ y ⟨(y 0).val + 8, by omega⟩ ⟨(y 1).val, y1⟩ ⟨(y 2).val, y2⟩ h rfl rfl rfl).trans ?_
      refine Eq.trans ?_ (S_old (n := 128) _ _ ((win0_9.blk t).view.emb y) ⟨(y 0).val + 8, by omega⟩ (((win0_9.blk t).view.emb y) 1) ⟨(y 2).val, y2⟩ (e0.trans_lt h) (congrArg (· + 8) e0.symm) rfl e2.symm).symm
      exact blk0 m c t _ _ _ _ e1
    · refine (S_new (n := 64) _ _ y ⟨(y 0).val - 22, by omega⟩ ⟨(y 1).val, y1⟩ ⟨(y 2).val, y2⟩ h (Nat.sub_add_cancel (Nat.le_of_not_lt h)) rfl rfl).trans ?_
      refine Eq.trans ?_ (S_new (n := 128) _ _ ((win0_9.blk t).view.emb y) ⟨(y 0).val - 22, by omega⟩ (((win0_9.blk t).view.emb y) 1) ⟨(y 2).val, y2⟩ (fun h' => h (e0.symm.trans_lt h')) ((Nat.sub_add_cancel (Nat.le_of_not_lt h)).trans e0.symm) rfl e2.symm).symm
      exact blk1 m c t _ _ _ _ e1
  · intro p
    have hp : (p (0 : Fin 3)).val < 30 := (p (0 : Fin 3)).isLt
    have hp1 : (p (1 : Fin 3)).val < 128 := (p (1 : Fin 3)).isLt
    have hp2 : (p (2 : Fin 3)).val < 1024 := (p (2 : Fin 3)).isLt
    have hN : (p (1 : Fin 3)).val / 64 < grid0.N := lt_of_lt_of_eq (b := 2) (by omega) N_0.symm
    refine ⟨⟨(p (1 : Fin 3)).val / 64, hN⟩, (index_seqs _).2.2.2, ?_⟩
    refine (Pipeline.Window.emb_mem_blk_iff win0_9 ⟨(p (1 : Fin 3)).val / 64, hN⟩ p rfl).mpr fun a => ?_
    rw [(index_seqs _).2.2.1]
    match a with
    | ⟨0, _⟩ => show 0 * 30 ≤ (p (0 : Fin 3)).val ∧ (p (0 : Fin 3)).val < 0 * 30 + 30; omega
    | ⟨1, _⟩ => show (p (1 : Fin 3)).val / 64 * 64 ≤ (p (1 : Fin 3)).val ∧ (p (1 : Fin 3)).val < (p (1 : Fin 3)).val / 64 * 64 + 64; omega
    | ⟨2, _⟩ => show 0 * 1024 ≤ (p (2 : Fin 3)).val ∧ (p (2 : Fin 3)).val < 0 * 1024 + 1024; omega

end Cert.SampleConvIdeal.Rows

namespace Cert.SampleConvRefIdeal.Rows

open Cert.SampleConvRefIdeal Cert.SampleConvRefIdeal.Gen
open Cert.SampleConvIdeal.Rows (S S_old S_new old new)
open Idealize.ShloMosaic

local notation "FI" => Idealize.ShloMosaic.Ideal

/-- The reference's term. -/
def whole (a : FVec FI S128x30x1024 .f32) (b : FVec FI S1024x1024 .f32) : FVec FI S30x128x1024 .f32 :=
  transpose S30x128x1024 [1, 0, 2] (extractStridedSlice S128x30x1024 ![0, 8, 0] (concatenate S128x38x1024 1 [⟨S128x30x1024, a⟩, ⟨S128x8x1024, (shapeCast _ b shapeCasts_S1024x1024_S128x8x1024)⟩] concatenates_S128x30x1024_S128x8x1024_S128x38x1024_d1) slices_S128x38x1024_S128x30x1024_0_8_0) transposes_S128x30x1024_S30x128x1024_1_0_2

theorem whole_eq (a : FVec FI S128x30x1024 .f32) (b : FVec FI S1024x1024 .f32) : whole a b = S (n := 128) (old a) (new b) := by
  funext y
  by_cases h : (y 0).val < 22
  · have hy : (y 0).val + 8 < 30 := by omega
    refine Eq.trans ?_ (S_old (n := 128) _ _ y ⟨(y 0).val + 8, hy⟩ (y 1) (y 2) h rfl rfl rfl).symm
    pointwise [whole, old]
    have h8 : 8 + (y 0).val < 30 := by omega
    refine (dif_pos h8).trans (congrArg a (congrArg (fun j => ix3 (y 1) j (y 2)) (Fin.ext ?_)))
    exact Nat.add_comm _ _
  · have hy : (y 0).val < 30 := (y 0).isLt
    refine Eq.trans ?_ (S_new (n := 128) _ _ y ⟨(y 0).val - 22, by omega⟩ (y 1) (y 2) h (Nat.sub_add_cancel (Nat.le_of_not_lt h)) rfl rfl).symm
    pointwise [whole, new]
    have h8 : ¬ 8 + (y 0).val < 30 := by omega
    refine (dif_neg h8).trans (congrArg b (congrArg (fun j => ix2 j (y 2)) (Fin.ext ?_)))
    show (y 1).val * 8 + (8 + (y 0).val - 30) = (y 1).val * 8 + ((y 0).val - 22)
    omega

end Cert.SampleConvRefIdeal.Rows
end
-- ==== Proof.SampleConvClaims.lean ====
/- The claims about the sample's convolution call: its frames and its new state against the reference's. -/
module
public import proofs.«01_k».proof.Defs
public import proofs.«01_k».proof.Proof.SampleConvValue
public import proofs.«01_k».proof.Proof.Gen.SampleConv.Frame
public import proofs.«01_k».proof.Proof.Gen.SampleConv
public import proofs.«01_k».proof.Proof.Gen.SampleConvIdeal
public import proofs.«01_k».proof.Proof.Gen.SampleConvRefIdeal
public import Idealize.ShloMosaic.Lib.Quiescent

@[expose] public section

set_option maxRecDepth 16384

noncomputable section

namespace Cert.Proof.SampleConvClaims

open Idealize.ShloMosaic Idealize.SL.Sem
open Cert.SampleConvIdeal.Rows (S old new)

/-- The call as printed runs and leaves its arguments and every counter as they were. -/
theorem frame_p : Cert.quiescent_SampleConv := fun m g _ => Cert.SampleConv.Gen.frame m g

/-- So does its idealization. -/
theorem frame_pi : Cert.quiescent_SampleConvIdeal := fun m g _ => Cert.SampleConvIdeal.Gen.frame m g

/-- So does the reference. -/
theorem frame_ri : Cert.quiescent_SampleConvRefIdeal := fun m g _ =>
  (θ_run Cert.SampleConvRefIdeal.defs _ _).mono (fun r h => ⟨fun c => (h c).2,
    Idealize.ShloMosaic.sem_eq_zero_of_no_sems (by decide) r.2⟩) (Cert.SampleConvRefIdeal.Value.run m g)

/-- Nothing is rewritten: the idealization is the call itself. -/
theorem preserves : Cert.preserves_SampleConv_SampleConvIdeal := trivial

/-- The call's new state is the reference's: the last 30 rows of each sequence's history. -/
theorem algebraic : Cert.algebraic_SampleConvIdeal_SampleConvRefIdeal := fun m g m' g' _ ha => by
  refine ⟨fun c => S (n := 128) (old (m ((c.tc : Thread Cert.SampleConvIdeal.nD Cert.SampleConvIdeal.τ).loc Cert.SampleConvIdeal.main_arg0))) (new (m ((c.tc : Thread Cert.SampleConvIdeal.nD Cert.SampleConvIdeal.τ).loc Cert.SampleConvIdeal.main_arg1))), ?_, ?_⟩
  · exact (θ_run _ _ _).mono (fun _ h c => ⟨(h c).2.1.trans (Cert.SampleConvIdeal.Rows.final m c), (h c).2.2⟩) (Cert.SampleConvIdeal.Value.run_blocks m g)
  · refine (θ_run _ _ _).mono (fun _ h c => ?_) (Cert.SampleConvRefIdeal.Value.run m' g')
    obtain ⟨h0, hu⟩ := h c
    obtain ⟨e0, e1, -⟩ := ha c
    replace h0 := h0.trans (Cert.SampleConvRefIdeal.Rows.whole_eq _ _)
    rw [e0, e1] at h0
    exact ⟨h0, hu⟩

end Cert.Proof.SampleConvClaims
end
-- ==== Proof.SampleAttnPieces.lean ====
/- The pieces that the sample's attention call stores into its caches, one head of one sequence at a time. -/
module
public import proofs.«01_k».proof.Proof.Gen.SampleAttnIdeal.Skeleton
public import Idealize.ShloMosaic.Lib.Pointwise
public import Idealize.ShloMosaic.Lib.IdealHost
public import Idealize.ShloMosaic.Lib.Pipeline.Value
public import Idealize.ShloMosaic.Lib.Pipeline.ValueKit
public import Idealize.ShloMosaic.Lib.WholeRead
public import Idealize.ShloMosaic.Lib.StableHlo.RunRead

@[expose] public section

set_option maxRecDepth 16384

noncomputable section

namespace Cert.SampleAttnIdeal.Rows

open Cert.SampleAttnIdeal Cert.SampleAttnIdeal.Gen
open Idealize.ShloMosaic Idealize.ShloMosaic.TcCoe Idealize.SL.Sem
open Idealize.ShloMosaic.Pipeline (Dat Cfg Window)

local notation "FI" => Idealize.ShloMosaic.Ideal

/-- Positions 8 to 127 of the cache first, then the 8 new rows. -/
def C {n : ℕ} (old : FVec FI ⟨4, ![n, 4, 64, 128]⟩ .f32) (new : FVec FI ⟨3, ![n, 8, 256]⟩ .f32) : FVec FI ⟨4, ![n, 4, 64, 128]⟩ .f32 := fun y =>
  if h : (y 3).val < 120 then old (ix4 (y 0) (y 1) (y 2) ⟨(y 3).val + 8, by omega⟩)
  else new (ix3 (y 0) ⟨(y 3).val - 120, by have : (y 3).val < 128 := (y 3).isLt; omega⟩
    ⟨64 * (y 1).val + (y 2).val, by have : (y 1).val < 4 := (y 1).isLt; have : (y 2).val < 64 := (y 2).isLt; omega⟩)

theorem C_old {n : ℕ} (old : FVec FI ⟨4, ![n, 4, 64, 128]⟩ .f32) (new : FVec FI ⟨3, ![n, 8, 256]⟩ .f32) (y : (⟨4, ![n, 4, 64, 128]⟩ : Shape).Idx)
    (a : Fin n) (b : Fin 4) (d : Fin 64) (w : Fin 128) (h : (y 3).val < 120) (ha : a.val = (y 0).val) (hb : b.val = (y 1).val) (hd : d.val = (y 2).val) (hw : w.val = (y 3).val + 8) :
    C old new y = old (ix4 a b d w) := by
  unfold C
  rw [dif_pos h]
  exact congrArg old (funext fun i => Fin.ext (match i with | ⟨0, _⟩ => ha.symm | ⟨1, _⟩ => hb.symm | ⟨2, _⟩ => hd.symm | ⟨3, _⟩ => hw.symm))

theorem C_new {n : ℕ} (old : FVec FI ⟨4, ![n, 4, 64, 128]⟩ .f32) (new : FVec FI ⟨3, ![n, 8, 256]⟩ .f32) (y : (⟨4, ![n, 4, 64, 128]⟩ : Shape).Idx)
    (a : Fin n) (r : Fin 8) (k : Fin 256) (h : ¬ (y 3).val < 120) (ha : a.val = (y 0).val) (hr : r.val + 120 = (y 3).val) (hk : k.val = 64 * (y 1).val + (y 2).val) :
    C old new y = new (ix3 a r k) := by
  unfold C
  rw [dif_neg h]
  exact congrArg new (funext fun i => Fin.ext (match i with
    | ⟨0, _⟩ => ha.symm | ⟨1, _⟩ => (by rw [← hr]; exact Nat.add_sub_cancel _ _ : (y 3).val - 120 = r.val) | ⟨2, _⟩ => hk.symm))

theorem lt8 : ∀ n : Fin 128, IntOp.cmpi .slt (BitVec.ofNat 32 n.val) 8#32 = if n.val < 8 then 1#1 else 0#1 := by decide

/-- One sequence's cache of head 0: the new rows over its first positions, then a turn. -/
def turn0 (kn : Vec FI S1x8x256 .f32) (ck : Vec FI S1x1x64x128 .f32) : FVec FI S1x1x64x128 .f32 :=
  shapeCast S1x1x64x128 (dynamicRotate 1 120#32 none
    (select (cmpi .slt (iota .tc S64x128 32 [1] iota_S64x128_d1_w32) (broadcast S64x128 8#32))
      (extractStridedSlice S64x128 ![0, 0] (transpose S128x128 [1, 0] (concatenate S128x128 0
          [⟨S8x128, extractStridedSlice S8x128 ![0, 0] (shapeCast S8x256 kn shapeCasts_S1x8x256_S8x256) slices_S8x256_o0_0_S8x128⟩,
           ⟨S120x128, broadcast S120x128 (Scalar.ofBits (F := FI) .f32 0x00000000#32)⟩] concatenates_S8x128_S120x128_S128x128_d0) transposes_S128x128_p1_0_S128x128)
        slices_S128x128_o0_0_S64x128)
      (shapeCast S64x128 ck shapeCasts_S1x1x64x128_S64x128)) rotates_S64x128_d1) shapeCasts_S64x128_S1x1x64x128

theorem turn0_old (kn : Vec FI S1x8x256 .f32) (ck : Vec FI S1x1x64x128 .f32) (a b : Fin 1) (d : Fin 64) (w : Fin 128) (hw : w.val < 120) :
    turn0 kn ck (ix4 a b d w) = ck (ix4 0 0 d ⟨w.val + 8, by omega⟩) := by
  have hj : (w.val + 128 - 120) % 128 = w.val + 8 := by omega
  have hc : IntOp.cmpi .slt (BitVec.ofNat 32 (w.val + 8)) 8#32 = 0#1 := (lt8 ⟨w.val + 8, by omega⟩).trans (if_neg (by show ¬ w.val + 8 < 8; omega))
  pointwise [turn0]
  simp only [hj, hc]
  rfl

theorem turn0_new (kn : Vec FI S1x8x256 .f32) (ck : Vec FI S1x1x64x128 .f32) (a b : Fin 1) (d : Fin 64) (w : Fin 128) (hw : ¬ w.val < 120) :
    turn0 kn ck (ix4 a b d w) = kn (ix3 0 ⟨w.val - 120, by omega⟩ ⟨0 + d.val, by omega⟩) := by
  have hj : (w.val + 128 - 120) % 128 = w.val - 120 := by omega
  have hc : IntOp.cmpi .slt (BitVec.ofNat 32 (w.val - 120)) 8#32 = 1#1 := (lt8 ⟨w.val - 120, by omega⟩).trans (if_pos (by show w.val - 120 < 8; omega))
  have h8 : w.val - 120 < 8 := by omega
  pointwise [turn0]
  simp only [hj, hc, dif_pos h8]
  refine Eq.trans (b := kn (ix3 0 ⟨w.val - 120, h8⟩ ⟨d.val, by omega⟩)) rfl ?_
  exact congrArg kn (congrArg (ix3 _ _) (Fin.ext (rfl)))

theorem piece0 (s : ℕ) (hs : s < 8) {M3 : Memref sig .tc .vmem S8x8x256 .f32} (h3 : M3.IsWhole) (X3 : Vec FI S8x8x256 .f32)
    {M5 : Memref sig .tc .vmem S8x4x64x128 .f32} (h5 : M5.IsWhole) (X5 : Vec FI S8x4x64x128 .f32) (b3) (b5) (z : S1x1x64x128.Idx) :
    turn0 (View.readAt (Elt FI) M3.view (Rect.unit (s := S8x8x256) ![s, 0, 0] S1x8x256.size b3).toLoadRect (h3.unread X3))
        (View.readAt (Elt FI) M5.view (Rect.unit (s := S8x4x64x128) ![s, 0, 0, 0] S1x1x64x128.size b5).toLoadRect (h5.unread X5)) z
      = C (n := 8) X5 X3 ((Rect.unit (s := S8x4x64x128) ![s, 0, 0, 0] S1x1x64x128.size b5).emb z) := by
  have e0 : (((Rect.unit (s := S8x4x64x128) ![s, 0, 0, 0] S1x1x64x128.size b5).emb z) 0).val = s + 1 * (z 0).val := rfl
  have e1 : (((Rect.unit (s := S8x4x64x128) ![s, 0, 0, 0] S1x1x64x128.size b5).emb z) 1).val = 0 + 1 * (z 1).val := rfl
  have e2 : (((Rect.unit (s := S8x4x64x128) ![s, 0, 0, 0] S1x1x64x128.size b5).emb z) 2).val = 0 + 1 * (z 2).val := rfl
  have e3 : (((Rect.unit (s := S8x4x64x128) ![s, 0, 0, 0] S1x1x64x128.size b5).emb z) 3).val = 0 + 1 * (z 3).val := rfl
  have z0 : (z 0).val < 1 := (z 0).isLt
  have z1 : (z 1).val < 1 := (z 1).isLt
  have z3 : (z 3).val < 128 := (z 3).isLt
  unfold C
  by_cases hw : (z 3).val < 120
  · rw [dif_pos (by omega)]
    refine (congrArg (turn0 _ _) (eq_ix4 z)).trans ((turn0_old _ _ _ _ _ _ hw).trans ((h5.readAt_unread _ _ _).trans (congrArg X5 (funext fun d => Fin.ext ?_))))
    match d with
    | ⟨0, _⟩ => exact (by show s + 1 * 0 = _; rw [e0]; omega : s + 1 * 0 = (((Rect.unit (s := S8x4x64x128) ![s, 0, 0, 0] S1x1x64x128.size b5).emb z) 0).val)
    | ⟨1, _⟩ => exact (by rw [e1]; omega : 0 + 1 * 0 = (((Rect.unit (s := S8x4x64x128) ![s, 0, 0, 0] S1x1x64x128.size b5).emb z) 1).val)
    | ⟨2, _⟩ => exact e2.symm
    | ⟨3, _⟩ => exact (by rw [e3]; omega : 0 + 1 * ((z 3).val + 8) = (((Rect.unit (s := S8x4x64x128) ![s, 0, 0, 0] S1x1x64x128.size b5).emb z) 3).val + 8)
  · rw [dif_neg (by omega)]
    refine (congrArg (turn0 _ _) (eq_ix4 z)).trans ((turn0_new _ _ _ _ _ _ hw).trans ((h3.readAt_unread _ _ _).trans (congrArg X3 (funext fun d => Fin.ext ?_))))
    match d with
    | ⟨0, _⟩ => exact (by rw [e0]; omega : s + 1 * 0 = (((Rect.unit (s := S8x4x64x128) ![s, 0, 0, 0] S1x1x64x128.size b5).emb z) 0).val)
    | ⟨1, _⟩ => exact (by rw [e3]; omega : 0 + 1 * ((z 3).val - 120) = (((Rect.unit (s := S8x4x64x128) ![s, 0, 0, 0] S1x1x64x128.size b5).emb z) 3).val - 120)
    | ⟨2, _⟩ => exact (by rw [e1, e2]; omega : 0 + 1 * (0 + (z 2).val) = 64 * (((Rect.unit (s := S8x4x64x128) ![s, 0, 0, 0] S1x1x64x128.size b5).emb z) 1).val + (((Rect.unit (s := S8x4x64x128) ![s, 0, 0, 0] S1x1x64x128.size b5).emb z) 2).val)

/-- One sequence's cache of head 1: the new rows over its first positions, then a turn. -/
def turn1 (kn : Vec FI S1x8x256 .f32) (ck : Vec FI S1x1x64x128 .f32) : FVec FI S1x1x64x128 .f32 :=
  shapeCast S1x1x64x128 (dynamicRotate 1 120#32 none
    (select (cmpi .slt (iota .tc S64x128 32 [1] iota_S64x128_d1_w32) (broadcast S64x128 8#32))
      (extractStridedSlice S64x128 ![64, 0] (transpose S128x128 [1, 0] (concatenate S128x128 0
          [⟨S8x128, extractStridedSlice S8x128 ![0, 0] (shapeCast S8x256 kn shapeCasts_S1x8x256_S8x256) slices_S8x256_o0_0_S8x128⟩,
           ⟨S120x128, broadcast S120x128 (Scalar.ofBits (F := FI) .f32 0x00000000#32)⟩] concatenates_S8x128_S120x128_S128x128_d0) transposes_S128x128_p1_0_S128x128)
        slices_S128x128_o64_0_S64x128)
      (shapeCast S64x128 ck shapeCasts_S1x1x64x128_S64x128)) rotates_S64x128_d1) shapeCasts_S64x128_S1x1x64x128

theorem turn1_old (kn : Vec FI S1x8x256 .f32) (ck : Vec FI S1x1x64x128 .f32) (a b : Fin 1) (d : Fin 64) (w : Fin 128) (hw : w.val < 120) :
    turn1 kn ck (ix4 a b d w) = ck (ix4 0 0 d ⟨w.val + 8, by omega⟩) := by
  have hj : (w.val + 128 - 120) % 128 = w.val + 8 := by omega
  have hc : IntOp.cmpi .slt (BitVec.ofNat 32 (w.val + 8)) 8#32 = 0#1 := (lt8 ⟨w.val + 8, by omega⟩).trans (if_neg (by show ¬ w.val + 8 < 8; omega))
  pointwise [turn1]
  simp only [hj, hc]
  rfl

theorem turn1_new (kn : Vec FI S1x8x256 .f32) (ck : Vec FI S1x1x64x128 .f32) (a b : Fin 1) (d : Fin 64) (w : Fin 128) (hw : ¬ w.val < 120) :
    turn1 kn ck (ix4 a b d w) = kn (ix3 0 ⟨w.val - 120, by omega⟩ ⟨64 + d.val, by omega⟩) := by
  have hj : (w.val + 128 - 120) % 128 = w.val - 120 := by omega
  have hc : IntOp.cmpi .slt (BitVec.ofNat 32 (w.val - 120)) 8#32 = 1#1 := (lt8 ⟨w.val - 120, by omega⟩).trans (if_pos (by show w.val - 120 < 8; omega))
  have h8 : w.val - 120 < 8 := by omega
  pointwise [turn1]
  simp only [hj, hc, dif_pos h8]
  refine Eq.trans (b := kn (ix3 0 ⟨w.val - 120, h8⟩ ⟨(64 + d.val), by omega⟩)) rfl ?_
  exact congrArg kn (congrArg (ix3 _ _) (Fin.ext (by show (64 + d.val) = 64 + d.val; omega)))

theorem piece1 (s : ℕ) (hs : s < 8) {M3 : Memref sig .tc .vmem S8x8x256 .f32} (h3 : M3.IsWhole) (X3 : Vec FI S8x8x256 .f32)
    {M5 : Memref sig .tc .vmem S8x4x64x128 .f32} (h5 : M5.IsWhole) (X5 : Vec FI S8x4x64x128 .f32) (b3) (b5) (z : S1x1x64x128.Idx) :
    turn1 (View.readAt (Elt FI) M3.view (Rect.unit (s := S8x8x256) ![s, 0, 0] S1x8x256.size b3).toLoadRect (h3.unread X3))
        (View.readAt (Elt FI) M5.view (Rect.unit (s := S8x4x64x128) ![s, 1, 0, 0] S1x1x64x128.size b5).toLoadRect (h5.unread X5)) z
      = C (n := 8) X5 X3 ((Rect.unit (s := S8x4x64x128) ![s, 1, 0, 0] S1x1x64x128.size b5).emb z) := by
  have e0 : (((Rect.unit (s := S8x4x64x128) ![s, 1, 0, 0] S1x1x64x128.size b5).emb z) 0).val = s + 1 * (z 0).val := rfl
  have e1 : (((Rect.unit (s := S8x4x64x128) ![s, 1, 0, 0] S1x1x64x128.size b5).emb z) 1).val = 1 + 1 * (z 1).val := rfl
  have e2 : (((Rect.unit (s := S8x4x64x128) ![s, 1, 0, 0] S1x1x64x128.size b5).emb z) 2).val = 0 + 1 * (z 2).val := rfl
  have e3 : (((Rect.unit (s := S8x4x64x128) ![s, 1, 0, 0] S1x1x64x128.size b5).emb z) 3).val = 0 + 1 * (z 3).val := rfl
  have z0 : (z 0).val < 1 := (z 0).isLt
  have z1 : (z 1).val < 1 := (z 1).isLt
  have z3 : (z 3).val < 128 := (z 3).isLt
  unfold C
  by_cases hw : (z 3).val < 120
  · rw [dif_pos (by omega)]
    refine (congrArg (turn1 _ _) (eq_ix4 z)).trans ((turn1_old _ _ _ _ _ _ hw).trans ((h5.readAt_unread _ _ _).trans (congrArg X5 (funext fun d => Fin.ext ?_))))
    match d with
    | ⟨0, _⟩ => exact (by show s + 1 * 0 = _; rw [e0]; omega : s + 1 * 0 = (((Rect.unit (s := S8x4x64x128) ![s, 1, 0, 0] S1x1x64x128.size b5).emb z) 0).val)
    | ⟨1, _⟩ => exact (by rw [e1]; omega : 1 + 1 * 0 = (((Rect.unit (s := S8x4x64x128) ![s, 1, 0, 0] S1x1x64x128.size b5).emb z) 1).val)
    | ⟨2, _⟩ => exact e2.symm
    | ⟨3, _⟩ => exact (by rw [e3]; omega : 0 + 1 * ((z 3).val + 8) = (((Rect.unit (s := S8x4x64x128) ![s, 1, 0, 0] S1x1x64x128.size b5).emb z) 3).val + 8)
  · rw [dif_neg (by omega)]
    refine (congrArg (turn1 _ _) (eq_ix4 z)).trans ((turn1_new _ _ _ _ _ _ hw).trans ((h3.readAt_unread _ _ _).trans (congrArg X3 (funext fun d => Fin.ext ?_))))
    match d with
    | ⟨0, _⟩ => exact (by rw [e0]; omega : s + 1 * 0 = (((Rect.unit (s := S8x4x64x128) ![s, 1, 0, 0] S1x1x64x128.size b5).emb z) 0).val)
    | ⟨1, _⟩ => exact (by rw [e3]; omega : 0 + 1 * ((z 3).val - 120) = (((Rect.unit (s := S8x4x64x128) ![s, 1, 0, 0] S1x1x64x128.size b5).emb z) 3).val - 120)
    | ⟨2, _⟩ => exact (by rw [e1, e2]; omega : 0 + 1 * (64 + (z 2).val) = 64 * (((Rect.unit (s := S8x4x64x128) ![s, 1, 0, 0] S1x1x64x128.size b5).emb z) 1).val + (((Rect.unit (s := S8x4x64x128) ![s, 1, 0, 0] S1x1x64x128.size b5).emb z) 2).val)

/-- One sequence's cache of head 2: the new rows over its first positions, then a turn. -/
def turn2 (kn : Vec FI S1x8x256 .f32) (ck : Vec FI S1x1x64x128 .f32) : FVec FI S1x1x64x128 .f32 :=
  shapeCast S1x1x64x128 (dynamicRotate 1 120#32 none
    (select (cmpi .slt (iota .tc S64x128 32 [1] iota_S64x128_d1_w32) (broadcast S64x128 8#32))
      (extractStridedSlice S64x128 ![0, 0] (transpose S128x128 [1, 0] (concatenate S128x128 0
          [⟨S8x128, extractStridedSlice S8x128 ![0, 128] (shapeCast S8x256 kn shapeCasts_S1x8x256_S8x256) slices_S8x256_o0_128_S8x128⟩,
           ⟨S120x128, broadcast S120x128 (Scalar.ofBits (F := FI) .f32 0x00000000#32)⟩] concatenates_S8x128_S120x128_S128x128_d0) transposes_S128x128_p1_0_S128x128)
        slices_S128x128_o0_0_S64x128)
      (shapeCast S64x128 ck shapeCasts_S1x1x64x128_S64x128)) rotates_S64x128_d1) shapeCasts_S64x128_S1x1x64x128

theorem turn2_old (kn : Vec FI S1x8x256 .f32) (ck : Vec FI S1x1x64x128 .f32) (a b : Fin 1) (d : Fin 64) (w : Fin 128) (hw : w.val < 120) :
    turn2 kn ck (ix4 a b d w) = ck (ix4 0 0 d ⟨w.val + 8, by omega⟩) := by
  have hj : (w.val + 128 - 120) % 128 = w.val + 8 := by omega
  have hc : IntOp.cmpi .slt (BitVec.ofNat 32 (w.val + 8)) 8#32 = 0#1 := (lt8 ⟨w.val + 8, by omega⟩).trans (if_neg (by show ¬ w.val + 8 < 8; omega))
  pointwise [turn2]
  simp only [hj, hc]
  rfl

theorem turn2_new (kn : Vec FI S1x8x256 .f32) (ck : Vec FI S1x1x64x128 .f32) (a b : Fin 1) (d : Fin 64) (w : Fin 128) (hw : ¬ w.val < 120) :
    turn2 kn ck (ix4 a b d w) = kn (ix3 0 ⟨w.val - 120, by omega⟩ ⟨128 + d.val, by omega⟩) := by
  have hj : (w.val + 128 - 120) % 128 = w.val - 120 := by omega
  have hc : IntOp.cmpi .slt (BitVec.ofNat 32 (w.val - 120)) 8#32 = 1#1 := (lt8 ⟨w.val - 120, by omega⟩).trans (if_pos (by show w.val - 120 < 8; omega))
  have h8 : w.val - 120 < 8 := by omega
  pointwise [turn2]
  simp only [hj, hc, dif_pos h8]
  refine Eq.trans (b := kn (ix3 0 ⟨w.val - 120, h8⟩ ⟨128 + d.val, by omega⟩)) rfl ?_
  exact congrArg kn (congrArg (ix3 _ _) (Fin.ext (by show 128 + d.val = 128 + d.val; omega)))

theorem piece2 (s : ℕ) (hs : s < 8) {M3 : Memref sig .tc .vmem S8x8x256 .f32} (h3 : M3.IsWhole) (X3 : Vec FI S8x8x256 .f32)
    {M5 : Memref sig .tc .vmem S8x4x64x128 .f32} (h5 : M5.IsWhole) (X5 : Vec FI S8x4x64x128 .f32) (b3) (b5) (z : S1x1x64x128.Idx) :
    turn2 (View.readAt (Elt FI) M3.view (Rect.unit (s := S8x8x256) ![s, 0, 0] S1x8x256.size b3).toLoadRect (h3.unread X3))
        (View.readAt (Elt FI) M5.view (Rect.unit (s := S8x4x64x128) ![s, 2, 0, 0] S1x1x64x128.size b5).toLoadRect (h5.unread X5)) z
      = C (n := 8) X5 X3 ((Rect.unit (s := S8x4x64x128) ![s, 2, 0, 0] S1x1x64x128.size b5).emb z) := by
  have e0 : (((Rect.unit (s := S8x4x64x128) ![s, 2, 0, 0] S1x1x64x128.size b5).emb z) 0).val = s + 1 * (z 0).val := rfl
  have e1 : (((Rect.unit (s := S8x4x64x128) ![s, 2, 0, 0] S1x1x64x128.size b5).emb z) 1).val = 2 + 1 * (z 1).val := rfl
  have e2 : (((Rect.unit (s := S8x4x64x128) ![s, 2, 0, 0] S1x1x64x128.size b5).emb z) 2).val = 0 + 1 * (z 2).val := rfl
  have e3 : (((Rect.unit (s := S8x4x64x128) ![s, 2, 0, 0] S1x1x64x128.size b5).emb z) 3).val = 0 + 1 * (z 3).val := rfl
  have z0 : (z 0).val < 1 := (z 0).isLt
  have z1 : (z 1).val < 1 := (z 1).isLt
  have z3 : (z 3).val < 128 := (z 3).isLt
  unfold C
  by_cases hw : (z 3).val < 120
  · rw [dif_pos (by omega)]
    refine (congrArg (turn2 _ _) (eq_ix4 z)).trans ((turn2_old _ _ _ _ _ _ hw).trans ((h5.readAt_unread _ _ _).trans (congrArg X5 (funext fun d => Fin.ext ?_))))
    match d with
    | ⟨0, _⟩ => exact (by show s + 1 * 0 = _; rw [e0]; omega : s + 1 * 0 = (((Rect.unit (s := S8x4x64x128) ![s, 2, 0, 0] S1x1x64x128.size b5).emb z) 0).val)
    | ⟨1, _⟩ => exact (by rw [e1]; omega : 2 + 1 * 0 = (((Rect.unit (s := S8x4x64x128) ![s, 2, 0, 0] S1x1x64x128.size b5).emb z) 1).val)
    | ⟨2, _⟩ => exact e2.symm
    | ⟨3, _⟩ => exact (by rw [e3]; omega : 0 + 1 * ((z 3).val + 8) = (((Rect.unit (s := S8x4x64x128) ![s, 2, 0, 0] S1x1x64x128.size b5).emb z) 3).val + 8)
  · rw [dif_neg (by omega)]
    refine (congrArg (turn2 _ _) (eq_ix4 z)).trans ((turn2_new _ _ _ _ _ _ hw).trans ((h3.readAt_unread _ _ _).trans (congrArg X3 (funext fun d => Fin.ext ?_))))
    match d with
    | ⟨0, _⟩ => exact (by rw [e0]; omega : s + 1 * 0 = (((Rect.unit (s := S8x4x64x128) ![s, 2, 0, 0] S1x1x64x128.size b5).emb z) 0).val)
    | ⟨1, _⟩ => exact (by rw [e3]; omega : 0 + 1 * ((z 3).val - 120) = (((Rect.unit (s := S8x4x64x128) ![s, 2, 0, 0] S1x1x64x128.size b5).emb z) 3).val - 120)
    | ⟨2, _⟩ => exact (by rw [e1, e2]; omega : 0 + 1 * (128 + (z 2).val) = 64 * (((Rect.unit (s := S8x4x64x128) ![s, 2, 0, 0] S1x1x64x128.size b5).emb z) 1).val + (((Rect.unit (s := S8x4x64x128) ![s, 2, 0, 0] S1x1x64x128.size b5).emb z) 2).val)

/-- One sequence's cache of head 3: the new rows over its first positions, then a turn. -/
def turn3 (kn : Vec FI S1x8x256 .f32) (ck : Vec FI S1x1x64x128 .f32) : FVec FI S1x1x64x128 .f32 :=
  shapeCast S1x1x64x128 (dynamicRotate 1 120#32 none
    (select (cmpi .slt (iota .tc S64x128 32 [1] iota_S64x128_d1_w32) (broadcast S64x128 8#32))
      (extractStridedSlice S64x128 ![64, 0] (transpose S128x128 [1, 0] (concatenate S128x128 0
          [⟨S8x128, extractStridedSlice S8x128 ![0, 128] (shapeCast S8x256 kn shapeCasts_S1x8x256_S8x256) slices_S8x256_o0_128_S8x128⟩,
           ⟨S120x128, broadcast S120x128 (Scalar.ofBits (F := FI) .f32 0x00000000#32)⟩] concatenates_S8x128_S120x128_S128x128_d0) transposes_S128x128_p1_0_S128x128)
        slices_S128x128_o64_0_S64x128)
      (shapeCast S64x128 ck shapeCasts_S1x1x64x128_S64x128)) rotates_S64x128_d1) shapeCasts_S64x128_S1x1x64x128

theorem turn3_old (kn : Vec FI S1x8x256 .f32) (ck : Vec FI S1x1x64x128 .f32) (a b : Fin 1) (d : Fin 64) (w : Fin 128) (hw : w.val < 120) :
    turn3 kn ck (ix4 a b d w) = ck (ix4 0 0 d ⟨w.val + 8, by omega⟩) := by
  have hj : (w.val + 128 - 120) % 128 = w.val + 8 := by omega
  have hc : IntOp.cmpi .slt (BitVec.ofNat 32 (w.val + 8)) 8#32 = 0#1 := (lt8 ⟨w.val + 8, by omega⟩).trans (if_neg (by show ¬ w.val + 8 < 8; omega))
  pointwise [turn3]
  simp only [hj, hc]
  rfl

theorem turn3_new (kn : Vec FI S1x8x256 .f32) (ck : Vec FI S1x1x64x128 .f32) (a b : Fin 1) (d : Fin 64) (w : Fin 128) (hw : ¬ w.val < 120) :
    turn3 kn ck (ix4 a b d w) = kn (ix3 0 ⟨w.val - 120, by omega⟩ ⟨192 + d.val, by omega⟩) := by
  have hj : (w.val + 128 - 120) % 128 = w.val - 120 := by omega
  have hc : IntOp.cmpi .slt (BitVec.ofNat 32 (w.val - 120)) 8#32 = 1#1 := (lt8 ⟨w.val - 120, by omega⟩).trans (if_pos (by show w.val - 120 < 8; omega))
  have h8 : w.val - 120 < 8 := by omega
  pointwise [turn3]
  simp only [hj, hc, dif_pos h8]
  refine Eq.trans (b := kn (ix3 0 ⟨w.val - 120, h8⟩ ⟨128 + (64 + d.val), by omega⟩)) rfl ?_
  exact congrArg kn (congrArg (ix3 _ _) (Fin.ext (by show 128 + (64 + d.val) = 192 + d.val; omega)))

theorem piece3 (s : ℕ) (hs : s < 8) {M3 : Memref sig .tc .vmem S8x8x256 .f32} (h3 : M3.IsWhole) (X3 : Vec FI S8x8x256 .f32)
    {M5 : Memref sig .tc .vmem S8x4x64x128 .f32} (h5 : M5.IsWhole) (X5 : Vec FI S8x4x64x128 .f32) (b3) (b5) (z : S1x1x64x128.Idx) :
    turn3 (View.readAt (Elt FI) M3.view (Rect.unit (s := S8x8x256) ![s, 0, 0] S1x8x256.size b3).toLoadRect (h3.unread X3))
        (View.readAt (Elt FI) M5.view (Rect.unit (s := S8x4x64x128) ![s, 3, 0, 0] S1x1x64x128.size b5).toLoadRect (h5.unread X5)) z
      = C (n := 8) X5 X3 ((Rect.unit (s := S8x4x64x128) ![s, 3, 0, 0] S1x1x64x128.size b5).emb z) := by
  have e0 : (((Rect.unit (s := S8x4x64x128) ![s, 3, 0, 0] S1x1x64x128.size b5).emb z) 0).val = s + 1 * (z 0).val := rfl
  have e1 : (((Rect.unit (s := S8x4x64x128) ![s, 3, 0, 0] S1x1x64x128.size b5).emb z) 1).val = 3 + 1 * (z 1).val := rfl
  have e2 : (((Rect.unit (s := S8x4x64x128) ![s, 3, 0, 0] S1x1x64x128.size b5).emb z) 2).val = 0 + 1 * (z 2).val := rfl
  have e3 : (((Rect.unit (s := S8x4x64x128) ![s, 3, 0, 0] S1x1x64x128.size b5).emb z) 3).val = 0 + 1 * (z 3).val := rfl
  have z0 : (z 0).val < 1 := (z 0).isLt
  have z1 : (z 1).val < 1 := (z 1).isLt
  have z3 : (z 3).val < 128 := (z 3).isLt
  unfold C
  by_cases hw : (z 3).val < 120
  · rw [dif_pos (by omega)]
    refine (congrArg (turn3 _ _) (eq_ix4 z)).trans ((turn3_old _ _ _ _ _ _ hw).trans ((h5.readAt_unread _ _ _).trans (congrArg X5 (funext fun d => Fin.ext ?_))))
    match d with
    | ⟨0, _⟩ => exact (by show s + 1 * 0 = _; rw [e0]; omega : s + 1 * 0 = (((Rect.unit (s := S8x4x64x128) ![s, 3, 0, 0] S1x1x64x128.size b5).emb z) 0).val)
    | ⟨1, _⟩ => exact (by rw [e1]; omega : 3 + 1 * 0 = (((Rect.unit (s := S8x4x64x128) ![s, 3, 0, 0] S1x1x64x128.size b5).emb z) 1).val)
    | ⟨2, _⟩ => exact e2.symm
    | ⟨3, _⟩ => exact (by rw [e3]; omega : 0 + 1 * ((z 3).val + 8) = (((Rect.unit (s := S8x4x64x128) ![s, 3, 0, 0] S1x1x64x128.size b5).emb z) 3).val + 8)
  · rw [dif_neg (by omega)]
    refine (congrArg (turn3 _ _) (eq_ix4 z)).trans ((turn3_new _ _ _ _ _ _ hw).trans ((h3.readAt_unread _ _ _).trans (congrArg X3 (funext fun d => Fin.ext ?_))))
    match d with
    | ⟨0, _⟩ => exact (by rw [e0]; omega : s + 1 * 0 = (((Rect.unit (s := S8x4x64x128) ![s, 3, 0, 0] S1x1x64x128.size b5).emb z) 0).val)
    | ⟨1, _⟩ => exact (by rw [e3]; omega : 0 + 1 * ((z 3).val - 120) = (((Rect.unit (s := S8x4x64x128) ![s, 3, 0, 0] S1x1x64x128.size b5).emb z) 3).val - 120)
    | ⟨2, _⟩ => exact (by rw [e1, e2]; omega : 0 + 1 * (192 + (z 2).val) = 64 * (((Rect.unit (s := S8x4x64x128) ![s, 3, 0, 0] S1x1x64x128.size b5).emb z) 1).val + (((Rect.unit (s := S8x4x64x128) ![s, 3, 0, 0] S1x1x64x128.size b5).emb z) 2).val)

end Cert.SampleAttnIdeal.Rows
end
-- ==== Proof.SampleAttnValue.lean ====
/- What the sample's attention call leaves as caches: each sequence's last 128 keys and values. -/
module
public import proofs.«01_k».proof.Proof.Gen.SampleAttnIdeal.Value
public import proofs.«01_k».proof.Proof.Gen.SampleAttnRefIdeal.Run
public import proofs.«01_k».proof.Proof.SampleAttnPieces
public import Idealize.ShloMosaic.Lib.Pointwise
public import Idealize.ShloMosaic.Lib.IdealHost
public import Idealize.ShloMosaic.Lib.Pipeline.Value
public import Idealize.ShloMosaic.Lib.Pipeline.ValueKit
public import Idealize.ShloMosaic.Lib.WholeRead
public import Idealize.ShloMosaic.Lib.StableHlo.RunRead

@[expose] public section

set_option maxRecDepth 16384

noncomputable section

namespace Cert.SampleAttnIdeal.Rows

open Cert.SampleAttnIdeal Cert.SampleAttnIdeal.Gen
open Idealize.ShloMosaic Idealize.ShloMosaic.TcCoe Idealize.SL.Sem
open Idealize.ShloMosaic.Pipeline (Dat Cfg Window)

local notation "FI" => Idealize.ShloMosaic.Ideal

set_option maxHeartbeats 4000000 in
theorem out8 (c : Dev nD) (i : grid0.Coords) (arg1 : Memref sig .tc .smem S16 .f32) (harg1 : arg1.IsWhole) (arg2 : Memref sig .tc .vmem S8x8x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S8x4x64x128 .f32) (harg5 : arg5.IsWhole) (arg6 : Memref sig .tc .vmem S8x4x64x128 .f32) (harg6 : arg6.IsWhole) (arg7 : Memref sig .tc .vmem S8x128x256 .f32) (harg7 : arg7.IsWhole) (arg8 : Memref sig .tc .vmem S8x8x1024 .f32) (harg8 : arg8.IsWhole) (arg9 : Memref sig .tc .vmem S8x4x64x128 .f32) (harg9 : arg9.IsWhole) (arg10 : Memref sig .tc .vmem S8x4x64x128 .f32) (harg10 : arg10.IsWhole)
    (x0 : Vec FI S16 .f32) (x1 : Vec FI S8x8x1024 .f32) (x2 : Vec FI S8x8x256 .f32) (x3 : Vec FI S8x8x256 .f32) (x4 : Vec FI S8x4x64x128 .f32) (x5 : Vec FI S8x4x64x128 .f32) (x6 : Vec FI S8x128x256 .f32) :
    out0_A_8 (F := FI) c i arg1 harg1 arg2 harg2 arg3 harg3 arg4 harg4 arg5 harg5 arg6 harg6 arg7 harg7 arg8 harg8 arg9 harg9 arg10 harg10 x0 x1 x2 x3 x4 x5 x6 = C x4 x2 := by
  funext y
  refine View.read_writes_apply_of_pieces VO0_8 VO0_8.junk (C x4 x2) _ ?_ y (cover0_A_8 (F := FI) c i arg1 harg1 arg2 harg2 arg3 harg3 arg4 harg4 arg5 harg5 arg6 harg6 arg7 harg7 arg8 harg8 arg9 harg9 arg10 harg10 x0 x1 x2 x3 x4 x5 x6 y)
  unfold kernelRun0_A
  dsimp only
  simp only [List.forall_mem_cons]
  refine ⟨fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun p hp => absurd hp List.not_mem_nil⟩
  · exact piece3 7 (by decide) harg3 x2 harg5 x4 _ _ z
  · exact piece2 7 (by decide) harg3 x2 harg5 x4 _ _ z
  · exact piece1 7 (by decide) harg3 x2 harg5 x4 _ _ z
  · exact piece0 7 (by decide) harg3 x2 harg5 x4 _ _ z
  · exact piece3 6 (by decide) harg3 x2 harg5 x4 _ _ z
  · exact piece2 6 (by decide) harg3 x2 harg5 x4 _ _ z
  · exact piece1 6 (by decide) harg3 x2 harg5 x4 _ _ z
  · exact piece0 6 (by decide) harg3 x2 harg5 x4 _ _ z
  · exact piece3 5 (by decide) harg3 x2 harg5 x4 _ _ z
  · exact piece2 5 (by decide) harg3 x2 harg5 x4 _ _ z
  · exact piece1 5 (by decide) harg3 x2 harg5 x4 _ _ z
  · exact piece0 5 (by decide) harg3 x2 harg5 x4 _ _ z
  · exact piece3 4 (by decide) harg3 x2 harg5 x4 _ _ z
  · exact piece2 4 (by decide) harg3 x2 harg5 x4 _ _ z
  · exact piece1 4 (by decide) harg3 x2 harg5 x4 _ _ z
  · exact piece0 4 (by decide) harg3 x2 harg5 x4 _ _ z
  · exact piece3 3 (by decide) harg3 x2 harg5 x4 _ _ z
  · exact piece2 3 (by decide) harg3 x2 harg5 x4 _ _ z
  · exact piece1 3 (by decide) harg3 x2 harg5 x4 _ _ z
  · exact piece0 3 (by decide) harg3 x2 harg5 x4 _ _ z
  · exact piece3 2 (by decide) harg3 x2 harg5 x4 _ _ z
  · exact piece2 2 (by decide) harg3 x2 harg5 x4 _ _ z
  · exact piece1 2 (by decide) harg3 x2 harg5 x4 _ _ z
  · exact piece0 2 (by decide) harg3 x2 harg5 x4 _ _ z
  · exact piece3 1 (by decide) harg3 x2 harg5 x4 _ _ z
  · exact piece2 1 (by decide) harg3 x2 harg5 x4 _ _ z
  · exact piece1 1 (by decide) harg3 x2 harg5 x4 _ _ z
  · exact piece0 1 (by decide) harg3 x2 harg5 x4 _ _ z
  · exact piece3 0 (by decide) harg3 x2 harg5 x4 _ _ z
  · exact piece2 0 (by decide) harg3 x2 harg5 x4 _ _ z
  · exact piece1 0 (by decide) harg3 x2 harg5 x4 _ _ z
  · exact piece0 0 (by decide) harg3 x2 harg5 x4 _ _ z

set_option maxHeartbeats 4000000 in
theorem out9 (c : Dev nD) (i : grid0.Coords) (arg1 : Memref sig .tc .smem S16 .f32) (harg1 : arg1.IsWhole) (arg2 : Memref sig .tc .vmem S8x8x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S8x4x64x128 .f32) (harg5 : arg5.IsWhole) (arg6 : Memref sig .tc .vmem S8x4x64x128 .f32) (harg6 : arg6.IsWhole) (arg7 : Memref sig .tc .vmem S8x128x256 .f32) (harg7 : arg7.IsWhole) (arg8 : Memref sig .tc .vmem S8x8x1024 .f32) (harg8 : arg8.IsWhole) (arg9 : Memref sig .tc .vmem S8x4x64x128 .f32) (harg9 : arg9.IsWhole) (arg10 : Memref sig .tc .vmem S8x4x64x128 .f32) (harg10 : arg10.IsWhole)
    (x0 : Vec FI S16 .f32) (x1 : Vec FI S8x8x1024 .f32) (x2 : Vec FI S8x8x256 .f32) (x3 : Vec FI S8x8x256 .f32) (x4 : Vec FI S8x4x64x128 .f32) (x5 : Vec FI S8x4x64x128 .f32) (x6 : Vec FI S8x128x256 .f32) :
    out0_A_9 (F := FI) c i arg1 harg1 arg2 harg2 arg3 harg3 arg4 harg4 arg5 harg5 arg6 harg6 arg7 harg7 arg8 harg8 arg9 harg9 arg10 harg10 x0 x1 x2 x3 x4 x5 x6 = C x5 x3 := by
  funext y
  refine View.read_writes_apply_of_pieces VO0_9 VO0_9.junk (C x5 x3) _ ?_ y (cover0_A_9 (F := FI) c i arg1 harg1 arg2 harg2 arg3 harg3 arg4 harg4 arg5 harg5 arg6 harg6 arg7 harg7 arg8 harg8 arg9 harg9 arg10 harg10 x0 x1 x2 x3 x4 x5 x6 y)
  unfold kernelRun0_A
  dsimp only
  simp only [List.forall_mem_cons]
  refine ⟨fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun p hp => absurd hp List.not_mem_nil⟩
  · exact piece3 7 (by decide) harg4 x3 harg6 x5 _ _ z
  · exact piece2 7 (by decide) harg4 x3 harg6 x5 _ _ z
  · exact piece1 7 (by decide) harg4 x3 harg6 x5 _ _ z
  · exact piece0 7 (by decide) harg4 x3 harg6 x5 _ _ z
  · exact piece3 6 (by decide) harg4 x3 harg6 x5 _ _ z
  · exact piece2 6 (by decide) harg4 x3 harg6 x5 _ _ z
  · exact piece1 6 (by decide) harg4 x3 harg6 x5 _ _ z
  · exact piece0 6 (by decide) harg4 x3 harg6 x5 _ _ z
  · exact piece3 5 (by decide) harg4 x3 harg6 x5 _ _ z
  · exact piece2 5 (by decide) harg4 x3 harg6 x5 _ _ z
  · exact piece1 5 (by decide) harg4 x3 harg6 x5 _ _ z
  · exact piece0 5 (by decide) harg4 x3 harg6 x5 _ _ z
  · exact piece3 4 (by decide) harg4 x3 harg6 x5 _ _ z
  · exact piece2 4 (by decide) harg4 x3 harg6 x5 _ _ z
  · exact piece1 4 (by decide) harg4 x3 harg6 x5 _ _ z
  · exact piece0 4 (by decide) harg4 x3 harg6 x5 _ _ z
  · exact piece3 3 (by decide) harg4 x3 harg6 x5 _ _ z
  · exact piece2 3 (by decide) harg4 x3 harg6 x5 _ _ z
  · exact piece1 3 (by decide) harg4 x3 harg6 x5 _ _ z
  · exact piece0 3 (by decide) harg4 x3 harg6 x5 _ _ z
  · exact piece3 2 (by decide) harg4 x3 harg6 x5 _ _ z
  · exact piece2 2 (by decide) harg4 x3 harg6 x5 _ _ z
  · exact piece1 2 (by decide) harg4 x3 harg6 x5 _ _ z
  · exact piece0 2 (by decide) harg4 x3 harg6 x5 _ _ z
  · exact piece3 1 (by decide) harg4 x3 harg6 x5 _ _ z
  · exact piece2 1 (by decide) harg4 x3 harg6 x5 _ _ z
  · exact piece1 1 (by decide) harg4 x3 harg6 x5 _ _ z
  · exact piece0 1 (by decide) harg4 x3 harg6 x5 _ _ z
  · exact piece3 0 (by decide) harg4 x3 harg6 x5 _ _ z
  · exact piece2 0 (by decide) harg4 x3 harg6 x5 _ _ z
  · exact piece1 0 (by decide) harg4 x3 harg6 x5 _ _ z
  · exact piece0 0 (by decide) harg4 x3 harg6 x5 _ _ z

variable (m : (ℓ : Loc nD τ sig) → Buf (Elt FI) ℓ)

/-- Step `t` has sequences `8 t` and on. -/
theorem index_seqs : ∀ t : Fin grid0.N, win0_2.index t = ![t.val, 0, 0] ∧ win0_3.index t = ![t.val, 0, 0] ∧ win0_4.index t = ![t.val, 0, 0, 0]
    ∧ win0_5.index t = ![t.val, 0, 0, 0] ∧ win0_8.index t = ![t.val, 0, 0, 0] ∧ win0_9.index t = ![t.val, 0, 0, 0]
    ∧ win0_8.flush t = true ∧ win0_9.flush t = true := by decide +kernel

/-- A cache as the call takes it: positions last. -/
def old (a : FVec FI S128x128x4x64 .f32) : FVec FI S128x4x64x128 .f32 := transpose S128x4x64x128 [0, 2, 3, 1] a transposes_S128x128x4x64_S128x4x64x128_0_2_3_1
/-- The new rows as the call takes them. -/
def new (a : FVec FI S1024x256 .f32) : FVec FI S128x8x256 .f32 := shapeCast S128x8x256 a shapeCasts_S1024x256_S128x8x256

theorem V_2 (c : Dev nD) : V m c main_v1 = new (m ((c : Thread nD τ).loc main_arg1)) := by
  show StableHlo.after hostOps0 (fun b => m (c, b)) (Proc.devRef .tc main_v1) = _
  after_reads_simp
  rfl

theorem blk2 (c : Dev nD) (t : Fin grid0.N) (u : Fin 8) (u' : Fin 128) (r : Fin 8) (k : Fin 256) (h : u'.val = t.val * 8 + u.val) :
    (iblk m c 2 t (ix3 u r k) : EReal) = new (m ((c : Thread nD τ).loc main_arg1)) (ix3 u' r k) := by
  refine Eq.trans (b := V m c main_v1 ((win0_2.blk t).view.emb (ix3 u r k))) rfl ?_
  rw [V_2]
  refine congrArg (new (m ((c : Thread nD τ).loc main_arg1))) (funext fun d => Fin.ext ?_)
  refine (Pipeline.Window.rect_emb_val win0_2 t (ix3 u r k) d rfl).trans ?_
  rw [(index_seqs t).1]
  match d with
  | ⟨0, _⟩ => exact h.symm
  | ⟨1, _⟩ => show 0 * 8 + r.val = r.val; omega
  | ⟨2, _⟩ => show 0 * 256 + k.val = k.val; omega

theorem V_3 (c : Dev nD) : V m c main_v2 = new (m ((c : Thread nD τ).loc main_arg2)) := by
  show StableHlo.after hostOps0 (fun b => m (c, b)) (Proc.devRef .tc main_v2) = _
  after_reads_simp
  rfl

theorem blk3 (c : Dev nD) (t : Fin grid0.N) (u : Fin 8) (u' : Fin 128) (r : Fin 8) (k : Fin 256) (h : u'.val = t.val * 8 + u.val) :
    (iblk m c 3 t (ix3 u r k) : EReal) = new (m ((c : Thread nD τ).loc main_arg2)) (ix3 u' r k) := by
  refine Eq.trans (b := V m c main_v2 ((win0_3.blk t).view.emb (ix3 u r k))) rfl ?_
  rw [V_3]
  refine congrArg (new (m ((c : Thread nD τ).loc main_arg2))) (funext fun d => Fin.ext ?_)
  refine (Pipeline.Window.rect_emb_val win0_3 t (ix3 u r k) d rfl).trans ?_
  rw [(index_seqs t).2.1]
  match d with
  | ⟨0, _⟩ => exact h.symm
  | ⟨1, _⟩ => show 0 * 8 + r.val = r.val; omega
  | ⟨2, _⟩ => show 0 * 256 + k.val = k.val; omega

theorem V_4 (c : Dev nD) : V m c main_v3 = old (m ((c : Thread nD τ).loc main_arg3)) := by
  show StableHlo.after hostOps0 (fun b => m (c, b)) (Proc.devRef .tc main_v3) = _
  after_reads_simp
  rfl

theorem blk4 (c : Dev nD) (t : Fin grid0.N) (u : Fin 8) (u' : Fin 128) (r : Fin 4) (k : Fin 64) (l : Fin 128) (h : u'.val = t.val * 8 + u.val) :
    (iblk m c 4 t (ix4 u r k l) : EReal) = old (m ((c : Thread nD τ).loc main_arg3)) (ix4 u' r k l) := by
  refine Eq.trans (b := V m c main_v3 ((win0_4.blk t).view.emb (ix4 u r k l))) rfl ?_
  rw [V_4]
  refine congrArg (old (m ((c : Thread nD τ).loc main_arg3))) (funext fun d => Fin.ext ?_)
  refine (Pipeline.Window.rect_emb_val win0_4 t (ix4 u r k l) d rfl).trans ?_
  rw [(index_seqs t).2.2.1]
  match d with
  | ⟨0, _⟩ => exact h.symm
  | ⟨1, _⟩ => show 0 * 4 + r.val = r.val; omega
  | ⟨2, _⟩ => show 0 * 64 + k.val = k.val; omega
  | ⟨3, _⟩ => show 0 * 128 + l.val = l.val; omega

theorem V_5 (c : Dev nD) : V m c main_v4 = old (m ((c : Thread nD τ).loc main_arg4)) := by
  show StableHlo.after hostOps0 (fun b => m (c, b)) (Proc.devRef .tc main_v4) = _
  after_reads_simp
  rfl

theorem blk5 (c : Dev nD) (t : Fin grid0.N) (u : Fin 8) (u' : Fin 128) (r : Fin 4) (k : Fin 64) (l : Fin 128) (h : u'.val = t.val * 8 + u.val) :
    (iblk m c 5 t (ix4 u r k l) : EReal) = old (m ((c : Thread nD τ).loc main_arg4)) (ix4 u' r k l) := by
  refine Eq.trans (b := V m c main_v4 ((win0_5.blk t).view.emb (ix4 u r k l))) rfl ?_
  rw [V_5]
  refine congrArg (old (m ((c : Thread nD τ).loc main_arg4))) (funext fun d => Fin.ext ?_)
  refine (Pipeline.Window.rect_emb_val win0_5 t (ix4 u r k l) d rfl).trans ?_
  rw [(index_seqs t).2.2.2.1]
  match d with
  | ⟨0, _⟩ => exact h.symm
  | ⟨1, _⟩ => show 0 * 4 + r.val = r.val; omega
  | ⟨2, _⟩ => show 0 * 64 + k.val = k.val; omega
  | ⟨3, _⟩ => show 0 * 128 + l.val = l.val; omega

theorem fl8 (c : Dev nD) (t : Fin cfg0.N) (y : (⟨4, ![8, 4, 64, 128]⟩ : Shape).Idx) :
    ((dats m 0 c).flushed 8 t y : EReal) = C (n := 8) (iblk m c 4 t) (iblk m c 2 t) y := by
  rw [Cert.SampleAttnIdeal.Value.flushed8_A m c t, out8]
  rfl

/-- The cache that the call leaves: each sequence's last 128 positions. -/
theorem final8 (c : Dev nD) : (dats m 0 c).arrAt 8 cfg0.N = C (n := 128) (old (m ((c : Thread nD τ).loc main_arg3))) (new (m ((c : Thread nD τ).loc main_arg1))) := by
  refine Pipeline.Dat.arrAt_eq_of_emb _ 8 _ ?_ ?_
  · intro t hf y
    have hd : ∀ d : Fin 4, (((win0_8.blk t).view.emb y) d).val = win0_8.index t d * (![8, 4, 64, 128] : Fin 4 → ℕ) d + (y d).val :=
      fun d => Pipeline.Window.rect_emb_val win0_8 t y d rfl
    rw [(index_seqs t).2.2.2.2.1] at hd
    have e0 : (((win0_8.blk t).view.emb y) 0).val = t.val * 8 + (y 0).val := hd 0
    have e1 : (((win0_8.blk t).view.emb y) 1).val = (y 1).val := (hd 1).trans (by show 0 * 4 + (y 1).val = _; omega)
    have e2 : (((win0_8.blk t).view.emb y) 2).val = (y 2).val := (hd 2).trans (by show 0 * 64 + (y 2).val = _; omega)
    have e3 : (((win0_8.blk t).view.emb y) 3).val = (y 3).val := (hd 3).trans (by show 0 * 128 + (y 3).val = _; omega)
    have y0 : (y 0).val < 8 := (y 0).isLt
    have y1 : (y 1).val < 4 := (y 1).isLt
    have y2 : (y 2).val < 64 := (y 2).isLt
    have y3 : (y 3).val < 128 := (y 3).isLt
    refine Eq.trans (fl8 m c t y) ?_
    by_cases h : (y 3).val < 120
    · refine (C_old (n := 8) _ _ y ⟨(y 0).val, y0⟩ ⟨(y 1).val, y1⟩ ⟨(y 2).val, y2⟩ ⟨(y 3).val + 8, by omega⟩ h rfl rfl rfl rfl).trans ?_
      refine Eq.trans ?_ (C_old (n := 128) _ _ ((win0_8.blk t).view.emb y) (((win0_8.blk t).view.emb y) 0) ⟨(y 1).val, y1⟩ ⟨(y 2).val, y2⟩ ⟨(y 3).val + 8, by omega⟩ (e3.trans_lt h) rfl e1.symm e2.symm (congrArg (· + 8) e3.symm)).symm
      exact blk4 m c t _ _ _ _ _ e0
    · refine (C_new (n := 8) _ _ y ⟨(y 0).val, y0⟩ ⟨(y 3).val - 120, by omega⟩ ⟨64 * (y 1).val + (y 2).val, by omega⟩ h rfl (Nat.sub_add_cancel (Nat.le_of_not_lt h)) rfl).trans ?_
      refine Eq.trans ?_ (C_new (n := 128) _ _ ((win0_8.blk t).view.emb y) (((win0_8.blk t).view.emb y) 0) ⟨(y 3).val - 120, by omega⟩ ⟨64 * (y 1).val + (y 2).val, by omega⟩ (fun h' => h (e3.symm.trans_lt h')) rfl ((Nat.sub_add_cancel (Nat.le_of_not_lt h)).trans e3.symm) (by rw [e1, e2])).symm
      exact blk2 m c t _ _ _ _ e0
  · intro p
    have hp : (p (0 : Fin 4)).val < 128 := (p (0 : Fin 4)).isLt
    have hp1 : (p (1 : Fin 4)).val < 4 := (p (1 : Fin 4)).isLt
    have hp2 : (p (2 : Fin 4)).val < 64 := (p (2 : Fin 4)).isLt
    have hp3 : (p (3 : Fin 4)).val < 128 := (p (3 : Fin 4)).isLt
    have hN : (p (0 : Fin 4)).val / 8 < grid0.N := lt_of_lt_of_eq (b := 16) (by omega) N_0.symm
    refine ⟨⟨(p (0 : Fin 4)).val / 8, hN⟩, (index_seqs _).2.2.2.2.2.2.1, ?_⟩
    refine (Pipeline.Window.emb_mem_blk_iff win0_8 ⟨(p (0 : Fin 4)).val / 8, hN⟩ p rfl).mpr fun a => ?_
    rw [(index_seqs _).2.2.2.2.1]
    match a with
    | ⟨0, _⟩ => show (p (0 : Fin 4)).val / 8 * 8 ≤ (p (0 : Fin 4)).val ∧ (p (0 : Fin 4)).val < (p (0 : Fin 4)).val / 8 * 8 + 8; omega
    | ⟨1, _⟩ => show 0 * 4 ≤ (p (1 : Fin 4)).val ∧ (p (1 : Fin 4)).val < 0 * 4 + 4; omega
    | ⟨2, _⟩ => show 0 * 64 ≤ (p (2 : Fin 4)).val ∧ (p (2 : Fin 4)).val < 0 * 64 + 64; omega
    | ⟨3, _⟩ => show 0 * 128 ≤ (p (3 : Fin 4)).val ∧ (p (3 : Fin 4)).val < 0 * 128 + 128; omega

theorem fl9 (c : Dev nD) (t : Fin cfg0.N) (y : (⟨4, ![8, 4, 64, 128]⟩ : Shape).Idx) :
    ((dats m 0 c).flushed 9 t y : EReal) = C (n := 8) (iblk m c 5 t) (iblk m c 3 t) y := by
  rw [Cert.SampleAttnIdeal.Value.flushed9_A m c t, out9]
  rfl

/-- The cache that the call leaves: each sequence's last 128 positions. -/
theorem final9 (c : Dev nD) : (dats m 0 c).arrAt 9 cfg0.N = C (n := 128) (old (m ((c : Thread nD τ).loc main_arg4))) (new (m ((c : Thread nD τ).loc main_arg2))) := by
  refine Pipeline.Dat.arrAt_eq_of_emb _ 9 _ ?_ ?_
  · intro t hf y
    have hd : ∀ d : Fin 4, (((win0_9.blk t).view.emb y) d).val = win0_9.index t d * (![8, 4, 64, 128] : Fin 4 → ℕ) d + (y d).val :=
      fun d => Pipeline.Window.rect_emb_val win0_9 t y d rfl
    rw [(index_seqs t).2.2.2.2.2.1] at hd
    have e0 : (((win0_9.blk t).view.emb y) 0).val = t.val * 8 + (y 0).val := hd 0
    have e1 : (((win0_9.blk t).view.emb y) 1).val = (y 1).val := (hd 1).trans (by show 0 * 4 + (y 1).val = _; omega)
    have e2 : (((win0_9.blk t).view.emb y) 2).val = (y 2).val := (hd 2).trans (by show 0 * 64 + (y 2).val = _; omega)
    have e3 : (((win0_9.blk t).view.emb y) 3).val = (y 3).val := (hd 3).trans (by show 0 * 128 + (y 3).val = _; omega)
    have y0 : (y 0).val < 8 := (y 0).isLt
    have y1 : (y 1).val < 4 := (y 1).isLt
    have y2 : (y 2).val < 64 := (y 2).isLt
    have y3 : (y 3).val < 128 := (y 3).isLt
    refine Eq.trans (fl9 m c t y) ?_
    by_cases h : (y 3).val < 120
    · refine (C_old (n := 8) _ _ y ⟨(y 0).val, y0⟩ ⟨(y 1).val, y1⟩ ⟨(y 2).val, y2⟩ ⟨(y 3).val + 8, by omega⟩ h rfl rfl rfl rfl).trans ?_
      refine Eq.trans ?_ (C_old (n := 128) _ _ ((win0_9.blk t).view.emb y) (((win0_9.blk t).view.emb y) 0) ⟨(y 1).val, y1⟩ ⟨(y 2).val, y2⟩ ⟨(y 3).val + 8, by omega⟩ (e3.trans_lt h) rfl e1.symm e2.symm (congrArg (· + 8) e3.symm)).symm
      exact blk5 m c t _ _ _ _ _ e0
    · refine (C_new (n := 8) _ _ y ⟨(y 0).val, y0⟩ ⟨(y 3).val - 120, by omega⟩ ⟨64 * (y 1).val + (y 2).val, by omega⟩ h rfl (Nat.sub_add_cancel (Nat.le_of_not_lt h)) rfl).trans ?_
      refine Eq.trans ?_ (C_new (n := 128) _ _ ((win0_9.blk t).view.emb y) (((win0_9.blk t).view.emb y) 0) ⟨(y 3).val - 120, by omega⟩ ⟨64 * (y 1).val + (y 2).val, by omega⟩ (fun h' => h (e3.symm.trans_lt h')) rfl ((Nat.sub_add_cancel (Nat.le_of_not_lt h)).trans e3.symm) (by rw [e1, e2])).symm
      exact blk3 m c t _ _ _ _ e0
  · intro p
    have hp : (p (0 : Fin 4)).val < 128 := (p (0 : Fin 4)).isLt
    have hp1 : (p (1 : Fin 4)).val < 4 := (p (1 : Fin 4)).isLt
    have hp2 : (p (2 : Fin 4)).val < 64 := (p (2 : Fin 4)).isLt
    have hp3 : (p (3 : Fin 4)).val < 128 := (p (3 : Fin 4)).isLt
    have hN : (p (0 : Fin 4)).val / 8 < grid0.N := lt_of_lt_of_eq (b := 16) (by omega) N_0.symm
    refine ⟨⟨(p (0 : Fin 4)).val / 8, hN⟩, (index_seqs _).2.2.2.2.2.2.2, ?_⟩
    refine (Pipeline.Window.emb_mem_blk_iff win0_9 ⟨(p (0 : Fin 4)).val / 8, hN⟩ p rfl).mpr fun a => ?_
    rw [(index_seqs _).2.2.2.2.2.1]
    match a with
    | ⟨0, _⟩ => show (p (0 : Fin 4)).val / 8 * 8 ≤ (p (0 : Fin 4)).val ∧ (p (0 : Fin 4)).val < (p (0 : Fin 4)).val / 8 * 8 + 8; omega
    | ⟨1, _⟩ => show 0 * 4 ≤ (p (1 : Fin 4)).val ∧ (p (1 : Fin 4)).val < 0 * 4 + 4; omega
    | ⟨2, _⟩ => show 0 * 64 ≤ (p (2 : Fin 4)).val ∧ (p (2 : Fin 4)).val < 0 * 64 + 64; omega
    | ⟨3, _⟩ => show 0 * 128 ≤ (p (3 : Fin 4)).val ∧ (p (3 : Fin 4)).val < 0 * 128 + 128; omega

end Cert.SampleAttnIdeal.Rows

namespace Cert.SampleAttnRefIdeal.Rows

open Cert.SampleAttnRefIdeal Cert.SampleAttnRefIdeal.Gen
open Cert.SampleAttnIdeal.Rows (C C_old C_new old new)
open Idealize.ShloMosaic

local notation "FI" => Idealize.ShloMosaic.Ideal

/-- The reference's term. -/
def whole (a : FVec FI S128x128x4x64 .f32) (b : FVec FI S1024x256 .f32) : FVec FI S128x4x64x128 .f32 :=
  transpose S128x4x64x128 [0, 2, 3, 1] (extractStridedSlice S128x128x4x64 ![0, 8, 0, 0] (concatenate S128x136x4x64 1 [⟨S128x128x4x64, a⟩, ⟨S128x8x4x64, (shapeCast _ b shapeCasts_S1024x256_S128x8x4x64)⟩] concatenates_S128x128x4x64_S128x8x4x64_S128x136x4x64_d1) slices_S128x136x4x64_S128x128x4x64_0_8_0_0) transposes_S128x128x4x64_S128x4x64x128_0_2_3_1

theorem whole_eq (a : FVec FI S128x128x4x64 .f32) (b : FVec FI S1024x256 .f32) : whole a b = C (n := 128) (old a) (new b) := by
  funext y
  by_cases h : (y 3).val < 120
  · have hy : (y 3).val + 8 < 128 := by omega
    refine Eq.trans ?_ (C_old (n := 128) _ _ y (y 0) (y 1) (y 2) ⟨(y 3).val + 8, hy⟩ h rfl rfl rfl rfl).symm
    pointwise [whole, old]
    have h8 : 8 + (y 3).val < 128 := by omega
    refine (dif_pos h8).trans (congrArg a (congrArg (fun j => ix4 (y 0) j (y 1) (y 2)) (Fin.ext ?_)))
    exact Nat.add_comm _ _
  · have y3 : (y 3).val < 128 := (y 3).isLt
    have y1 : (y 1).val < 4 := (y 1).isLt
    have y2 : (y 2).val < 64 := (y 2).isLt
    refine Eq.trans ?_ (C_new (n := 128) _ _ y (y 0) ⟨(y 3).val - 120, by omega⟩ ⟨64 * (y 1).val + (y 2).val, by omega⟩ h rfl (Nat.sub_add_cancel (Nat.le_of_not_lt h)) rfl).symm
    pointwise [whole, new]
    have h8 : ¬ 8 + (y 3).val < 128 := by omega
    refine (dif_neg h8).trans (congrArg b (congrArg₂ ix2 (Fin.ext ?_) (Fin.ext ?_)))
    · show (y 0).val * 8 + (8 + (y 3).val - 128) = (y 0).val * 8 + ((y 3).val - 120)
      omega
    · show (y 1).val * 64 + (y 2).val = 64 * (y 1).val + (y 2).val
      omega

end Cert.SampleAttnRefIdeal.Rows
end
-- ==== Proof.SampleAttnClaims.lean ====
/- The claims about the sample's attention call: its frames and its new caches against the reference's. -/
module
public import proofs.«01_k».proof.Defs
public import proofs.«01_k».proof.Proof.SampleAttnValue
public import proofs.«01_k».proof.Proof.Gen.SampleAttn.Frame
public import proofs.«01_k».proof.Proof.Gen.SampleAttn
public import proofs.«01_k».proof.Proof.Gen.SampleAttnIdeal
public import proofs.«01_k».proof.Proof.Gen.SampleAttnRefIdeal
public import Idealize.ShloMosaic.Lib.Quiescent

@[expose] public section

set_option maxRecDepth 16384

noncomputable section

namespace Cert.Proof.SampleAttnClaims

open Idealize.ShloMosaic Idealize.SL.Sem
open Cert.SampleAttnIdeal.Rows (C old new)

/-- The call as printed runs and leaves its arguments and every counter as they were. -/
theorem frame_p : Cert.quiescent_SampleAttn := fun m g _ => Cert.SampleAttn.Gen.frame m g

/-- So does its idealization. -/
theorem frame_pi : Cert.quiescent_SampleAttnIdeal := fun m g _ => Cert.SampleAttnIdeal.Gen.frame m g

/-- So does the reference. -/
theorem frame_ri : Cert.quiescent_SampleAttnRefIdeal := fun m g _ =>
  (θ_run Cert.SampleAttnRefIdeal.defs _ _).mono (fun r h => ⟨fun c => (h c).2.2,
    Idealize.ShloMosaic.sem_eq_zero_of_no_sems (by decide) r.2⟩) (Cert.SampleAttnRefIdeal.Value.run m g)

/-- Nothing is rewritten: the idealization is the call itself. -/
theorem preserves : Cert.preserves_SampleAttn_SampleAttnIdeal := trivial

/-- The call's new caches are the reference's: the last 128 keys and values of each sequence. -/
theorem algebraic : Cert.algebraic_SampleAttnIdeal_SampleAttnRefIdeal := fun m g m' g' _ ha => by
  refine ⟨fun c => C (n := 128) (old (m ((c.tc : Thread Cert.SampleAttnIdeal.nD Cert.SampleAttnIdeal.τ).loc Cert.SampleAttnIdeal.main_arg3))) (new (m ((c.tc : Thread Cert.SampleAttnIdeal.nD Cert.SampleAttnIdeal.τ).loc Cert.SampleAttnIdeal.main_arg1))), fun c => C (n := 128) (old (m ((c.tc : Thread Cert.SampleAttnIdeal.nD Cert.SampleAttnIdeal.τ).loc Cert.SampleAttnIdeal.main_arg4))) (new (m ((c.tc : Thread Cert.SampleAttnIdeal.nD Cert.SampleAttnIdeal.τ).loc Cert.SampleAttnIdeal.main_arg2))), ?_, ?_⟩
  · exact (θ_run _ _ _).mono (fun _ h c => ⟨(h c).2.1.trans (Cert.SampleAttnIdeal.Rows.final8 m c), (h c).2.2.1.trans (Cert.SampleAttnIdeal.Rows.final9 m c), (h c).2.2.2⟩) (Cert.SampleAttnIdeal.Value.run_blocks m g)
  · refine (θ_run _ _ _).mono (fun _ h c => ?_) (Cert.SampleAttnRefIdeal.Value.run m' g')
    obtain ⟨h0, h1, hu⟩ := h c
    obtain ⟨-, e1, e2, e3, e4, -⟩ := ha c
    replace h0 := h0.trans (Cert.SampleAttnRefIdeal.Rows.whole_eq _ _)
    replace h1 := h1.trans (Cert.SampleAttnRefIdeal.Rows.whole_eq _ _)
    rw [e1, e3] at h0
    rw [e2, e4] at h1
    exact ⟨h0, h1, hu⟩

end Cert.Proof.SampleAttnClaims
end
-- ==== Proof.CombineRows.lean ====
/- One element of a row plus its two weighted experts' rows. -/
module
public import Idealize.ShloMosaic.Lib.Pointwise

@[expose] public section

noncomputable section

namespace Cert.CombineRows

open Idealize.ShloMosaic

/-- The element in column k of a row of packed words: the low halves are the first 512 columns, the high halves the rest. -/
def half {n : ℕ} (g : IVec ⟨2, ![n, 512]⟩ 32) (u : Fin n) (k : Fin 1024) : Bits .f32 :=
  if h : k.val < 512 then FloatOps.ofBits .f32 (IntOp.shli .vector (g (ix2 u ⟨k.val, h⟩)) 16#32)
  else FloatOps.ofBits .f32 (IntOp.andi (g (ix2 u ⟨k.val - 512, by omega⟩)) 4294901760#32)

/-- An element, plus the first choice's times its weight, plus the second choice's times its weight. -/
def sum (h w0 y0 w1 y1 : Bits .f32) : Bits .f32 := FloatOps.addf (FloatOps.addf h (FloatOps.mulf w0 y0)) (FloatOps.mulf w1 y1)

end Cert.CombineRows
end
-- ==== Proof.CombineValue.lean ====
/- What the prompt's combining call leaves: each row plus its two weighted experts' rows. -/
module
public import proofs.«01_k».proof.Proof.CombineRows
public import proofs.«01_k».proof.Proof.Gen.Combine.Value
public import proofs.«01_k».proof.Proof.Gen.CombineRef.Run
public import Idealize.ShloMosaic.Lib.Pointwise
public import Idealize.ShloMosaic.Lib.KernelVsHost
public import Idealize.ShloMosaic.Lib.Pipeline.Value
public import Idealize.ShloMosaic.Lib.Pipeline.ValueKit

@[expose] public section

set_option maxRecDepth 16384

noncomputable section

namespace Cert.Combine.Rows

open Cert.Combine Cert.Combine.Gen Cert.CombineRows
open Idealize.ShloMosaic Idealize.ShloMosaic.TcCoe Idealize.SL.Sem
open Idealize.ShloMosaic.Pipeline (Dat Cfg Window)

/-- The rows that the call leaves. -/
def Y (a : FVec Bits S16384x1024 .f32) (r : FVec Bits S16384x128 .f32) (g : IVec S32768x512 32) : FVec Bits S16384x1024 .f32 := fun y =>
  sum (a y) (r (ix2 (n0 := 16384) (n1 := 128) (y 0) 2)) (half (n := 32768) g ⟨(y 0).val, by have : (y 0).val < 16384 := (y 0).isLt; omega⟩ (y 1))
    (r (ix2 (n0 := 16384) (n1 := 128) (y 0) 3)) (half (n := 32768) g ⟨16384 + (y 0).val, by have : (y 0).val < 16384 := (y 0).isLt; omega⟩ (y 1))

theorem pay_apply (v0 : Vec Bits S1024x128 .f32) (v1 : Vec Bits S1024x1024 .f32) (v3 v15 : Vec Bits S1024x512 .i32) (u k : Fin 1024) :
    k0_pay1 (F := Bits) v0 v1 v3 v15 (ix2 u k) = sum (v1 (ix2 u k)) (v0 (ix2 u 2)) (half (n := 1024) v3 u k) (v0 (ix2 u 3)) (half (n := 1024) v15 u k) := by
  pointwise [k0_pay1, sum, half]

theorem out_eq (x0 : Vec Bits S1024x1024 .f32) (x1 : Vec Bits S1024x128 .f32) (x2 x3 : Vec Bits S1024x512 .i32) :
    out0_4 (F := Bits) x0 x1 x2 x3 = k0_pay1 (F := Bits) x1 x0 x2 x3 := by
  unfold out0_4
  rw [View.ld_unit_lit, View.ld_unit_lit, View.ld_unit_lit, View.ld_unit_lit, View.canon_cons_unit_lit]
  all_goals decide

variable (m : (ℓ : Loc nD τ sig) → Buf (Elt Bits) ℓ)

/-- Step `t` has rows `1024 t` and on; its second expert rows come 16384 words further. -/
theorem index_rows : ∀ t : Fin grid0.N, win0_0.index t = ![t.val, 0] ∧ win0_1.index t = ![t.val, 0] ∧ win0_2.index t = ![t.val, 0]
    ∧ win0_3.index t = ![16 + t.val, 0] ∧ win0_4.index t = ![t.val, 0] ∧ win0_4.flush t = true := by decide +kernel

theorem blk0 (c : Dev nD) (t : Fin grid0.N) (u : Fin 1024) (u' : Fin 16384) (k : Fin 1024) (h : u'.val = t.val * 1024 + u.val) :
    (iblk m c 0 t (ix2 u k) : Bits .f32) = (m ((c : Thread nD τ).loc main_arg0)) (ix2 u' k) := by
  refine Eq.trans (b := (m ((c : Thread nD τ).loc main_arg0)) ((win0_0.blk t).view.emb (ix2 u k))) rfl ?_
  refine congrArg (m ((c : Thread nD τ).loc main_arg0)) (funext fun d => Fin.ext ?_)
  refine (Pipeline.Window.rect_emb_val win0_0 t (ix2 u k) d rfl).trans ?_
  rw [(index_rows t).1]
  match d with
  | ⟨0, _⟩ => exact h.symm
  | ⟨1, _⟩ => show 0 * 1024 + k.val = k.val; omega

theorem blk1 (c : Dev nD) (t : Fin grid0.N) (u : Fin 1024) (u' : Fin 16384) (k : Fin 128) (h : u'.val = t.val * 1024 + u.val) :
    (iblk m c 1 t (ix2 u k) : Bits .f32) = (m ((c : Thread nD τ).loc main_arg1)) (ix2 u' k) := by
  refine Eq.trans (b := (m ((c : Thread nD τ).loc main_arg1)) ((win0_1.blk t).view.emb (ix2 u k))) rfl ?_
  refine congrArg (m ((c : Thread nD τ).loc main_arg1)) (funext fun d => Fin.ext ?_)
  refine (Pipeline.Window.rect_emb_val win0_1 t (ix2 u k) d rfl).trans ?_
  rw [(index_rows t).2.1]
  match d with
  | ⟨0, _⟩ => exact h.symm
  | ⟨1, _⟩ => show 0 * 128 + k.val = k.val; omega

theorem blk2 (c : Dev nD) (t : Fin grid0.N) (u : Fin 1024) (u' : Fin 32768) (k : Fin 512) (h : u'.val = t.val * 1024 + u.val) :
    (iblk m c 2 t (ix2 u k) : BitVec 32) = (m ((c : Thread nD τ).loc main_arg2)) (ix2 u' k) := by
  refine Eq.trans (b := (m ((c : Thread nD τ).loc main_arg2)) ((win0_2.blk t).view.emb (ix2 u k))) rfl ?_
  refine congrArg (m ((c : Thread nD τ).loc main_arg2)) (funext fun d => Fin.ext ?_)
  refine (Pipeline.Window.rect_emb_val win0_2 t (ix2 u k) d rfl).trans ?_
  rw [(index_rows t).2.2.1]
  match d with
  | ⟨0, _⟩ => exact h.symm
  | ⟨1, _⟩ => show 0 * 512 + k.val = k.val; omega

theorem blk3 (c : Dev nD) (t : Fin grid0.N) (u : Fin 1024) (u' : Fin 32768) (k : Fin 512) (h : u'.val = (16 + t.val) * 1024 + u.val) :
    (iblk m c 3 t (ix2 u k) : BitVec 32) = (m ((c : Thread nD τ).loc main_arg2)) (ix2 u' k) := by
  refine Eq.trans (b := (m ((c : Thread nD τ).loc main_arg2)) ((win0_3.blk t).view.emb (ix2 u k))) rfl ?_
  refine congrArg (m ((c : Thread nD τ).loc main_arg2)) (funext fun d => Fin.ext ?_)
  refine (Pipeline.Window.rect_emb_val win0_3 t (ix2 u k) d rfl).trans ?_
  rw [(index_rows t).2.2.2.1]
  match d with
  | ⟨0, _⟩ => exact h.symm
  | ⟨1, _⟩ => show 0 * 512 + k.val = k.val; omega

theorem half2 (c : Dev nD) (t : Fin grid0.N) (u : Fin 1024) (u' : Fin 32768) (k : Fin 1024) (h : u'.val = t.val * 1024 + u.val) :
    half (n := 1024) (iblk m c 2 t) u k = half (n := 32768) (m ((c : Thread nD τ).loc main_arg2)) u' k := by
  unfold half
  by_cases hk : k.val < 512
  · rw [dif_pos hk, dif_pos hk]
    exact congrArg (fun w => FloatOps.ofBits .f32 (IntOp.shli .vector w 16#32)) (blk2 m c t u u' _ h)
  · rw [dif_neg hk, dif_neg hk]
    exact congrArg (fun w => FloatOps.ofBits .f32 (IntOp.andi w 4294901760#32)) (blk2 m c t u u' _ h)

theorem half3 (c : Dev nD) (t : Fin grid0.N) (u : Fin 1024) (u' : Fin 32768) (k : Fin 1024) (h : u'.val = (16 + t.val) * 1024 + u.val) :
    half (n := 1024) (iblk m c 3 t) u k = half (n := 32768) (m ((c : Thread nD τ).loc main_arg2)) u' k := by
  unfold half
  by_cases hk : k.val < 512
  · rw [dif_pos hk, dif_pos hk]
    exact congrArg (fun w => FloatOps.ofBits .f32 (IntOp.shli .vector w 16#32)) (blk3 m c t u u' _ h)
  · rw [dif_neg hk, dif_neg hk]
    exact congrArg (fun w => FloatOps.ofBits .f32 (IntOp.andi w 4294901760#32)) (blk3 m c t u u' _ h)

/-- Step `t`'s block, element by element. -/
theorem fl (c : Dev nD) (t : Fin cfg0.N) (u k : Fin 1024) : ((dats m 0 c).flushed 4 t (ix2 u k) : Bits .f32)
    = sum (iblk m c 0 t (ix2 u k)) (iblk m c 1 t (ix2 u (2 : Fin 128))) (half (n := 1024) (iblk m c 2 t) u k) (iblk m c 1 t (ix2 u (3 : Fin 128))) (half (n := 1024) (iblk m c 3 t) u k) := by
  rw [Cert.Combine.Value.flushed4 m c t, out_eq]
  exact pay_apply (iblk m c 1 t) (iblk m c 0 t) (iblk m c 2 t) (iblk m c 3 t) u k

/-- It is the rows' own block. -/
theorem at_ (c : Dev nD) (t : Fin cfg0.N) (u k : Fin 1024) (u' : Fin 16384) (h : u'.val = t.val * 1024 + u.val) :
    ((dats m 0 c).flushed 4 t (ix2 u k) : Bits .f32) = Y (m ((c : Thread nD τ).loc main_arg0)) (m ((c : Thread nD τ).loc main_arg1)) (m ((c : Thread nD τ).loc main_arg2)) (ix2 u' k) := by
  have hu : u'.val < 16384 := u'.isLt
  rw [fl m c t u k, blk0 m c t u u' k h, blk1 m c t u u' 2 h, blk1 m c t u u' 3 h, half2 m c t u ⟨u'.val, by omega⟩ k h,
    half3 m c t u ⟨16384 + u'.val, by omega⟩ k (by show 16384 + u'.val = (16 + t.val) * 1024 + u.val; omega)]
  rfl

/-- The whole array that the call leaves. -/
theorem final (c : Dev nD) : (dats m 0 c).arrAt 4 cfg0.N = Y (m ((c : Thread nD τ).loc main_arg0)) (m ((c : Thread nD τ).loc main_arg1)) (m ((c : Thread nD τ).loc main_arg2)) := by
  refine Pipeline.Dat.arrAt_eq_of_emb _ 4 _ ?_ ?_
  · intro t hf y
    have hd : ∀ d : Fin 2, (((win0_4.blk t).view.emb y) d).val = win0_4.index t d * (![1024, 1024] : Fin 2 → ℕ) d + (y d).val :=
      fun d => Pipeline.Window.rect_emb_val win0_4 t y d rfl
    rw [(index_rows t).2.2.2.2.1] at hd
    have e0 : (((win0_4.blk t).view.emb y) 0).val = t.val * 1024 + (y 0).val := hd 0
    have e1 : (((win0_4.blk t).view.emb y) 1).val = (y 1).val := (hd 1).trans (by show 0 * 1024 + (y 1).val = _; omega)
    have hlt : (y 0).val < 1024 := (y 0).isLt
    refine Eq.trans (congrArg ((dats m 0 c).flushed 4 t) (eq_ix2 (n0 := 1024) (n1 := 1024) y)) ?_
    refine Eq.trans (at_ m c t (y 0) (y 1) (((win0_4.blk t).view.emb y) 0) e0) ?_
    exact congrArg (Y (m ((c : Thread nD τ).loc main_arg0)) (m ((c : Thread nD τ).loc main_arg1)) (m ((c : Thread nD τ).loc main_arg2))) (funext fun d => Fin.ext (match d with | ⟨0, _⟩ => rfl | ⟨1, _⟩ => e1.symm))
  · intro p
    have hp : (p (0 : Fin 2)).val < 16384 := (p (0 : Fin 2)).isLt
    have hp1 : (p (1 : Fin 2)).val < 1024 := (p (1 : Fin 2)).isLt
    have hN : (p (0 : Fin 2)).val / 1024 < grid0.N := lt_of_lt_of_eq (b := 16) (by omega) N_0.symm
    refine ⟨⟨(p (0 : Fin 2)).val / 1024, hN⟩, (index_rows _).2.2.2.2.2, ?_⟩
    refine (Pipeline.Window.emb_mem_blk_iff win0_4 ⟨(p (0 : Fin 2)).val / 1024, hN⟩ p rfl).mpr fun a => ?_
    rw [(index_rows _).2.2.2.2.1]
    match a with
    | ⟨0, _⟩ => show (p (0 : Fin 2)).val / 1024 * 1024 ≤ (p (0 : Fin 2)).val ∧ (p (0 : Fin 2)).val < (p (0 : Fin 2)).val / 1024 * 1024 + 1024; omega
    | ⟨1, _⟩ => show 0 * 1024 ≤ (p (1 : Fin 2)).val ∧ (p (1 : Fin 2)).val < 0 * 1024 + 1024; omega

end Cert.Combine.Rows

namespace Cert.CombineRef.Rows

open Cert.CombineRef Cert.CombineRef.Gen Cert.CombineRows
open Cert.Combine.Rows (Y)
open Idealize.ShloMosaic

/-- The reference's term. -/
def whole (a : FVec Bits S16384x1024 .f32) (r : FVec Bits S16384x128 .f32) (g : IVec S32768x512 32) : FVec Bits S16384x1024 .f32 :=
  addf (addf a (mulf (broadcastInDim S16384x1024 ![0, 1] bcast_S16384x1_S16384x1024_0_1 (extractStridedSlice S16384x1 ![0, 2] r slices_S16384x128_S16384x1_0_2)) (concatenate S16384x1024 1 [⟨S16384x512, (bitcastToFloat (F := Bits) .f32 (Host.shli (extractStridedSlice S16384x512 ![0, 0] g slices_S32768x512_S16384x512_0_0) (broadcastInDim S16384x512 ![] bcast_S_S16384x512 (constantI S_ 32 16#32))))⟩, ⟨S16384x512, (bitcastToFloat (F := Bits) .f32 (andi (extractStridedSlice S16384x512 ![0, 0] g slices_S32768x512_S16384x512_0_0) (broadcastInDim S16384x512 ![] bcast_S_S16384x512 (constantI S_ 32 4294901760#32))))⟩] concatenates_S16384x512_S16384x512_S16384x1024_d1))) (mulf (broadcastInDim S16384x1024 ![0, 1] bcast_S16384x1_S16384x1024_0_1 (extractStridedSlice S16384x1 ![0, 3] r slices_S16384x128_S16384x1_0_3)) (concatenate S16384x1024 1 [⟨S16384x512, (bitcastToFloat (F := Bits) .f32 (Host.shli (extractStridedSlice S16384x512 ![16384, 0] g slices_S32768x512_S16384x512_16384_0) (broadcastInDim S16384x512 ![] bcast_S_S16384x512 (constantI S_ 32 16#32))))⟩, ⟨S16384x512, (bitcastToFloat (F := Bits) .f32 (andi (extractStridedSlice S16384x512 ![16384, 0] g slices_S32768x512_S16384x512_16384_0) (broadcastInDim S16384x512 ![] bcast_S_S16384x512 (constantI S_ 32 4294901760#32))))⟩] concatenates_S16384x512_S16384x512_S16384x1024_d1))

theorem whole_eq (a : FVec Bits S16384x1024 .f32) (r : FVec Bits S16384x128 .f32) (g : IVec S32768x512 32) : whole a r g = Y a r g := by
  funext y
  unfold whole
  have hs : ∀ x : BitVec 32, IntOp.shli .host x 16#32 = IntOp.shli .vector x 16#32 := fun x => shli_unit .host .vector x _
  pointwise [Y, sum, half]
  simp only [hs]

end Cert.CombineRef.Rows
end
-- ==== Proof.CombineClaims.lean ====
/- The claims about the prompt's combining call: its frames and its result against the reference's, bit by bit. -/
module
public import proofs.«01_k».proof.Defs
public import proofs.«01_k».proof.Proof.CombineValue
public import proofs.«01_k».proof.Proof.Gen.Combine.Frame
public import proofs.«01_k».proof.Proof.Gen.Combine
public import proofs.«01_k».proof.Proof.Gen.CombineRef
public import Idealize.ShloMosaic.Lib.Quiescent

@[expose] public section

set_option maxRecDepth 16384

noncomputable section

namespace Cert.Proof.CombineClaims

open Idealize.ShloMosaic Idealize.SL.Sem
open Cert.Combine.Rows (Y)

/-- The call as printed runs and leaves its arguments and every counter as they were. -/
theorem frame_p : Cert.quiescent_Combine := fun m g _ => Cert.Combine.Gen.frame m g

/-- So does the reference. -/
theorem frame_r : Cert.quiescent_CombineRef := fun m g _ =>
  (θ_run Cert.CombineRef.defs _ _).mono (fun r h => ⟨fun c => (h c).2,
    Idealize.ShloMosaic.sem_eq_zero_of_no_sems (by decide) r.2⟩) (Cert.CombineRef.Value.run m g)

/-- Both end with the same words: each row plus its two weighted experts' rows. -/
theorem bitexact : Cert.bitexact_Combine_CombineRef := fun m g m' g' _ ha => by
  refine ⟨fun c => Y (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)), ?_, ?_⟩
  · exact (θ_run _ _ _).mono (fun _ h c => ⟨(h c).1.trans (Cert.Combine.Rows.final m c), (h c).2⟩) (Cert.Combine.Value.run_blocks m g)
  · refine (θ_run _ _ _).mono (fun _ h c => ?_) (Cert.CombineRef.Value.run m' g')
    obtain ⟨h0, hu⟩ := h c
    obtain ⟨e0, e1, e2⟩ := ha c
    replace h0 := h0.trans (Cert.CombineRef.Rows.whole_eq _ _ _)
    rw [e0, e1, e2] at h0
    exact ⟨h0, hu⟩

end Cert.Proof.CombineClaims
end
-- ==== Proof.CombineSampleValue.lean ====
/- What the sample's combining call leaves: each row plus its two weighted experts' rows. -/
module
public import proofs.«01_k».proof.Proof.CombineRows
public import proofs.«01_k».proof.Proof.Gen.CombineSample.Value
public import proofs.«01_k».proof.Proof.Gen.CombineSampleRef.Run
public import Idealize.ShloMosaic.Lib.Pointwise
public import Idealize.ShloMosaic.Lib.KernelVsHost
public import Idealize.ShloMosaic.Lib.Pipeline.Value
public import Idealize.ShloMosaic.Lib.Pipeline.ValueKit

@[expose] public section

set_option maxRecDepth 16384

noncomputable section

namespace Cert.CombineSample.Rows

open Cert.CombineSample Cert.CombineSample.Gen Cert.CombineRows
open Idealize.ShloMosaic Idealize.ShloMosaic.TcCoe Idealize.SL.Sem
open Idealize.ShloMosaic.Pipeline (Dat Cfg Window)

/-- The rows that the call leaves. -/
def Y (a : FVec Bits S1024x1024 .f32) (r : FVec Bits S1024x128 .f32) (g : IVec S2048x512 32) : FVec Bits S1024x1024 .f32 := fun y =>
  sum (a y) (r (ix2 (n0 := 1024) (n1 := 128) (y 0) 2)) (half (n := 2048) g ⟨(y 0).val, by have : (y 0).val < 1024 := (y 0).isLt; omega⟩ (y 1))
    (r (ix2 (n0 := 1024) (n1 := 128) (y 0) 3)) (half (n := 2048) g ⟨1024 + (y 0).val, by have : (y 0).val < 1024 := (y 0).isLt; omega⟩ (y 1))

theorem pay_apply (v0 : Vec Bits S1024x128 .f32) (v1 : Vec Bits S1024x1024 .f32) (v3 v15 : Vec Bits S1024x512 .i32) (u k : Fin 1024) :
    k0_pay1 (F := Bits) v0 v1 v3 v15 (ix2 u k) = sum (v1 (ix2 u k)) (v0 (ix2 u 2)) (half (n := 1024) v3 u k) (v0 (ix2 u 3)) (half (n := 1024) v15 u k) := by
  pointwise [k0_pay1, sum, half]

theorem out_eq (x0 : Vec Bits S1024x1024 .f32) (x1 : Vec Bits S1024x128 .f32) (x2 x3 : Vec Bits S1024x512 .i32) :
    out0_4 (F := Bits) x0 x1 x2 x3 = k0_pay1 (F := Bits) x1 x0 x2 x3 := by
  unfold out0_4
  rw [View.ld_unit_lit, View.ld_unit_lit, View.ld_unit_lit, View.ld_unit_lit, View.canon_cons_unit_lit]
  all_goals decide

variable (m : (ℓ : Loc nD τ sig) → Buf (Elt Bits) ℓ)

/-- Step `t` has rows `1024 t` and on; its second expert rows come 1024 words further. -/
theorem index_rows : ∀ t : Fin grid0.N, win0_0.index t = ![t.val, 0] ∧ win0_1.index t = ![t.val, 0] ∧ win0_2.index t = ![t.val, 0]
    ∧ win0_3.index t = ![1 + t.val, 0] ∧ win0_4.index t = ![t.val, 0] ∧ win0_4.flush t = true := by decide +kernel

theorem blk0 (c : Dev nD) (t : Fin grid0.N) (u : Fin 1024) (u' : Fin 1024) (k : Fin 1024) (h : u'.val = t.val * 1024 + u.val) :
    (iblk m c 0 t (ix2 u k) : Bits .f32) = (m ((c : Thread nD τ).loc main_arg0)) (ix2 u' k) := by
  refine Eq.trans (b := (m ((c : Thread nD τ).loc main_arg0)) ((win0_0.blk t).view.emb (ix2 u k))) rfl ?_
  refine congrArg (m ((c : Thread nD τ).loc main_arg0)) (funext fun d => Fin.ext ?_)
  refine (Pipeline.Window.rect_emb_val win0_0 t (ix2 u k) d rfl).trans ?_
  rw [(index_rows t).1]
  match d with
  | ⟨0, _⟩ => exact h.symm
  | ⟨1, _⟩ => show 0 * 1024 + k.val = k.val; omega

theorem blk1 (c : Dev nD) (t : Fin grid0.N) (u : Fin 1024) (u' : Fin 1024) (k : Fin 128) (h : u'.val = t.val * 1024 + u.val) :
    (iblk m c 1 t (ix2 u k) : Bits .f32) = (m ((c : Thread nD τ).loc main_arg1)) (ix2 u' k) := by
  refine Eq.trans (b := (m ((c : Thread nD τ).loc main_arg1)) ((win0_1.blk t).view.emb (ix2 u k))) rfl ?_
  refine congrArg (m ((c : Thread nD τ).loc main_arg1)) (funext fun d => Fin.ext ?_)
  refine (Pipeline.Window.rect_emb_val win0_1 t (ix2 u k) d rfl).trans ?_
  rw [(index_rows t).2.1]
  match d with
  | ⟨0, _⟩ => exact h.symm
  | ⟨1, _⟩ => show 0 * 128 + k.val = k.val; omega

theorem blk2 (c : Dev nD) (t : Fin grid0.N) (u : Fin 1024) (u' : Fin 2048) (k : Fin 512) (h : u'.val = t.val * 1024 + u.val) :
    (iblk m c 2 t (ix2 u k) : BitVec 32) = (m ((c : Thread nD τ).loc main_arg2)) (ix2 u' k) := by
  refine Eq.trans (b := (m ((c : Thread nD τ).loc main_arg2)) ((win0_2.blk t).view.emb (ix2 u k))) rfl ?_
  refine congrArg (m ((c : Thread nD τ).loc main_arg2)) (funext fun d => Fin.ext ?_)
  refine (Pipeline.Window.rect_emb_val win0_2 t (ix2 u k) d rfl).trans ?_
  rw [(index_rows t).2.2.1]
  match d with
  | ⟨0, _⟩ => exact h.symm
  | ⟨1, _⟩ => show 0 * 512 + k.val = k.val; omega

theorem blk3 (c : Dev nD) (t : Fin grid0.N) (u : Fin 1024) (u' : Fin 2048) (k : Fin 512) (h : u'.val = (1 + t.val) * 1024 + u.val) :
    (iblk m c 3 t (ix2 u k) : BitVec 32) = (m ((c : Thread nD τ).loc main_arg2)) (ix2 u' k) := by
  refine Eq.trans (b := (m ((c : Thread nD τ).loc main_arg2)) ((win0_3.blk t).view.emb (ix2 u k))) rfl ?_
  refine congrArg (m ((c : Thread nD τ).loc main_arg2)) (funext fun d => Fin.ext ?_)
  refine (Pipeline.Window.rect_emb_val win0_3 t (ix2 u k) d rfl).trans ?_
  rw [(index_rows t).2.2.2.1]
  match d with
  | ⟨0, _⟩ => exact h.symm
  | ⟨1, _⟩ => show 0 * 512 + k.val = k.val; omega

theorem half2 (c : Dev nD) (t : Fin grid0.N) (u : Fin 1024) (u' : Fin 2048) (k : Fin 1024) (h : u'.val = t.val * 1024 + u.val) :
    half (n := 1024) (iblk m c 2 t) u k = half (n := 2048) (m ((c : Thread nD τ).loc main_arg2)) u' k := by
  unfold half
  by_cases hk : k.val < 512
  · rw [dif_pos hk, dif_pos hk]
    exact congrArg (fun w => FloatOps.ofBits .f32 (IntOp.shli .vector w 16#32)) (blk2 m c t u u' _ h)
  · rw [dif_neg hk, dif_neg hk]
    exact congrArg (fun w => FloatOps.ofBits .f32 (IntOp.andi w 4294901760#32)) (blk2 m c t u u' _ h)

theorem half3 (c : Dev nD) (t : Fin grid0.N) (u : Fin 1024) (u' : Fin 2048) (k : Fin 1024) (h : u'.val = (1 + t.val) * 1024 + u.val) :
    half (n := 1024) (iblk m c 3 t) u k = half (n := 2048) (m ((c : Thread nD τ).loc main_arg2)) u' k := by
  unfold half
  by_cases hk : k.val < 512
  · rw [dif_pos hk, dif_pos hk]
    exact congrArg (fun w => FloatOps.ofBits .f32 (IntOp.shli .vector w 16#32)) (blk3 m c t u u' _ h)
  · rw [dif_neg hk, dif_neg hk]
    exact congrArg (fun w => FloatOps.ofBits .f32 (IntOp.andi w 4294901760#32)) (blk3 m c t u u' _ h)

/-- Step `t`'s block, element by element. -/
theorem fl (c : Dev nD) (t : Fin cfg0.N) (u k : Fin 1024) : ((dats m 0 c).flushed 4 t (ix2 u k) : Bits .f32)
    = sum (iblk m c 0 t (ix2 u k)) (iblk m c 1 t (ix2 u (2 : Fin 128))) (half (n := 1024) (iblk m c 2 t) u k) (iblk m c 1 t (ix2 u (3 : Fin 128))) (half (n := 1024) (iblk m c 3 t) u k) := by
  rw [Cert.CombineSample.Value.flushed4 m c t, out_eq]
  exact pay_apply (iblk m c 1 t) (iblk m c 0 t) (iblk m c 2 t) (iblk m c 3 t) u k

/-- It is the rows' own block. -/
theorem at_ (c : Dev nD) (t : Fin cfg0.N) (u k : Fin 1024) (u' : Fin 1024) (h : u'.val = t.val * 1024 + u.val) :
    ((dats m 0 c).flushed 4 t (ix2 u k) : Bits .f32) = Y (m ((c : Thread nD τ).loc main_arg0)) (m ((c : Thread nD τ).loc main_arg1)) (m ((c : Thread nD τ).loc main_arg2)) (ix2 u' k) := by
  have hu : u'.val < 1024 := u'.isLt
  rw [fl m c t u k, blk0 m c t u u' k h, blk1 m c t u u' 2 h, blk1 m c t u u' 3 h, half2 m c t u ⟨u'.val, by omega⟩ k h,
    half3 m c t u ⟨1024 + u'.val, by omega⟩ k (by show 1024 + u'.val = (1 + t.val) * 1024 + u.val; omega)]
  rfl

/-- The whole array that the call leaves. -/
theorem final (c : Dev nD) : (dats m 0 c).arrAt 4 cfg0.N = Y (m ((c : Thread nD τ).loc main_arg0)) (m ((c : Thread nD τ).loc main_arg1)) (m ((c : Thread nD τ).loc main_arg2)) := by
  refine Pipeline.Dat.arrAt_eq_of_emb _ 4 _ ?_ ?_
  · intro t hf y
    have hd : ∀ d : Fin 2, (((win0_4.blk t).view.emb y) d).val = win0_4.index t d * (![1024, 1024] : Fin 2 → ℕ) d + (y d).val :=
      fun d => Pipeline.Window.rect_emb_val win0_4 t y d rfl
    rw [(index_rows t).2.2.2.2.1] at hd
    have e0 : (((win0_4.blk t).view.emb y) 0).val = t.val * 1024 + (y 0).val := hd 0
    have e1 : (((win0_4.blk t).view.emb y) 1).val = (y 1).val := (hd 1).trans (by show 0 * 1024 + (y 1).val = _; omega)
    have hlt : (y 0).val < 1024 := (y 0).isLt
    refine Eq.trans (congrArg ((dats m 0 c).flushed 4 t) (eq_ix2 (n0 := 1024) (n1 := 1024) y)) ?_
    refine Eq.trans (at_ m c t (y 0) (y 1) (((win0_4.blk t).view.emb y) 0) e0) ?_
    exact congrArg (Y (m ((c : Thread nD τ).loc main_arg0)) (m ((c : Thread nD τ).loc main_arg1)) (m ((c : Thread nD τ).loc main_arg2))) (funext fun d => Fin.ext (match d with | ⟨0, _⟩ => rfl | ⟨1, _⟩ => e1.symm))
  · intro p
    have hp : (p (0 : Fin 2)).val < 1024 := (p (0 : Fin 2)).isLt
    have hp1 : (p (1 : Fin 2)).val < 1024 := (p (1 : Fin 2)).isLt
    have hN : (p (0 : Fin 2)).val / 1024 < grid0.N := lt_of_lt_of_eq (b := 1) (by omega) N_0.symm
    refine ⟨⟨(p (0 : Fin 2)).val / 1024, hN⟩, (index_rows _).2.2.2.2.2, ?_⟩
    refine (Pipeline.Window.emb_mem_blk_iff win0_4 ⟨(p (0 : Fin 2)).val / 1024, hN⟩ p rfl).mpr fun a => ?_
    rw [(index_rows _).2.2.2.2.1]
    match a with
    | ⟨0, _⟩ => show (p (0 : Fin 2)).val / 1024 * 1024 ≤ (p (0 : Fin 2)).val ∧ (p (0 : Fin 2)).val < (p (0 : Fin 2)).val / 1024 * 1024 + 1024; omega
    | ⟨1, _⟩ => show 0 * 1024 ≤ (p (1 : Fin 2)).val ∧ (p (1 : Fin 2)).val < 0 * 1024 + 1024; omega

end Cert.CombineSample.Rows

namespace Cert.CombineSampleRef.Rows

open Cert.CombineSampleRef Cert.CombineSampleRef.Gen Cert.CombineRows
open Cert.CombineSample.Rows (Y)
open Idealize.ShloMosaic

/-- The reference's term. -/
def whole (a : FVec Bits S1024x1024 .f32) (r : FVec Bits S1024x128 .f32) (g : IVec S2048x512 32) : FVec Bits S1024x1024 .f32 :=
  addf (addf a (mulf (broadcastInDim S1024x1024 ![0, 1] bcast_S1024x1_S1024x1024_0_1 (extractStridedSlice S1024x1 ![0, 2] r slices_S1024x128_S1024x1_0_2)) (concatenate S1024x1024 1 [⟨S1024x512, (bitcastToFloat (F := Bits) .f32 (Host.shli (extractStridedSlice S1024x512 ![0, 0] g slices_S2048x512_S1024x512_0_0) (broadcastInDim S1024x512 ![] bcast_S_S1024x512 (constantI S_ 32 16#32))))⟩, ⟨S1024x512, (bitcastToFloat (F := Bits) .f32 (andi (extractStridedSlice S1024x512 ![0, 0] g slices_S2048x512_S1024x512_0_0) (broadcastInDim S1024x512 ![] bcast_S_S1024x512 (constantI S_ 32 4294901760#32))))⟩] concatenates_S1024x512_S1024x512_S1024x1024_d1))) (mulf (broadcastInDim S1024x1024 ![0, 1] bcast_S1024x1_S1024x1024_0_1 (extractStridedSlice S1024x1 ![0, 3] r slices_S1024x128_S1024x1_0_3)) (concatenate S1024x1024 1 [⟨S1024x512, (bitcastToFloat (F := Bits) .f32 (Host.shli (extractStridedSlice S1024x512 ![1024, 0] g slices_S2048x512_S1024x512_1024_0) (broadcastInDim S1024x512 ![] bcast_S_S1024x512 (constantI S_ 32 16#32))))⟩, ⟨S1024x512, (bitcastToFloat (F := Bits) .f32 (andi (extractStridedSlice S1024x512 ![1024, 0] g slices_S2048x512_S1024x512_1024_0) (broadcastInDim S1024x512 ![] bcast_S_S1024x512 (constantI S_ 32 4294901760#32))))⟩] concatenates_S1024x512_S1024x512_S1024x1024_d1))

theorem whole_eq (a : FVec Bits S1024x1024 .f32) (r : FVec Bits S1024x128 .f32) (g : IVec S2048x512 32) : whole a r g = Y a r g := by
  funext y
  unfold whole
  have hs : ∀ x : BitVec 32, IntOp.shli .host x 16#32 = IntOp.shli .vector x 16#32 := fun x => shli_unit .host .vector x _
  pointwise [Y, sum, half]
  simp only [hs]

end Cert.CombineSampleRef.Rows
end
-- ==== Proof.CombineSampleClaims.lean ====
/- The claims about the sample's combining call: its frames and its result against the reference's, bit by bit. -/
module
public import proofs.«01_k».proof.Defs
public import proofs.«01_k».proof.Proof.CombineSampleValue
public import proofs.«01_k».proof.Proof.Gen.CombineSample.Frame
public import proofs.«01_k».proof.Proof.Gen.CombineSample
public import proofs.«01_k».proof.Proof.Gen.CombineSampleRef
public import Idealize.ShloMosaic.Lib.Quiescent

@[expose] public section

set_option maxRecDepth 16384

noncomputable section

namespace Cert.Proof.CombineSampleClaims

open Idealize.ShloMosaic Idealize.SL.Sem
open Cert.CombineSample.Rows (Y)

/-- The call as printed runs and leaves its arguments and every counter as they were. -/
theorem frame_p : Cert.quiescent_CombineSample := fun m g _ => Cert.CombineSample.Gen.frame m g

/-- So does the reference. -/
theorem frame_r : Cert.quiescent_CombineSampleRef := fun m g _ =>
  (θ_run Cert.CombineSampleRef.defs _ _).mono (fun r h => ⟨fun c => (h c).2,
    Idealize.ShloMosaic.sem_eq_zero_of_no_sems (by decide) r.2⟩) (Cert.CombineSampleRef.Value.run m g)

/-- Both end with the same words: each row plus its two weighted experts' rows. -/
theorem bitexact : Cert.bitexact_CombineSample_CombineSampleRef := fun m g m' g' _ ha => by
  refine ⟨fun c => Y (m ((c.tc : Thread Cert.CombineSample.nD Cert.CombineSample.τ).loc Cert.CombineSample.main_arg0)) (m ((c.tc : Thread Cert.CombineSample.nD Cert.CombineSample.τ).loc Cert.CombineSample.main_arg1)) (m ((c.tc : Thread Cert.CombineSample.nD Cert.CombineSample.τ).loc Cert.CombineSample.main_arg2)), ?_, ?_⟩
  · exact (θ_run _ _ _).mono (fun _ h c => ⟨(h c).1.trans (Cert.CombineSample.Rows.final m c), (h c).2⟩) (Cert.CombineSample.Value.run_blocks m g)
  · refine (θ_run _ _ _).mono (fun _ h c => ?_) (Cert.CombineSampleRef.Value.run m' g')
    obtain ⟨h0, hu⟩ := h c
    obtain ⟨e0, e1, e2⟩ := ha c
    replace h0 := h0.trans (Cert.CombineSampleRef.Rows.whole_eq _ _ _)
    rw [e0, e1, e2] at h0
    exact ⟨h0, hu⟩

end Cert.Proof.CombineSampleClaims
end
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.Reference
public import proofs.«01_k».proof.Proof.Gen.Reference.Skeleton
public import proofs.«01_k».proof.Proof.Gen.Reference.Launch
public import proofs.«01_k».proof.Proof.Gen.Reference.Loops
public import proofs.«01_k».proof.Proof.ExpertsFinal
public import proofs.«01_k».proof.Proof.DenseRun
public import proofs.«01_k».proof.Proof.PromptClaims
public import proofs.«01_k».proof.Proof.FinishClaims
public import proofs.«01_k».proof.Proof.SampleConvClaims
public import proofs.«01_k».proof.Proof.SampleAttnClaims
public import proofs.«01_k».proof.Proof.CombineClaims
public import proofs.«01_k».proof.Proof.CombineSampleClaims
public import proofs.«01_k».proof.Proof.Gen.PromptIdeal.Frame
public import proofs.«01_k».proof.Proof.Gen.Prompt.Frame
public import proofs.«01_k».proof.Proof.Gen.PromptRefIdeal.Run
public import proofs.«01_k».proof.Proof.Gen.PromptIdeal.Skeleton
public import proofs.«01_k».proof.Proof.Gen.PromptIdeal.Loops
public import proofs.«01_k».proof.Proof.Gen.Prompt.Skeleton
public import proofs.«01_k».proof.Proof.Gen.Prompt.Loops
public import proofs.«01_k».proof.Proof.Gen.FinishIdeal.Frame
public import proofs.«01_k».proof.Proof.Gen.FinishIdeal.Value
public import proofs.«01_k».proof.Proof.Gen.Finish.Frame
public import proofs.«01_k».proof.Proof.Gen.FinishRefIdeal.Run
public import proofs.«01_k».proof.Proof.Gen.FinishIdeal.Skeleton
public import proofs.«01_k».proof.Proof.Gen.Finish.Skeleton
public import proofs.«01_k».proof.Proof.Gen.FinishIdeal
public import proofs.«01_k».proof.Proof.Gen.Finish
public import proofs.«01_k».proof.Proof.Gen.SampleConvIdeal.Frame
public import proofs.«01_k».proof.Proof.Gen.SampleConvIdeal.Value
public import proofs.«01_k».proof.Proof.Gen.SampleConv.Frame
public import proofs.«01_k».proof.Proof.Gen.SampleConvRefIdeal.Run
public import proofs.«01_k».proof.Proof.Gen.SampleConvRefIdeal
public import proofs.«01_k».proof.Proof.Gen.SampleConvIdeal.Skeleton
public import proofs.«01_k».proof.Proof.Gen.SampleConv.Skeleton
public import proofs.«01_k».proof.Proof.Gen.SampleConvIdeal
public import proofs.«01_k».proof.Proof.Gen.SampleConv
public import proofs.«01_k».proof.Proof.Gen.SampleAttnIdeal.Frame
public import proofs.«01_k».proof.Proof.Gen.SampleAttnIdeal.Value
public import proofs.«01_k».proof.Proof.Gen.SampleAttn.Frame
public import proofs.«01_k».proof.Proof.Gen.SampleAttnRefIdeal.Run
public import proofs.«01_k».proof.Proof.Gen.SampleAttnRefIdeal
public import proofs.«01_k».proof.Proof.Gen.SampleAttnIdeal.Skeleton
public import proofs.«01_k».proof.Proof.Gen.SampleAttn.Skeleton
public import proofs.«01_k».proof.Proof.Gen.SampleAttnIdeal
public import proofs.«01_k».proof.Proof.Gen.SampleAttn
public import proofs.«01_k».proof.Proof.Gen.Combine.Frame
public import proofs.«01_k».proof.Proof.Gen.Combine.Value
public import proofs.«01_k».proof.Proof.Gen.Combine.Skeleton
public import proofs.«01_k».proof.Proof.Gen.Combine
public import proofs.«01_k».proof.Proof.Gen.CombineRef
public import proofs.«01_k».proof.Proof.Gen.CombineRef.Run
public import proofs.«01_k».proof.Proof.Gen.CombineSample.Frame
public import proofs.«01_k».proof.Proof.Gen.CombineSample.Value
public import proofs.«01_k».proof.Proof.Gen.CombineSample.Skeleton
public import proofs.«01_k».proof.Proof.Gen.CombineSample
public import proofs.«01_k».proof.Proof.Gen.CombineSampleRef
public import proofs.«01_k».proof.Proof.Gen.CombineSampleRef.Run
public import Idealize.ShloMosaic.Adequacy
public import Idealize.ShloMosaic.Init

@[expose] public section

noncomputable section

namespace Cert.Proof

open Idealize.ShloMosaic Idealize.SL.Sem Cert.Kernel

/-- The program runs and leaves its arguments and every counter as they were. -/
theorem quiescent : @quiescent_Kernel Cert.Kernel.Gen.facts Hand.pre_facts := fun m g hp =>
  have hx := Hand.cntOk_of_pre (h := Hand.pre_facts) _ _ _ _ _ (hp 0)
  (θ_run _ _ _).mono (fun _ h => ⟨Hand.final_args m _ hx h.1, h.2⟩)
    (Hand.run_main m g _ hx (fun c => by rw [Subsingleton.elim c 0]))

/-- The reference runs and leaves its arguments and every counter as they were. -/
theorem quiescentR : @quiescent_Reference Cert.Reference.Gen.facts Hand.pre_facts := fun m g hp =>
  (θ_run _ _ _).mono (fun _ h => ⟨Cert.Reference.Hand.final_args m h.1, h.2⟩)
    (Cert.Reference.Hand.run_main m g (fun c => Hand.cntOk_of_pre (h := Hand.pre_facts) _ _ _ _ _ (hp c)))

/-- Both programs end with the same words: a row of the result is its own expert's feed-forward on that row. -/
theorem bitexact : @bitexact_Kernel_Reference Cert.Kernel.Gen.facts Cert.Reference.Gen.facts Hand.pre_facts := fun m g m' g' hp ha => by
  have hx := Hand.cntOk_of_pre (h := Hand.pre_facts) _ _ _ _ _ (hp 0)
  have hx' : ∀ c : Dev Cert.Reference.nD, Tables.CntOk (m' ((c.tc : Thread Cert.Reference.nD Cert.Reference.τ).loc Cert.Reference.main_arg0)) := fun c => by
    rw [(ha c).1]; exact Hand.cntOk_of_pre (h := Hand.pre_facts) _ _ _ _ _ (hp c)
  refine ⟨fun c => Cert.Reference.Hand.out m' c, ?_, ?_⟩
  · refine (θ_run _ _ _).mono (fun _ h c => ⟨?_, Hand.final_args m _ hx h.1 c⟩)
      (Hand.run_main m g _ hx (fun c => by rw [Subsingleton.elim c 0]))
    refine (Hand.final_out m _ hx h.1 c).trans ?_
    obtain rfl : c = 0 := Subsingleton.elim c 0
    obtain ⟨e0, e1, e2, e3, e4⟩ := ha 0
    show _ = Cert.Reference.Hand.out m' 0
    unfold Cert.Reference.Hand.out
    rw [e0, e1, e2, e3, e4]
  · exact (θ_run _ _ _).mono (fun _ h c => ⟨Cert.Reference.Hand.final_out m' h.1 c, Cert.Reference.Hand.final_args m' h.1 c⟩)
      (Cert.Reference.Hand.run_main m' g' hx')

/-- Everything claimed: of the experts' call, of the prompt's projection call, of the call between attention and experts, of the sample's convolution and attention calls, and of the combining call at both batches, each with its reference. -/
theorem claim : Cert.Claim := ⟨Cert.Kernel.Gen.facts, Cert.Reference.Gen.facts, Cert.Prompt.Gen.facts, Cert.PromptIdeal.Gen.facts, Cert.PromptRefIdeal.Gen.facts,
  Cert.Finish.Gen.facts, Cert.FinishIdeal.Gen.facts, Cert.FinishRefIdeal.Gen.facts,
  Cert.SampleConv.Gen.facts, Cert.SampleConvIdeal.Gen.facts, Cert.SampleConvRefIdeal.Gen.facts,
  Cert.SampleAttn.Gen.facts, Cert.SampleAttnIdeal.Gen.facts, Cert.SampleAttnRefIdeal.Gen.facts,
  Cert.Combine.Gen.facts, Cert.CombineRef.Gen.facts, Cert.CombineSample.Gen.facts, Cert.CombineSampleRef.Gen.facts, Hand.pre_facts,
  quiescent, quiescentR, PromptClaims.frame_p, PromptClaims.frame_pi, PromptClaims.frame_ri, FinishClaims.frame_p, FinishClaims.frame_pi, FinishClaims.frame_ri,
  SampleConvClaims.frame_p, SampleConvClaims.frame_pi, SampleConvClaims.frame_ri, SampleAttnClaims.frame_p, SampleAttnClaims.frame_pi, SampleAttnClaims.frame_ri,
  CombineClaims.frame_p, CombineClaims.frame_r, CombineSampleClaims.frame_p, CombineSampleClaims.frame_r,
  bitexact, PromptClaims.preserves, PromptClaims.algebraic, FinishClaims.preserves, FinishClaims.algebraic,
  SampleConvClaims.preserves, SampleConvClaims.algebraic, SampleAttnClaims.preserves, SampleAttnClaims.algebraic,
  CombineClaims.bitexact, CombineSampleClaims.bitexact⟩

end Cert.Proof

end
